-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sample [hPre_finite_sample : Cert.Pre_finite_sample.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sample.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sample [hPre_finite_sample : Cert.Pre_finite_sample.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sample.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_sample [hKernel5Ideal : Cert.Kernel5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sample m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_sample [hReference5Ideal : Cert.Reference5Ideal.Facts] [hPre_finite_sample : Cert.Pre_finite_sample.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sample m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v60)) (v1 : (c : Dev Cert.Kernel2Ideal.nD) → Buf (Elt Ideal) ((c.tc : Thread Cert.Kernel2Ideal.nD Cert.Kernel2Ideal.τ).loc Cert.Kernel2Ideal.main_v62)) (v2 : (c : Dev Cert.Kernel2Ideal.nD) → Buf (Elt Ideal) ((c.tc : Thread Cert.Kernel2Ideal.nD Cert.Kernel2Ideal.τ).loc Cert.Kernel2Ideal.main_v65)) (v3 : (c : Dev Cert.Kernel2Ideal.nD) → Buf (Elt Ideal) ((c.tc : Thread Cert.Kernel2Ideal.nD Cert.Kernel2Ideal.τ).loc Cert.Kernel2Ideal.main_v68)) (v4 : (c : Dev Cert.Kernel2Ideal.nD) → Buf (Elt Ideal) ((c.tc : Thread Cert.Kernel2Ideal.nD Cert.Kernel2Ideal.τ).loc Cert.Kernel2Ideal.main_v69)) (v5 : (c : Dev Cert.Kernel2Ideal.nD) → Buf (Elt Ideal) ((c.tc : Thread Cert.Kernel2Ideal.nD Cert.Kernel2Ideal.τ).loc Cert.Kernel2Ideal.main_v70)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v60) = v0 c
          ∧ r.2.mem ((c.tc : Thread Cert.Kernel2Ideal.nD Cert.Kernel2Ideal.τ).loc Cert.Kernel2Ideal.main_v62) = v1 c
          ∧ r.2.mem ((c.tc : Thread Cert.Kernel2Ideal.nD Cert.Kernel2Ideal.τ).loc Cert.Kernel2Ideal.main_v65) = v2 c
          ∧ r.2.mem ((c.tc : Thread Cert.Kernel2Ideal.nD Cert.Kernel2Ideal.τ).loc Cert.Kernel2Ideal.main_v68) = v3 c
          ∧ r.2.mem ((c.tc : Thread Cert.Kernel2Ideal.nD Cert.Kernel2Ideal.τ).loc Cert.Kernel2Ideal.main_v69) = v4 c
          ∧ r.2.mem ((c.tc : Thread Cert.Kernel2Ideal.nD Cert.Kernel2Ideal.τ).loc Cert.Kernel2Ideal.main_v70) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v242) = v0 c
          ∧ r.2.mem ((c.tc : Thread Cert.Reference2Ideal.nD Cert.Reference2Ideal.τ).loc Cert.Reference2Ideal.main_v245) = v1 c
          ∧ r.2.mem ((c.tc : Thread Cert.Reference2Ideal.nD Cert.Reference2Ideal.τ).loc Cert.Reference2Ideal.main_v246) = v2 c
          ∧ r.2.mem ((c.tc : Thread Cert.Reference2Ideal.nD Cert.Reference2Ideal.τ).loc Cert.Reference2Ideal.main_v247) = v3 c
          ∧ r.2.mem ((c.tc : Thread Cert.Reference2Ideal.nD Cert.Reference2Ideal.τ).loc Cert.Reference2Ideal.main_v248) = v4 c
          ∧ r.2.mem ((c.tc : Thread Cert.Reference2Ideal.nD Cert.Reference2Ideal.τ).loc Cert.Reference2Ideal.main_v249) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v97)) (v1 : (c : Dev Cert.Kernel3Ideal.nD) → Buf (Elt Ideal) ((c.tc : Thread Cert.Kernel3Ideal.nD Cert.Kernel3Ideal.τ).loc Cert.Kernel3Ideal.main_v99)) (v2 : (c : Dev Cert.Kernel3Ideal.nD) → Buf (Elt Ideal) ((c.tc : Thread Cert.Kernel3Ideal.nD Cert.Kernel3Ideal.τ).loc Cert.Kernel3Ideal.main_v101)) (v3 : (c : Dev Cert.Kernel3Ideal.nD) → Buf (Elt Ideal) ((c.tc : Thread Cert.Kernel3Ideal.nD Cert.Kernel3Ideal.τ).loc Cert.Kernel3Ideal.main_v103)) (v4 : (c : Dev Cert.Kernel3Ideal.nD) → Buf (Elt Ideal) ((c.tc : Thread Cert.Kernel3Ideal.nD Cert.Kernel3Ideal.τ).loc Cert.Kernel3Ideal.main_v105)) (v5 : (c : Dev Cert.Kernel3Ideal.nD) → Buf (Elt Ideal) ((c.tc : Thread Cert.Kernel3Ideal.nD Cert.Kernel3Ideal.τ).loc Cert.Kernel3Ideal.main_v107)) (v6 : (c : Dev Cert.Kernel3Ideal.nD) → Buf (Elt Ideal) ((c.tc : Thread Cert.Kernel3Ideal.nD Cert.Kernel3Ideal.τ).loc Cert.Kernel3Ideal.main_v109)) (v7 : (c : Dev Cert.Kernel3Ideal.nD) → Buf (Elt Ideal) ((c.tc : Thread Cert.Kernel3Ideal.nD Cert.Kernel3Ideal.τ).loc Cert.Kernel3Ideal.main_v111)) (v8 : (c : Dev Cert.Kernel3Ideal.nD) → Buf (Elt Ideal) ((c.tc : Thread Cert.Kernel3Ideal.nD Cert.Kernel3Ideal.τ).loc Cert.Kernel3Ideal.main_v113)) (v9 : (c : Dev Cert.Kernel3Ideal.nD) → Buf (Elt Ideal) ((c.tc : Thread Cert.Kernel3Ideal.nD Cert.Kernel3Ideal.τ).loc Cert.Kernel3Ideal.main_v115)) (v10 : (c : Dev Cert.Kernel3Ideal.nD) → Buf (Elt Ideal) ((c.tc : Thread Cert.Kernel3Ideal.nD Cert.Kernel3Ideal.τ).loc Cert.Kernel3Ideal.main_v117)) (v11 : (c : Dev Cert.Kernel3Ideal.nD) → Buf (Elt Ideal) ((c.tc : Thread Cert.Kernel3Ideal.nD Cert.Kernel3Ideal.τ).loc Cert.Kernel3Ideal.main_v119)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v97) = v0 c
          ∧ r.2.mem ((c.tc : Thread Cert.Kernel3Ideal.nD Cert.Kernel3Ideal.τ).loc Cert.Kernel3Ideal.main_v99) = v1 c
          ∧ r.2.mem ((c.tc : Thread Cert.Kernel3Ideal.nD Cert.Kernel3Ideal.τ).loc Cert.Kernel3Ideal.main_v101) = v2 c
          ∧ r.2.mem ((c.tc : Thread Cert.Kernel3Ideal.nD Cert.Kernel3Ideal.τ).loc Cert.Kernel3Ideal.main_v103) = v3 c
          ∧ r.2.mem ((c.tc : Thread Cert.Kernel3Ideal.nD Cert.Kernel3Ideal.τ).loc Cert.Kernel3Ideal.main_v105) = v4 c
          ∧ r.2.mem ((c.tc : Thread Cert.Kernel3Ideal.nD Cert.Kernel3Ideal.τ).loc Cert.Kernel3Ideal.main_v107) = v5 c
          ∧ r.2.mem ((c.tc : Thread Cert.Kernel3Ideal.nD Cert.Kernel3Ideal.τ).loc Cert.Kernel3Ideal.main_v109) = v6 c
          ∧ r.2.mem ((c.tc : Thread Cert.Kernel3Ideal.nD Cert.Kernel3Ideal.τ).loc Cert.Kernel3Ideal.main_v111) = v7 c
          ∧ r.2.mem ((c.tc : Thread Cert.Kernel3Ideal.nD Cert.Kernel3Ideal.τ).loc Cert.Kernel3Ideal.main_v113) = v8 c
          ∧ r.2.mem ((c.tc : Thread Cert.Kernel3Ideal.nD Cert.Kernel3Ideal.τ).loc Cert.Kernel3Ideal.main_v115) = v9 c
          ∧ r.2.mem ((c.tc : Thread Cert.Kernel3Ideal.nD Cert.Kernel3Ideal.τ).loc Cert.Kernel3Ideal.main_v117) = v10 c
          ∧ r.2.mem ((c.tc : Thread Cert.Kernel3Ideal.nD Cert.Kernel3Ideal.τ).loc Cert.Kernel3Ideal.main_v119) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v422) = v0 c
          ∧ r.2.mem ((c.tc : Thread Cert.Reference3Ideal.nD Cert.Reference3Ideal.τ).loc Cert.Reference3Ideal.main_v425) = v1 c
          ∧ r.2.mem ((c.tc : Thread Cert.Reference3Ideal.nD Cert.Reference3Ideal.τ).loc Cert.Reference3Ideal.main_v426) = v2 c
          ∧ r.2.mem ((c.tc : Thread Cert.Reference3Ideal.nD Cert.Reference3Ideal.τ).loc Cert.Reference3Ideal.main_v427) = v3 c
          ∧ r.2.mem ((c.tc : Thread Cert.Reference3Ideal.nD Cert.Reference3Ideal.τ).loc Cert.Reference3Ideal.main_v429) = v4 c
          ∧ r.2.mem ((c.tc : Thread Cert.Reference3Ideal.nD Cert.Reference3Ideal.τ).loc Cert.Reference3Ideal.main_v431) = v5 c
          ∧ r.2.mem ((c.tc : Thread Cert.Reference3Ideal.nD Cert.Reference3Ideal.τ).loc Cert.Reference3Ideal.main_v132) = v6 c
          ∧ r.2.mem ((c.tc : Thread Cert.Reference3Ideal.nD Cert.Reference3Ideal.τ).loc Cert.Reference3Ideal.main_v36) = v7 c
          ∧ r.2.mem ((c.tc : Thread Cert.Reference3Ideal.nD Cert.Reference3Ideal.τ).loc Cert.Reference3Ideal.main_v224) = v8 c
          ∧ r.2.mem ((c.tc : Thread Cert.Reference3Ideal.nD Cert.Reference3Ideal.τ).loc Cert.Reference3Ideal.main_v327) = v9 c
          ∧ r.2.mem ((c.tc : Thread Cert.Reference3Ideal.nD Cert.Reference3Ideal.τ).loc Cert.Reference3Ideal.main_v231) = v10 c
          ∧ r.2.mem ((c.tc : Thread Cert.Reference3Ideal.nD Cert.Reference3Ideal.τ).loc Cert.Reference3Ideal.main_v419) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11)) (v1 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_sample [hKernel5Ideal : Cert.Kernel5Ideal.Facts] [hReference5Ideal : Cert.Reference5Ideal.Facts] [hPre_finite_sample : Cert.Pre_finite_sample.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sample m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v13)) (v3 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v13) = v2 c
          ∧ r.2.mem ((c.tc : Thread Cert.Kernel6Ideal.nD Cert.Kernel6Ideal.τ).loc Cert.Kernel6Ideal.main_v15) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v1) = v1 c
          ∧ r.2.mem ((c.tc : Thread Cert.Reference6Ideal.nD Cert.Reference6Ideal.τ).loc Cert.Reference6Ideal.main_v2) = v2 c
          ∧ r.2.mem ((c.tc : Thread Cert.Reference6Ideal.nD Cert.Reference6Ideal.τ).loc Cert.Reference6Ideal.main_v3) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_sample : Cert.Pre_finite_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_sample (hKernel5Ideal := hKernel5Ideal) (hPre_finite_sample := hPre_finite_sample)
    ∧ quiescent_Reference5Ideal (hReference5Ideal := hReference5Ideal)
    ∧ quiescent_Reference5Ideal_pre_finite_sample (hReference5Ideal := hReference5Ideal) (hPre_finite_sample := hPre_finite_sample)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_sample (hKernel5Ideal := hKernel5Ideal) (hReference5Ideal := hReference5Ideal) (hPre_finite_sample := hPre_finite_sample)
    ∧ preserves_Kernel6_Kernel6Ideal
    ∧ algebraic_Kernel6Ideal_Reference6Ideal (hKernel6Ideal := hKernel6Ideal) (hReference6Ideal := hReference6Ideal)
-- ==== Pre_finite.lean ====
abbrev S2x8192x32x128 : Shape := ⟨4, ![2, 8192, 32, 128]⟩
abbrev S2x8192x8x128 : Shape := ⟨4, ![2, 8192, 8, 128]⟩
abbrev S8x32x32x128 : Shape := ⟨4, ![8, 32, 32, 128]⟩
abbrev S8x32x8x128 : Shape := ⟨4, ![8, 32, 8, 128]⟩
abbrev S32 : Shape := ⟨1, ![32]⟩
abbrev S_ : Shape := ⟨0, ![]⟩

class Facts : Prop where
  bcast_S_S2x8192x32x128 : S_.BroadcastsInDim S2x8192x32x128 (![] : Fin 0 → Fin S2x8192x32x128.rank)
  reducesTo_S2x8192x32x128_S_d0_1_2_3 : S2x8192x32x128.ReducesTo [0, 1, 2, 3] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2x8192x32x128 .f32) (main_arg1 : FVec F S2x8192x8x128 .f32) (main_arg2 : FVec F S2x8192x8x128 .f32) (main_arg3 : FVec F S8x32x32x128 .f32) (main_arg4 : FVec F S8x32x8x128 .f32) (main_arg5 : FVec F S8x32x8x128 .f32) (main_arg6 : FVec F S32 .f32) : IVec S_ 1 :=
  let main_v0 : FVec F S2x8192x32x128 .f32 := Host.absf main_arg0
  let main_cst : FVec F S_ .f32 := constant S_ .f32 0x7F800000#32
  let main_v1 : FVec F S2x8192x32x128 .f32 := broadcastInDim S2x8192x32x128 ![] bcast_S_S2x8192x32x128 main_cst
  let main_v2 : IVec S2x8192x32x128 1 := cmpf .olt main_v0 main_v1
  let main_c : IVec S_ 1 := constantI S_ 1 1#1
  let main_v3 : IVec S_ 1 := (fun x v => Host.reduce IntOp.andi x v reducesTo_S2x8192x32x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  let main_v9 : FVec F S32 .f32 := Host.absf main_arg6
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Pre_finite_sample.lean ====
abbrev S2x8192x32x128 : Shape := ⟨4, ![2, 8192, 32, 128]⟩
abbrev S8x32x32x128 : Shape := ⟨4, ![8, 32, 32, 128]⟩
abbrev S8x32x8x128 : Shape := ⟨4, ![8, 32, 8, 128]⟩
abbrev S8x128x8x128 : Shape := ⟨4, ![8, 128, 8, 128]⟩
abbrev S32 : Shape := ⟨1, ![32]⟩
abbrev S_ : Shape := ⟨0, ![]⟩

class Facts : Prop where
  bcast_S_S8x32x32x128 : S_.BroadcastsInDim S8x32x32x128 (![] : Fin 0 → Fin S8x32x32x128.rank)
  reducesTo_S8x32x32x128_S_d0_1_2_3 : S8x32x32x128.ReducesTo [0, 1, 2, 3] S_
  h_S_ : 0 < S_.numel
  bcast_S_S8x32x8x128 : S_.BroadcastsInDim S8x32x8x128 (![] : Fin 0 → Fin S8x32x8x128.rank)
  reducesTo_S8x32x8x128_S_d0_1_2_3 : S8x32x8x128.ReducesTo [0, 1, 2, 3] S_
  bcast_S_S8x128x8x128 : S_.BroadcastsInDim S8x128x8x128 (![] : Fin 0 → Fin S8x128x8x128.rank)
  reducesTo_S8x128x8x128_S_d0_1_2_3 : S8x128x8x128.ReducesTo [0, 1, 2, 3] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S2x8192x32x128 .f32) (main_arg1 : FVec F S8x32x32x128 .f32) (main_arg2 : FVec F S8x32x8x128 .f32) (main_arg3 : FVec F S8x32x8x128 .f32) (main_arg4 : FVec F S8x128x8x128 .f32) (main_arg5 : FVec F S8x128x8x128 .f32) (main_arg6 : FVec F S32 .f32) : IVec S_ 1 :=
  let main_v0 : FVec F S8x32x32x128 .f32 := Host.absf main_arg1
  let main_cst : FVec F S_ .f32 := constant S_ .f32 0x7F800000#32
  let main_v1 : FVec F S8x32x32x128 .f32 := broadcastInDim S8x32x32x128 ![] bcast_S_S8x32x32x128 main_cst
  let main_v2 : IVec S8x32x32x128 1 := cmpf .olt main_v0 main_v1
  let main_c : IVec S_ 1 := constantI S_ 1 1#1
  let main_v3 : IVec S_ 1 := (fun x v => Host.reduce IntOp.andi x v reducesTo_S8x32x32x128_S_d0_1_2_3 h_S_) main_v2 main_c
  let main_v4 : FVec F S8x32x8x128 .f32 := Host.absf main_arg2
  let main_cst_0 : FVec F S_ .f32 := constant S_ .f32 0x7F800000#32
  let main_v5 : FVec F S8x32x8x128 .f32 := broadcastInDim S8x32x8x128 ![] bcast_S_S8x32x8x128 main_cst_0
  let main_v6 : IVec S8x32x8x128 1 := cmpf .olt main_v4 main_v5
  let main_c_1 : IVec S_ 1 := constantI S_ 1 1#1
  let main_v7 : IVec S_ 1 := (fun x v => Host.reduce IntOp.andi x v reducesTo_S8x32x8x128_S_d0_1_2_3 h_S_) main_v6 main_c_1
  let main_v8 : IVec S_ 1 := andi main_v3 main_v7
  let main_v9 : FVec F S8x128x8x128 .f32 := Host.absf main_arg4
  let main_cst_2 : FVec F S_ .f32 := constant S_ .f32 0x7F800000#32
  let main_v10 : FVec F S8x128x8x128 .f32 := broadcastInDim S8x128x8x128 ![] bcast_S_S8x128x8x128 main_cst_2
  let main_v11 : IVec S8x128x8x128 1 := cmpf .olt main_v9 main_v10
  let main_c_3 : IVec S_ 1 := constantI S_ 1 1#1
  let main_v12 : IVec S_ 1 := (fun x v => Host.reduce IntOp.andi x v reducesTo_S8x128x8x128_S_d0_1_2_3 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S2x8192x32x128 : Shape := ⟨4, ![2, 8192, 32, 128]⟩
abbrev S2x8192x8x128 : Shape := ⟨4, ![2, 8192, 8, 128]⟩
abbrev S8x32x32x128 : Shape := ⟨4, ![8, 32, 32, 128]⟩
abbrev S8x32x8x128 : Shape := ⟨4, ![8, 32, 8, 128]⟩
abbrev S32 : Shape := ⟨1, ![32]⟩
abbrev S_ : Shape := ⟨0, ![]⟩
abbrev S16384x4096 : Shape := ⟨2, ![16384, 4096]⟩
abbrev S256x4096 : Shape := ⟨2, ![256, 4096]⟩
abbrev S16640x4096 : Shape := ⟨2, ![16640, 4096]⟩
abbrev S16384x1024 : Shape := ⟨2, ![16384, 1024]⟩
abbrev S256x1024 : Shape := ⟨2, ![256, 1024]⟩
abbrev S16640x1024 : Shape := ⟨2, ![16640, 1024]⟩
abbrev S128x4096 : Shape := ⟨2, ![128, 4096]⟩
abbrev S128x1024 : Shape := ⟨2, ![128, 1024]⟩
abbrev S128x256 : Shape := ⟨2, ![128, 256]⟩
abbrev S128x128 : Shape := ⟨2, ![128, 128]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 26
  | .vmem => 12
  | .smem => 1
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x8192x8x128, .f32⟩
  | .hbm, ⟨3, _⟩ => ⟨S8x32x32x128, .f32⟩
  | .hbm, ⟨4, _⟩ => ⟨S8x32x8x128, .f32⟩
  | .hbm, ⟨5, _⟩ => ⟨S8x32x8x128, .f32⟩
  | .hbm, ⟨6, _⟩ => ⟨S32, .f32⟩
  | .hbm, ⟨7, _⟩ => ⟨S_, .f32⟩
  | .hbm, ⟨8, _⟩ => ⟨S2x8192x32x128, .f32⟩
  | .hbm, ⟨9, _⟩ => ⟨S2x8192x32x128, .f32⟩
  | .hbm, ⟨10, _⟩ => ⟨S_, .f32⟩
  | .hbm, ⟨11, _⟩ => ⟨S8x32x32x128, .f32⟩
  | .hbm, ⟨12, _⟩ => ⟨S8x32x32x128, .f32⟩
  | .hbm, ⟨13, _⟩ => ⟨S16384x4096, .f32⟩
  | .hbm, ⟨14, _⟩ => ⟨S256x4096, .f32⟩
  | .hbm, ⟨15, _⟩ => ⟨S16640x4096, .f32⟩
  | .hbm, ⟨16, _⟩ => ⟨S16640x4096, .bf16⟩
  | .hbm, ⟨17, _⟩ => ⟨S16384x1024, .f32⟩
  | .hbm, ⟨18, _⟩ => ⟨S256x1024, .f32⟩
  | .hbm, ⟨19, _⟩ => ⟨S16640x1024, .f32⟩
  | .hbm, ⟨20, _⟩ => ⟨S16640x1024, .bf16⟩
  | .hbm, ⟨21, _⟩ => ⟨S16384x1024, .f32⟩
  | .hbm, ⟨22, _⟩ => ⟨S256x1024, .f32⟩
  | .hbm, ⟨23, _⟩ => ⟨S16640x1024, .f32⟩
  | .hbm, ⟨24, _⟩ => ⟨S16640x1024, .bf16⟩
  | .hbm, ⟨25, _⟩ => ⟨S16384x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x4096, .bf16⟩
  | .local _ .vmem, ⟨11, _⟩ => ⟨S128x4096, .bf16⟩
  | .local _ .smem, ⟨0, _⟩ => ⟨S32, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x32x128 : Shape := ⟨4, ![2, 8192, 32, 128]⟩
abbrev S2x8192x8x128 : Shape := ⟨4, ![2, 8192, 8, 128]⟩
abbrev S8x32x32x128 : Shape := ⟨4, ![8, 32, 32, 128]⟩
abbrev S8x32x8x128 : Shape := ⟨4, ![8, 32, 8, 128]⟩
abbrev S32 : Shape := ⟨1, ![32]⟩
abbrev S2x128x64x8x4x128 : Shape := ⟨6, ![2, 128, 64, 8, 4, 128]⟩
abbrev S2x128x64x8x128 : Shape := ⟨5, ![2, 128, 64, 8, 128]⟩
abbrev S_ : Shape := ⟨0, ![]⟩
abbrev S2x130x64x8x128 : Shape := ⟨5, ![2, 130, 64, 8, 128]⟩
abbrev S2x128x192x8x128 : Shape := ⟨5, ![2, 128, 192, 8, 128]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S2x128x8x192x64x4 : Shape := ⟨6, ![2, 128, 8, 192, 64, 4]⟩
abbrev S2x128x8x4x64x192 : Shape := ⟨6, ![2, 128, 8, 4, 64, 192]⟩
abbrev S1x128x1x1x1x192 : Shape := ⟨6, ![1, 128, 1, 1, 1, 192]⟩
abbrev S8x4x1 : Shape := ⟨3, ![8, 4, 1]⟩
abbrev S2x128x8x4x64 : Shape := ⟨5, ![2, 128, 8, 4, 64]⟩
abbrev S1x1x8x4x1 : Shape := ⟨5, ![1, 1, 8, 4, 1]⟩
abbrev S2x128x8x4x64x1 : Shape := ⟨6, ![2, 128, 8, 4, 64, 1]⟩
abbrev S2x128x8x128x4x64 : Shape := ⟨6, ![2, 128, 8, 128, 4, 64]⟩
abbrev S16384x4096 : Shape := ⟨2, ![16384, 4096]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x8192x8x128, .f32⟩
  | .hbm, ⟨3, _⟩ => ⟨S8x32x32x128, .f32⟩
  | .hbm, ⟨4, _⟩ => ⟨S8x32x8x128, .f32⟩
  | .hbm, ⟨5, _⟩ => ⟨S8x32x8x128, .f32⟩
  | .hbm, ⟨6, _⟩ => ⟨S32, .f32⟩
  | .hbm, ⟨7, _⟩ => ⟨S2x128x64x8x4x128, .f32⟩
  | .hbm, ⟨8, _⟩ => ⟨S2x128x64x8x128, .f32⟩
  | .hbm, ⟨9, _⟩ => ⟨S_, .i32⟩
  | .hbm, ⟨10, _⟩ => ⟨S_, .f32⟩
  | .hbm, ⟨11, _⟩ => ⟨S2x130x64x8x128, .f32⟩
  | .hbm, ⟨12, _⟩ => ⟨S2x128x64x8x128, .f32⟩
  | .hbm, ⟨13, _⟩ => ⟨S2x128x64x8x128, .f32⟩
  | .hbm, ⟨14, _⟩ => ⟨S2x128x64x8x128, .f32⟩
  | .hbm, ⟨15, _⟩ => ⟨S2x128x192x8x128, .f32⟩
  | .hbm, ⟨16, _⟩ => ⟨S2x128x64x8x128, .f32⟩
  | .hbm, ⟨17, _⟩ => ⟨S_, .i32⟩
  | .hbm, ⟨18, _⟩ => ⟨S_, .f32⟩
  | .hbm, ⟨19, _⟩ => ⟨S2x130x64x8x128, .f32⟩
  | .hbm, ⟨20, _⟩ => ⟨S2x128x64x8x128, .f32⟩
  | .hbm, ⟨21, _⟩ => ⟨S2x128x64x8x128, .f32⟩
  | .hbm, ⟨22, _⟩ => ⟨S2x128x64x8x128, .f32⟩
  | .hbm, ⟨23, _⟩ => ⟨S2x128x192x8x128, .f32⟩
  | .hbm, ⟨24, _⟩ => ⟨S128, .i32⟩
  | .hbm, ⟨25, _⟩ => ⟨S128x1, .i32⟩
  | .hbm, ⟨26, _⟩ => ⟨S192, .i32⟩
  | .hbm, ⟨27, _⟩ => ⟨S_, .i32⟩
  | .hbm, ⟨28, _⟩ => ⟨S_, .i32⟩
  | .hbm, ⟨29, _⟩ => ⟨S192, .i32⟩
  | .hbm, ⟨30, _⟩ => ⟨S192, .i32⟩
  | .hbm, ⟨31, _⟩ => ⟨S192, .i32⟩
  | .hbm, ⟨32, _⟩ => ⟨S_, .i32⟩
  | .hbm, ⟨33, _⟩ => ⟨S192, .i32⟩
  | .hbm, ⟨34, _⟩ => ⟨S192, .i1⟩
  | .hbm, ⟨35, _⟩ => ⟨S192, .i32⟩
  | .hbm, ⟨36, _⟩ => ⟨S192, .i32⟩
  | .hbm, ⟨37, _⟩ => ⟨S_, .i32⟩
  | .hbm, ⟨38, _⟩ => ⟨S192, .i32⟩
  | .hbm, ⟨39, _⟩ => ⟨S192, .i1⟩
  | .hbm, ⟨40, _⟩ => ⟨S192, .i1⟩
  | .hbm, ⟨41, _⟩ => ⟨S_, .i32⟩
  | .hbm, ⟨42, _⟩ => ⟨S192, .i32⟩
  | .hbm, ⟨43, _⟩ => ⟨S192, .i32⟩
  | .hbm, ⟨44, _⟩ => ⟨S192, .i32⟩
  | .hbm, ⟨45, _⟩ => ⟨S1x192, .i32⟩
  | .hbm, ⟨46, _⟩ => ⟨S128x192, .i32⟩
  | .hbm, ⟨47, _⟩ => ⟨S128x192, .i32⟩
  | .hbm, ⟨48, _⟩ => ⟨S128x192, .i32⟩
  | .hbm, ⟨49, _⟩ => ⟨S_, .i32⟩
  | .hbm, ⟨50, _⟩ => ⟨S128x192, .i32⟩
  | .hbm, ⟨51, _⟩ => ⟨S128x192, .i32⟩
  | .hbm, ⟨52, _⟩ => ⟨S2x128x8x192x64x4, .f32⟩
  | .hbm, ⟨53, _⟩ => ⟨S2x128x8x4x64x192, .f32⟩
  | .hbm, ⟨54, _⟩ => ⟨S_, .f32⟩
  | .hbm, ⟨55, _⟩ => ⟨S2x128x8x4x64x192, .f32⟩
  | .hbm, ⟨56, _⟩ => ⟨S2x128x8x4x64x192, .f32⟩
  | .hbm, ⟨57, _⟩ => ⟨S_, .i32⟩
  | .hbm, ⟨58, _⟩ => ⟨S128x192, .i32⟩
  | .hbm, ⟨59, _⟩ => ⟨S128x192, .i1⟩
  | .hbm, ⟨60, _⟩ => ⟨S1x128x1x1x1x192, .i1⟩
  | .hbm, ⟨61, _⟩ => ⟨S_, .f32⟩
  | .hbm, ⟨62, _⟩ => ⟨S_, .f32⟩
  | .hbm, ⟨63, _⟩ => ⟨S2x128x8x4x64x192, .i1⟩
  | .hbm, ⟨64, _⟩ => ⟨S2x128x8x4x64x192, .f32⟩
  | .hbm, ⟨65, _⟩ => ⟨S2x128x8x4x64x192, .f32⟩
  | .hbm, ⟨66, _⟩ => ⟨S8x4x1, .f32⟩
  | .hbm, ⟨67, _⟩ => ⟨S_, .f32⟩
  | .hbm, ⟨68, _⟩ => ⟨S2x128x8x4x64, .f32⟩
  | .hbm, ⟨69, _⟩ => ⟨S1x1x8x4x1, .f32⟩
  | .hbm, ⟨70, _⟩ => ⟨S2x128x8x4x64, .f32⟩
  | .hbm, ⟨71, _⟩ => ⟨S2x128x8x4x64, .f32⟩
  | .hbm, ⟨72, _⟩ => ⟨S2x128x8x4x64x1, .f32⟩
  | .hbm, ⟨73, _⟩ => ⟨S2x128x8x4x64x192, .f32⟩
  | .hbm, ⟨74, _⟩ => ⟨S2x128x8x4x64x192, .f32⟩
  | .hbm, ⟨75, _⟩ => ⟨S2x128x8x4x64x192, .f32⟩
  | .hbm, ⟨76, _⟩ => ⟨S_, .f32⟩
  | .hbm, ⟨77, _⟩ => ⟨S2x128x8x4x64, .f32⟩
  | .hbm, ⟨78, _⟩ => ⟨S1x1x8x4x1, .f32⟩
  | .hbm, ⟨79, _⟩ => ⟨S2x128x8x4x64, .f32⟩
  | .hbm, ⟨80, _⟩ => ⟨S2x128x8x4x64, .f32⟩
  | .hbm, ⟨81, _⟩ => ⟨S2x128x8x4x64, .f32⟩
  | .hbm, ⟨82, _⟩ => ⟨S2x128x8x4x64, .f32⟩
  | .hbm, ⟨83, _⟩ => ⟨S2x128x8x4x64x1, .f32⟩
  | .hbm, ⟨84, _⟩ => ⟨S2x128x8x4x64x192, .f32⟩
  | .hbm, ⟨85, _⟩ => ⟨S2x128x8x4x64x192, .f32⟩
  | .hbm, ⟨86, _⟩ => ⟨S2x128x8x128x4x64, .f32⟩
  | .hbm, ⟨87, _⟩ => ⟨S2x128x64x8x4x128, .f32⟩
  | .hbm, ⟨88, _⟩ => ⟨S16384x4096, .f32⟩
  | .hbm, ⟨89, _⟩ => ⟨S16384x4096, .bf16⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst : Ref sig .tc := ⟨.hbm, 54, rfl⟩
abbrev main_v25 : Ref sig .tc := ⟨.hbm, 55, rfl⟩
abbrev main_v26 : Ref sig .tc := ⟨.hbm, 56, rfl⟩
abbrev main_c_3 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v30 : Ref sig .tc := ⟨.hbm, 65, rfl⟩
abbrev main_v31 : Ref sig .tc := ⟨.hbm, 66, rfl⟩
abbrev main_cst_5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Kernel2.lean ====
abbrev S2x8192x4096 : Shape := ⟨3, ![2, 8192, 4096]⟩
abbrev S8x32x4096 : Shape := ⟨3, ![8, 32, 4096]⟩
abbrev S8x128x8x128 : Shape := ⟨4, ![8, 128, 8, 128]⟩
abbrev S4096 : Shape := ⟨1, ![4096]⟩
abbrev S4096x6144 : Shape := ⟨2, ![4096, 6144]⟩
abbrev S128 : Shape := ⟨1, ![128]⟩
abbrev S16384x4096 : Shape := ⟨2, ![16384, 4096]⟩
abbrev S256x4096 : Shape := ⟨2, ![256, 4096]⟩
abbrev S16640x4096 : Shape := ⟨2, ![16640, 4096]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S8x32 : Shape := ⟨2, ![8, 32]⟩
abbrev S256 : Shape := ⟨1, ![256]⟩
abbrev S16640 : Shape := ⟨1, ![16640]⟩
abbrev S16 : Shape := ⟨1, ![16]⟩
abbrev S16640x1 : Shape := ⟨2, ![16640, 1]⟩
abbrev S1x16 : Shape := ⟨2, ![1, 16]⟩
abbrev S16640x16 : Shape := ⟨2, ![16640, 16]⟩
abbrev S16640x96 : Shape := ⟨2, ![16640, 96]⟩
abbrev S16640x128 : Shape := ⟨2, ![16640, 128]⟩
abbrev S16640x112 : Shape := ⟨2, ![16640, 112]⟩
abbrev S1x16640x1x128 : Shape := ⟨4, ![1, 16640, 1, 128]⟩
abbrev S1x4096 : Shape := ⟨2, ![1, 4096]⟩
abbrev S256x1 : Shape := ⟨2, ![256, 1]⟩
abbrev S16640x6144 : Shape := ⟨2, ![16640, 6144]⟩
abbrev S1280x4096 : Shape := ⟨2, ![1280, 4096]⟩
abbrev S4096x512 : Shape := ⟨2, ![4096, 512]⟩
abbrev S1280x512 : Shape := ⟨2, ![1280, 512]⟩
abbrev S1x128 : Shape := ⟨2, ![1, 128]⟩
abbrev S16640x8x128 : Shape := ⟨3, ![16640, 8, 128]⟩
abbrev S16640x1024 : Shape := ⟨2, ![16640, 1024]⟩
abbrev S256x6144 : Shape := ⟨2, ![256, 6144]⟩
abbrev S256x128 : Shape := ⟨2, ![256, 128]⟩
abbrev S256x8x128 : Shape := ⟨3, ![256, 8, 128]⟩
abbrev S256x1024 : Shape := ⟨2, ![256, 1024]⟩
abbrev S256x1x128 : Shape := ⟨3, ![256, 1, 128]⟩
abbrev S8x32x8x128 : Shape := ⟨4, ![8, 32, 8, 128]⟩
abbrev S8x160x8x128 : Shape := ⟨4, ![8, 160, 8, 128]⟩
abbrev S2x8192x32x128 : Shape := ⟨4, ![2, 8192, 32, 128]⟩
abbrev S8x32x32x128 : Shape := ⟨4, ![8, 32, 32, 128]⟩
abbrev S16384x8x128 : Shape := ⟨3, ![16384, 8, 128]⟩
abbrev S2x8192x8x128 : Shape := ⟨4, ![2, 8192, 8, 128]⟩
abbrev S2x128x8x128 : Shape := ⟨4, ![2, 128, 8, 128]⟩

abbrev nBuf : Space → Nat
  | .hbm => 91
  | .vmem => 31
  | .smem => 0
  | _ => 0

abbrev bufTy : (tb : Table) → Fin (tcTables nBuf tb) → BufTy
  | .hbm, ⟨0, _⟩ => ⟨S2x8192x4096, .f32⟩
  | .hbm, ⟨1, _⟩ => ⟨S8x32x4096, .f32⟩
  | .hbm, ⟨2, _⟩ => ⟨S8x128x8x128, .f32⟩
  | .hbm, ⟨3, _⟩ => ⟨S8x128x8x128, .f32⟩
  | .hbm, ⟨4, _⟩ => ⟨S4096, .f32⟩
  | .hbm, ⟨5, _⟩ => ⟨S4096x6144, .f32⟩
  | .hbm, ⟨6, _⟩ => ⟨S128, .f32⟩
  | .hbm, ⟨7, _⟩ => ⟨S128, .f32⟩
  | .hbm, ⟨8, _⟩ => ⟨S16384x4096, .f32⟩
  | .hbm, ⟨9, _⟩ => ⟨S256x4096, .f32⟩
  | .hbm, ⟨10, _⟩ => ⟨S16640x4096, .f32⟩
  | .hbm, ⟨11, _⟩ => ⟨S8192, .i32⟩
  | .hbm, ⟨12, _⟩ => ⟨S1x8192, .i32⟩
  | .hbm, ⟨13, _⟩ => ⟨S2x8192, .i32⟩
  | .hbm, ⟨14, _⟩ => ⟨S16384, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S1x32, .i32⟩
  | .hbm, ⟨20, _⟩ => ⟨S8x32, .i32⟩
  | .hbm, ⟨21, _⟩ => ⟨S256, .i32⟩
  | .hbm, ⟨22, _⟩ => ⟨S16640, .i32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16640, .f32⟩
  | .hbm, ⟨34, _⟩ => ⟨S16640x1, .f32⟩
  | .hbm, ⟨35, _⟩ => ⟨S1x16, .f32⟩
  | .hbm, ⟨36, _⟩ => ⟨S16640x16, .f32⟩
  | .hbm, ⟨37, _⟩ => ⟨S16640x16, .f32⟩
  | .hbm, ⟨38, _⟩ => ⟨S16640x16, .f32⟩
  | .hbm, ⟨39, _⟩ => ⟨S16640x16, .f32⟩
  | .hbm, ⟨40, _⟩ => ⟨S16640x16, .f32⟩
  | .hbm, ⟨41, _⟩ => ⟨S_, .f32⟩
  | .hbm, ⟨42, _⟩ => ⟨S16640x96, .f32⟩
  | .hbm, ⟨43, _⟩ => ⟨S16640x128, .f32⟩
  | .hbm, ⟨44, _⟩ => ⟨S16640x16, .f32⟩
  | .hbm, ⟨45, _⟩ => ⟨S_, .f32⟩
  | .hbm, ⟨46, _⟩ => ⟨S16640x112, .f32⟩
  | .hbm, ⟨47, _⟩ => ⟨S16640x128, .f32⟩
  | .hbm, ⟨48, _⟩ => ⟨S_, .f32⟩
  | .hbm, ⟨49, _⟩ => ⟨S16640x16, .f32⟩
  | .hbm, ⟨50, _⟩ => ⟨S_, .f32⟩
  | .hbm, ⟨51, _⟩ => ⟨S16640x96, .f32⟩
  | .hbm, ⟨52, _⟩ => ⟨S16640x128, .f32⟩
  | .hbm, ⟨53, _⟩ => ⟨S1x16640x1x128, .f32⟩
  | .hbm, ⟨54, _⟩ => ⟨S1x16640x1x128, .f32⟩
  | .hbm, ⟨55, _⟩ => ⟨S16640x128, .f32⟩
  | .hbm, ⟨56, _⟩ => ⟨S1x16640x1x128, .f32⟩
  | .hbm, ⟨57, _⟩ => ⟨S1x16640x1x128, .f32⟩
  | .hbm, ⟨58, _⟩ => ⟨S16640x128, .f32⟩
  | .hbm, ⟨59, _⟩ => ⟨S1x16640x1x128, .f32⟩
  | .hbm, ⟨60, _⟩ => ⟨S1x16640x1x128, .f32⟩
  | .hbm, ⟨61, _⟩ => ⟨S16640x128, .f32⟩
  | .hbm, ⟨62, _⟩ => ⟨S1x4096, .f32⟩
  | .hbm, ⟨63, _⟩ => ⟨S16640x4096, .bf16⟩
  | .hbm, ⟨64, _⟩ => ⟨S4096x6144, .bf16⟩
  | .hbm, ⟨65, _⟩ => ⟨S16640x6144, .f32⟩
  | .hbm, ⟨66, _⟩ => ⟨S1x128, .f32⟩
  | .hbm, ⟨67, _⟩ => ⟨S1x128, .f32⟩
  | .hbm, ⟨68, _⟩ => ⟨S16640x4096, .bf16⟩
  | .hbm, ⟨69, _⟩ => ⟨S16640x8x128, .f32⟩
  | .hbm, ⟨70, _⟩ => ⟨S16640x1024, .bf16⟩
  | .hbm, ⟨71, _⟩ => ⟨S16640x8x128, .f32⟩
  | .hbm, ⟨72, _⟩ => ⟨S16640x1024, .bf16⟩
  | .hbm, ⟨73, _⟩ => ⟨S256x8x128, .f32⟩
  | .hbm, ⟨74, _⟩ => ⟨S8x32x8x128, .f32⟩
  | .hbm, ⟨75, _⟩ => ⟨S8x160x8x128, .f32⟩
  | .hbm, ⟨76, _⟩ => ⟨S256x8x128, .f32⟩
  | .hbm, ⟨77, _⟩ => ⟨S8x32x8x128, .f32⟩
  | .hbm, ⟨78, _⟩ => ⟨S8x160x8x128, .f32⟩
  | .hbm, ⟨79, _⟩ => ⟨S16384x4096, .bf16⟩
  | .hbm, ⟨80, _⟩ => ⟨S2x8192x32x128, .bf16⟩
  | .hbm, ⟨81, _⟩ => ⟨S256x4096, .bf16⟩
  | .hbm, ⟨82, _⟩ => ⟨S8x32x32x128, .bf16⟩
  | .hbm, ⟨83, _⟩ => ⟨S16384x8x128, .f32⟩
  | .hbm, ⟨84, _⟩ => ⟨S2x8192x8x128, .f32⟩
  | .hbm, ⟨85, _⟩ => ⟨S2x128x8x128, .f32⟩
  | .hbm, ⟨86, _⟩ => ⟨S16384x8x128, .f32⟩
  | .hbm, ⟨87, _⟩ => ⟨S2x8192x8x128, .f32⟩
  | .hbm, ⟨88, _⟩ => ⟨S2x128x8x128, .f32⟩
  | .hbm, ⟨89, _⟩ => ⟨S8x128x8x128, .f32⟩
  | .hbm, ⟨90, _⟩ => ⟨S8x128x8x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1280x4096, .bf16⟩
  | .local _ .vmem, ⟨6, _⟩ => ⟨S1280x4096, .bf16⟩
  | .local _ .vmem, ⟨7, _⟩ => ⟨S4096x512, .bf16⟩
  | .local _ .vmem, ⟨8, _⟩ => ⟨S4096x512, .bf16⟩
  | .local _ .vmem, ⟨9, _⟩ => ⟨S1280x512, .f32⟩
  | .local _ .vmem, ⟨10, _⟩ => ⟨S1280x512, .f32⟩
  | .local _ .vmem, ⟨11, _⟩ => ⟨S256x6144, .f32⟩
  | .local _ .vmem, ⟨12, _⟩ => ⟨S256x6144, .f32⟩
  | .local _ .vmem, ⟨13, _⟩ => ⟨S1x128, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x4096, .bf16⟩
  | .local _ .vmem, ⟨22, _⟩ => ⟨S256x4096, .bf16⟩
  | .local _ .vmem, ⟨23, _⟩ => ⟨S256x8x128, .f32⟩
  | .local _ .vmem, ⟨24, _⟩ => ⟨S256x8x128, .f32⟩
  | .local _ .vmem, ⟨25, _⟩ => ⟨S256x1024, .bf16⟩
  | .local _ .vmem, ⟨26, _⟩ => ⟨S256x1024, .bf16⟩
  | .local _ .vmem, ⟨27, _⟩ => ⟨S256x8x128, .f32⟩
  | .local _ .vmem, ⟨28, _⟩ => ⟨S256x8x128, .f32⟩
  | .local _ .vmem, ⟨29, _⟩ => ⟨S256x1024, .bf16⟩
  | .local _ .vmem, ⟨30, _⟩ => ⟨S256x1024, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc2_stg10_0 : Ref sig .tc := ⟨.vmem, 29, rfl⟩
abbrev cc2_stg10_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc2_sem9_0 : DmaSem sig := 27
abbrev cc2_sem9_1 : DmaSem sig := 28
abbrev cc2_sem10_0 : DmaSem sig := 29
abbrev cc2_sem10_1 : DmaSem sig := 30

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![13, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1280x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1280x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![65], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x6144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x8x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S256x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== Reference2Ideal.lean ====
abbrev S2x8192x4096 : Shape := ⟨3, ![2, 8192, 4096]⟩
abbrev S8x32x4096 : Shape := ⟨3, ![8, 32, 4096]⟩
abbrev S8x128x8x128 : Shape := ⟨4, ![8, 128, 8, 128]⟩
abbrev S4096 : Shape := ⟨1, ![4096]⟩
abbrev S4096x6144 : Shape := ⟨2, ![4096, 6144]⟩
abbrev S128 : Shape := ⟨1, ![128]⟩
abbrev S8192 : Shape := ⟨1, ![8192]⟩
abbrev S32 : Shape := ⟨1, ![32]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S8x32 : Shape := ⟨2, ![8, 32]⟩
abbrev S8x32x1 : Shape := ⟨3, ![8, 32, 1]⟩
abbrev S2x8192x6144 : Shape := ⟨3, ![2, 8192, 6144]⟩
abbrev S2x8192x32x128 : Shape := ⟨4, ![2, 8192, 32, 128]⟩
abbrev S2x8192x1024 : Shape := ⟨3, ![2, 8192, 1024]⟩
abbrev S2x8192x8x128 : Shape := ⟨4, ![2, 8192, 8, 128]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x32x16 : Shape := ⟨4, ![2, 8192, 32, 16]⟩
abbrev S1x8192x1x16 : Shape := ⟨4, ![1, 8192, 1, 16]⟩
abbrev S2x8192x32x96 : Shape := ⟨4, ![2, 8192, 32, 96]⟩
abbrev S2x8192x8 : Shape := ⟨3, ![2, 8192, 8]⟩
abbrev S2x8192x8x1 : Shape := ⟨4, ![2, 8192, 8, 1]⟩
abbrev S2x8192x8x16 : Shape := ⟨4, ![2, 8192, 8, 16]⟩
abbrev S2x8192x8x96 : Shape := ⟨4, ![2, 8192, 8, 96]⟩
abbrev S2x8192x0 : Shape := ⟨3, ![2, 8192, 0]⟩
abbrev S8x32x6144 : Shape := ⟨3, ![8, 32, 6144]⟩
abbrev S8x32x32x128 : Shape := ⟨4, ![8, 32, 32, 128]⟩
abbrev S8x32x1024 : Shape := ⟨3, ![8, 32, 1024]⟩
abbrev S8x32x8x128 : Shape := ⟨4, ![8, 32, 8, 128]⟩
abbrev S8x32x32 : Shape := ⟨3, ![8, 32, 32]⟩
abbrev S8x32x32x1 : Shape := ⟨4, ![8, 32, 32, 1]⟩
abbrev S32x1 : Shape := ⟨2, ![32, 1]⟩
abbrev S32x16 : Shape := ⟨2, ![32, 16]⟩
abbrev S32x1x16 : Shape := ⟨3, ![32, 1, 16]⟩
abbrev S8x32x32x16 : Shape := ⟨4, ![8, 32, 32, 16]⟩
abbrev S1x32x1x16 : Shape := ⟨4, ![1, 32, 1, 16]⟩
abbrev S8x32x32x96 : Shape := ⟨4, ![8, 32, 32, 96]⟩
abbrev S8x32x8 : Shape := ⟨3, ![8, 32, 8]⟩
abbrev S8x32x8x1 : Shape := ⟨4, ![8, 32, 8, 1]⟩
abbrev S8x32x8x16 : Shape := ⟨4, ![8, 32, 8, 16]⟩
abbrev S8x32x8x96 : Shape := ⟨4, ![8, 32, 8, 96]⟩
abbrev S8x32x0 : Shape := ⟨3, ![8, 32, 0]⟩
abbrev S8x160x8x128 : Shape := ⟨4, ![8, 160, 8, 128]⟩
abbrev S2x128x8x128 : Shape := ⟨4, ![2, 128, 8, 128]⟩

abbrev nBuf : Space → Nat
  | .hbm => 291
  | .vmem => 0
  | .smem => 0
  | _ => 0

abbrev hbmTy0_0 (i : Nat) : BufTy := match i % 128 with
  | 0 => ⟨S2x8192x4096, .f32⟩
  | 1 => ⟨S8x32x4096, .f32⟩
  | 2 => ⟨S8x128x8x128, .f32⟩
  | 3 => ⟨S8x128x8x128, .f32⟩
  | 4 => ⟨S4096, .f32⟩
  | 5 => ⟨S4096x6144, .f32⟩
  | 6 => ⟨S128, .f32⟩
  | 7 => ⟨S128, .f32⟩
  | 8 => ⟨S8192, .i32⟩
  | 9 => ⟨S32, .i32⟩
  | 10 => ⟨S_, .i32⟩
  | 11 => ⟨S32, .i32⟩
  | 12 => ⟨S32, .i32⟩
  | 13 => ⟨S2x8192x4096, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x4096, .f32⟩
  | 25 => ⟨S2x8192x4096, .f32⟩
  | 26 => ⟨S1x1x4096, .f32⟩
  | 27 => ⟨S2x8192x4096, .f32⟩
  | 28 => ⟨S2x8192x4096, .f32⟩
  | 29 => ⟨S8x32x4096, .f32⟩
  | 30 => ⟨S_, .f32⟩
  | 31 => ⟨S8x32, .f32⟩
  | 32 => ⟨S8x32x1, .f32⟩
  | 33 => ⟨S_, .f32⟩
  | 34 => ⟨S8x32x1, .f32⟩
  | 35 => ⟨S8x32x1, .f32⟩
  | 36 => ⟨S_, .f32⟩
  | 37 => ⟨S8x32x1, .f32⟩
  | 38 => ⟨S8x32x1, .f32⟩
  | 39 => ⟨S8x32x1, .f32⟩
  | 40 => ⟨S8x32x4096, .f32⟩
  | 41 => ⟨S8x32x4096, .f32⟩
  | 42 => ⟨S1x1x4096, .f32⟩
  | 43 => ⟨S8x32x4096, .f32⟩
  | 44 => ⟨S8x32x4096, .f32⟩
  | 45 => ⟨S2x8192x6144, .f32⟩
  | 46 => ⟨S2x8192x4096, .f32⟩
  | 47 => ⟨S2x8192x32x128, .f32⟩
  | 48 => ⟨S2x8192x1024, .f32⟩
  | 49 => ⟨S2x8192x8x128, .f32⟩
  | 50 => ⟨S2x8192x1024, .f32⟩
  | 51 => ⟨S2x8192x8x128, .f32⟩
  | 52 => ⟨S2x8192x32x128, .f32⟩
  | 53 => ⟨S_, .f32⟩
  | 54 => ⟨S2x8192x32, .f32⟩
  | 55 => ⟨S2x8192x32x1, .f32⟩
  | 56 => ⟨S_, .f32⟩
  | 57 => ⟨S2x8192x32x1, .f32⟩
  | 58 => ⟨S2x8192x32x1, .f32⟩
  | 59 => ⟨S_, .f32⟩
  | 60 => ⟨S2x8192x32x1, .f32⟩
  | 61 => ⟨S2x8192x32x1, .f32⟩
  | 62 => ⟨S2x8192x32x1, .f32⟩
  | 63 => ⟨S2x8192x32x128, .f32⟩
  | 64 => ⟨S2x8192x32x128, .f32⟩
  | 65 => ⟨S1x1x1x128, .f32⟩
  | 66 => ⟨S2x8192x32x128, .f32⟩
  | 67 => ⟨S2x8192x32x128, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S8192, .f32⟩
  | 79 => ⟨S8192x1, .f32⟩
  | 80 => ⟨S1x16, .f32⟩
  | 81 => ⟨S8192x16, .f32⟩
  | 82 => ⟨S8192x16, .f32⟩
  | 83 => ⟨S8192x16, .f32⟩
  | 84 => ⟨S8192x16, .f32⟩
  | 85 => ⟨S8192x1x16, .f32⟩
  | 86 => ⟨S8192x16, .f32⟩
  | 87 => ⟨S8192x1x16, .f32⟩
  | 88 => ⟨S2x8192x32x16, .f32⟩
  | 89 => ⟨S2x8192x32x16, .f32⟩
  | 90 => ⟨S1x8192x1x16, .f32⟩
  | 91 => ⟨S2x8192x32x16, .f32⟩
  | 92 => ⟨S2x8192x32x16, .f32⟩
  | 93 => ⟨S1x8192x1x16, .f32⟩
  | 94 => ⟨S2x8192x32x16, .f32⟩
  | 95 => ⟨S2x8192x32x16, .f32⟩
  | 96 => ⟨S2x8192x32x16, .f32⟩
  | 97 => ⟨S1x8192x1x16, .f32⟩
  | 98 => ⟨S2x8192x32x16, .f32⟩
  | 99 => ⟨S2x8192x32x16, .f32⟩
  | 100 => ⟨S1x8192x1x16, .f32⟩
  | 101 => ⟨S2x8192x32x16, .f32⟩
  | 102 => ⟨S2x8192x32x16, .f32⟩
  | 103 => ⟨S2x8192x32x16, .f32⟩
  | 104 => ⟨S2x8192x32x96, .f32⟩
  | 105 => ⟨S2x8192x32x128, .f32⟩
  | 106 => ⟨S2x8192x8x128, .f32⟩
  | 107 => ⟨S_, .f32⟩
  | 108 => ⟨S2x8192x8, .f32⟩
  | 109 => ⟨S2x8192x8x1, .f32⟩
  | 110 => ⟨S_, .f32⟩
  | 111 => ⟨S2x8192x8x1, .f32⟩
  | 112 => ⟨S2x8192x8x1, .f32⟩
  | 113 => ⟨S_, .f32⟩
  | 114 => ⟨S2x8192x8x1, .f32⟩
  | 115 => ⟨S2x8192x8x1, .f32⟩
  | 116 => ⟨S2x8192x8x1, .f32⟩
  | 117 => ⟨S2x8192x8x128, .f32⟩
  | 118 => ⟨S2x8192x8x128, .f32⟩
  | 119 => ⟨S1x1x1x128, .f32⟩
  | 120 => ⟨S2x8192x8x128, .f32⟩
  | 121 => ⟨S2x8192x8x128, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S2x8192x4096, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S8192, .f32⟩
  | 5 => ⟨S8192x1, .f32⟩
  | 6 => ⟨S1x16, .f32⟩
  | 7 => ⟨S8192x16, .f32⟩
  | 8 => ⟨S8192x16, .f32⟩
  | 9 => ⟨S8192x16, .f32⟩
  | 10 => ⟨S8192x16, .f32⟩
  | 11 => ⟨S8192x1x16, .f32⟩
  | 12 => ⟨S8192x16, .f32⟩
  | 13 => ⟨S8192x1x16, .f32⟩
  | 14 => ⟨S2x8192x8x16, .f32⟩
  | 15 => ⟨S2x8192x8x16, .f32⟩
  | 16 => ⟨S1x8192x1x16, .f32⟩
  | 17 => ⟨S2x8192x8x16, .f32⟩
  | 18 => ⟨S2x8192x8x16, .f32⟩
  | 19 => ⟨S1x8192x1x16, .f32⟩
  | 20 => ⟨S2x8192x8x16, .f32⟩
  | 21 => ⟨S2x8192x8x16, .f32⟩
  | 22 => ⟨S2x8192x8x16, .f32⟩
  | 23 => ⟨S1x8192x1x16, .f32⟩
  | 24 => ⟨S2x8192x8x16, .f32⟩
  | 25 => ⟨S2x8192x8x16, .f32⟩
  | 26 => ⟨S1x8192x1x16, .f32⟩
  | 27 => ⟨S2x8192x8x16, .f32⟩
  | 28 => ⟨S2x8192x8x16, .f32⟩
  | 29 => ⟨S2x8192x8x16, .f32⟩
  | 30 => ⟨S2x8192x8x96, .f32⟩
  | 31 => ⟨S2x8192x8x128, .f32⟩
  | 32 => ⟨S2x8192x0, .f32⟩
  | 33 => ⟨S8x32x6144, .f32⟩
  | 34 => ⟨S8x32x4096, .f32⟩
  | 35 => ⟨S8x32x32x128, .f32⟩
  | 36 => ⟨S8x32x1024, .f32⟩
  | 37 => ⟨S8x32x8x128, .f32⟩
  | 38 => ⟨S8x32x1024, .f32⟩
  | 39 => ⟨S8x32x8x128, .f32⟩
  | 40 => ⟨S8x32x32x128, .f32⟩
  | 41 => ⟨S_, .f32⟩
  | 42 => ⟨S8x32x32, .f32⟩
  | 43 => ⟨S8x32x32x1, .f32⟩
  | 44 => ⟨S_, .f32⟩
  | 45 => ⟨S8x32x32x1, .f32⟩
  | 46 => ⟨S8x32x32x1, .f32⟩
  | 47 => ⟨S_, .f32⟩
  | 48 => ⟨S8x32x32x1, .f32⟩
  | 49 => ⟨S8x32x32x1, .f32⟩
  | 50 => ⟨S8x32x32x1, .f32⟩
  | 51 => ⟨S8x32x32x128, .f32⟩
  | 52 => ⟨S8x32x32x128, .f32⟩
  | 53 => ⟨S1x1x1x128, .f32⟩
  | 54 => ⟨S8x32x32x128, .f32⟩
  | 55 => ⟨S8x32x32x128, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S32, .f32⟩
  | 67 => ⟨S32x1, .f32⟩
  | 68 => ⟨S1x16, .f32⟩
  | 69 => ⟨S32x16, .f32⟩
  | 70 => ⟨S32x16, .f32⟩
  | 71 => ⟨S32x16, .f32⟩
  | 72 => ⟨S32x16, .f32⟩
  | 73 => ⟨S32x1x16, .f32⟩
  | 74 => ⟨S32x16, .f32⟩
  | 75 => ⟨S32x1x16, .f32⟩
  | 76 => ⟨S8x32x32x16, .f32⟩
  | 77 => ⟨S8x32x32x16, .f32⟩
  | 78 => ⟨S1x32x1x16, .f32⟩
  | 79 => ⟨S8x32x32x16, .f32⟩
  | 80 => ⟨S8x32x32x16, .f32⟩
  | 81 => ⟨S1x32x1x16, .f32⟩
  | 82 => ⟨S8x32x32x16, .f32⟩
  | 83 => ⟨S8x32x32x16, .f32⟩
  | 84 => ⟨S8x32x32x16, .f32⟩
  | 85 => ⟨S1x32x1x16, .f32⟩
  | 86 => ⟨S8x32x32x16, .f32⟩
  | 87 => ⟨S8x32x32x16, .f32⟩
  | 88 => ⟨S1x32x1x16, .f32⟩
  | 89 => ⟨S8x32x32x16, .f32⟩
  | 90 => ⟨S8x32x32x16, .f32⟩
  | 91 => ⟨S8x32x32x16, .f32⟩
  | 92 => ⟨S8x32x32x96, .f32⟩
  | 93 => ⟨S8x32x32x128, .f32⟩
  | 94 => ⟨S8x32x8x128, .f32⟩
  | 95 => ⟨S_, .f32⟩
  | 96 => ⟨S8x32x8, .f32⟩
  | 97 => ⟨S8x32x8x1, .f32⟩
  | 98 => ⟨S_, .f32⟩
  | 99 => ⟨S8x32x8x1, .f32⟩
  | 100 => ⟨S8x32x8x1, .f32⟩
  | 101 => ⟨S_, .f32⟩
  | 102 => ⟨S8x32x8x1, .f32⟩
  | 103 => ⟨S8x32x8x1, .f32⟩
  | 104 => ⟨S8x32x8x1, .f32⟩
  | 105 => ⟨S8x32x8x128, .f32⟩
  | 106 => ⟨S8x32x8x128, .f32⟩
  | 107 => ⟨S1x1x1x128, .f32⟩
  | 108 => ⟨S8x32x8x128, .f32⟩
  | 109 => ⟨S8x32x8x128, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S32, .f32⟩
  | 121 => ⟨S32x1, .f32⟩
  | 122 => ⟨S1x16, .f32⟩
  | 123 => ⟨S32x16, .f32⟩
  | 124 => ⟨S32x16, .f32⟩
  | 125 => ⟨S32x16, .f32⟩
  | 126 => ⟨S32x16, .f32⟩
  | 127 => ⟨S32x1x16, .f32⟩
  | _ => ⟨S2x8192x4096, .f32⟩

abbrev hbmTy0_2 (i : Nat) : BufTy := match i % 128 with
  | 0 => ⟨S32x16, .f32⟩
  | 1 => ⟨S32x1x16, .f32⟩
  | 2 => ⟨S8x32x8x16, .f32⟩
  | 3 => ⟨S8x32x8x16, .f32⟩
  | 4 => ⟨S1x32x1x16, .f32⟩
  | 5 => ⟨S8x32x8x16, .f32⟩
  | 6 => ⟨S8x32x8x16, .f32⟩
  | 7 => ⟨S1x32x1x16, .f32⟩
  | 8 => ⟨S8x32x8x16, .f32⟩
  | 9 => ⟨S8x32x8x16, .f32⟩
  | 10 => ⟨S8x32x8x16, .f32⟩
  | 11 => ⟨S1x32x1x16, .f32⟩
  | 12 => ⟨S8x32x8x16, .f32⟩
  | 13 => ⟨S8x32x8x16, .f32⟩
  | 14 => ⟨S1x32x1x16, .f32⟩
  | 15 => ⟨S8x32x8x16, .f32⟩
  | 16 => ⟨S8x32x8x16, .f32⟩
  | 17 => ⟨S8x32x8x16, .f32⟩
  | 18 => ⟨S8x32x8x96, .f32⟩
  | 19 => ⟨S8x32x8x128, .f32⟩
  | 20 => ⟨S8x32x0, .f32⟩
  | 21 => ⟨S8x160x8x128, .f32⟩
  | 22 => ⟨S8x160x8x128, .f32⟩
  | 23 => ⟨S_, .f32⟩
  | 24 => ⟨S2x8192x32x128, .f32⟩
  | 25 => ⟨S2x8192x32x128, .f32⟩
  | 26 => ⟨S2x8192x32x128, .bf16⟩
  | 27 => ⟨S_, .f32⟩
  | 28 => ⟨S8x32x32x128, .f32⟩
  | 29 => ⟨S8x32x32x128, .f32⟩
  | 30 => ⟨S8x32x32x128, .bf16⟩
  | 31 => ⟨S2x128x8x128, .f32⟩
  | 32 => ⟨S2x128x8x128, .f32⟩
  | 33 => ⟨S8x128x8x128, .f32⟩
  | 34 => ⟨S8x128x8x128, .f32⟩
  | _ => ⟨S2x8192x4096, .f32⟩

abbrev hbmTy (i : Nat) : BufTy := match i / 128 with
  | 0 => hbmTy0_0 i
  | 1 => hbmTy0_1 i
  | 2 => hbmTy0_2 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_cst_15 : Ref sig .tc := ⟨.hbm, 126, rfl⟩
abbrev main_v101 : Ref sig .tc := ⟨.hbm, 127, rfl⟩
abbrev main_v102 : Ref sig .tc := ⟨.hbm, 128, rfl⟩
abbrev main_cst_16 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_17 : Ref sig .tc := ⟨.hbm, 169, rfl⟩
abbrev main_v142 : Ref sig .tc := ⟨.hbm, 170, rfl⟩
abbrev main_v143 : Ref sig .tc := ⟨.hbm, 171, rfl⟩
abbrev main_cst_18 : Ref sig .tc := ⟨.hbm, 172, rfl⟩
abbrev main_v144 : Ref sig .tc := ⟨.hbm, 173, rfl⟩
abbrev main_v145 : Ref sig .tc := ⟨.hbm, 174, rfl⟩
abbrev main_cst_19 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_cst_20 : Ref sig .tc := ⟨.hbm, 185, rfl⟩
abbrev main_v155 : Ref sig .tc := ⟨.hbm, 186, rfl⟩
abbrev main_v156 : Ref sig .tc := ⟨.hbm, 187, rfl⟩
abbrev main_cst_21 : Ref sig .tc := ⟨.hbm, 188, rfl⟩
abbrev main_v157 : Ref sig .tc := ⟨.hbm, 189, rfl⟩
abbrev main_v158 : Ref sig .tc := ⟨.hbm, 190, rfl⟩
abbrev main_cst_22 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_cst_23 : Ref sig .tc := ⟨.hbm, 223, rfl⟩
abbrev main_v190 : Ref sig .tc := ⟨.hbm, 224, rfl⟩
abbrev main_v191 : Ref sig .tc := ⟨.hbm, 225, rfl⟩
abbrev main_cst_24 : Ref sig .tc := ⟨.hbm, 226, rfl⟩
abbrev main_v192 : Ref sig .tc := ⟨.hbm, 227, rfl⟩
abbrev main_v193 : Ref sig .tc := ⟨.hbm, 228, rfl⟩
abbrev main_cst_25 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_cst_26 : Ref sig .tc := ⟨.hbm, 239, rfl⟩
abbrev main_v203 : Ref sig .tc := ⟨.hbm, 240, rfl⟩
abbrev main_v204 : Ref sig .tc := ⟨.hbm, 241, rfl⟩
abbrev main_cst_27 : Ref sig .tc := ⟨.hbm, 242, rfl⟩
abbrev main_v205 : Ref sig .tc := ⟨.hbm, 243, rfl⟩
abbrev main_v206 : Ref sig .tc := ⟨.hbm, 244, rfl⟩
abbrev main_cst_28 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_cst_29 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_cst_30 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩

abbrev nD : Nat := 1
abbrev τ : Topo := Topo.v7x

variable {F : FTy → Type} [FloatOps F]
-- ==== Kernel3.lean ====
abbrev S2x8192x4096 : Shape := ⟨3, ![2, 8192, 4096]⟩
abbrev S8x32x4096 : Shape := ⟨3, ![8, 32, 4096]⟩
abbrev S4096 : Shape := ⟨1, ![4096]⟩
abbrev S4096x7248 : Shape := ⟨2, ![4096, 7248]⟩
abbrev S128 : Shape := ⟨1, ![128]⟩
abbrev S64 : Shape := ⟨1, ![64]⟩
abbrev S16384x4096 : Shape := ⟨2, ![16384, 4096]⟩
abbrev S256x4096 : Shape := ⟨2, ![256, 4096]⟩
abbrev S16640x4096 : Shape := ⟨2, ![16640, 4096]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S8x32 : Shape := ⟨2, ![8, 32]⟩
abbrev S256 : Shape := ⟨1, ![256]⟩
abbrev S16640 : Shape := ⟨1, ![16640]⟩
abbrev S16 : Shape := ⟨1, ![16]⟩
abbrev S16640x1 : Shape := ⟨2, ![16640, 1]⟩
abbrev S1x16 : Shape := ⟨2, ![1, 16]⟩
abbrev S16640x16 : Shape := ⟨2, ![16640, 16]⟩
abbrev S16640x96 : Shape := ⟨2, ![16640, 96]⟩
abbrev S16640x128 : Shape := ⟨2, ![16640, 128]⟩
abbrev S16640x112 : Shape := ⟨2, ![16640, 112]⟩
abbrev S1x16640x1x128 : Shape := ⟨4, ![1, 16640, 1, 128]⟩
abbrev S8 : Shape := ⟨1, ![8]⟩
abbrev S1x8 : Shape := ⟨2, ![1, 8]⟩
abbrev S16640x8 : Shape := ⟨2, ![16640, 8]⟩
abbrev S16640x48 : Shape := ⟨2, ![16640, 48]⟩
abbrev S16640x64 : Shape := ⟨2, ![16640, 64]⟩
abbrev S16640x56 : Shape := ⟨2, ![16640, 56]⟩
abbrev S1x16640x1x64 : Shape := ⟨4, ![1, 16640, 1, 64]⟩
abbrev S1x16640x2x64 : Shape := ⟨4, ![1, 16640, 2, 64]⟩
abbrev S1x4096 : Shape := ⟨2, ![1, 4096]⟩
abbrev S256x1 : Shape := ⟨2, ![256, 1]⟩
abbrev S4096x1104 : Shape := ⟨2, ![4096, 1104]⟩
abbrev S4096x1152 : Shape := ⟨2, ![4096, 1152]⟩
abbrev S16640x1152 : Shape := ⟨2, ![16640, 1152]⟩
abbrev S1280x4096 : Shape := ⟨2, ![1280, 4096]⟩
abbrev S4096x384 : Shape := ⟨2, ![4096, 384]⟩
abbrev S1280x384 : Shape := ⟨2, ![1280, 384]⟩
abbrev S4096x6144 : Shape := ⟨2, ![4096, 6144]⟩
abbrev S16640x6144 : Shape := ⟨2, ![16640, 6144]⟩
abbrev S4096x512 : Shape := ⟨2, ![4096, 512]⟩
abbrev S1280x512 : Shape := ⟨2, ![1280, 512]⟩
abbrev S1x128 : Shape := ⟨2, ![1, 128]⟩
abbrev S16640x8x128 : Shape := ⟨3, ![16640, 8, 128]⟩
abbrev S16640x1024 : Shape := ⟨2, ![16640, 1024]⟩
abbrev S256x6144 : Shape := ⟨2, ![256, 6144]⟩
abbrev S256x128 : Shape := ⟨2, ![256, 128]⟩
abbrev S256x8x128 : Shape := ⟨3, ![256, 8, 128]⟩
abbrev S256x1024 : Shape := ⟨2, ![256, 1024]⟩
abbrev S256x1x128 : Shape := ⟨3, ![256, 1, 128]⟩
abbrev S256x1152 : Shape := ⟨2, ![256, 1152]⟩
abbrev S256x64 : Shape := ⟨2, ![256, 64]⟩
abbrev S2x8192x32x128 : Shape := ⟨4, ![2, 8192, 32, 128]⟩
abbrev S8x32x32x128 : Shape := ⟨4, ![8, 32, 32, 128]⟩
abbrev S16384x1024 : Shape := ⟨2, ![16384, 1024]⟩
abbrev S2x8192x16x64 : Shape := ⟨4, ![2, 8192, 16, 64]⟩
abbrev S8x32x16x64 : Shape := ⟨4, ![8, 32, 16, 64]⟩
abbrev S16384x16 : Shape := ⟨2, ![16384, 16]⟩
abbrev S2x8192x16 : Shape := ⟨3, ![2, 8192, 16]⟩
abbrev S256x16 : Shape := ⟨2, ![256, 16]⟩
abbrev S8x32x16 : Shape := ⟨3, ![8, 32, 16]⟩
abbrev S16384x8x128 : Shape := ⟨3, ![16384, 8, 128]⟩
abbrev S2x8192x8x128 : Shape := ⟨4, ![2, 8192, 8, 128]⟩
abbrev S16384x64 : Shape := ⟨2, ![16384, 64]⟩
abbrev S2x8192x64 : Shape := ⟨3, ![2, 8192, 64]⟩
abbrev S8x32x8x128 : Shape := ⟨4, ![8, 32, 8, 128]⟩
abbrev S8x32x64 : Shape := ⟨3, ![8, 32, 64]⟩

abbrev nBuf : Space → Nat
  | .hbm => 151
  | .vmem => 52
  | .smem => 0
  | _ => 0

abbrev hbmTy0_0 (i : Nat) : BufTy := match i % 128 with
  | 0 => ⟨S2x8192x4096, .f32⟩
  | 1 => ⟨S8x32x4096, .f32⟩
  | 2 => ⟨S4096, .f32⟩
  | 3 => ⟨S4096x7248, .f32⟩
  | 4 => ⟨S128, .f32⟩
  | 5 => ⟨S128, .f32⟩
  | 6 => ⟨S64, .f32⟩
  | 7 => ⟨S16384x4096, .f32⟩
  | 8 => ⟨S256x4096, .f32⟩
  | 9 => ⟨S16640x4096, .f32⟩
  | 10 => ⟨S8192, .i32⟩
  | 11 => ⟨S1x8192, .i32⟩
  | 12 => ⟨S2x8192, .i32⟩
  | 13 => ⟨S16384, .i32⟩
  | 14 => ⟨S32, .i32⟩
  | 15 => ⟨S_, .i32⟩
  | 16 => ⟨S32, .i32⟩
  | 17 => ⟨S32, .i32⟩
  | 18 => ⟨S1x32, .i32⟩
  | 19 => ⟨S8x32, .i32⟩
  | 20 => ⟨S256, .i32⟩
  | 21 => ⟨S16640, .i32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S16640, .f32⟩
  | 33 => ⟨S16640x1, .f32⟩
  | 34 => ⟨S1x16, .f32⟩
  | 35 => ⟨S16640x16, .f32⟩
  | 36 => ⟨S16640x16, .f32⟩
  | 37 => ⟨S16640x16, .f32⟩
  | 38 => ⟨S16640x16, .f32⟩
  | 39 => ⟨S16640x16, .f32⟩
  | 40 => ⟨S_, .f32⟩
  | 41 => ⟨S16640x96, .f32⟩
  | 42 => ⟨S16640x128, .f32⟩
  | 43 => ⟨S16640x16, .f32⟩
  | 44 => ⟨S_, .f32⟩
  | 45 => ⟨S16640x112, .f32⟩
  | 46 => ⟨S16640x128, .f32⟩
  | 47 => ⟨S_, .f32⟩
  | 48 => ⟨S16640x16, .f32⟩
  | 49 => ⟨S_, .f32⟩
  | 50 => ⟨S16640x96, .f32⟩
  | 51 => ⟨S16640x128, .f32⟩
  | 52 => ⟨S1x16640x1x128, .f32⟩
  | 53 => ⟨S1x16640x1x128, .f32⟩
  | 54 => ⟨S16640x128, .f32⟩
  | 55 => ⟨S1x16640x1x128, .f32⟩
  | 56 => ⟨S1x16640x1x128, .f32⟩
  | 57 => ⟨S16640x128, .f32⟩
  | 58 => ⟨S1x16640x1x128, .f32⟩
  | 59 => ⟨S1x16640x1x128, .f32⟩
  | 60 => ⟨S16640x128, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S16640, .f32⟩
  | 72 => ⟨S16640x1, .f32⟩
  | 73 => ⟨S1x8, .f32⟩
  | 74 => ⟨S16640x8, .f32⟩
  | 75 => ⟨S16640x8, .f32⟩
  | 76 => ⟨S16640x8, .f32⟩
  | 77 => ⟨S16640x8, .f32⟩
  | 78 => ⟨S16640x8, .f32⟩
  | 79 => ⟨S_, .f32⟩
  | 80 => ⟨S16640x48, .f32⟩
  | 81 => ⟨S16640x64, .f32⟩
  | 82 => ⟨S16640x8, .f32⟩
  | 83 => ⟨S_, .f32⟩
  | 84 => ⟨S16640x56, .f32⟩
  | 85 => ⟨S16640x64, .f32⟩
  | 86 => ⟨S_, .f32⟩
  | 87 => ⟨S16640x8, .f32⟩
  | 88 => ⟨S_, .f32⟩
  | 89 => ⟨S16640x48, .f32⟩
  | 90 => ⟨S16640x64, .f32⟩
  | 91 => ⟨S1x16640x1x64, .f32⟩
  | 92 => ⟨S1x16640x2x64, .f32⟩
  | 93 => ⟨S16640x128, .f32⟩
  | 94 => ⟨S1x16640x1x64, .f32⟩
  | 95 => ⟨S1x16640x2x64, .f32⟩
  | 96 => ⟨S16640x128, .f32⟩
  | 97 => ⟨S1x16640x1x64, .f32⟩
  | 98 => ⟨S1x16640x2x64, .f32⟩
  | 99 => ⟨S16640x128, .f32⟩
  | 100 => ⟨S1x4096, .f32⟩
  | 101 => ⟨S16640x4096, .bf16⟩
  | 102 => ⟨S4096x1104, .f32⟩
  | 103 => ⟨S_, .i32⟩
  | 104 => ⟨S_, .f32⟩
  | 105 => ⟨S4096x1152, .f32⟩
  | 106 => ⟨S4096x1152, .bf16⟩
  | 107 => ⟨S16640x1152, .f32⟩
  | 108 => ⟨S4096x6144, .f32⟩
  | 109 => ⟨S4096x6144, .bf16⟩
  | 110 => ⟨S16640x6144, .f32⟩
  | 111 => ⟨S1x128, .f32⟩
  | 112 => ⟨S1x128, .f32⟩
  | 113 => ⟨S16640x4096, .bf16⟩
  | 114 => ⟨S16640x8x128, .f32⟩
  | 115 => ⟨S16640x1024, .bf16⟩
  | 116 => ⟨S16640x8x128, .f32⟩
  | 117 => ⟨S16640x1024, .bf16⟩
  | 118 => ⟨S_, .f32⟩
  | 119 => ⟨S64, .f32⟩
  | 120 => ⟨S128, .f32⟩
  | 121 => ⟨S1x128, .f32⟩
  | 122 => ⟨S16640x1024, .bf16⟩
  | 123 => ⟨S16640x128, .f32⟩
  | 124 => ⟨S16640x64, .bf16⟩
  | 125 => ⟨S16640x64, .f32⟩
  | 126 => ⟨S16640x16, .f32⟩
  | 127 => ⟨S16384x4096, .bf16⟩
  | _ => ⟨S2x8192x4096, .f32⟩

abbrev hbmTy0_1 (i : Nat) : BufTy := match i % 128 with
  | 0 => ⟨S2x8192x32x128, .bf16⟩
  | 1 => ⟨S256x4096, .bf16⟩
  | 2 => ⟨S8x32x32x128, .bf16⟩
  | 3 => ⟨S16384x1024, .bf16⟩
  | 4 => ⟨S2x8192x16x64, .bf16⟩
  | 5 => ⟨S256x1024, .bf16⟩
  | 6 => ⟨S8x32x16x64, .bf16⟩
  | 7 => ⟨S16384x16, .f32⟩
  | 8 => ⟨S2x8192x16, .f32⟩
  | 9 => ⟨S256x16, .f32⟩
  | 10 => ⟨S8x32x16, .f32⟩
  | 11 => ⟨S16384x8x128, .f32⟩
  | 12 => ⟨S2x8192x8x128, .f32⟩
  | 13 => ⟨S16384x8x128, .f32⟩
  | 14 => ⟨S2x8192x8x128, .f32⟩
  | 15 => ⟨S16384x64, .f32⟩
  | 16 => ⟨S2x8192x64, .f32⟩
  | 17 => ⟨S256x8x128, .f32⟩
  | 18 => ⟨S8x32x8x128, .f32⟩
  | 19 => ⟨S256x8x128, .f32⟩
  | 20 => ⟨S8x32x8x128, .f32⟩
  | 21 => ⟨S256x64, .f32⟩
  | 22 => ⟨S8x32x64, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1280x4096, .bf16⟩
  | .local _ .vmem, ⟨6, _⟩ => ⟨S1280x4096, .bf16⟩
  | .local _ .vmem, ⟨7, _⟩ => ⟨S4096x384, .bf16⟩
  | .local _ .vmem, ⟨8, _⟩ => ⟨S4096x384, .bf16⟩
  | .local _ .vmem, ⟨9, _⟩ => ⟨S1280x384, .f32⟩
  | .local _ .vmem, ⟨10, _⟩ => ⟨S1280x384, .f32⟩
  | .local _ .vmem, ⟨11, _⟩ => ⟨S1280x4096, .bf16⟩
  | .local _ .vmem, ⟨12, _⟩ => ⟨S1280x4096, .bf16⟩
  | .local _ .vmem, ⟨13, _⟩ => ⟨S4096x512, .bf16⟩
  | .local _ .vmem, ⟨14, _⟩ => ⟨S4096x512, .bf16⟩
  | .local _ .vmem, ⟨15, _⟩ => ⟨S1280x512, .f32⟩
  | .local _ .vmem, ⟨16, _⟩ => ⟨S1280x512, .f32⟩
  | .local _ .vmem, ⟨17, _⟩ => ⟨S256x6144, .f32⟩
  | .local _ .vmem, ⟨18, _⟩ => ⟨S256x6144, .f32⟩
  | .local _ .vmem, ⟨19, _⟩ => ⟨S1x128, .f32⟩
  | .local _ .vmem, ⟨20, _⟩ => ⟨S1x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x4096, .bf16⟩
  | .local _ .vmem, ⟨28, _⟩ => ⟨S256x4096, .bf16⟩
  | .local _ .vmem, ⟨29, _⟩ => ⟨S256x8x128, .f32⟩
  | .local _ .vmem, ⟨30, _⟩ => ⟨S256x8x128, .f32⟩
  | .local _ .vmem, ⟨31, _⟩ => ⟨S256x1024, .bf16⟩
  | .local _ .vmem, ⟨32, _⟩ => ⟨S256x1024, .bf16⟩
  | .local _ .vmem, ⟨33, _⟩ => ⟨S256x8x128, .f32⟩
  | .local _ .vmem, ⟨34, _⟩ => ⟨S256x8x128, .f32⟩
  | .local _ .vmem, ⟨35, _⟩ => ⟨S256x1024, .bf16⟩
  | .local _ .vmem, ⟨36, _⟩ => ⟨S256x1024, .bf16⟩
  | .local _ .vmem, ⟨37, _⟩ => ⟨S256x1152, .f32⟩
  | .local _ .vmem, ⟨38, _⟩ => ⟨S256x1152, .f32⟩
  | .local _ .vmem, ⟨39, _⟩ => ⟨S1x128, .f32⟩
  | .local _ .vmem, ⟨40, _⟩ => ⟨S256x128, .f32⟩
  | .local _ .vmem, ⟨41, _⟩ => ⟨S256x128, .f32⟩
  | .local _ .vmem, ⟨42, _⟩ => ⟨S256x128, .f32⟩
  | .local _ .vmem, ⟨43, _⟩ => ⟨S256x128, .f32⟩
  | .local _ .vmem, ⟨44, _⟩ => ⟨S256x128, .f32⟩
  | .local _ .vmem, ⟨45, _⟩ => ⟨S256x128, .f32⟩
  | .local _ .vmem, ⟨46, _⟩ => ⟨S256x1024, .bf16⟩
  | .local _ .vmem, ⟨47, _⟩ => ⟨S256x1024, .bf16⟩
  | .local _ .vmem, ⟨48, _⟩ => ⟨S256x128, .f32⟩
  | .local _ .vmem, ⟨49, _⟩ => ⟨S256x128, .f32⟩
  | .local _ .vmem, ⟨50, _⟩ => ⟨S256x64, .bf16⟩
  | .local _ .vmem, ⟨51, _⟩ => ⟨S256x64, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_13 : Ref sig .tc := ⟨.hbm, 103, rfl⟩
abbrev main_call0_v0 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89_0 : Ref sig .tc := ⟨.hbm, 113, rfl⟩
abbrev main_v89_1 : Ref sig .tc := ⟨.hbm, 114, rfl⟩
abbrev main_v89_2 : Ref sig .tc := ⟨.hbm, 115, rfl⟩
abbrev main_v89_3 : Ref sig .tc := ⟨.hbm, 116, rfl⟩
abbrev main_v89_4 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93_0 : Ref sig .tc := ⟨.hbm, 122, rfl⟩
abbrev main_v93_1 : Ref sig .tc := ⟨.hbm, 123, rfl⟩
abbrev main_v93_2 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_stg8_0 : Ref sig .tc := ⟨.vmem, 31, rfl⟩
abbrev cc3_stg8_1 : Ref sig .tc := ⟨.vmem, 32, rfl⟩
abbrev cc3_stg9_0 : Ref sig .tc := ⟨.vmem, 33, rfl⟩
abbrev cc3_stg9_1 : Ref sig .tc := ⟨.vmem, 34, rfl⟩
abbrev cc3_stg10_0 : Ref sig .tc := ⟨.vmem, 35, rfl⟩
abbrev cc3_stg10_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev cc3_sem9_0 : DmaSem sig := 33
abbrev cc3_sem9_1 : DmaSem sig := 34
abbrev cc3_sem10_0 : DmaSem sig := 35
abbrev cc3_sem10_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45
abbrev cc4_sem5_0 : DmaSem sig := 46
abbrev cc4_sem5_1 : DmaSem sig := 47
abbrev cc4_sem6_0 : DmaSem sig := 48
abbrev cc4_sem6_1 : DmaSem sig := 49
abbrev cc4_sem7_0 : DmaSem sig := 50
abbrev cc4_sem7_1 : DmaSem sig := 51

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![13, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1280x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1280x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![13, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1280x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1280x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![65], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x6144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x4096 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x8x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![65], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1152 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x64 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== Reference3Ideal.lean ====
abbrev S2x8192x4096 : Shape := ⟨3, ![2, 8192, 4096]⟩
abbrev S8x32x4096 : Shape := ⟨3, ![8, 32, 4096]⟩
abbrev S4096 : Shape := ⟨1, ![4096]⟩
abbrev S4096x7248 : Shape := ⟨2, ![4096, 7248]⟩
abbrev S128 : Shape := ⟨1, ![128]⟩
abbrev S64 : Shape := ⟨1, ![64]⟩
abbrev S8192 : Shape := ⟨1, ![8192]⟩
abbrev S32 : Shape := ⟨1, ![32]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S8x32 : Shape := ⟨2, ![8, 32]⟩
abbrev S8x32x1 : Shape := ⟨3, ![8, 32, 1]⟩
abbrev S2x8192x7248 : Shape := ⟨3, ![2, 8192, 7248]⟩
abbrev S2x8192x32x128 : Shape := ⟨4, ![2, 8192, 32, 128]⟩
abbrev S2x8192x1024 : Shape := ⟨3, ![2, 8192, 1024]⟩
abbrev S2x8192x8x128 : Shape := ⟨4, ![2, 8192, 8, 128]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x32x16 : Shape := ⟨4, ![2, 8192, 32, 16]⟩
abbrev S1x8192x1x16 : Shape := ⟨4, ![1, 8192, 1, 16]⟩
abbrev S2x8192x32x96 : Shape := ⟨4, ![2, 8192, 32, 96]⟩
abbrev S2x8192x8 : Shape := ⟨3, ![2, 8192, 8]⟩
abbrev S2x8192x8x1 : Shape := ⟨4, ![2, 8192, 8, 1]⟩
abbrev S2x8192x8x16 : Shape := ⟨4, ![2, 8192, 8, 16]⟩
abbrev S2x8192x8x96 : Shape := ⟨4, ![2, 8192, 8, 96]⟩
abbrev S2x8192x1104 : Shape := ⟨3, ![2, 8192, 1104]⟩
abbrev S2x8192x16x64 : Shape := ⟨4, ![2, 8192, 16, 64]⟩
abbrev S2x8192x64 : Shape := ⟨3, ![2, 8192, 64]⟩
abbrev S2x8192x16 : Shape := ⟨3, ![2, 8192, 16]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S2x8192x16x8 : Shape := ⟨4, ![2, 8192, 16, 8]⟩
abbrev S1x8192x1x8 : Shape := ⟨4, ![1, 8192, 1, 8]⟩
abbrev S2x8192x16x48 : Shape := ⟨4, ![2, 8192, 16, 48]⟩
abbrev S1x1x64 : Shape := ⟨3, ![1, 1, 64]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S8x32x7248 : Shape := ⟨3, ![8, 32, 7248]⟩
abbrev S8x32x32x128 : Shape := ⟨4, ![8, 32, 32, 128]⟩
abbrev S8x32x1024 : Shape := ⟨3, ![8, 32, 1024]⟩
abbrev S8x32x8x128 : Shape := ⟨4, ![8, 32, 8, 128]⟩
abbrev S8x32x32 : Shape := ⟨3, ![8, 32, 32]⟩
abbrev S8x32x32x1 : Shape := ⟨4, ![8, 32, 32, 1]⟩
abbrev S32x1 : Shape := ⟨2, ![32, 1]⟩
abbrev S32x16 : Shape := ⟨2, ![32, 16]⟩
abbrev S32x1x16 : Shape := ⟨3, ![32, 1, 16]⟩
abbrev S8x32x32x16 : Shape := ⟨4, ![8, 32, 32, 16]⟩
abbrev S1x32x1x16 : Shape := ⟨4, ![1, 32, 1, 16]⟩
abbrev S8x32x32x96 : Shape := ⟨4, ![8, 32, 32, 96]⟩
abbrev S8x32x8 : Shape := ⟨3, ![8, 32, 8]⟩
abbrev S8x32x8x1 : Shape := ⟨4, ![8, 32, 8, 1]⟩
abbrev S8x32x8x16 : Shape := ⟨4, ![8, 32, 8, 16]⟩
abbrev S8x32x8x96 : Shape := ⟨4, ![8, 32, 8, 96]⟩
abbrev S8x32x1104 : Shape := ⟨3, ![8, 32, 1104]⟩
abbrev S8x32x16x64 : Shape := ⟨4, ![8, 32, 16, 64]⟩
abbrev S8x32x64 : Shape := ⟨3, ![8, 32, 64]⟩
abbrev S8x32x16 : Shape := ⟨3, ![8, 32, 16]⟩
abbrev S32x8 : Shape := ⟨2, ![32, 8]⟩
abbrev S32x1x8 : Shape := ⟨3, ![32, 1, 8]⟩
abbrev S8x32x16x8 : Shape := ⟨4, ![8, 32, 16, 8]⟩
abbrev S1x32x1x8 : Shape := ⟨4, ![1, 32, 1, 8]⟩
abbrev S8x32x16x48 : Shape := ⟨4, ![8, 32, 16, 48]⟩
abbrev S8x32x1x64 : Shape := ⟨4, ![8, 32, 1, 64]⟩
abbrev S8x32x1x8 : Shape := ⟨4, ![8, 32, 1, 8]⟩
abbrev S8x32x1x48 : Shape := ⟨4, ![8, 32, 1, 48]⟩

abbrev nBuf : Space → Nat
  | .hbm => 494
  | .vmem => 0
  | .smem => 0
  | _ => 0

abbrev hbmTy0_0 (i : Nat) : BufTy := match i % 128 with
  | 0 => ⟨S2x8192x4096, .f32⟩
  | 1 => ⟨S8x32x4096, .f32⟩
  | 2 => ⟨S4096, .f32⟩
  | 3 => ⟨S4096x7248, .f32⟩
  | 4 => ⟨S128, .f32⟩
  | 5 => ⟨S128, .f32⟩
  | 6 => ⟨S64, .f32⟩
  | 7 => ⟨S8192, .i32⟩
  | 8 => ⟨S32, .i32⟩
  | 9 => ⟨S_, .i32⟩
  | 10 => ⟨S32, .i32⟩
  | 11 => ⟨S32, .i32⟩
  | 12 => ⟨S2x8192x4096, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x4096, .f32⟩
  | 24 => ⟨S2x8192x4096, .f32⟩
  | 25 => ⟨S1x1x4096, .f32⟩
  | 26 => ⟨S2x8192x4096, .f32⟩
  | 27 => ⟨S2x8192x4096, .f32⟩
  | 28 => ⟨S8x32x4096, .f32⟩
  | 29 => ⟨S_, .f32⟩
  | 30 => ⟨S8x32, .f32⟩
  | 31 => ⟨S8x32x1, .f32⟩
  | 32 => ⟨S_, .f32⟩
  | 33 => ⟨S8x32x1, .f32⟩
  | 34 => ⟨S8x32x1, .f32⟩
  | 35 => ⟨S_, .f32⟩
  | 36 => ⟨S8x32x1, .f32⟩
  | 37 => ⟨S8x32x1, .f32⟩
  | 38 => ⟨S8x32x1, .f32⟩
  | 39 => ⟨S8x32x4096, .f32⟩
  | 40 => ⟨S8x32x4096, .f32⟩
  | 41 => ⟨S1x1x4096, .f32⟩
  | 42 => ⟨S8x32x4096, .f32⟩
  | 43 => ⟨S8x32x4096, .f32⟩
  | 44 => ⟨S2x8192x7248, .f32⟩
  | 45 => ⟨S2x8192x4096, .f32⟩
  | 46 => ⟨S2x8192x32x128, .f32⟩
  | 47 => ⟨S2x8192x1024, .f32⟩
  | 48 => ⟨S2x8192x8x128, .f32⟩
  | 49 => ⟨S2x8192x1024, .f32⟩
  | 50 => ⟨S2x8192x8x128, .f32⟩
  | 51 => ⟨S2x8192x32x128, .f32⟩
  | 52 => ⟨S_, .f32⟩
  | 53 => ⟨S2x8192x32, .f32⟩
  | 54 => ⟨S2x8192x32x1, .f32⟩
  | 55 => ⟨S_, .f32⟩
  | 56 => ⟨S2x8192x32x1, .f32⟩
  | 57 => ⟨S2x8192x32x1, .f32⟩
  | 58 => ⟨S_, .f32⟩
  | 59 => ⟨S2x8192x32x1, .f32⟩
  | 60 => ⟨S2x8192x32x1, .f32⟩
  | 61 => ⟨S2x8192x32x1, .f32⟩
  | 62 => ⟨S2x8192x32x128, .f32⟩
  | 63 => ⟨S2x8192x32x128, .f32⟩
  | 64 => ⟨S1x1x1x128, .f32⟩
  | 65 => ⟨S2x8192x32x128, .f32⟩
  | 66 => ⟨S2x8192x32x128, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S8192, .f32⟩
  | 78 => ⟨S8192x1, .f32⟩
  | 79 => ⟨S1x16, .f32⟩
  | 80 => ⟨S8192x16, .f32⟩
  | 81 => ⟨S8192x16, .f32⟩
  | 82 => ⟨S8192x16, .f32⟩
  | 83 => ⟨S8192x16, .f32⟩
  | 84 => ⟨S8192x1x16, .f32⟩
  | 85 => ⟨S8192x16, .f32⟩
  | 86 => ⟨S8192x1x16, .f32⟩
  | 87 => ⟨S2x8192x32x16, .f32⟩
  | 88 => ⟨S2x8192x32x16, .f32⟩
  | 89 => ⟨S1x8192x1x16, .f32⟩
  | 90 => ⟨S2x8192x32x16, .f32⟩
  | 91 => ⟨S2x8192x32x16, .f32⟩
  | 92 => ⟨S1x8192x1x16, .f32⟩
  | 93 => ⟨S2x8192x32x16, .f32⟩
  | 94 => ⟨S2x8192x32x16, .f32⟩
  | 95 => ⟨S2x8192x32x16, .f32⟩
  | 96 => ⟨S1x8192x1x16, .f32⟩
  | 97 => ⟨S2x8192x32x16, .f32⟩
  | 98 => ⟨S2x8192x32x16, .f32⟩
  | 99 => ⟨S1x8192x1x16, .f32⟩
  | 100 => ⟨S2x8192x32x16, .f32⟩
  | 101 => ⟨S2x8192x32x16, .f32⟩
  | 102 => ⟨S2x8192x32x16, .f32⟩
  | 103 => ⟨S2x8192x32x96, .f32⟩
  | 104 => ⟨S2x8192x32x128, .f32⟩
  | 105 => ⟨S2x8192x8x128, .f32⟩
  | 106 => ⟨S_, .f32⟩
  | 107 => ⟨S2x8192x8, .f32⟩
  | 108 => ⟨S2x8192x8x1, .f32⟩
  | 109 => ⟨S_, .f32⟩
  | 110 => ⟨S2x8192x8x1, .f32⟩
  | 111 => ⟨S2x8192x8x1, .f32⟩
  | 112 => ⟨S_, .f32⟩
  | 113 => ⟨S2x8192x8x1, .f32⟩
  | 114 => ⟨S2x8192x8x1, .f32⟩
  | 115 => ⟨S2x8192x8x1, .f32⟩
  | 116 => ⟨S2x8192x8x128, .f32⟩
  | 117 => ⟨S2x8192x8x128, .f32⟩
  | 118 => ⟨S1x1x1x128, .f32⟩
  | 119 => ⟨S2x8192x8x128, .f32⟩
  | 120 => ⟨S2x8192x8x128, .f32⟩
  | 121 => ⟨S16, .f32⟩
  | 122 => ⟨S_, .f32⟩
  | 123 => ⟨S16, .f32⟩
  | 124 => ⟨S16, .f32⟩
  | 125 => ⟨S_, .f32⟩
  | 126 => ⟨S16, .f32⟩
  | 127 => ⟨S16, .f32⟩
  | _ => ⟨S2x8192x4096, .f32⟩

abbrev hbmTy0_1 (i : Nat) : BufTy := match i % 128 with
  | 0 => ⟨S_, .f32⟩
  | 1 => ⟨S16, .f32⟩
  | 2 => ⟨S16, .f32⟩
  | 3 => ⟨S8192, .f32⟩
  | 4 => ⟨S8192x1, .f32⟩
  | 5 => ⟨S1x16, .f32⟩
  | 6 => ⟨S8192x16, .f32⟩
  | 7 => ⟨S8192x16, .f32⟩
  | 8 => ⟨S8192x16, .f32⟩
  | 9 => ⟨S8192x16, .f32⟩
  | 10 => ⟨S8192x1x16, .f32⟩
  | 11 => ⟨S8192x16, .f32⟩
  | 12 => ⟨S8192x1x16, .f32⟩
  | 13 => ⟨S2x8192x8x16, .f32⟩
  | 14 => ⟨S2x8192x8x16, .f32⟩
  | 15 => ⟨S1x8192x1x16, .f32⟩
  | 16 => ⟨S2x8192x8x16, .f32⟩
  | 17 => ⟨S2x8192x8x16, .f32⟩
  | 18 => ⟨S1x8192x1x16, .f32⟩
  | 19 => ⟨S2x8192x8x16, .f32⟩
  | 20 => ⟨S2x8192x8x16, .f32⟩
  | 21 => ⟨S2x8192x8x16, .f32⟩
  | 22 => ⟨S1x8192x1x16, .f32⟩
  | 23 => ⟨S2x8192x8x16, .f32⟩
  | 24 => ⟨S2x8192x8x16, .f32⟩
  | 25 => ⟨S1x8192x1x16, .f32⟩
  | 26 => ⟨S2x8192x8x16, .f32⟩
  | 27 => ⟨S2x8192x8x16, .f32⟩
  | 28 => ⟨S2x8192x8x16, .f32⟩
  | 29 => ⟨S2x8192x8x96, .f32⟩
  | 30 => ⟨S2x8192x8x128, .f32⟩
  | 31 => ⟨S2x8192x1104, .f32⟩
  | 32 => ⟨S2x8192x1024, .f32⟩
  | 33 => ⟨S2x8192x16x64, .f32⟩
  | 34 => ⟨S2x8192x64, .f32⟩
  | 35 => ⟨S2x8192x16, .f32⟩
  | 36 => ⟨S_, .f32⟩
  | 37 => ⟨S2x8192x16, .f32⟩
  | 38 => ⟨S2x8192x16, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8192, .f32⟩
  | 50 => ⟨S8192x1, .f32⟩
  | 51 => ⟨S1x8, .f32⟩
  | 52 => ⟨S8192x8, .f32⟩
  | 53 => ⟨S8192x8, .f32⟩
  | 54 => ⟨S8192x8, .f32⟩
  | 55 => ⟨S8192x8, .f32⟩
  | 56 => ⟨S8192x1x8, .f32⟩
  | 57 => ⟨S8192x8, .f32⟩
  | 58 => ⟨S8192x1x8, .f32⟩
  | 59 => ⟨S2x8192x16x8, .f32⟩
  | 60 => ⟨S2x8192x16x8, .f32⟩
  | 61 => ⟨S1x8192x1x8, .f32⟩
  | 62 => ⟨S2x8192x16x8, .f32⟩
  | 63 => ⟨S2x8192x16x8, .f32⟩
  | 64 => ⟨S1x8192x1x8, .f32⟩
  | 65 => ⟨S2x8192x16x8, .f32⟩
  | 66 => ⟨S2x8192x16x8, .f32⟩
  | 67 => ⟨S2x8192x16x8, .f32⟩
  | 68 => ⟨S1x8192x1x8, .f32⟩
  | 69 => ⟨S2x8192x16x8, .f32⟩
  | 70 => ⟨S2x8192x16x8, .f32⟩
  | 71 => ⟨S1x8192x1x8, .f32⟩
  | 72 => ⟨S2x8192x16x8, .f32⟩
  | 73 => ⟨S2x8192x16x8, .f32⟩
  | 74 => ⟨S2x8192x16x8, .f32⟩
  | 75 => ⟨S2x8192x16x48, .f32⟩
  | 76 => ⟨S2x8192x16x64, .f32⟩
  | 77 => ⟨S2x8192x64, .f32⟩
  | 78 => ⟨S_, .f32⟩
  | 79 => ⟨S2x8192, .f32⟩
  | 80 => ⟨S2x8192x1, .f32⟩
  | 81 => ⟨S_, .f32⟩
  | 82 => ⟨S2x8192x1, .f32⟩
  | 83 => ⟨S2x8192x1, .f32⟩
  | 84 => ⟨S_, .f32⟩
  | 85 => ⟨S2x8192x1, .f32⟩
  | 86 => ⟨S2x8192x1, .f32⟩
  | 87 => ⟨S2x8192x1, .f32⟩
  | 88 => ⟨S2x8192x64, .f32⟩
  | 89 => ⟨S2x8192x64, .f32⟩
  | 90 => ⟨S1x1x64, .f32⟩
  | 91 => ⟨S2x8192x64, .f32⟩
  | 92 => ⟨S2x8192x64, .f32⟩
  | 93 => ⟨S2x8192x1x64, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S8192, .f32⟩
  | 105 => ⟨S8192x1, .f32⟩
  | 106 => ⟨S1x8, .f32⟩
  | 107 => ⟨S8192x8, .f32⟩
  | 108 => ⟨S8192x8, .f32⟩
  | 109 => ⟨S8192x8, .f32⟩
  | 110 => ⟨S8192x8, .f32⟩
  | 111 => ⟨S8192x1x8, .f32⟩
  | 112 => ⟨S8192x8, .f32⟩
  | 113 => ⟨S8192x1x8, .f32⟩
  | 114 => ⟨S2x8192x1x8, .f32⟩
  | 115 => ⟨S2x8192x1x8, .f32⟩
  | 116 => ⟨S1x8192x1x8, .f32⟩
  | 117 => ⟨S2x8192x1x8, .f32⟩
  | 118 => ⟨S2x8192x1x8, .f32⟩
  | 119 => ⟨S1x8192x1x8, .f32⟩
  | 120 => ⟨S2x8192x1x8, .f32⟩
  | 121 => ⟨S2x8192x1x8, .f32⟩
  | 122 => ⟨S2x8192x1x8, .f32⟩
  | 123 => ⟨S1x8192x1x8, .f32⟩
  | 124 => ⟨S2x8192x1x8, .f32⟩
  | 125 => ⟨S2x8192x1x8, .f32⟩
  | 126 => ⟨S1x8192x1x8, .f32⟩
  | 127 => ⟨S2x8192x1x8, .f32⟩
  | _ => ⟨S2x8192x4096, .f32⟩

abbrev hbmTy0_2 (i : Nat) : BufTy := match i % 128 with
  | 0 => ⟨S2x8192x1x8, .f32⟩
  | 1 => ⟨S2x8192x1x8, .f32⟩
  | 2 => ⟨S2x8192x1x48, .f32⟩
  | 3 => ⟨S2x8192x1x64, .f32⟩
  | 4 => ⟨S2x8192x64, .f32⟩
  | 5 => ⟨S8x32x7248, .f32⟩
  | 6 => ⟨S8x32x4096, .f32⟩
  | 7 => ⟨S8x32x32x128, .f32⟩
  | 8 => ⟨S8x32x1024, .f32⟩
  | 9 => ⟨S8x32x8x128, .f32⟩
  | 10 => ⟨S8x32x1024, .f32⟩
  | 11 => ⟨S8x32x8x128, .f32⟩
  | 12 => ⟨S8x32x32x128, .f32⟩
  | 13 => ⟨S_, .f32⟩
  | 14 => ⟨S8x32x32, .f32⟩
  | 15 => ⟨S8x32x32x1, .f32⟩
  | 16 => ⟨S_, .f32⟩
  | 17 => ⟨S8x32x32x1, .f32⟩
  | 18 => ⟨S8x32x32x1, .f32⟩
  | 19 => ⟨S_, .f32⟩
  | 20 => ⟨S8x32x32x1, .f32⟩
  | 21 => ⟨S8x32x32x1, .f32⟩
  | 22 => ⟨S8x32x32x1, .f32⟩
  | 23 => ⟨S8x32x32x128, .f32⟩
  | 24 => ⟨S8x32x32x128, .f32⟩
  | 25 => ⟨S1x1x1x128, .f32⟩
  | 26 => ⟨S8x32x32x128, .f32⟩
  | 27 => ⟨S8x32x32x128, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S32, .f32⟩
  | 39 => ⟨S32x1, .f32⟩
  | 40 => ⟨S1x16, .f32⟩
  | 41 => ⟨S32x16, .f32⟩
  | 42 => ⟨S32x16, .f32⟩
  | 43 => ⟨S32x16, .f32⟩
  | 44 => ⟨S32x16, .f32⟩
  | 45 => ⟨S32x1x16, .f32⟩
  | 46 => ⟨S32x16, .f32⟩
  | 47 => ⟨S32x1x16, .f32⟩
  | 48 => ⟨S8x32x32x16, .f32⟩
  | 49 => ⟨S8x32x32x16, .f32⟩
  | 50 => ⟨S1x32x1x16, .f32⟩
  | 51 => ⟨S8x32x32x16, .f32⟩
  | 52 => ⟨S8x32x32x16, .f32⟩
  | 53 => ⟨S1x32x1x16, .f32⟩
  | 54 => ⟨S8x32x32x16, .f32⟩
  | 55 => ⟨S8x32x32x16, .f32⟩
  | 56 => ⟨S8x32x32x16, .f32⟩
  | 57 => ⟨S1x32x1x16, .f32⟩
  | 58 => ⟨S8x32x32x16, .f32⟩
  | 59 => ⟨S8x32x32x16, .f32⟩
  | 60 => ⟨S1x32x1x16, .f32⟩
  | 61 => ⟨S8x32x32x16, .f32⟩
  | 62 => ⟨S8x32x32x16, .f32⟩
  | 63 => ⟨S8x32x32x16, .f32⟩
  | 64 => ⟨S8x32x32x96, .f32⟩
  | 65 => ⟨S8x32x32x128, .f32⟩
  | 66 => ⟨S8x32x8x128, .f32⟩
  | 67 => ⟨S_, .f32⟩
  | 68 => ⟨S8x32x8, .f32⟩
  | 69 => ⟨S8x32x8x1, .f32⟩
  | 70 => ⟨S_, .f32⟩
  | 71 => ⟨S8x32x8x1, .f32⟩
  | 72 => ⟨S8x32x8x1, .f32⟩
  | 73 => ⟨S_, .f32⟩
  | 74 => ⟨S8x32x8x1, .f32⟩
  | 75 => ⟨S8x32x8x1, .f32⟩
  | 76 => ⟨S8x32x8x1, .f32⟩
  | 77 => ⟨S8x32x8x128, .f32⟩
  | 78 => ⟨S8x32x8x128, .f32⟩
  | 79 => ⟨S1x1x1x128, .f32⟩
  | 80 => ⟨S8x32x8x128, .f32⟩
  | 81 => ⟨S8x32x8x128, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S32, .f32⟩
  | 93 => ⟨S32x1, .f32⟩
  | 94 => ⟨S1x16, .f32⟩
  | 95 => ⟨S32x16, .f32⟩
  | 96 => ⟨S32x16, .f32⟩
  | 97 => ⟨S32x16, .f32⟩
  | 98 => ⟨S32x16, .f32⟩
  | 99 => ⟨S32x1x16, .f32⟩
  | 100 => ⟨S32x16, .f32⟩
  | 101 => ⟨S32x1x16, .f32⟩
  | 102 => ⟨S8x32x8x16, .f32⟩
  | 103 => ⟨S8x32x8x16, .f32⟩
  | 104 => ⟨S1x32x1x16, .f32⟩
  | 105 => ⟨S8x32x8x16, .f32⟩
  | 106 => ⟨S8x32x8x16, .f32⟩
  | 107 => ⟨S1x32x1x16, .f32⟩
  | 108 => ⟨S8x32x8x16, .f32⟩
  | 109 => ⟨S8x32x8x16, .f32⟩
  | 110 => ⟨S8x32x8x16, .f32⟩
  | 111 => ⟨S1x32x1x16, .f32⟩
  | 112 => ⟨S8x32x8x16, .f32⟩
  | 113 => ⟨S8x32x8x16, .f32⟩
  | 114 => ⟨S1x32x1x16, .f32⟩
  | 115 => ⟨S8x32x8x16, .f32⟩
  | 116 => ⟨S8x32x8x16, .f32⟩
  | 117 => ⟨S8x32x8x16, .f32⟩
  | 118 => ⟨S8x32x8x96, .f32⟩
  | 119 => ⟨S8x32x8x128, .f32⟩
  | 120 => ⟨S8x32x1104, .f32⟩
  | 121 => ⟨S8x32x1024, .f32⟩
  | 122 => ⟨S8x32x16x64, .f32⟩
  | 123 => ⟨S8x32x64, .f32⟩
  | 124 => ⟨S8x32x16, .f32⟩
  | 125 => ⟨S_, .f32⟩
  | 126 => ⟨S8x32x16, .f32⟩
  | 127 => ⟨S8x32x16, .f32⟩
  | _ => ⟨S2x8192x4096, .f32⟩

abbrev hbmTy0_3 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S32, .f32⟩
  | 11 => ⟨S32x1, .f32⟩
  | 12 => ⟨S1x8, .f32⟩
  | 13 => ⟨S32x8, .f32⟩
  | 14 => ⟨S32x8, .f32⟩
  | 15 => ⟨S32x8, .f32⟩
  | 16 => ⟨S32x8, .f32⟩
  | 17 => ⟨S32x1x8, .f32⟩
  | 18 => ⟨S32x8, .f32⟩
  | 19 => ⟨S32x1x8, .f32⟩
  | 20 => ⟨S8x32x16x8, .f32⟩
  | 21 => ⟨S8x32x16x8, .f32⟩
  | 22 => ⟨S1x32x1x8, .f32⟩
  | 23 => ⟨S8x32x16x8, .f32⟩
  | 24 => ⟨S8x32x16x8, .f32⟩
  | 25 => ⟨S1x32x1x8, .f32⟩
  | 26 => ⟨S8x32x16x8, .f32⟩
  | 27 => ⟨S8x32x16x8, .f32⟩
  | 28 => ⟨S8x32x16x8, .f32⟩
  | 29 => ⟨S1x32x1x8, .f32⟩
  | 30 => ⟨S8x32x16x8, .f32⟩
  | 31 => ⟨S8x32x16x8, .f32⟩
  | 32 => ⟨S1x32x1x8, .f32⟩
  | 33 => ⟨S8x32x16x8, .f32⟩
  | 34 => ⟨S8x32x16x8, .f32⟩
  | 35 => ⟨S8x32x16x8, .f32⟩
  | 36 => ⟨S8x32x16x48, .f32⟩
  | 37 => ⟨S8x32x16x64, .f32⟩
  | 38 => ⟨S8x32x64, .f32⟩
  | 39 => ⟨S_, .f32⟩
  | 40 => ⟨S8x32, .f32⟩
  | 41 => ⟨S8x32x1, .f32⟩
  | 42 => ⟨S_, .f32⟩
  | 43 => ⟨S8x32x1, .f32⟩
  | 44 => ⟨S8x32x1, .f32⟩
  | 45 => ⟨S_, .f32⟩
  | 46 => ⟨S8x32x1, .f32⟩
  | 47 => ⟨S8x32x1, .f32⟩
  | 48 => ⟨S8x32x1, .f32⟩
  | 49 => ⟨S8x32x64, .f32⟩
  | 50 => ⟨S8x32x64, .f32⟩
  | 51 => ⟨S1x1x64, .f32⟩
  | 52 => ⟨S8x32x64, .f32⟩
  | 53 => ⟨S8x32x64, .f32⟩
  | 54 => ⟨S8x32x1x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S32, .f32⟩
  | 66 => ⟨S32x1, .f32⟩
  | 67 => ⟨S1x8, .f32⟩
  | 68 => ⟨S32x8, .f32⟩
  | 69 => ⟨S32x8, .f32⟩
  | 70 => ⟨S32x8, .f32⟩
  | 71 => ⟨S32x8, .f32⟩
  | 72 => ⟨S32x1x8, .f32⟩
  | 73 => ⟨S32x8, .f32⟩
  | 74 => ⟨S32x1x8, .f32⟩
  | 75 => ⟨S8x32x1x8, .f32⟩
  | 76 => ⟨S8x32x1x8, .f32⟩
  | 77 => ⟨S1x32x1x8, .f32⟩
  | 78 => ⟨S8x32x1x8, .f32⟩
  | 79 => ⟨S8x32x1x8, .f32⟩
  | 80 => ⟨S1x32x1x8, .f32⟩
  | 81 => ⟨S8x32x1x8, .f32⟩
  | 82 => ⟨S8x32x1x8, .f32⟩
  | 83 => ⟨S8x32x1x8, .f32⟩
  | 84 => ⟨S1x32x1x8, .f32⟩
  | 85 => ⟨S8x32x1x8, .f32⟩
  | 86 => ⟨S8x32x1x8, .f32⟩
  | 87 => ⟨S1x32x1x8, .f32⟩
  | 88 => ⟨S8x32x1x8, .f32⟩
  | 89 => ⟨S8x32x1x8, .f32⟩
  | 90 => ⟨S8x32x1x8, .f32⟩
  | 91 => ⟨S8x32x1x48, .f32⟩
  | 92 => ⟨S8x32x1x64, .f32⟩
  | 93 => ⟨S8x32x64, .f32⟩
  | 94 => ⟨S_, .f32⟩
  | 95 => ⟨S2x8192x32x128, .f32⟩
  | 96 => ⟨S2x8192x32x128, .f32⟩
  | 97 => ⟨S2x8192x32x128, .bf16⟩
  | 98 => ⟨S_, .f32⟩
  | 99 => ⟨S8x32x32x128, .f32⟩
  | 100 => ⟨S8x32x32x128, .f32⟩
  | 101 => ⟨S8x32x32x128, .bf16⟩
  | 102 => ⟨S2x8192x16x64, .bf16⟩
  | 103 => ⟨S8x32x16x64, .bf16⟩
  | 104 => ⟨S_, .f32⟩
  | 105 => ⟨S2x8192x16, .f32⟩
  | 106 => ⟨S2x8192x16, .f32⟩
  | 107 => ⟨S_, .f32⟩
  | 108 => ⟨S8x32x16, .f32⟩
  | 109 => ⟨S8x32x16, .f32⟩
  | _ => ⟨S2x8192x4096, .f32⟩

abbrev hbmTy (i : Nat) : BufTy := match i / 128 with
  | 0 => hbmTy0_0 i
  | 1 => hbmTy0_1 i
  | 2 => hbmTy0_2 i
  | 3 => hbmTy0_3 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_cst_13 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_14 : Ref sig .tc := ⟨.hbm, 122, rfl⟩
abbrev main_v99 : Ref sig .tc := ⟨.hbm, 123, rfl⟩
abbrev main_v100 : Ref sig .tc := ⟨.hbm, 124, rfl⟩
abbrev main_cst_15 : Ref sig .tc := ⟨.hbm, 125, rfl⟩
abbrev main_v101 : Ref sig .tc := ⟨.hbm, 126, rfl⟩
abbrev main_v102 : Ref sig .tc := ⟨.hbm, 127, rfl⟩
abbrev main_cst_16 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_18 : Ref sig .tc := ⟨.hbm, 168, rfl⟩
abbrev main_v141 : Ref sig .tc := ⟨.hbm, 169, rfl⟩
abbrev main_v142 : Ref sig .tc := ⟨.hbm, 170, rfl⟩
abbrev main_cst_19 : Ref sig .tc := ⟨.hbm, 171, rfl⟩
abbrev main_v143 : Ref sig .tc := ⟨.hbm, 172, rfl⟩
abbrev main_v144 : Ref sig .tc := ⟨.hbm, 173, rfl⟩
abbrev main_cst_20 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_21 : Ref sig .tc := ⟨.hbm, 206, rfl⟩
abbrev main_v176 : Ref sig .tc := ⟨.hbm, 207, rfl⟩
abbrev main_v177 : Ref sig .tc := ⟨.hbm, 208, rfl⟩
abbrev main_cst_22 : Ref sig .tc := ⟨.hbm, 209, rfl⟩
abbrev main_v178 : Ref sig .tc := ⟨.hbm, 210, rfl⟩
abbrev main_v179 : Ref sig .tc := ⟨.hbm, 211, rfl⟩
abbrev main_cst_23 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_cst_24 : Ref sig .tc := ⟨.hbm, 223, rfl⟩
abbrev main_v190 : Ref sig .tc := ⟨.hbm, 224, rfl⟩
abbrev main_v191 : Ref sig .tc := ⟨.hbm, 225, rfl⟩
abbrev main_cst_25 : Ref sig .tc := ⟨.hbm, 226, rfl⟩
abbrev main_v192 : Ref sig .tc := ⟨.hbm, 227, rfl⟩
abbrev main_v193 : Ref sig .tc := ⟨.hbm, 228, rfl⟩
abbrev main_cst_26 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_cst_27 : Ref sig .tc := ⟨.hbm, 269, rfl⟩
abbrev main_v233 : Ref sig .tc := ⟨.hbm, 270, rfl⟩
abbrev main_v234 : Ref sig .tc := ⟨.hbm, 271, rfl⟩
abbrev main_cst_28 : Ref sig .tc := ⟨.hbm, 272, rfl⟩
abbrev main_v235 : Ref sig .tc := ⟨.hbm, 273, rfl⟩
abbrev main_v236 : Ref sig .tc := ⟨.hbm, 274, rfl⟩
abbrev main_cst_29 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_cst_30 : Ref sig .tc := ⟨.hbm, 285, rfl⟩
abbrev main_v246 : Ref sig .tc := ⟨.hbm, 286, rfl⟩
abbrev main_v247 : Ref sig .tc := ⟨.hbm, 287, rfl⟩
abbrev main_cst_31 : Ref sig .tc := ⟨.hbm, 288, rfl⟩
abbrev main_v248 : Ref sig .tc := ⟨.hbm, 289, rfl⟩
abbrev main_v249 : Ref sig .tc := ⟨.hbm, 290, rfl⟩
abbrev main_cst_32 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_cst_33 : Ref sig .tc := ⟨.hbm, 323, rfl⟩
abbrev main_v281 : Ref sig .tc := ⟨.hbm, 324, rfl⟩
abbrev main_v282 : Ref sig .tc := ⟨.hbm, 325, rfl⟩
abbrev main_cst_34 : Ref sig .tc := ⟨.hbm, 326, rfl⟩
abbrev main_v283 : Ref sig .tc := ⟨.hbm, 327, rfl⟩
abbrev main_v284 : Ref sig .tc := ⟨.hbm, 328, rfl⟩
abbrev main_cst_35 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_cst_36 : Ref sig .tc := ⟨.hbm, 339, rfl⟩
abbrev main_v294 : Ref sig .tc := ⟨.hbm, 340, rfl⟩
abbrev main_v295 : Ref sig .tc := ⟨.hbm, 341, rfl⟩
abbrev main_cst_37 : Ref sig .tc := ⟨.hbm, 342, rfl⟩
abbrev main_v296 : Ref sig .tc := ⟨.hbm, 343, rfl⟩
abbrev main_v297 : Ref sig .tc := ⟨.hbm, 344, rfl⟩
abbrev main_cst_38 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_cst_39 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_cst_40 : Ref sig .tc := ⟨.hbm, 385, rfl⟩
abbrev main_v336 : Ref sig .tc := ⟨.hbm, 386, rfl⟩
abbrev main_v337 : Ref sig .tc := ⟨.hbm, 387, rfl⟩
abbrev main_cst_41 : Ref sig .tc := ⟨.hbm, 388, rfl⟩
abbrev main_v338 : Ref sig .tc := ⟨.hbm, 389, rfl⟩
abbrev main_v339 : Ref sig .tc := ⟨.hbm, 390, rfl⟩
abbrev main_cst_42 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_v366 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_cst_43 : Ref sig .tc := ⟨.hbm, 423, rfl⟩
abbrev main_v371 : Ref sig .tc := ⟨.hbm, 424, rfl⟩
abbrev main_v372 : Ref sig .tc := ⟨.hbm, 425, rfl⟩
abbrev main_cst_44 : Ref sig .tc := ⟨.hbm, 426, rfl⟩
abbrev main_v373 : Ref sig .tc := ⟨.hbm, 427, rfl⟩
abbrev main_v374 : Ref sig .tc := ⟨.hbm, 428, rfl⟩
abbrev main_cst_45 : Ref sig .tc := ⟨.hbm, 429, rfl⟩
abbrev main_v375 : Ref sig .tc := ⟨.hbm, 430, rfl⟩
abbrev main_v376 : Ref sig .tc := ⟨.hbm, 431, rfl⟩
abbrev main_v377 : Ref sig .tc := ⟨.hbm, 432, rfl⟩
abbrev main_v378 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_cst_46 : Ref sig .tc := ⟨.hbm, 440, rfl⟩
abbrev main_v385 : Ref sig .tc := ⟨.hbm, 441, rfl⟩
abbrev main_v386 : Ref sig .tc := ⟨.hbm, 442, rfl⟩
abbrev main_cst_47 : Ref sig .tc := ⟨.hbm, 443, rfl⟩
abbrev main_v387 : Ref sig .tc := ⟨.hbm, 444, rfl⟩
abbrev main_v388 : Ref sig .tc := ⟨.hbm, 445, rfl⟩
abbrev main_cst_48 : Ref sig .tc := ⟨.hbm, 446, rfl⟩
abbrev main_v389 : Ref sig .tc := ⟨.hbm, 447, rfl⟩
abbrev main_v390 : Ref sig .tc := ⟨.hbm, 448, rfl⟩
abbrev main_v391 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_v395 : Ref sig .tc := ⟨.hbm, 453, rfl⟩
abbrev main_v396 : Ref sig .tc := ⟨.hbm, 454, rfl⟩
abbrev main_v397 : Ref sig .tc := ⟨.hbm, 455, rfl⟩
abbrev main_v398 : Ref sig .tc := ⟨.hbm, 456, rfl⟩
abbrev main_v399 : Ref sig .tc := ⟨.hbm, 457, rfl⟩
abbrev main_v400 : Ref sig .tc := ⟨.hbm, 458, rfl⟩
abbrev main_v401 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_v405 : Ref sig .tc := ⟨.hbm, 463, rfl⟩
abbrev main_v406 : Ref sig .tc := ⟨.hbm, 464, rfl⟩
abbrev main_v407 : Ref sig .tc := ⟨.hbm, 465, rfl⟩
abbrev main_v408 : Ref sig .tc := ⟨.hbm, 466, rfl⟩
abbrev main_v409 : Ref sig .tc := ⟨.hbm, 467, rfl⟩
abbrev main_v410 : Ref sig .tc := ⟨.hbm, 468, rfl⟩
abbrev main_v411 : Ref sig .tc := ⟨.hbm, 469, rfl⟩
abbrev main_v412 : Ref sig .tc := ⟨.hbm, 470, rfl⟩
abbrev main_v413 : Ref sig .tc := ⟨.hbm, 471, rfl⟩
abbrev main_v414 : Ref sig .tc := ⟨.hbm, 472, rfl⟩
abbrev main_v415 : Ref sig .tc := ⟨.hbm, 473, rfl⟩
abbrev main_v416 : Ref sig .tc := ⟨.hbm, 474, rfl⟩
abbrev main_v417 : Ref sig .tc := ⟨.hbm, 475, rfl⟩
abbrev main_v418 : Ref sig .tc := ⟨.hbm, 476, rfl⟩
abbrev main_v419 : Ref sig .tc := ⟨.hbm, 477, rfl⟩
abbrev main_cst_49 : Ref sig .tc := ⟨.hbm, 478, rfl⟩
abbrev main_v420 : Ref sig .tc := ⟨.hbm, 479, rfl⟩
abbrev main_v421 : Ref sig .tc := ⟨.hbm, 480, rfl⟩
abbrev main_v422 : Ref sig .tc := ⟨.hbm, 481, rfl⟩
abbrev main_cst_50 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_cst_51 : Ref sig .tc := ⟨.hbm, 488, rfl⟩
abbrev main_v428 : Ref sig .tc := ⟨.hbm, 489, rfl⟩
abbrev main_v429 : Ref sig .tc := ⟨.hbm, 490, rfl⟩
abbrev main_cst_52 : Ref sig .tc := ⟨.hbm, 491, rfl⟩
abbrev main_v430 : Ref sig .tc := ⟨.hbm, 492, rfl⟩
abbrev main_v431 : Ref sig .tc := ⟨.hbm, 493, rfl⟩

abbrev nD : Nat := 1
abbrev τ : Topo := Topo.v7x

variable {F : FTy → Type} [FloatOps F]
-- ==== Kernel4.lean ====
abbrev S2x8192x4096 : Shape := ⟨3, ![2, 8192, 4096]⟩
abbrev S8x32x4096 : Shape := ⟨3, ![8, 32, 4096]⟩
abbrev S4096x4096 : Shape := ⟨2, ![4096, 4096]⟩
abbrev S16384x4096 : Shape := ⟨2, ![16384, 4096]⟩
abbrev S256x4096 : Shape := ⟨2, ![256, 4096]⟩
abbrev S16640x4096 : Shape := ⟨2, ![16640, 4096]⟩
abbrev S1280x4096 : Shape := ⟨2, ![1280, 4096]⟩
abbrev S4096x512 : Shape := ⟨2, ![4096, 512]⟩
abbrev S1280x512 : Shape := ⟨2, ![1280, 512]⟩

abbrev nBuf : Space → Nat
  | .hbm => 19
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S8x32x4096, .f32⟩
  | .hbm, ⟨2, _⟩ => ⟨S4096x4096, .f32⟩
  | .hbm, ⟨3, _⟩ => ⟨S2x8192x4096, .f32⟩
  | .hbm, ⟨4, _⟩ => ⟨S8x32x4096, .f32⟩
  | .hbm, ⟨5, _⟩ => ⟨S16384x4096, .f32⟩
  | .hbm, ⟨6, _⟩ => ⟨S16384x4096, .bf16⟩
  | .hbm, ⟨7, _⟩ => ⟨S256x4096, .f32⟩
  | .hbm, ⟨8, _⟩ => ⟨S256x4096, .bf16⟩
  | .hbm, ⟨9, _⟩ => ⟨S16384x4096, .f32⟩
  | .hbm, ⟨10, _⟩ => ⟨S256x4096, .f32⟩
  | .hbm, ⟨11, _⟩ => ⟨S16640x4096, .f32⟩
  | .hbm, ⟨12, _⟩ => ⟨S16640x4096, .bf16⟩
  | .hbm, ⟨13, _⟩ => ⟨S4096x4096, .bf16⟩
  | .hbm, ⟨14, _⟩ => ⟨S16640x4096, .f32⟩
  | .hbm, ⟨15, _⟩ => ⟨S16384x4096, .f32⟩
  | .hbm, ⟨16, _⟩ => ⟨S2x8192x4096, .f32⟩
  | .hbm, ⟨17, _⟩ => ⟨S256x4096, .f32⟩
  | .hbm, ⟨18, _⟩ => ⟨S8x32x4096, .f32⟩
  | .local _ .vmem, ⟨0, _⟩ => ⟨S1280x4096, .bf16⟩
  | .local _ .vmem, ⟨1, _⟩ => ⟨S1280x4096, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .f32⟩
  | .local _ .vmem, ⟨5, _⟩ => ⟨S1280x512, .f32⟩
  | .local _ .vmem, ⟨6, _⟩ => ⟨S1280x512, .f32⟩
  | .local _ .vmem, ⟨7, _⟩ => ⟨S1280x512, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x8192x4096 : Shape := ⟨3, ![2, 8192, 4096]⟩
abbrev S8x32x4096 : Shape := ⟨3, ![8, 32, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S8x32x4096, .f32⟩
  | .hbm, ⟨2, _⟩ => ⟨S4096x4096, .f32⟩
  | .hbm, ⟨3, _⟩ => ⟨S2x8192x4096, .f32⟩
  | .hbm, ⟨4, _⟩ => ⟨S8x32x4096, .f32⟩
  | .hbm, ⟨5, _⟩ => ⟨S2x8192x4096, .f32⟩
  | .hbm, ⟨6, _⟩ => ⟨S2x8192x4096, .f32⟩
  | .hbm, ⟨7, _⟩ => ⟨S8x32x4096, .f32⟩
  | .hbm, ⟨8, _⟩ => ⟨S8x32x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel5.lean ====
abbrev S2x8192x32x128 : Shape := ⟨4, ![2, 8192, 32, 128]⟩
abbrev S8x32x32x128 : Shape := ⟨4, ![8, 32, 32, 128]⟩
abbrev S8x32x8x128 : Shape := ⟨4, ![8, 32, 8, 128]⟩
abbrev S8x128x8x128 : Shape := ⟨4, ![8, 128, 8, 128]⟩
abbrev S32 : Shape := ⟨1, ![32]⟩
abbrev S_ : Shape := ⟨0, ![]⟩
abbrev S16384x4096 : Shape := ⟨2, ![16384, 4096]⟩
abbrev S256x4096 : Shape := ⟨2, ![256, 4096]⟩
abbrev S16640x4096 : Shape := ⟨2, ![16640, 4096]⟩
abbrev S8x160x8x128 : Shape := ⟨4, ![8, 160, 8, 128]⟩
abbrev S8x160x1024 : Shape := ⟨3, ![8, 160, 1024]⟩
abbrev S32x4096 : Shape := ⟨2, ![32, 4096]⟩
abbrev S1x160x1024 : Shape := ⟨3, ![1, 160, 1024]⟩
abbrev S1x160x128 : Shape := ⟨3, ![1, 160, 128]⟩
abbrev S160x128 : Shape := ⟨2, ![160, 128]⟩
abbrev S32x128 : Shape := ⟨2, ![32, 128]⟩
abbrev S1 : Shape := ⟨1, ![1]⟩
abbrev S32x160 : Shape := ⟨2, ![32, 160]⟩
abbrev S32x1 : Shape := ⟨2, ![32, 1]⟩

abbrev nBuf : Space → Nat
  | .hbm => 24
  | .vmem => 8
  | .smem => 1
  | _ => 0

abbrev bufTy : (tb : Table) → Fin (tcTables nBuf tb) → BufTy
  | .hbm, ⟨0, _⟩ => ⟨S2x8192x32x128, .f32⟩
  | .hbm, ⟨1, _⟩ => ⟨S8x32x32x128, .f32⟩
  | .hbm, ⟨2, _⟩ => ⟨S8x32x8x128, .f32⟩
  | .hbm, ⟨3, _⟩ => ⟨S8x32x8x128, .f32⟩
  | .hbm, ⟨4, _⟩ => ⟨S8x128x8x128, .f32⟩
  | .hbm, ⟨5, _⟩ => ⟨S8x128x8x128, .f32⟩
  | .hbm, ⟨6, _⟩ => ⟨S32, .f32⟩
  | .hbm, ⟨7, _⟩ => ⟨S_, .f32⟩
  | .hbm, ⟨8, _⟩ => ⟨S2x8192x32x128, .f32⟩
  | .hbm, ⟨9, _⟩ => ⟨S2x8192x32x128, .f32⟩
  | .hbm, ⟨10, _⟩ => ⟨S_, .f32⟩
  | .hbm, ⟨11, _⟩ => ⟨S8x32x32x128, .f32⟩
  | .hbm, ⟨12, _⟩ => ⟨S8x32x32x128, .f32⟩
  | .hbm, ⟨13, _⟩ => ⟨S16384x4096, .f32⟩
  | .hbm, ⟨14, _⟩ => ⟨S256x4096, .f32⟩
  | .hbm, ⟨15, _⟩ => ⟨S16640x4096, .f32⟩
  | .hbm, ⟨16, _⟩ => ⟨S16640x4096, .bf16⟩
  | .hbm, ⟨17, _⟩ => ⟨S8x160x8x128, .f32⟩
  | .hbm, ⟨18, _⟩ => ⟨S8x160x8x128, .f32⟩
  | .hbm, ⟨19, _⟩ => ⟨S8x160x1024, .f32⟩
  | .hbm, ⟨20, _⟩ => ⟨S8x160x1024, .bf16⟩
  | .hbm, ⟨21, _⟩ => ⟨S8x160x1024, .f32⟩
  | .hbm, ⟨22, _⟩ => ⟨S8x160x1024, .bf16⟩
  | .hbm, ⟨23, _⟩ => ⟨S256x4096, .bf16⟩
  | .local _ .vmem, ⟨0, _⟩ => ⟨S32x4096, .bf16⟩
  | .local _ .vmem, ⟨1, _⟩ => ⟨S32x4096, .bf16⟩
  | .local _ .vmem, ⟨2, _⟩ => ⟨S1x160x1024, .bf16⟩
  | .local _ .vmem, ⟨3, _⟩ => ⟨S1x160x1024, .bf16⟩
  | .local _ .vmem, ⟨4, _⟩ => ⟨S1x160x1024, .bf16⟩
  | .local _ .vmem, ⟨5, _⟩ => ⟨S1x160x1024, .bf16⟩
  | .local _ .vmem, ⟨6, _⟩ => ⟨S32x4096, .bf16⟩
  | .local _ .vmem, ⟨7, _⟩ => ⟨S32x4096, .bf16⟩
  | .local _ .smem, ⟨0, _⟩ => ⟨S32, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x160x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x8192x32x128 : Shape := ⟨4, ![2, 8192, 32, 128]⟩
abbrev S8x32x32x128 : Shape := ⟨4, ![8, 32, 32, 128]⟩
abbrev S8x32x8x128 : Shape := ⟨4, ![8, 32, 8, 128]⟩
abbrev S8x128x8x128 : Shape := ⟨4, ![8, 128, 8, 128]⟩
abbrev S32 : Shape := ⟨1, ![32]⟩
abbrev S8x160x8x128 : Shape := ⟨4, ![8, 160, 8, 128]⟩
abbrev S8x32x8x4x128 : Shape := ⟨5, ![8, 32, 8, 4, 128]⟩
abbrev S8x8x160x32x4 : Shape := ⟨5, ![8, 8, 160, 32, 4]⟩
abbrev S8x8x4x32x160 : Shape := ⟨5, ![8, 8, 4, 32, 160]⟩
abbrev S_ : Shape := ⟨0, ![]⟩
abbrev S8x4x1 : Shape := ⟨3, ![8, 4, 1]⟩
abbrev S8x8x4x32 : Shape := ⟨4, ![8, 8, 4, 32]⟩
abbrev S1x8x4x1 : Shape := ⟨4, ![1, 8, 4, 1]⟩
abbrev S8x8x4x32x1 : Shape := ⟨5, ![8, 8, 4, 32, 1]⟩
abbrev S8x8x128x4x32 : Shape := ⟨5, ![8, 8, 128, 4, 32]⟩
abbrev S256x4096 : Shape := ⟨2, ![256, 4096]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S8x32x32x128, .f32⟩
  | .hbm, ⟨2, _⟩ => ⟨S8x32x8x128, .f32⟩
  | .hbm, ⟨3, _⟩ => ⟨S8x32x8x128, .f32⟩
  | .hbm, ⟨4, _⟩ => ⟨S8x128x8x128, .f32⟩
  | .hbm, ⟨5, _⟩ => ⟨S8x128x8x128, .f32⟩
  | .hbm, ⟨6, _⟩ => ⟨S32, .f32⟩
  | .hbm, ⟨7, _⟩ => ⟨S8x160x8x128, .f32⟩
  | .hbm, ⟨8, _⟩ => ⟨S8x160x8x128, .f32⟩
  | .hbm, ⟨9, _⟩ => ⟨S8x32x8x4x128, .f32⟩
  | .hbm, ⟨10, _⟩ => ⟨S8x8x160x32x4, .f32⟩
  | .hbm, ⟨11, _⟩ => ⟨S8x8x4x32x160, .f32⟩
  | .hbm, ⟨12, _⟩ => ⟨S_, .f32⟩
  | .hbm, ⟨13, _⟩ => ⟨S8x8x4x32x160, .f32⟩
  | .hbm, ⟨14, _⟩ => ⟨S8x8x4x32x160, .f32⟩
  | .hbm, ⟨15, _⟩ => ⟨S8x4x1, .f32⟩
  | .hbm, ⟨16, _⟩ => ⟨S_, .f32⟩
  | .hbm, ⟨17, _⟩ => ⟨S8x8x4x32, .f32⟩
  | .hbm, ⟨18, _⟩ => ⟨S1x8x4x1, .f32⟩
  | .hbm, ⟨19, _⟩ => ⟨S8x8x4x32, .f32⟩
  | .hbm, ⟨20, _⟩ => ⟨S8x8x4x32, .f32⟩
  | .hbm, ⟨21, _⟩ => ⟨S8x8x4x32x1, .f32⟩
  | .hbm, ⟨22, _⟩ => ⟨S8x8x4x32x160, .f32⟩
  | .hbm, ⟨23, _⟩ => ⟨S8x8x4x32x160, .f32⟩
  | .hbm, ⟨24, _⟩ => ⟨S8x8x4x32x160, .f32⟩
  | .hbm, ⟨25, _⟩ => ⟨S_, .f32⟩
  | .hbm, ⟨26, _⟩ => ⟨S8x8x4x32, .f32⟩
  | .hbm, ⟨27, _⟩ => ⟨S1x8x4x1, .f32⟩
  | .hbm, ⟨28, _⟩ => ⟨S8x8x4x32, .f32⟩
  | .hbm, ⟨29, _⟩ => ⟨S8x8x4x32, .f32⟩
  | .hbm, ⟨30, _⟩ => ⟨S8x8x4x32, .f32⟩
  | .hbm, ⟨31, _⟩ => ⟨S8x8x4x32, .f32⟩
  | .hbm, ⟨32, _⟩ => ⟨S8x8x4x32x1, .f32⟩
  | .hbm, ⟨33, _⟩ => ⟨S8x8x4x32x160, .f32⟩
  | .hbm, ⟨34, _⟩ => ⟨S8x8x4x32x160, .f32⟩
  | .hbm, ⟨35, _⟩ => ⟨S8x8x128x4x32, .f32⟩
  | .hbm, ⟨36, _⟩ => ⟨S8x32x8x4x128, .f32⟩
  | .hbm, ⟨37, _⟩ => ⟨S256x4096, .f32⟩
  | .hbm, ⟨38, _⟩ => ⟨S256x4096, .bf16⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel6.lean ====
abbrev S2x8192x4096 : Shape := ⟨3, ![2, 8192, 4096]⟩
abbrev S8x32x4096 : Shape := ⟨3, ![8, 32, 4096]⟩
abbrev S4096x8 : Shape := ⟨2, ![4096, 8]⟩
abbrev S4096x64 : Shape := ⟨2, ![4096, 64]⟩
abbrev S16384x4096 : Shape := ⟨2, ![16384, 4096]⟩
abbrev S256x4096 : Shape := ⟨2, ![256, 4096]⟩
abbrev S16640x4096 : Shape := ⟨2, ![16640, 4096]⟩
abbrev S_ : Shape := ⟨0, ![]⟩
abbrev S4096x56 : Shape := ⟨2, ![4096, 56]⟩
abbrev S4096x128 : Shape := ⟨2, ![4096, 128]⟩
abbrev S16640x128 : Shape := ⟨2, ![16640, 128]⟩
abbrev S1280x4096 : Shape := ⟨2, ![1280, 4096]⟩
abbrev S1280x128 : Shape := ⟨2, ![1280, 128]⟩
abbrev S16384x8 : Shape := ⟨2, ![16384, 8]⟩
abbrev S2x8192x8 : Shape := ⟨3, ![2, 8192, 8]⟩
abbrev S256x8 : Shape := ⟨2, ![256, 8]⟩
abbrev S8x32x8 : Shape := ⟨3, ![8, 32, 8]⟩
abbrev S16384x64 : Shape := ⟨2, ![16384, 64]⟩
abbrev S2x8192x64 : Shape := ⟨3, ![2, 8192, 64]⟩
abbrev S256x64 : Shape := ⟨2, ![256, 64]⟩
abbrev S8x32x64 : Shape := ⟨3, ![8, 32, 64]⟩

abbrev nBuf : Space → Nat
  | .hbm => 21
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S8x32x4096, .f32⟩
  | .hbm, ⟨2, _⟩ => ⟨S4096x8, .f32⟩
  | .hbm, ⟨3, _⟩ => ⟨S4096x64, .f32⟩
  | .hbm, ⟨4, _⟩ => ⟨S16384x4096, .f32⟩
  | .hbm, ⟨5, _⟩ => ⟨S256x4096, .f32⟩
  | .hbm, ⟨6, _⟩ => ⟨S16640x4096, .f32⟩
  | .hbm, ⟨7, _⟩ => ⟨S16640x4096, .bf16⟩
  | .hbm, ⟨8, _⟩ => ⟨S_, .f32⟩
  | .hbm, ⟨9, _⟩ => ⟨S4096x56, .f32⟩
  | .hbm, ⟨10, _⟩ => ⟨S4096x128, .f32⟩
  | .hbm, ⟨11, _⟩ => ⟨S4096x128, .bf16⟩
  | .hbm, ⟨12, _⟩ => ⟨S16640x128, .f32⟩
  | .hbm, ⟨13, _⟩ => ⟨S16384x8, .f32⟩
  | .hbm, ⟨14, _⟩ => ⟨S2x8192x8, .f32⟩
  | .hbm, ⟨15, _⟩ => ⟨S256x8, .f32⟩
  | .hbm, ⟨16, _⟩ => ⟨S8x32x8, .f32⟩
  | .hbm, ⟨17, _⟩ => ⟨S16384x64, .f32⟩
  | .hbm, ⟨18, _⟩ => ⟨S2x8192x64, .f32⟩
  | .hbm, ⟨19, _⟩ => ⟨S256x64, .f32⟩
  | .hbm, ⟨20, _⟩ => ⟨S8x32x64, .f32⟩
  | .local _ .vmem, ⟨0, _⟩ => ⟨S1280x4096, .bf16⟩
  | .local _ .vmem, ⟨1, _⟩ => ⟨S1280x4096, .bf16⟩
  | .local _ .vmem, ⟨2, _⟩ => ⟨S4096x128, .bf16⟩
  | .local _ .vmem, ⟨3, _⟩ => ⟨S1280x128, .f32⟩
  | .local _ .vmem, ⟨4, _⟩ => ⟨S1280x128, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x4096 : Shape := ⟨3, ![2, 8192, 4096]⟩
abbrev S8x32x4096 : Shape := ⟨3, ![8, 32, 4096]⟩
abbrev S4096x8 : Shape := ⟨2, ![4096, 8]⟩
abbrev S4096x64 : Shape := ⟨2, ![4096, 64]⟩
abbrev S2x8192x8 : Shape := ⟨3, ![2, 8192, 8]⟩
abbrev S8x32x8 : Shape := ⟨3, ![8, 32, 8]⟩
abbrev S2x8192x64 : Shape := ⟨3, ![2, 8192, 64]⟩
abbrev S8x32x64 : Shape := ⟨3, ![8, 32, 64]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S8x32x4096, .f32⟩
  | .hbm, ⟨2, _⟩ => ⟨S4096x8, .f32⟩
  | .hbm, ⟨3, _⟩ => ⟨S4096x64, .f32⟩
  | .hbm, ⟨4, _⟩ => ⟨S2x8192x8, .f32⟩
  | .hbm, ⟨5, _⟩ => ⟨S8x32x8, .f32⟩
  | .hbm, ⟨6, _⟩ => ⟨S2x8192x64, .f32⟩
  | .hbm, ⟨7, _⟩ => ⟨S8x32x64, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.SwaBlock.lean ====
/-
  The prompt's attention kernel at one grid point: each of its 32 stored tiles is one head's function of the point's
  blocks, and so the block is one function of them.
-/
module

public import proofs.«01_k».proof.Proof.Gen.KernelIdeal.Value
public import Idealize.ShloMosaic.Lib.Pointwise
public import Idealize.ShloMosaic.Lib.Writes

@[expose] public section

set_option maxRecDepth 16384

noncomputable section

namespace Cert.SwaBlock

open Cert.KernelIdeal Cert.KernelIdeal.Gen Idealize.ShloMosaic Idealize.ShloMosaic.TcCoe Idealize.SL.Sem

/-- The mask of the point whose second coordinate is `n`. -/
def mask (n : Nat) : FVec Ideal S128x256 .f32 :=
  k0_pay7 (F := Ideal) (BitVec.ofNat 32 n) k0_pay2 k0_pay3 k0_pay4 k0_pay5 k0_pay6

theorem inb_q (h : Fin 32) : ∀ a, (![0, 128 * h.val] : Fin 2 → Nat) a + (![128, 128] : Fin 2 → Nat) a ≤ S128x4096.size a := by
  intro a; match a with
  | ⟨0, _⟩ => show 0 + 128 ≤ 128; omega
  | ⟨1, _⟩ => show 128 * h.val + 128 ≤ 4096; omega

theorem inb_kv (g : Fin 8) : ∀ a, (![0, 128 * g.val] : Fin 2 → Nat) a + (![128, 128] : Fin 2 → Nat) a ≤ S128x1024.size a := by
  intro a; match a with
  | ⟨0, _⟩ => show 0 + 128 ≤ 128; omega
  | ⟨1, _⟩ => show 128 * g.val + 128 ≤ 1024; omega

theorem inb_s (h : Fin 32) : ∀ a, (![h.val] : Fin 1 → Nat) a + (![1] : Fin 1 → Nat) a ≤ S32.size a := by
  intro a; match a with
  | ⟨0, _⟩ => show h.val + 1 ≤ 32; omega

/-- The columns of head `h` among a query block's. -/
abbrev rq (h : Fin 32) : Rect S128x4096 := Rect.unit ![0, 128 * h.val] ![128, 128] (inb_q h)

/-- The columns of key/value head `g` among a key or value block's. -/
abbrev rkv (g : Fin 8) : Rect S128x1024 := Rect.unit ![0, 128 * g.val] ![128, 128] (inb_kv g)

/-- Head `h`'s tile of the block of the point whose second coordinate is `n`. -/
def tile (n : Nat) (x0 : Vec Ideal S32 .f32) (x1 : Vec Ideal S128x4096 .bf16) (x2 x3 x4 x5 : Vec Ideal S128x1024 .bf16)
    (h : Fin 32) : FVec Ideal S128x128 .bf16 :=
  k0_pay14 (mask n) (k0_pay8 (View.ld x2 (rkv ⟨h.val / 4, by omega⟩)) (View.ld x3 (rkv ⟨h.val / 4, by omega⟩)))
    (k0_pay9 (View.ld x4 (rkv ⟨h.val / 4, by omega⟩)) (View.ld x5 (rkv ⟨h.val / 4, by omega⟩)))
    (View.ld x1 (rq h)) (x0 (ix1 h))

/-- The block of the point whose second coordinate is `n`. -/
def block (n : Nat) (x0 : Vec Ideal S32 .f32) (x1 : Vec Ideal S128x4096 .bf16) (x2 x3 x4 x5 : Vec Ideal S128x1024 .bf16) :
    Vec Ideal S128x4096 .bf16 :=
  fun y => tile n x0 x1 x2 x3 x4 x5 ⟨(y 1).val / 128, by have := (y 1).isLt; show _ < 32; change (y 1).val < 4096 at this; omega⟩
    (ix2 (y 0) ⟨(y 1).val % 128, Nat.mod_lt _ (by decide)⟩)

theorem block_rq (n : Nat) (x0 : Vec Ideal S32 .f32) (x1 : Vec Ideal S128x4096 .bf16) (x2 x3 x4 x5 : Vec Ideal S128x1024 .bf16)
    (h : Fin 32) (x : S128x128.Idx) : block n x0 x1 x2 x3 x4 x5 ((rq h).emb x) = tile n x0 x1 x2 x3 x4 x5 h x := by
  have h1 : (((rq h).emb x) 1).val = 128 * h.val + (x 1).val := by
    show 128 * h.val + 1 * (x 1).val = _; omega
  have hx : (x 1).val < 128 := (x 1).isLt
  unfold block
  congr 1
  · apply Fin.ext; show (((rq h).emb x) 1).val / 128 = h.val; rw [h1]; omega
  · rw [eq_ix2 x]
    congr 1
    · apply Fin.ext; show 0 + 1 * (x 0).val = (x 0).val; omega
    · apply Fin.ext; show (((rq h).emb x) 1).val % 128 = (x 1).val; rw [h1]; omega

section
variable (c : Dev nD) (i : grid0.Coords) (arg2 : Memref sig .tc .smem S32 .f32) (harg2 : arg2.IsWhole) (arg3 : Memref sig .tc .vmem S128x4096 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x4096 .bf16) (harg8 : arg8.IsWhole)
  (x0 : Vec Ideal S32 .f32) (x1 : Vec Ideal S128x4096 .bf16) (x2 x3 x4 x5 : Vec Ideal S128x1024 .bf16)

include c harg2 harg3 harg4 harg5 harg6 harg7 in
/-- Head `h`'s tile from what the run loads. -/
theorem block_emb (h : Fin 32) (x : S128x128.Idx) :
    block (i 1).val x0 x1 x2 x3 x4 x5 ((rq h).emb x)
      = k0_pay14 (mask (i 1).val)
          (k0_pay8 (View.ld (arg4.view.read (Elt Ideal) (harg4.unread x2)) (rkv ⟨h.val / 4, by omega⟩))
            (View.ld (arg5.view.read (Elt Ideal) (harg5.unread x3)) (rkv ⟨h.val / 4, by omega⟩)))
          (k0_pay9 (View.ld (arg6.view.read (Elt Ideal) (harg6.unread x4)) (rkv ⟨h.val / 4, by omega⟩))
            (View.ld (arg7.view.read (Elt Ideal) (harg7.unread x5)) (rkv ⟨h.val / 4, by omega⟩)))
          (View.ld (arg3.view.read (Elt Ideal) (harg3.unread x1)) (rq h))
          (View.ld (arg2.view.read (Elt Ideal) (harg2.unread x0)) (Rect.unit ![h.val] ![1] (inb_s h)) (Shape.Idx.first (s := ⟨1, ![1]⟩) (by decide))) x := by
  rw [block_rq, harg2.read_unread, harg3.read_unread, harg4.read_unread, harg5.read_unread, harg6.read_unread, harg7.read_unread]
  unfold tile
  congr 1
  show x0 _ = x0 _
  congr 1
  funext a
  match a with
  | ⟨0, _⟩ => rfl

/-- The run's pieces leave the block. -/
theorem run_block (v : View sig .tc .vmem S128x4096 .bf16) (f : BufTy.Contents (Elt Ideal) v.ty) (y : S128x4096.Idx) :
    v.read (Elt Ideal) (v.writes (Elt Ideal) f
      (kernelRun0_A (F := Ideal) c i arg2 harg2 arg3 harg3 arg4 harg4 arg5 harg5 arg6 harg6 arg7 harg7 arg8 harg8 x0 x1 x2 x3 x4 x5).1) y
      = block (i 1).val x0 x1 x2 x3 x4 x5 y := by
  refine View.read_writes_apply_of_pieces _ _ _ _ ?_ y
    (cover0_A_6 c i arg2 harg2 arg3 harg3 arg4 harg4 arg5 harg5 arg6 harg6 arg7 harg7 arg8 harg8 x0 x1 x2 x3 x4 x5 y)
  unfold kernelRun0_A
  dsimp only
  refine List.forall_mem_cons.mpr ⟨fun x => (block_emb c i arg2 harg2 arg3 harg3 arg4 harg4 arg5 harg5 arg6 harg6 arg7 harg7 x0 x1 x2 x3 x4 x5 31 x).symm, ?_⟩
  refine List.forall_mem_cons.mpr ⟨fun x => (block_emb c i arg2 harg2 arg3 harg3 arg4 harg4 arg5 harg5 arg6 harg6 arg7 harg7 x0 x1 x2 x3 x4 x5 30 x).symm, ?_⟩
  refine List.forall_mem_cons.mpr ⟨fun x => (block_emb c i arg2 harg2 arg3 harg3 arg4 harg4 arg5 harg5 arg6 harg6 arg7 harg7 x0 x1 x2 x3 x4 x5 29 x).symm, ?_⟩
  refine List.forall_mem_cons.mpr ⟨fun x => (block_emb c i arg2 harg2 arg3 harg3 arg4 harg4 arg5 harg5 arg6 harg6 arg7 harg7 x0 x1 x2 x3 x4 x5 28 x).symm, ?_⟩
  refine List.forall_mem_cons.mpr ⟨fun x => (block_emb c i arg2 harg2 arg3 harg3 arg4 harg4 arg5 harg5 arg6 harg6 arg7 harg7 x0 x1 x2 x3 x4 x5 27 x).symm, ?_⟩
  refine List.forall_mem_cons.mpr ⟨fun x => (block_emb c i arg2 harg2 arg3 harg3 arg4 harg4 arg5 harg5 arg6 harg6 arg7 harg7 x0 x1 x2 x3 x4 x5 26 x).symm, ?_⟩
  refine List.forall_mem_cons.mpr ⟨fun x => (block_emb c i arg2 harg2 arg3 harg3 arg4 harg4 arg5 harg5 arg6 harg6 arg7 harg7 x0 x1 x2 x3 x4 x5 25 x).symm, ?_⟩
  refine List.forall_mem_cons.mpr ⟨fun x => (block_emb c i arg2 harg2 arg3 harg3 arg4 harg4 arg5 harg5 arg6 harg6 arg7 harg7 x0 x1 x2 x3 x4 x5 24 x).symm, ?_⟩
  refine List.forall_mem_cons.mpr ⟨fun x => (block_emb c i arg2 harg2 arg3 harg3 arg4 harg4 arg5 harg5 arg6 harg6 arg7 harg7 x0 x1 x2 x3 x4 x5 23 x).symm, ?_⟩
  refine List.forall_mem_cons.mpr ⟨fun x => (block_emb c i arg2 harg2 arg3 harg3 arg4 harg4 arg5 harg5 arg6 harg6 arg7 harg7 x0 x1 x2 x3 x4 x5 22 x).symm, ?_⟩
  refine List.forall_mem_cons.mpr ⟨fun x => (block_emb c i arg2 harg2 arg3 harg3 arg4 harg4 arg5 harg5 arg6 harg6 arg7 harg7 x0 x1 x2 x3 x4 x5 21 x).symm, ?_⟩
  refine List.forall_mem_cons.mpr ⟨fun x => (block_emb c i arg2 harg2 arg3 harg3 arg4 harg4 arg5 harg5 arg6 harg6 arg7 harg7 x0 x1 x2 x3 x4 x5 20 x).symm, ?_⟩
  refine List.forall_mem_cons.mpr ⟨fun x => (block_emb c i arg2 harg2 arg3 harg3 arg4 harg4 arg5 harg5 arg6 harg6 arg7 harg7 x0 x1 x2 x3 x4 x5 19 x).symm, ?_⟩
  refine List.forall_mem_cons.mpr ⟨fun x => (block_emb c i arg2 harg2 arg3 harg3 arg4 harg4 arg5 harg5 arg6 harg6 arg7 harg7 x0 x1 x2 x3 x4 x5 18 x).symm, ?_⟩
  refine List.forall_mem_cons.mpr ⟨fun x => (block_emb c i arg2 harg2 arg3 harg3 arg4 harg4 arg5 harg5 arg6 harg6 arg7 harg7 x0 x1 x2 x3 x4 x5 17 x).symm, ?_⟩
  refine List.forall_mem_cons.mpr ⟨fun x => (block_emb c i arg2 harg2 arg3 harg3 arg4 harg4 arg5 harg5 arg6 harg6 arg7 harg7 x0 x1 x2 x3 x4 x5 16 x).symm, ?_⟩
  refine List.forall_mem_cons.mpr ⟨fun x => (block_emb c i arg2 harg2 arg3 harg3 arg4 harg4 arg5 harg5 arg6 harg6 arg7 harg7 x0 x1 x2 x3 x4 x5 15 x).symm, ?_⟩
  refine List.forall_mem_cons.mpr ⟨fun x => (block_emb c i arg2 harg2 arg3 harg3 arg4 harg4 arg5 harg5 arg6 harg6 arg7 harg7 x0 x1 x2 x3 x4 x5 14 x).symm, ?_⟩
  refine List.forall_mem_cons.mpr ⟨fun x => (block_emb c i arg2 harg2 arg3 harg3 arg4 harg4 arg5 harg5 arg6 harg6 arg7 harg7 x0 x1 x2 x3 x4 x5 13 x).symm, ?_⟩
  refine List.forall_mem_cons.mpr ⟨fun x => (block_emb c i arg2 harg2 arg3 harg3 arg4 harg4 arg5 harg5 arg6 harg6 arg7 harg7 x0 x1 x2 x3 x4 x5 12 x).symm, ?_⟩
  refine List.forall_mem_cons.mpr ⟨fun x => (block_emb c i arg2 harg2 arg3 harg3 arg4 harg4 arg5 harg5 arg6 harg6 arg7 harg7 x0 x1 x2 x3 x4 x5 11 x).symm, ?_⟩
  refine List.forall_mem_cons.mpr ⟨fun x => (block_emb c i arg2 harg2 arg3 harg3 arg4 harg4 arg5 harg5 arg6 harg6 arg7 harg7 x0 x1 x2 x3 x4 x5 10 x).symm, ?_⟩
  refine List.forall_mem_cons.mpr ⟨fun x => (block_emb c i arg2 harg2 arg3 harg3 arg4 harg4 arg5 harg5 arg6 harg6 arg7 harg7 x0 x1 x2 x3 x4 x5 9 x).symm, ?_⟩
  refine List.forall_mem_cons.mpr ⟨fun x => (block_emb c i arg2 harg2 arg3 harg3 arg4 harg4 arg5 harg5 arg6 harg6 arg7 harg7 x0 x1 x2 x3 x4 x5 8 x).symm, ?_⟩
  refine List.forall_mem_cons.mpr ⟨fun x => (block_emb c i arg2 harg2 arg3 harg3 arg4 harg4 arg5 harg5 arg6 harg6 arg7 harg7 x0 x1 x2 x3 x4 x5 7 x).symm, ?_⟩
  refine List.forall_mem_cons.mpr ⟨fun x => (block_emb c i arg2 harg2 arg3 harg3 arg4 harg4 arg5 harg5 arg6 harg6 arg7 harg7 x0 x1 x2 x3 x4 x5 6 x).symm, ?_⟩
  refine List.forall_mem_cons.mpr ⟨fun x => (block_emb c i arg2 harg2 arg3 harg3 arg4 harg4 arg5 harg5 arg6 harg6 arg7 harg7 x0 x1 x2 x3 x4 x5 5 x).symm, ?_⟩
  refine List.forall_mem_cons.mpr ⟨fun x => (block_emb c i arg2 harg2 arg3 harg3 arg4 harg4 arg5 harg5 arg6 harg6 arg7 harg7 x0 x1 x2 x3 x4 x5 4 x).symm, ?_⟩
  refine List.forall_mem_cons.mpr ⟨fun x => (block_emb c i arg2 harg2 arg3 harg3 arg4 harg4 arg5 harg5 arg6 harg6 arg7 harg7 x0 x1 x2 x3 x4 x5 3 x).symm, ?_⟩
  refine List.forall_mem_cons.mpr ⟨fun x => (block_emb c i arg2 harg2 arg3 harg3 arg4 harg4 arg5 harg5 arg6 harg6 arg7 harg7 x0 x1 x2 x3 x4 x5 2 x).symm, ?_⟩
  refine List.forall_mem_cons.mpr ⟨fun x => (block_emb c i arg2 harg2 arg3 harg3 arg4 harg4 arg5 harg5 arg6 harg6 arg7 harg7 x0 x1 x2 x3 x4 x5 1 x).symm, ?_⟩
  refine List.forall_mem_cons.mpr ⟨fun x => (block_emb c i arg2 harg2 arg3 harg3 arg4 harg4 arg5 harg5 arg6 harg6 arg7 harg7 x0 x1 x2 x3 x4 x5 0 x).symm, ?_⟩
  exact fun p hp => absurd hp List.not_mem_nil

end

/-- What the run leaves at grid point `t` is the block of that point. -/
theorem outsAt_eq (m : (ℓ : Loc nD τ sig) → Buf (Elt Ideal) ℓ) (c : Dev nD) (t : Fin cfg0.N) (y : S128x4096.Idx) :
    outsAt0 m c t y = block (grid0.coords t 1).val (iblk m c 0 t) (iblk m c 1 t) (iblk m c 2 t) (iblk m c 3 t) (iblk m c 4 t) (iblk m c 5 t) y := by
  unfold outsAt0 out0_A_6
  exact run_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) VO0_6 VO0_6.junk y

end Cert.SwaBlock

end
-- ==== Proof.SinkSoftmax.lean ====
/-
  Softmax with a sink over the extended reals: the weights divided before the sum over the values or the sum divided
  after it, over a set of scores or over a larger one whose further scores are minus infinity.
-/
module

public import Idealize.ShloMosaic.PureOps.Ideal.Laws

@[expose] public section

noncomputable section

namespace Cert.SinkSoftmax

open Idealize.ShloMosaic

/-- The largest score of a row, the sink among them. -/
def top {ι : Type} [Fintype ι] (s : ι → EReal) (a : EReal) : EReal := max (Finset.univ.fold max ⊥ s) a

/-- The sum of a row's exponentials, the sink's among them. -/
def mass {ι : Type} [Fintype ι] (s : ι → EReal) (a : EReal) : EReal :=
  (∑ j, Ideal.exp (s j - top s a)) + Ideal.exp (a - top s a)

theorem le_top {ι : Type} [Fintype ι] (s : ι → EReal) (a : EReal) (j : ι) : s j ≤ top s a :=
  le_max_of_le_left (Finset.le_sup (f := s) (Finset.mem_univ j))

theorem top_le {ι : Type} [Fintype ι] {s : ι → EReal} {a b : EReal} (hs : ∀ j, s j ≤ b) (ha : a ≤ b) : top s a ≤ b :=
  max_le (Finset.sup_le fun j _ => hs j) ha

/-- With no score plus infinity and a real sink the largest score is a real. -/
theorem top_real {ι : Type} [Fintype ι] {s : ι → EReal} (hs : ∀ j, s j ≠ ⊤) (a : ℝ) : ∃ μ : ℝ, top s a = μ := by
  have hbot : top s (a : EReal) ≠ ⊥ := fun h =>
    EReal.coe_ne_bot a (le_bot_iff.mp (h ▸ le_max_right _ _))
  have htop : top s (a : EReal) ≠ ⊤ := by
    refine ne_of_lt (max_lt ?_ (EReal.coe_lt_top a))
    exact (Finset.sup_lt_iff (f := s) bot_lt_top).mpr fun j _ => lt_of_le_of_ne _root_.le_top (hs j)
  exact ⟨(top s a).toReal, (EReal.coe_toReal htop hbot).symm⟩

/-- The exponential of a score below plus infinity less a real is a real that is not negative. -/
theorem exp_real {x : EReal} (hx : x ≠ ⊤) (μ : ℝ) : ∃ r : ℝ, 0 ≤ r ∧ Ideal.exp (x - μ) = r := by
  induction x with
  | bot => exact ⟨0, le_rfl, by rw [EReal.bot_sub]; rfl⟩
  | top => exact absurd rfl hx
  | coe x => exact ⟨Real.exp (x - μ), (Real.exp_pos _).le, by rw [← EReal.coe_sub]; rfl⟩

theorem sum_real {ι : Type} [Fintype ι] (r : ι → ℝ) : (∑ j, (r j : EReal)) = ((∑ j, r j : ℝ) : EReal) := by
  classical
  refine Finset.induction_on (Finset.univ : Finset ι) (by simp) fun i t hi ih => ?_
  rw [Finset.sum_insert hi, Finset.sum_insert hi, ih, EReal.coe_add]

/-- The mass is a positive real. -/
theorem mass_real {ι : Type} [Fintype ι] {s : ι → EReal} (hs : ∀ j, s j ≠ ⊤) (a : ℝ) : ∃ D : ℝ, 0 < D ∧ mass s a = D := by
  obtain ⟨μ, hμ⟩ := top_real hs a
  choose r hr0 hr using fun j => exp_real (hs j) μ
  refine ⟨(∑ j, r j) + Real.exp (a - μ), add_pos_of_nonneg_of_pos (Finset.sum_nonneg fun j _ => hr0 j) (Real.exp_pos _), ?_⟩
  unfold mass
  rw [hμ, Finset.sum_congr rfl fun j _ => hr j, sum_real, ← EReal.coe_sub, EReal.coe_add]
  rfl

/-- A factor that is a real and not negative goes into a sum. -/
theorem sum_mul_real {ι : Type} [Fintype ι] (f : ι → EReal) {c : ℝ} (hc : 0 ≤ c) : (∑ j, f j) * (c : EReal) = ∑ j, f j * (c : EReal) := by
  classical
  refine Finset.induction_on (Finset.univ : Finset ι) (by simp) fun i t hi ih => ?_
  rw [Finset.sum_insert hi, Finset.sum_insert hi,
    EReal.right_distrib_of_nonneg_of_ne_top (EReal.coe_nonneg.mpr hc) (EReal.coe_ne_top c), ih]

/-- The sum of the weighted values divided by the mass is the sum of the values under the divided weights, whether the
    scores are those of a set or those of a larger one on which the further scores are minus infinity. A value under a
    score of minus infinity is of no account. -/
theorem value_eq {κ ι : Type} [Fintype κ] [Fintype ι] (sK vK : κ → EReal) (sR vR : ι → EReal) (e : ι → κ)
    (he : Function.Injective e) (hout : ∀ t, (∀ n, e n ≠ t) → sK t = ⊥) (hs : ∀ n, sK (e n) = sR n)
    (hv : ∀ n, sR n ≠ ⊥ → vK (e n) = vR n) (hfin : ∀ n, sR n ≠ ⊤) (a : ℝ) :
    Ideal.div (∑ t, Ideal.exp (sK t - top sK a) * vK t) (mass sK a)
      = ∑ n, vR n * Ideal.div (Ideal.exp (sR n - top sR a)) (mass sR a) := by
  have hK : ∀ t, sK t ≠ ⊤ := fun t => by
    by_cases h : ∃ n, e n = t
    · obtain ⟨n, rfl⟩ := h; rw [hs]; exact hfin n
    · rw [hout t fun n hn => h ⟨n, hn⟩]; exact bot_ne_top
  have htop : top sK a = top sR a := by
    apply le_antisymm
    · refine top_le (fun t => ?_) (le_max_right _ _)
      by_cases h : ∃ n, e n = t
      · obtain ⟨n, rfl⟩ := h; rw [hs]; exact le_top sR _ n
      · rw [hout t fun n hn => h ⟨n, hn⟩]; exact bot_le
    · exact top_le (fun n => (hs n) ▸ le_top sK _ (e n)) (le_max_right _ _)
  obtain ⟨μ, hμ⟩ := top_real hfin a
  have h0 : ∀ t, t ∉ Set.range e → Ideal.exp (sK t - μ) = 0 := fun t ht => by
    rw [hout t fun n hn => ht ⟨n, hn⟩, EReal.bot_sub]; rfl
  have hmass : mass sK a = mass sR a := by
    unfold mass
    rw [htop, hμ]
    congr 1
    exact (Fintype.sum_of_injective e he _ _ h0 fun n => by rw [hs]).symm
  obtain ⟨D, hD, hDe⟩ := mass_real hfin a
  rw [hmass, hDe, htop, hμ, Ideal.div_coe hD.ne', sum_mul_real _ (one_div_pos.mpr hD).le]
  refine (Fintype.sum_of_injective e he _ _ (fun t ht => by rw [h0 t ht, zero_mul, zero_mul]) fun n => ?_).symm
  rw [hs, Ideal.div_coe hD.ne', mul_comm (vR n), mul_assoc, mul_assoc, mul_comm (vK (e n))]
  by_cases hb : sR n = ⊥
  · rw [hb, EReal.bot_sub]
    show (0 : EReal) * _ = 0 * _
    rw [zero_mul, zero_mul]
  · rw [hv n hb]

end Cert.SinkSoftmax

end
-- ==== Proof.SwaValue.lean ====
/-
  The prompt's attention kernel: an element of its result as a softmax over the 256 keys of a query block's band.
-/
module

public import proofs.«01_k».proof.Proof.SwaBlock
public import proofs.«01_k».proof.Proof.SinkSoftmax
public import Idealize.ShloMosaic.Lib.Tactic.CleanTypes
public import Idealize.ShloMosaic.Lib.Claim
public import Idealize.ShloMosaic.Lib.Pipeline.ValueKit.Point

@[expose] public section

set_option maxRecDepth 16384

noncomputable section

namespace Cert.SwaValue

open Cert.KernelIdeal Cert.KernelIdeal.Gen Cert.SwaBlock Cert.SinkSoftmax Idealize.ShloMosaic Idealize.ShloMosaic.TcCoe Idealize.SL.Sem

/-! ## One tile -/

/-- The score of query row `r` of a tile with key `t` of the band. -/
def score (b : FVec Ideal S128x256 .f32) (q : FVec Ideal S128x128 .bf16) (k : FVec Ideal S256x128 .bf16) (r : Fin 128) (t : Fin 256) : EReal :=
  (∑ x : Fin 128, q (ix2 r x) * k (ix2 t x)) + b (ix2 r t)

theorem neg_inf : Ideal.ofBits FTy.f32 0xFF800000#32 = ⊥ := by
  simp [Ideal.ofBits, Ideal.ieee]

theorem tile_apply (b : FVec Ideal S128x256 .f32) (k v : FVec Ideal S256x128 .bf16) (q : FVec Ideal S128x128 .bf16) (sk : Ideal .f32) (r d : Fin 128) :
    k0_pay14 b k v q sk (ix2 r d)
      = Ideal.div (∑ t, Ideal.exp (score b q k r t - top (score b q k r) sk) * v (ix2 t d)) (mass (score b q k r) sk) := by
  pointwise [k0_pay14]
  rw [neg_inf]
  rfl

theorem pair_apply (x y : FVec Ideal S128x128 .bf16) (t : Fin 256) (d : Fin 128) :
    k0_pay8 x y (ix2 t d) = if h : t.val < 128 then x (ix2 ⟨t.val, h⟩ d) else y (ix2 ⟨t.val - 128, by omega⟩ d) := by
  pointwise [k0_pay8]

/-! ## The mask -/

/-- The chunk of a position below 256, as the kernel's integer division rounded down computes it. -/
theorem floor64 : ∀ t : Fin 256, (Scalar.select
            (IntOp.andi
              (IntOp.cmpi CmpIPredicate.ne
                (IntOp.subi (BitVec.setWidth 32 (IntOp.cmpi CmpIPredicate.sgt (BitVec.ofNat 32 t.val) 0#32))
                  (BitVec.setWidth 32 (IntOp.cmpi CmpIPredicate.slt (BitVec.ofNat 32 t.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 t.val) 64#32) 0#32))
            (IntOp.subi (IntOp.divsi ArithUnit.vector (BitVec.ofNat 32 t.val) 64#32) 1#32)
            (IntOp.divsi ArithUnit.vector (BitVec.ofNat 32 t.val) 64#32)) = BitVec.ofNat 32 (t.val / 64) := by
  decide +kernel

/-- The mask's bit from the two chunks and the block's number. -/
theorem bit_eq : ∀ (i : Fin 64) (p q : Fin 4), IntOp.andi
        (IntOp.andi (IntOp.cmpi CmpIPredicate.sge (BitVec.ofNat 32 q.val) (BitVec.ofNat 32 p.val))
          (IntOp.cmpi CmpIPredicate.sle (BitVec.ofNat 32 q.val) (IntOp.addi (BitVec.ofNat 32 p.val) 2#32)))
        (IntOp.cmpi CmpIPredicate.sge (BitVec.ofNat 32 q.val)
          (Scalar.select (Scalar.cmpi CmpIPredicate.sgt (BitVec.ofNat 32 i.val) 0#32) 0#32 2#32))
      = BitVec.ofBool (decide (p.val ≤ q.val ∧ q.val ≤ p.val + 2 ∧ (i.val = 0 → 2 ≤ q.val))) := by
  decide +kernel

theorem mask_apply (i : Fin 64) (r : Fin 128) (t : Fin 256) :
    mask i.val (ix2 r t)
      = if r.val / 64 ≤ t.val / 64 ∧ t.val / 64 ≤ r.val / 64 + 2 ∧ (i.val = 0 → 2 ≤ t.val / 64) then (0 : EReal) else ⊥ := by
  unfold mask
  pointwise [k0_pay7, k0_pay2, k0_pay3, k0_pay4, k0_pay5, k0_pay6]
  rw [floor64 t, floor64 ⟨r.val, by omega⟩, bit_eq i ⟨r.val / 64, by omega⟩ ⟨t.val / 64, by omega⟩,
    IdealRules.named_const.ideal_named_scalar _ _ _ _ rfl]
  by_cases h : r.val / 64 ≤ t.val / 64 ∧ t.val / 64 ≤ r.val / 64 + 2 ∧ (i.val = 0 → 2 ≤ t.val / 64)
  · rw [if_pos h]
    show Scalar.select (BitVec.ofBool (decide (r.val / 64 ≤ t.val / 64 ∧ t.val / 64 ≤ r.val / 64 + 2 ∧ (i.val = 0 → 2 ≤ t.val / 64)))) _ _ = _
    rw [decide_eq_true h]; rfl
  · rw [if_neg h]
    show Scalar.select (BitVec.ofBool (decide (r.val / 64 ≤ t.val / 64 ∧ t.val / 64 ≤ r.val / 64 + 2 ∧ (i.val = 0 → 2 ≤ t.val / 64)))) _ _ = _
    rw [decide_eq_false h]; rfl

/-! ## The arrays the region reads -/

theorem rows_q (Q : FVec Ideal S2x8192x32x128 .f32) (Q' : FVec Ideal S8x32x32x128 .f32) (h₁ h₂ h₃) (b : Fin 2) (s : Fin 8192) (h : Fin 32) (x : Fin 128) :
    concatenate S16640x4096 0 [⟨S16384x4096, shapeCast S16384x4096 Q h₁⟩, ⟨S256x4096, shapeCast S256x4096 Q' h₂⟩] h₃
      (ix2 ⟨b.val * 8192 + s.val, by omega⟩ ⟨h.val * 128 + x.val, by omega⟩) = Q (ix4 b s h x) := by
  refine (concatenate_pair_apply_left 0 (shapeCast S16384x4096 Q h₁) (shapeCast S256x4096 Q' h₂) h₃ _ rfl (ix2 (⟨b.val * 8192 + s.val, by omega⟩ : Fin 16384) (⟨h.val * 128 + x.val, by omega⟩ : Fin 4096))
    (fun a => match a with | ⟨0, _⟩ => rfl | ⟨1, _⟩ => rfl)).trans ?_
  refine shapeCast_apply _ _ _ _ ?_
  rw [Shape.rowMajor_val_four, Shape.rowMajor_val_two]
  show ((b.val * 8192 + s.val) * 32 + h.val) * 128 + x.val = (b.val * 8192 + s.val) * 4096 + (h.val * 128 + x.val)
  omega

theorem rows_kv (K : FVec Ideal S2x8192x8x128 .f32) (K' : FVec Ideal S8x32x8x128 .f32) (h₁ h₂ h₃) (b : Fin 2) (s : Fin 8192) (h : Fin 8) (x : Fin 128) :
    concatenate S16640x1024 0 [⟨S16384x1024, shapeCast S16384x1024 K h₁⟩, ⟨S256x1024, shapeCast S256x1024 K' h₂⟩] h₃
      (ix2 ⟨b.val * 8192 + s.val, by omega⟩ ⟨h.val * 128 + x.val, by omega⟩) = K (ix4 b s h x) := by
  refine (concatenate_pair_apply_left 0 (shapeCast S16384x1024 K h₁) (shapeCast S256x1024 K' h₂) h₃ _ rfl (ix2 (⟨b.val * 8192 + s.val, by omega⟩ : Fin 16384) (⟨h.val * 128 + x.val, by omega⟩ : Fin 1024))
    (fun a => match a with | ⟨0, _⟩ => rfl | ⟨1, _⟩ => rfl)).trans ?_
  refine shapeCast_apply _ _ _ _ ?_
  rw [Shape.rowMajor_val_four, Shape.rowMajor_val_two]
  show ((b.val * 8192 + s.val) * 8 + h.val) * 128 + x.val = (b.val * 8192 + s.val) * 1024 + (h.val * 128 + x.val)
  omega

/-- The scale of the scores, as the program's literal. -/
def scale : EReal := Ideal.ofBits .f32 0x3DB504F3#32

variable (m : (ℓ : Loc nD τ sig) → Buf (Elt Ideal) ℓ) (c : Dev nD)

section entry
variable (Q : FVec Ideal S2x8192x32x128 .f32) (K W : FVec Ideal S2x8192x8x128 .f32) (Z : FVec Ideal S32 .f32)
  (hQ : m ((c : Thread nD τ).loc main_arg0) = Q) (hK : m ((c : Thread nD τ).loc main_arg1) = K)
  (hW : m ((c : Thread nD τ).loc main_arg2) = W) (hZ : m ((c : Thread nD τ).loc main_arg6) = Z)

include hQ in
theorem V7 (b : Fin 2) (s : Fin 8192) (h : Fin 32) (x : Fin 128) :
    (V m c main_v7 : FVec Ideal S16640x4096 .bf16) (ix2 ⟨b.val * 8192 + s.val, by omega⟩ ⟨h.val * 128 + x.val, by omega⟩)
      = Q (ix4 b s h x) * scale := by
  subst hQ
  entry_read
  exact rows_q (mulf (m ((c : Thread nD τ).loc main_arg0)) (broadcastInDim S2x8192x32x128 ![] bcast_S_S2x8192x32x128 (constant S_ FTy.f32 0x3DB504F3#32))) _ _ _ concatenates_S16384x4096_S256x4096_S16640x4096_d0 b s h x

include hK in
theorem V11 (b : Fin 2) (s : Fin 8192) (h : Fin 8) (x : Fin 128) :
    (V m c main_v11 : FVec Ideal S16640x1024 .bf16) (ix2 ⟨b.val * 8192 + s.val, by omega⟩ ⟨h.val * 128 + x.val, by omega⟩)
      = K (ix4 b s h x) := by
  subst hK
  entry_read
  exact rows_kv _ _ _ _ concatenates_S16384x1024_S256x1024_S16640x1024_d0 b s h x

include hW in
theorem V15 (b : Fin 2) (s : Fin 8192) (h : Fin 8) (x : Fin 128) :
    (V m c main_v15 : FVec Ideal S16640x1024 .bf16) (ix2 ⟨b.val * 8192 + s.val, by omega⟩ ⟨h.val * 128 + x.val, by omega⟩)
      = W (ix4 b s h x) := by
  subst hW
  entry_read
  exact rows_kv _ _ _ _ concatenates_S16384x1024_S256x1024_S16640x1024_d0 b s h x

end entry

/-! ## The grid -/

/-- The grid point of batch `b` and query block `i`. -/
def pt (b : Fin 2) (i : Fin 64) : Fin cfg0.N :=
  (⟨b.val * 64 + i.val, lt_of_lt_of_eq (by omega : b.val * 64 + i.val < 128) (by decide : 128 = grid0.N)⟩ : Fin grid0.N)

theorem pt_coord : ∀ (b : Fin 2) (i : Fin 64), (grid0.coords (pt b i) 1).val = i.val := by decide +kernel

theorem widx : ∀ (b : Fin 2) (i : Fin 64), win0_1.index (pt b i) = ![b.val * 64 + i.val, 0]
    ∧ win0_2.index (pt b i) = ![b.val * 64 + (i.val - 1), 0]
    ∧ win0_3.index (pt b i) = ![b.val * 64 + i.val, 0]
    ∧ win0_4.index (pt b i) = ![b.val * 64 + (i.val - 1), 0]
    ∧ win0_5.index (pt b i) = ![b.val * 64 + i.val, 0]
    ∧ win0_6.index (pt b i) = ![b.val * 64 + i.val, 0]
    ∧ win0_0.index (pt b i) = ![0] := by decide +kernel

theorem emb1 (b : Fin 2) (i : Fin 64) (r : Fin 128) (l : Fin 4096) :
    ((cfg0.win 1).blk (pt b i)).view.emb (ix2 r l) = ix2 (⟨b.val * 8192 + (i.val * 128 + r.val), by omega⟩ : Fin 16640) l := by
  blk_ext [(widx b i).1]

theorem emb2 (b : Fin 2) (i : Fin 64) (r : Fin 128) (l : Fin 1024) :
    ((cfg0.win 2).blk (pt b i)).view.emb (ix2 r l) = ix2 (⟨b.val * 8192 + ((i.val - 1) * 128 + r.val), by omega⟩ : Fin 16640) l := by
  blk_ext [(widx b i).2.1]

theorem emb3 (b : Fin 2) (i : Fin 64) (r : Fin 128) (l : Fin 1024) :
    ((cfg0.win 3).blk (pt b i)).view.emb (ix2 r l) = ix2 (⟨b.val * 8192 + (i.val * 128 + r.val), by omega⟩ : Fin 16640) l := by
  blk_ext [(widx b i).2.2.1]

theorem emb4 (b : Fin 2) (i : Fin 64) (r : Fin 128) (l : Fin 1024) :
    ((cfg0.win 4).blk (pt b i)).view.emb (ix2 r l) = ix2 (⟨b.val * 8192 + ((i.val - 1) * 128 + r.val), by omega⟩ : Fin 16640) l := by
  blk_ext [(widx b i).2.2.2.1]

theorem emb5 (b : Fin 2) (i : Fin 64) (r : Fin 128) (l : Fin 1024) :
    ((cfg0.win 5).blk (pt b i)).view.emb (ix2 r l) = ix2 (⟨b.val * 8192 + (i.val * 128 + r.val), by omega⟩ : Fin 16640) l := by
  blk_ext [(widx b i).2.2.2.2.1]

theorem emb6 (b : Fin 2) (i : Fin 64) (r : Fin 128) (l : Fin 4096) :
    ((cfg0.win 6).blk (pt b i)).view.emb (ix2 r l) = ix2 (⟨b.val * 8192 + (i.val * 128 + r.val), by omega⟩ : Fin 16384) l := by
  blk_ext [(widx b i).2.2.2.2.2.1]

theorem emb0 (b : Fin 2) (i : Fin 64) (h : Fin 32) :
    ((cfg0.win 0).blk (pt b i)).view.emb (ix1 h) = ix1 h := by
  blk_ext [(widx b i).2.2.2.2.2.2]

/-! ## The result -/

/-- Key (or value) `t` of the band of query block `i`: the block before, then the block itself. -/
def band (K : FVec Ideal S2x8192x8x128 .f32) (b : Fin 2) (i : Fin 64) (g : Fin 8) (t : Fin 256) (x : Fin 128) : EReal :=
  if t.val < 128 then K (ix4 b ⟨(i.val - 1) * 128 + t.val % 128, by omega⟩ g x)
  else K (ix4 b ⟨i.val * 128 + t.val % 128, by omega⟩ g x)

/-- The kernel's scores of query `i * 128 + r` of head `h` with the band's keys. -/
def scoreK (Q : FVec Ideal S2x8192x32x128 .f32) (K : FVec Ideal S2x8192x8x128 .f32) (b : Fin 2) (i : Fin 64) (r : Fin 128) (h : Fin 32) (t : Fin 256) : EReal :=
  (∑ x : Fin 128, Q (ix4 b ⟨i.val * 128 + r.val, by omega⟩ h x) * scale * band K b i ⟨h.val / 4, by omega⟩ t x) + mask i.val (ix2 r t)

theorem ld_q (X : Vec Ideal S128x4096 .bf16) (h : Fin 32) (r x : Fin 128) :
    View.ld X (rq h) (ix2 r x) = X (ix2 r ⟨h.val * 128 + x.val, by omega⟩) := by
  show X _ = X _
  congr 1
  funext a
  apply Fin.ext
  match a with
  | ⟨0, _⟩ => show 0 + 1 * r.val = r.val; omega
  | ⟨1, _⟩ => show 128 * h.val + 1 * x.val = h.val * 128 + x.val; omega

theorem ld_kv (X : Vec Ideal S128x1024 .bf16) (h : Fin 8) (r x : Fin 128) :
    View.ld X (rkv h) (ix2 r x) = X (ix2 r ⟨h.val * 128 + x.val, by omega⟩) := by
  show X _ = X _
  congr 1
  funext a
  apply Fin.ext
  match a with
  | ⟨0, _⟩ => show 0 + 1 * r.val = r.val; omega
  | ⟨1, _⟩ => show 128 * h.val + 1 * x.val = h.val * 128 + x.val; omega

theorem block_apply (Q : FVec Ideal S2x8192x32x128 .f32) (K W : FVec Ideal S2x8192x8x128 .f32) (z : EReal)
    (b : Fin 2) (i : Fin 64) (r : Fin 128) (h : Fin 32) (d : Fin 128)
    (X0 : Vec Ideal S32 .f32) (X1 : Vec Ideal S128x4096 .bf16) (X2 X3 X4 X5 : Vec Ideal S128x1024 .bf16)
    (e0 : X0 (ix1 h) = z)
    (e1 : ∀ (r : Fin 128) (h : Fin 32) (x : Fin 128), X1 (ix2 r ⟨h.val * 128 + x.val, by omega⟩) = Q (ix4 b ⟨i.val * 128 + r.val, by omega⟩ h x) * scale)
    (e2 : ∀ (r : Fin 128) (h : Fin 8) (x : Fin 128), X2 (ix2 r ⟨h.val * 128 + x.val, by omega⟩) = K (ix4 b ⟨(i.val - 1) * 128 + r.val, by omega⟩ h x))
    (e3 : ∀ (r : Fin 128) (h : Fin 8) (x : Fin 128), X3 (ix2 r ⟨h.val * 128 + x.val, by omega⟩) = K (ix4 b ⟨i.val * 128 + r.val, by omega⟩ h x))
    (e4 : ∀ (r : Fin 128) (h : Fin 8) (x : Fin 128), X4 (ix2 r ⟨h.val * 128 + x.val, by omega⟩) = W (ix4 b ⟨(i.val - 1) * 128 + r.val, by omega⟩ h x))
    (e5 : ∀ (r : Fin 128) (h : Fin 8) (x : Fin 128), X5 (ix2 r ⟨h.val * 128 + x.val, by omega⟩) = W (ix4 b ⟨i.val * 128 + r.val, by omega⟩ h x)) :
    block i.val X0 X1 X2 X3 X4 X5 (ix2 r ⟨h.val * 128 + d.val, by omega⟩)
      = Ideal.div (∑ t, Ideal.exp (scoreK Q K b i r h t - top (scoreK Q K b i r h) z) * band W b i ⟨h.val / 4, by omega⟩ t d)
          (mass (scoreK Q K b i r h) z) := by
  have hp : ∀ (Y Y' : Vec Ideal S128x1024 .bf16) (K : FVec Ideal S2x8192x8x128 .f32)
      (_ : ∀ (r : Fin 128) (h : Fin 8) (x : Fin 128), Y (ix2 r ⟨h.val * 128 + x.val, by omega⟩) = K (ix4 b ⟨(i.val - 1) * 128 + r.val, by omega⟩ h x))
      (_ : ∀ (r : Fin 128) (h : Fin 8) (x : Fin 128), Y' (ix2 r ⟨h.val * 128 + x.val, by omega⟩) = K (ix4 b ⟨i.val * 128 + r.val, by omega⟩ h x))
      (t : Fin 256) (x : Fin 128), k0_pay8 (View.ld Y (rkv ⟨h.val / 4, by omega⟩)) (View.ld Y' (rkv ⟨h.val / 4, by omega⟩)) (ix2 t x)
        = band K b i ⟨h.val / 4, by omega⟩ t x := fun Y Y' K hY hY' t x => by
    rw [pair_apply]; unfold band
    by_cases ht : t.val < 128
    · rw [dif_pos ht, if_pos ht, ld_kv, hY]
      exact congrArg (fun j => K (ix4 b j ⟨h.val / 4, by omega⟩ x)) (Fin.ext (by dsimp only; omega))
    · rw [dif_neg ht, if_neg ht, ld_kv, hY']
      exact congrArg (fun j => K (ix4 b j ⟨h.val / 4, by omega⟩ x)) (Fin.ext (by dsimp only; omega))
  have hs : score (mask i.val) (View.ld X1 (rq h)) (k0_pay8 (View.ld X2 (rkv ⟨h.val / 4, by omega⟩)) (View.ld X3 (rkv ⟨h.val / 4, by omega⟩))) r
      = scoreK Q K b i r h := by
    funext t
    unfold score scoreK
    congr 1
    refine Finset.sum_congr rfl fun x _ => ?_
    rw [hp X2 X3 K e2 e3, ld_q, e1]
  have he : (rq h).emb (ix2 r d) = ix2 r ⟨h.val * 128 + d.val, by omega⟩ := by
    funext a
    apply Fin.ext
    match a with
    | ⟨0, _⟩ => show 0 + 1 * r.val = r.val; omega
    | ⟨1, _⟩ => show 128 * h.val + 1 * d.val = h.val * 128 + d.val; omega
  have hb := block_rq i.val X0 X1 X2 X3 X4 X5 h (ix2 r d)
  rw [he] at hb
  refine hb.trans ?_
  unfold tile
  rw [tile_apply, hs, e0]
  congr 1
  exact Finset.sum_congr rfl fun t _ => congrArg _ (hp X4 X5 W e4 e5 t d)

theorem kernel_apply (Q : FVec Ideal S2x8192x32x128 .f32) (K W : FVec Ideal S2x8192x8x128 .f32) (Z : FVec Ideal S32 .f32)
    (hQ : m ((c : Thread nD τ).loc main_arg0) = Q) (hK : m ((c : Thread nD τ).loc main_arg1) = K)
    (hW : m ((c : Thread nD τ).loc main_arg2) = W) (hZ : m ((c : Thread nD τ).loc main_arg6) = Z)
    (b : Fin 2) (i : Fin 64) (r : Fin 128) (h : Fin 32) (d : Fin 128) :
    ((dats m 0 c).arrAt 6 cfg0.N : FVec Ideal S16384x4096 .bf16)
        (ix2 ⟨b.val * 8192 + (i.val * 128 + r.val), by omega⟩ ⟨h.val * 128 + d.val, by omega⟩)
      = Ideal.div (∑ t, Ideal.exp (scoreK Q K b i r h t - top (scoreK Q K b i r h) (Z (ix1 h))) * band W b i ⟨h.val / 4, by omega⟩ t d)
          (mass (scoreK Q K b i r h) (Z (ix1 h))) := by
  have hf := (dats m 0 c).arrAt_emb_eq_flushed 6 Value.disjoint6 (pt b i) (flush0_6 _) (ix2 r ⟨h.val * 128 + d.val, by omega⟩)
  rw [emb6] at hf
  refine hf.trans ?_
  show (dats m 0 c).after 6 (pt b i) (ix2 r ⟨h.val * 128 + d.val, _⟩) = _
  rw [after0_6, outsAt_eq, pt_coord]
  refine block_apply Q K W (Z (ix1 h)) b i r h d _ _ _ _ _ _ ?_ ?_ ?_ ?_ ?_ ?_
  · show V m c main_arg6 (((cfg0.win 0).blk (pt b i)).view.emb (ix1 h)) = _
    rw [emb0, V_main_arg6]; exact congrFun hZ (ix1 h)
  · intro r h x
    show V m c main_v7 (((cfg0.win 1).blk (pt b i)).view.emb (ix2 r ⟨h.val * 128 + x.val, _⟩)) = _
    rw [emb1]; exact V7 m c Q hQ b ⟨i.val * 128 + r.val, by omega⟩ h x
  · intro r h x
    show V m c main_v11 (((cfg0.win 2).blk (pt b i)).view.emb (ix2 r ⟨h.val * 128 + x.val, _⟩)) = _
    rw [emb2]; exact V11 m c K hK b ⟨(i.val - 1) * 128 + r.val, by omega⟩ h x
  · intro r h x
    show V m c main_v11 (((cfg0.win 3).blk (pt b i)).view.emb (ix2 r ⟨h.val * 128 + x.val, _⟩)) = _
    rw [emb3]; exact V11 m c K hK b ⟨i.val * 128 + r.val, by omega⟩ h x
  · intro r h x
    show V m c main_v15 (((cfg0.win 4).blk (pt b i)).view.emb (ix2 r ⟨h.val * 128 + x.val, _⟩)) = _
    rw [emb4]; exact V15 m c W hW b ⟨(i.val - 1) * 128 + r.val, by omega⟩ h x
  · intro r h x
    show V m c main_v15 (((cfg0.win 5).blk (pt b i)).view.emb (ix2 r ⟨h.val * 128 + x.val, _⟩)) = _
    rw [emb5]; exact V15 m c W hW b ⟨i.val * 128 + r.val, by omega⟩ h x

end Cert.SwaValue

end
-- ==== Proof.SwaReference.lean ====
/-
  The reference's sliding-window attention: an element of its result as a softmax over the 192 keys of a chunk's band.
-/
module

public import proofs.«01_k».proof.Proof.SinkSoftmax
public import proofs.«01_k».proof.Proof.Gen.ReferenceIdeal.Read
public import Idealize.ShloMosaic.Lib.Pointwise
public import Idealize.ShloMosaic.Lib.KernelVsHost

@[expose] public section

set_option maxRecDepth 16384

noncomputable section

namespace Cert.SwaReference

open Cert.ReferenceIdeal Cert.ReferenceIdeal.Gen Cert.ReferenceIdeal.Read Cert.SinkSoftmax Idealize.ShloMosaic Idealize.ShloMosaic.TcCoe Idealize.SL.Sem

/-! ## The band of a chunk -/

/-- Key (or value) `n` of the band of chunk `c`: the two chunks before it, zeros before the first, and itself. -/
def keyR (K : FVec Ideal S2x8192x8x128 .f32) (b : Fin 2) (c : Fin 128) (g : Fin 8) (n : Fin 192) (x : Fin 128) : EReal :=
  if h : 128 ≤ c.val * 64 + n.val then K (ix4 b ⟨c.val * 64 + n.val - 128, by omega⟩ g x) else 0

theorem pad_read (K : FVec Ideal S2x8192x8x128 .f32) (b : Fin 2) (c : Fin 130) (r : Fin 64) (g : Fin 8) (x : Fin 128) :
    val_main_v2 (F := Ideal) K (ix5 b c r g x)
      = if h : 2 ≤ c.val then K (ix4 b ⟨(c.val - 2) * 64 + r.val, by omega⟩ g x) else 0 := by
  unfold val_main_v2
  by_cases h : 2 ≤ c.val
  · rw [dif_pos h]
    refine (pad_apply_of_inside _ _ _ _ _ _ _ (ix5 b c r g x) (ix5 b (⟨c.val - 2, by omega⟩ : Fin 128) r g x) (fun a => ?_)).trans ?_
    · match a with
      | ⟨0, _⟩ => show b.val = 0 + b.val * (0 + 1); omega
      | ⟨1, _⟩ => show c.val = 2 + (c.val - 2) * (0 + 1); omega
      | ⟨2, _⟩ => show r.val = 0 + r.val * (0 + 1); omega
      | ⟨3, _⟩ => show g.val = 0 + g.val * (0 + 1); omega
      | ⟨4, _⟩ => show x.val = 0 + x.val * (0 + 1); omega
    · unfold val_main_v1
      refine shapeCast_apply _ _ _ _ ?_
      rw [Shape.rowMajor_val_four, Shape.rowMajor_val_five]
      show ((b.val * 8192 + ((c.val - 2) * 64 + r.val)) * 8 + g.val) * 128 + x.val = (((b.val * 128 + (c.val - 2)) * 64 + r.val) * 8 + g.val) * 128 + x.val
      omega
  · rw [dif_neg h]
    refine (pad_apply_of_not_inside _ _ _ _ _ _ _ (ix5 b c r g x) ⟨1, by decide⟩ (fun ha => h ?_)).trans ?_
    · exact ha.1
    · show (((0#32 : BitVec 32).toInt : ℝ) : EReal) = 0
      simp

theorem band_read (K : FVec Ideal S2x8192x8x128 .f32) (b : Fin 2) (c : Fin 128) (n : Fin 192) (g : Fin 8) (x : Fin 128) :
    val_main_v6 (F := Ideal) K (ix5 b c n g x) = keyR K b c g n x := by
  have key : ∀ (o : Nat) (ho : o ≤ 2) (r : Fin 64) (hr : n.val = o * 64 + r.val),
      val_main_v2 (F := Ideal) K (ix5 b ⟨o + c.val, by omega⟩ r g x) = keyR K b c g n x := fun o ho r hr => by
    rw [pad_read]; unfold keyR
    by_cases h : 2 ≤ o + c.val
    · rw [dif_pos h, dif_pos (by omega)]
      exact congrArg (fun j => K (ix4 b j g x)) (Fin.ext (by dsimp only; omega))
    · rw [dif_neg h, dif_neg (by omega)]
  unfold val_main_v6
  by_cases h0 : n.val < 64
  · refine (concatenate_apply_piece 2 _ _ (ix5 b c n g x) 0 (by simp) S2x128x64x8x128 _ rfl rfl 0 rfl (ix5 b c ⟨n.val, h0⟩ g x) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show 0 + n.val = n.val; omega
    · rw [val_main_v3_apply, ← key 0 (by omega) ⟨n.val, h0⟩ (by dsimp only; omega)]
      congr 1; funext a; apply Fin.ext
      match a with
      | ⟨0, _⟩ => rfl
      | ⟨1, _⟩ => show c.val = 0 + c.val; omega
      | ⟨2, _⟩ => rfl
      | ⟨3, _⟩ => rfl
      | ⟨4, _⟩ => rfl
  · by_cases h1 : n.val < 128
    · refine (concatenate_apply_piece 2 _ _ (ix5 b c n g x) 1 (by simp) S2x128x64x8x128 _ rfl rfl 64 rfl (ix5 b c ⟨n.val - 64, by omega⟩ g x) (fun a ha => ?_) ?_).trans ?_
      · match a with
        | ⟨0, _⟩ => rfl
        | ⟨1, _⟩ => rfl
        | ⟨2, _⟩ => exact absurd rfl ha
        | ⟨3, _⟩ => rfl
        | ⟨4, _⟩ => rfl
      · show 64 + (n.val - 64) = n.val; omega
      · rw [val_main_v4_apply, ← key 1 (by omega) ⟨n.val - 64, by omega⟩ (by dsimp only; omega)]
        congr 1; funext a; apply Fin.ext
        match a with
        | ⟨0, _⟩ => rfl
        | ⟨1, _⟩ => rfl
        | ⟨2, _⟩ => rfl
        | ⟨3, _⟩ => rfl
        | ⟨4, _⟩ => rfl
    · refine (concatenate_apply_piece 2 _ _ (ix5 b c n g x) 2 (by simp) S2x128x64x8x128 _ rfl rfl 128 rfl (ix5 b c ⟨n.val - 128, by omega⟩ g x) (fun a ha => ?_) ?_).trans ?_
      · match a with
        | ⟨0, _⟩ => rfl
        | ⟨1, _⟩ => rfl
        | ⟨2, _⟩ => exact absurd rfl ha
        | ⟨3, _⟩ => rfl
        | ⟨4, _⟩ => rfl
      · show 128 + (n.val - 128) = n.val; omega
      · rw [val_main_v5_apply, ← key 2 (by omega) ⟨n.val - 128, by omega⟩ (by dsimp only; omega)]
        congr 1; funext a; apply Fin.ext
        match a with
        | ⟨0, _⟩ => rfl
        | ⟨1, _⟩ => rfl
        | ⟨2, _⟩ => rfl
        | ⟨3, _⟩ => rfl
        | ⟨4, _⟩ => rfl

theorem band_read_v (W : FVec Ideal S2x8192x8x128 .f32) (b : Fin 2) (c : Fin 128) (n : Fin 192) (g : Fin 8) (x : Fin 128) :
    val_main_v12 (F := Ideal) W (ix5 b c n g x) = keyR W b c g n x :=
  band_read W b c n g x

theorem query_read (Q : FVec Ideal S2x8192x32x128 .f32) (b : Fin 2) (c : Fin 128) (r : Fin 64) (g : Fin 8) (j : Fin 4) (x : Fin 128) :
    val_main_v0 (F := Ideal) Q (ix6 b c r g j x) = Q (ix4 b ⟨c.val * 64 + r.val, by omega⟩ ⟨g.val * 4 + j.val, by omega⟩ x) := by
  unfold val_main_v0
  refine shapeCast_apply _ _ _ _ ?_
  rw [Shape.rowMajor_val_four, Idealize.ShloMosaic.rowMajor_val6 (ix6 b c r g j x) _ _ _ _ _ rfl rfl rfl rfl rfl]
  show ((b.val * 8192 + (c.val * 64 + r.val)) * 32 + (g.val * 4 + j.val)) * 128 + x.val
    = b.val * (128 * (64 * (8 * (4 * 128)))) + c.val * (64 * (8 * (4 * 128))) + r.val * (8 * (4 * 128)) + g.val * (4 * 128) + j.val * 128 + x.val
  omega

/-! ## Which keys are visible -/

theorem chunk_of : ∀ n : Fin 192, val_main_v16 (F := Ideal) (ix1 n) = BitVec.ofNat 32 (n.val / 64) := by
  decide +kernel

theorem visible_bit : ∀ (c : Fin 128) (p : Fin 3), IntOp.cmpi .sge (IntOp.subi (IntOp.addi (BitVec.ofNat 32 c.val) (BitVec.ofNat 32 p.val)) 2#32) 0#32
    = BitVec.ofBool (decide (2 ≤ c.val + p.val)) := by
  decide +kernel

theorem visible (c : Fin 128) (n : Fin 192) :
    val_main_v28 (F := Ideal) (ix2 c n) = BitVec.ofBool (decide (128 ≤ c.val * 64 + n.val)) := by
  have e : decide (128 ≤ c.val * 64 + n.val) = decide (2 ≤ c.val + n.val / 64) := decide_eq_decide.mpr (by omega)
  have h16 : val_main_v19 (F := Ideal) (ix2 c n) = BitVec.ofNat 32 (n.val / 64) := by
    rw [val_main_v19_apply, val_main_v17_apply, ← chunk_of n]
    congr 1
    funext a
    match a with | ⟨0, _⟩ => rfl
  have h14 : val_main_v18 (F := Ideal) (ix2 c n) = BitVec.ofNat 32 c.val := by
    rw [val_main_v18_apply, val_main_v14_apply, val_main_v13_apply]; rfl
  rw [e, ← visible_bit c ⟨n.val / 64, by omega⟩, val_main_v28_apply, val_main_v22_apply, val_main_v20_apply, h14, h16]
  rfl

/-! ## The scores -/

/-- The scale of the scores, as the program's literal. -/
def scale : EReal := Ideal.ofBits .f32 0x3DB504F3#32

/-- The reference's scores of query `r` of chunk `c` with the band's keys. -/
def scoreR (Q : FVec Ideal S2x8192x32x128 .f32) (K : FVec Ideal S2x8192x8x128 .f32) (b : Fin 2) (c : Fin 128) (g : Fin 8) (j : Fin 4) (r : Fin 64) (n : Fin 192) : EReal :=
  if 128 ≤ c.val * 64 + n.val then
    (∑ x, keyR K b c g n x * Q (ix4 b ⟨c.val * 64 + r.val, by omega⟩ ⟨g.val * 4 + j.val, by omega⟩ x)) * scale
  else ⊥

theorem neg_inf : Ideal.ofBits FTy.f32 0xFF800000#32 = ⊥ := by
  simp [Ideal.ofBits, Ideal.ieee]

theorem score_read (Q : FVec Ideal S2x8192x32x128 .f32) (K : FVec Ideal S2x8192x8x128 .f32) (b : Fin 2) (c : Fin 128) (g : Fin 8) (j : Fin 4) (r : Fin 64) (n : Fin 192) :
    val_main_v30 (F := Ideal) Q K (ix6 b c g j r n) = scoreR Q K b c g j r n := by
  have hv : val_main_call3_v1 (F := Ideal) (ix6 b c g j r n) = BitVec.ofBool (decide (128 ≤ c.val * 64 + n.val)) := by
    rw [val_main_call3_v1_apply, val_main_v29_apply, ← visible c n]
    congr 1
    funext a
    match a with | ⟨0, _⟩ => rfl | ⟨1, _⟩ => rfl
  have hs : val_main_v26 (F := Ideal) Q K (ix6 b c g j r n)
      = (∑ x, keyR K b c g n x * Q (ix4 b ⟨c.val * 64 + r.val, by omega⟩ ⟨g.val * 4 + j.val, by omega⟩ x)) * scale := by
    rw [val_main_v26_apply, val_main_v24_apply, val_main_v23_apply]
    show (∑ k, _) * scale = _
    congr 1
    refine Finset.sum_congr rfl fun x _ => ?_
    rw [← band_read K b c n g x, ← query_read Q b c r g j x]
    congr 2
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl | ⟨5, _⟩ => rfl
  rw [val_main_v30_apply, hv, hs]
  unfold scoreR
  by_cases h : 128 ≤ c.val * 64 + n.val
  · rw [if_pos h, decide_eq_true h]; rfl
  · rw [if_neg h, decide_eq_false h, ← neg_inf]; rfl

/-! ## The softmax -/

variable (Q : FVec Ideal S2x8192x32x128 .f32) (K W : FVec Ideal S2x8192x8x128 .f32) (Z : FVec Ideal S32 .f32)

theorem sink_read (b : Fin 2) (c : Fin 128) (g : Fin 8) (j : Fin 4) (r : Fin 64) :
    val_main_v34 (F := Ideal) Z (ix5 b c g j r) = Z (ix1 ⟨g.val * 4 + j.val, by omega⟩) := by
  rw [val_main_v34_apply, val_main_v33_apply, val_main_v31_apply]
  congr 1
  funext a
  match a with
  | ⟨0, _⟩ => apply Fin.ext; show (g.val * 4 + j.val) * 1 + 0 = g.val * 4 + j.val; omega

theorem max_read (b : Fin 2) (c : Fin 128) (g : Fin 8) (j : Fin 4) (r : Fin 64) :
    val_main_v35 (F := Ideal) Q K Z (ix5 b c g j r) = top (scoreR Q K b c g j r) (Z (ix1 ⟨g.val * 4 + j.val, by omega⟩)) := by
  rw [val_main_v35_apply, sink_read]
  unfold top
  show max _ _ = _
  refine congrArg (fun e => max e (Z (ix1 ⟨g.val * 4 + j.val, by omega⟩))) ?_
  unfold val_main_v32
  have hR : S2x128x8x4x64x192.Reduces [5] S2x128x8x4x64 := by decide
  refine (Host.reduce_eq_fold_single (FloatOps.maximumf (F := Ideal) (φ := .f32)) _ _ reducesTo_S2x128x8x4x64x192_S2x128x8x4x64_d5 hR h_S_ (ix5 b c g j r)).trans ?_
  show Finset.fold max (Ideal.ofBits FTy.f32 0xFF800000#32) (fun n : Fin 192 => val_main_v30 (F := Ideal) Q K (hR.lift (ix5 b c g j r) n)) Finset.univ = _
  rw [neg_inf]
  refine Finset.fold_congr fun n _ => ?_
  rw [← score_read]
  congr 1
  funext a; apply Fin.ext
  match a with | ⟨0, _⟩ => rfl | ⟨1, _⟩ => rfl | ⟨2, _⟩ => rfl | ⟨3, _⟩ => rfl | ⟨4, _⟩ => rfl | ⟨5, _⟩ => rfl

theorem exp_read (b : Fin 2) (c : Fin 128) (g : Fin 8) (j : Fin 4) (r : Fin 64) (n : Fin 192) :
    val_main_v39 (F := Ideal) Q K Z (ix6 b c g j r n)
      = Ideal.exp (scoreR Q K b c g j r n - top (scoreR Q K b c g j r) (Z (ix1 ⟨g.val * 4 + j.val, by omega⟩))) := by
  rw [val_main_v39_apply, val_main_v38_apply, score_read, val_main_v37_apply, val_main_v36_apply, ← max_read Q K Z b c g j r]
  show Ideal.exp (_ - _) = Ideal.exp (_ - _)
  congr 3
  funext a; match a with | ⟨0, _⟩ => rfl | ⟨1, _⟩ => rfl | ⟨2, _⟩ => rfl | ⟨3, _⟩ => rfl | ⟨4, _⟩ => rfl

theorem mass_read (b : Fin 2) (c : Fin 128) (g : Fin 8) (j : Fin 4) (r : Fin 64) :
    val_main_v45 (F := Ideal) Q K Z (ix5 b c g j r) = mass (scoreR Q K b c g j r) (Z (ix1 ⟨g.val * 4 + j.val, by omega⟩)) := by
  rw [val_main_v45_apply, val_main_v40_apply, val_main_v44_apply, val_main_v43_apply, max_read]
  unfold mass
  have h0 : (val_main_cst_6 (F := Ideal)) (Shape.Idx.first h_S_) = (0 : EReal) := by
    show Ideal.ofBits FTy.f32 0#32 = 0
    simp [Ideal.ofBits, Ideal.ieee]
  have hs : val_main_v42 (F := Ideal) Z (ix5 b c g j r) = Z (ix1 ⟨g.val * 4 + j.val, by omega⟩) := sink_read Z b c g j r
  rw [hs, h0, zero_add]
  show (∑ n, _) + Ideal.exp (_ - _) = _
  congr 1
  refine Finset.sum_congr rfl fun n _ => ?_
  rw [← exp_read]
  congr 1
  funext a; match a with | ⟨0, _⟩ => rfl | ⟨1, _⟩ => rfl | ⟨2, _⟩ => rfl | ⟨3, _⟩ => rfl | ⟨4, _⟩ => rfl | ⟨5, _⟩ => rfl

theorem reference_apply (b : Fin 2) (c : Fin 128) (r : Fin 64) (g : Fin 8) (j : Fin 4) (d : Fin 128) :
    val_main_v52 (F := Ideal) Q K W Z (ix2 (⟨b.val * 8192 + (c.val * 64 + r.val), by omega⟩ : Fin 16384) (⟨(g.val * 4 + j.val) * 128 + d.val, by omega⟩ : Fin 4096))
      = ∑ n, keyR W b c g n d * Ideal.div (Ideal.exp (scoreR Q K b c g j r n - top (scoreR Q K b c g j r) (Z (ix1 ⟨g.val * 4 + j.val, by omega⟩))))
          (mass (scoreR Q K b c g j r) (Z (ix1 ⟨g.val * 4 + j.val, by omega⟩))) := by
  have h50 : val_main_v50 (F := Ideal) Q K W Z (ix6 b c r g j d)
      = ∑ n, keyR W b c g n d * Ideal.div (Ideal.exp (scoreR Q K b c g j r n - top (scoreR Q K b c g j r) (Z (ix1 ⟨g.val * 4 + j.val, by omega⟩))))
          (mass (scoreR Q K b c g j r) (Z (ix1 ⟨g.val * 4 + j.val, by omega⟩))) := by
    rw [val_main_v50_apply, val_main_v49_apply]
    refine Finset.sum_congr rfl fun n _ => ?_
    have e1 : lidx_main_v49 (idx_main_v50 (ix6 b c r g j d)) n = ix5 b c n g d := by
      funext a; match a with | ⟨0, _⟩ => rfl | ⟨1, _⟩ => rfl | ⟨2, _⟩ => rfl | ⟨3, _⟩ => rfl | ⟨4, _⟩ => rfl
    have e2 : ridx_main_v49 (idx_main_v50 (ix6 b c r g j d)) n = ix6 b c g j r n := by
      funext a; match a with | ⟨0, _⟩ => rfl | ⟨1, _⟩ => rfl | ⟨2, _⟩ => rfl | ⟨3, _⟩ => rfl | ⟨4, _⟩ => rfl | ⟨5, _⟩ => rfl
    rw [e1, e2, band_read_v, val_main_v48_apply, exp_read, val_main_v47_apply, val_main_v46_apply, ← mass_read]
    show _ * Ideal.div _ _ = _ * Ideal.div _ _
    congr 3
    funext a; match a with | ⟨0, _⟩ => rfl | ⟨1, _⟩ => rfl | ⟨2, _⟩ => rfl | ⟨3, _⟩ => rfl | ⟨4, _⟩ => rfl
  rw [← h50]
  show val_main_v51 (F := Ideal) _ _ _ _ _ = _
  unfold val_main_v51
  refine shapeCast_apply _ _ _ _ ?_
  rw [Shape.rowMajor_val_two, Idealize.ShloMosaic.rowMajor_val6 (ix6 b c r g j d) _ _ _ _ _ rfl rfl rfl rfl rfl]
  show b.val * (128 * (64 * (8 * (4 * 128)))) + c.val * (64 * (8 * (4 * 128))) + r.val * (8 * (4 * 128)) + g.val * (4 * 128) + j.val * 128 + d.val
    = (b.val * 8192 + (c.val * 64 + r.val)) * 4096 + ((g.val * 4 + j.val) * 128 + d.val)
  omega

end Cert.SwaReference

end
-- ==== Proof.SwaAlgebra.lean ====
/-
  The prompt's attention: the kernel's softmax over 256 keys of a block's band is the reference's over 192 of a chunk's.
-/
module

public import proofs.«01_k».proof.Proof.SwaValue
public import proofs.«01_k».proof.Proof.SwaReference
public import proofs.«01_k».proof.Pre_finite
public import Idealize.ShloMosaic.Lib.ReduceAll

@[expose] public section

set_option maxRecDepth 16384

noncomputable section

namespace Cert.SwaAlgebra

open Cert.SinkSoftmax Cert.SwaValue Cert.SwaReference Idealize.ShloMosaic

/-- An extended real that is a real number. -/
def Real (x : EReal) : Prop := ∃ a : ℝ, x = (a : EReal)

theorem scale_real : ∃ a : ℝ, 0 ≤ a ∧ SwaReference.scale = (a : EReal) := by
  unfold SwaReference.scale
  simp only [Ideal.ofBits, Ideal.ieee]
  rw [if_neg (by decide), if_neg (by decide), if_neg (by decide)]
  exact ⟨_, by positivity, rfl⟩

theorem real_mul {x y : EReal} (hx : Real x) (hy : Real y) : Real (x * y) := by
  obtain ⟨a, rfl⟩ := hx
  obtain ⟨b, rfl⟩ := hy
  exact ⟨a * b, (EReal.coe_mul a b).symm⟩

theorem real_sum {ι : Type} [Fintype ι] (f : ι → EReal) (hf : ∀ i, Real (f i)) : Real (∑ i, f i) := by
  classical
  refine Finset.sum_induction f Real ?_ ⟨0, rfl⟩ fun i _ => hf i
  rintro _ _ ⟨a, rfl⟩ ⟨b, rfl⟩
  exact ⟨a + b, (EReal.coe_add a b).symm⟩

variable (Q : FVec Ideal ⟨4, ![2, 8192, 32, 128]⟩ .f32) (K W : FVec Ideal ⟨4, ![2, 8192, 8, 128]⟩ .f32)

/-- Where a key is visible the two bands hold the same one. -/
theorem band_eq (b : Fin 2) (i : Fin 64) (p : Fin 2) (g : Fin 8) (n : Fin 192) (x : Fin 128)
    (h : 128 ≤ (2 * i.val + p.val) * 64 + n.val) :
    band K b i g ⟨n.val + 64 * p.val, by omega⟩ x = keyR K b ⟨2 * i.val + p.val, by omega⟩ g n x := by
  unfold band keyR
  rw [dif_pos h]
  by_cases ht : n.val + 64 * p.val < 128
  · rw [if_pos ht]
    exact congrArg (fun j => K (ix4 b j g x)) (Fin.ext (by dsimp only; omega))
  · rw [if_neg ht]
    exact congrArg (fun j => K (ix4 b j g x)) (Fin.ext (by dsimp only; omega))

theorem score_eq (b : Fin 2) (i : Fin 64) (p : Fin 2) (r : Fin 64) (g : Fin 8) (j : Fin 4) (n : Fin 192) :
    scoreK Q K b i ⟨p.val * 64 + r.val, by omega⟩ ⟨g.val * 4 + j.val, by omega⟩ ⟨n.val + 64 * p.val, by omega⟩
      = scoreR Q K b ⟨2 * i.val + p.val, by omega⟩ g j r n := by
  unfold scoreK scoreR
  rw [mask_apply]
  by_cases h : 128 ≤ (2 * i.val + p.val) * 64 + n.val
  · rw [if_pos h, if_pos (by dsimp only; omega), add_zero]
    obtain ⟨a, ha, hs⟩ := scale_real
    rw [hs, sum_mul_real _ ha]
    refine Finset.sum_congr rfl fun x _ => ?_
    have hg : (⟨(g.val * 4 + j.val) / 4, by omega⟩ : Fin 8) = g := Fin.ext (by dsimp only; omega)
    have hq : (⟨i.val * 128 + (p.val * 64 + r.val), by omega⟩ : Fin 8192) = ⟨(2 * i.val + p.val) * 64 + r.val, by omega⟩ := Fin.ext (by dsimp only; omega)
    have hs' : SwaValue.scale = (a : EReal) := hs
    dsimp only
    rw [hg, hq, band_eq K b i p g n x h, hs']
    rw [mul_assoc, mul_comm, mul_comm (a : EReal) (keyR _ _ _ _ _ _)]
    rw [mul_assoc, mul_comm (a : EReal), ← mul_assoc]
  · rw [if_neg h, if_neg (by dsimp only; omega)]
    exact EReal.add_bot _

theorem score_ne_top (hQ : ∀ i, Real (Q i)) (hK : ∀ i, Real (K i)) (b : Fin 2) (c : Fin 128) (r : Fin 64) (g : Fin 8) (j : Fin 4) (n : Fin 192) :
    scoreR Q K b c g j r n ≠ ⊤ := by
  unfold scoreR
  by_cases h : 128 ≤ c.val * 64 + n.val
  · rw [if_pos h]
    obtain ⟨a, _, ha⟩ := scale_real
    obtain ⟨s, hs⟩ := real_mul (real_sum (fun x => keyR K b c g n x * Q (ix4 b ⟨c.val * 64 + r.val, by omega⟩ ⟨g.val * 4 + j.val, by omega⟩ x))
      fun x => real_mul (by unfold keyR; rw [dif_pos h]; exact hK _) (hQ _)) ⟨a, ha⟩
    rw [hs]
    exact EReal.coe_ne_top s
  · rw [if_neg h]
    exact bot_ne_top

/-- The kernel's element is the reference's. -/
theorem element_eq (hQ : ∀ i, Real (Q i)) (hK : ∀ i, Real (K i)) (a : ℝ) (b : Fin 2) (i : Fin 64) (p : Fin 2) (r : Fin 64) (g : Fin 8) (j : Fin 4) (d : Fin 128) :
    Ideal.div (∑ t, Ideal.exp (scoreK Q K b i ⟨p.val * 64 + r.val, by omega⟩ ⟨g.val * 4 + j.val, by omega⟩ t
          - top (scoreK Q K b i ⟨p.val * 64 + r.val, by omega⟩ ⟨g.val * 4 + j.val, by omega⟩) a) * band W b i g t d)
        (mass (scoreK Q K b i ⟨p.val * 64 + r.val, by omega⟩ ⟨g.val * 4 + j.val, by omega⟩) a)
      = ∑ n, keyR W b ⟨2 * i.val + p.val, by omega⟩ g n d
          * Ideal.div (Ideal.exp (scoreR Q K b ⟨2 * i.val + p.val, by omega⟩ g j r n - top (scoreR Q K b ⟨2 * i.val + p.val, by omega⟩ g j r) a))
              (mass (scoreR Q K b ⟨2 * i.val + p.val, by omega⟩ g j r) a) := by
  refine value_eq _ (fun t => band W b i g t d) _ (fun n => keyR W b ⟨2 * i.val + p.val, by omega⟩ g n d)
    (fun n => ⟨n.val + 64 * p.val, by omega⟩) (fun n n' h => Fin.ext (by have := congrArg Fin.val h; dsimp only at this; omega))
    (fun t ht => ?_) (fun n => score_eq Q K b i p r g j n) (fun n hn => band_eq W b i p g n d ?_) (fun n => score_ne_top Q K hQ hK b _ r g j n) a
  · have ho : t.val < 64 * p.val ∨ 64 * p.val + 192 ≤ t.val := by
      by_contra hc
      exact ht ⟨t.val - 64 * p.val, by omega⟩ (Fin.ext (by dsimp only; omega))
    unfold scoreK
    rw [mask_apply, if_neg (by dsimp only; omega)]
    exact EReal.add_bot _
  · by_contra hc
    refine hn ?_
    unfold scoreR
    exact if_neg hc

/-! ## The precondition -/

theorem real_of_abs_lt {x : EReal} (h : max x (-x) < ⊤) : Real x := by
  induction x with
  | bot => simp at h
  | top => simp at h
  | coe a => exact ⟨a, rfl⟩

theorem pos_inf : Ideal.ofBits FTy.f32 0x7F800000#32 = ⊤ := by
  simp [Ideal.ofBits, Ideal.ieee]

theorem real_of_bit {x : EReal} (h : Ideal.cmp .olt (max x (-x)) (Ideal.ofBits FTy.f32 0x7F800000#32) = 1#1) : Real x := by
  rw [pos_inf] at h
  refine real_of_abs_lt ?_
  by_contra hc
  have h0 : Ideal.cmp .olt (max x (-x)) ⊤ = 0#1 := by
    simp only [Ideal.cmp]
    rw [decide_eq_false hc]
    rfl
  rw [h0] at h
  exact absurd h (by decide)

instance : Subsingleton (⟨0, ![]⟩ : Shape).Idx := ⟨fun _ _ => funext fun a => a.elim0⟩

theorem finite_of [Cert.Pre_finite.Facts] (A : FVec Ideal ⟨4, ![8, 32, 32, 128]⟩ .f32) (B C : FVec Ideal ⟨4, ![8, 32, 8, 128]⟩ .f32) (Z : FVec Ideal ⟨1, ![32]⟩ .f32)
    (h : Cert.Pre_finite.fn (F := Ideal) Q K W A B C Z = fun _ => 1#1) :
    (∀ i, Real (Q i)) ∧ (∀ i, Real (K i)) ∧ ∀ i, Real (Z i) := by
  have h0 := congrFun h (fun a => a.elim0)
  obtain ⟨h1, h2⟩ := IntOp.andi_eq_one.1 h0
  obtain ⟨h3, h4⟩ := IntOp.andi_eq_one.1 h1
  refine ⟨fun i => real_of_bit ?_, fun i => real_of_bit ?_, fun i => real_of_bit ?_⟩
  · exact Host.reduce_andi_all _ _ _ _ _ h3 i
  · exact Host.reduce_andi_all _ _ _ _ _ h4 i
  · exact Host.reduce_andi_all _ _ _ _ _ h2 i

end Cert.SwaAlgebra

end
-- ==== Proof.SwaClaim.lean ====
/-
  The prompt's attention: the kernel's array is the reference's, element by element.
-/
module

public import proofs.«01_k».proof.Defs
public import proofs.«01_k».proof.Proof.SwaAlgebra
public import proofs.«01_k».proof.Proof.Gen.KernelIdeal.Value
public import proofs.«01_k».proof.Proof.Gen.ReferenceIdeal.Run

@[expose] public section

set_option maxRecDepth 16384

noncomputable section

namespace Cert.SwaClaim

open Cert.SwaAlgebra Cert.SwaValue Cert.SwaReference Idealize.ShloMosaic Idealize.ShloMosaic.TcCoe Idealize.SL.Sem

/-- The side conditions the precondition states. -/
theorem pre_facts : Cert.Pre_finite.Facts where
  bcast_S_S2x8192x32x128 := by decide
  reducesTo_S2x8192x32x128_S_d0_1_2_3 := by decide
  h_S_ := by decide
  bcast_S_S2x8192x8x128 := by decide
  reducesTo_S2x8192x8x128_S_d0_1_2_3 := by decide
  bcast_S_S32 := by decide
  reducesTo_S32_S_d0 := by decide

/-- Every element of a result of 16384 rows and 4096 columns, by its batch, its query and its head. -/
theorem index_split (y : Cert.KernelIdeal.S16384x4096.Idx) : ∃ (b : Fin 2) (i : Fin 64) (p : Fin 2) (r : Fin 64) (g : Fin 8) (j : Fin 4) (d : Fin 128),
    y = ix2 (⟨b.val * 8192 + (i.val * 128 + (p.val * 64 + r.val)), by omega⟩ : Fin 16384) (⟨(g.val * 4 + j.val) * 128 + d.val, by omega⟩ : Fin 4096) := by
  have h0 : (y 0).val < 16384 := (y 0).isLt
  have h1 : (y 1).val < 4096 := (y 1).isLt
  refine ⟨⟨(y 0).val / 8192, by omega⟩, ⟨(y 0).val / 128 % 64, by omega⟩, ⟨(y 0).val / 64 % 2, by omega⟩, ⟨(y 0).val % 64, by omega⟩,
    ⟨(y 1).val / 512, by omega⟩, ⟨(y 1).val / 128 % 4, by omega⟩, ⟨(y 1).val % 128, by omega⟩, ?_⟩
  funext a
  match a with
  | ⟨0, _⟩ =>
    apply Fin.ext
    show (y 0).val = (y 0).val / 8192 * 8192 + ((y 0).val / 128 % 64 * 128 + ((y 0).val / 64 % 2 * 64 + (y 0).val % 64))
    omega
  | ⟨1, _⟩ =>
    apply Fin.ext
    show (y 1).val = ((y 1).val / 512 * 4 + (y 1).val / 128 % 4) * 128 + (y 1).val % 128
    omega

variable (m : (ℓ : Loc Cert.KernelIdeal.nD Cert.KernelIdeal.τ Cert.KernelIdeal.sig) → Buf (Elt Ideal) ℓ) (c : Dev Cert.KernelIdeal.nD)

theorem array_eq (Q : FVec Ideal ⟨4, ![2, 8192, 32, 128]⟩ .f32) (K W : FVec Ideal ⟨4, ![2, 8192, 8, 128]⟩ .f32) (Z : FVec Ideal ⟨1, ![32]⟩ .f32)
    (hQ : m ((c.tc : Thread Cert.KernelIdeal.nD Cert.KernelIdeal.τ).loc Cert.KernelIdeal.main_arg0) = Q) (hK : m ((c.tc : Thread Cert.KernelIdeal.nD Cert.KernelIdeal.τ).loc Cert.KernelIdeal.main_arg1) = K)
    (hW : m ((c.tc : Thread Cert.KernelIdeal.nD Cert.KernelIdeal.τ).loc Cert.KernelIdeal.main_arg2) = W) (hZ : m ((c.tc : Thread Cert.KernelIdeal.nD Cert.KernelIdeal.τ).loc Cert.KernelIdeal.main_arg6) = Z)
    (fQ : ∀ i, Real (Q i)) (fK : ∀ i, Real (K i)) (fZ : ∀ i, Real (Z i)) :
    ((Cert.KernelIdeal.Gen.dats m 0 c).arrAt 6 Cert.KernelIdeal.cfg0.N : FVec Ideal Cert.KernelIdeal.S16384x4096 .bf16)
      = Cert.ReferenceIdeal.Read.val_main_v52 (F := Ideal) Q K W Z := by
  funext y
  obtain ⟨b, i, p, r, g, j, d, rfl⟩ := index_split y
  obtain ⟨a, ha⟩ := fZ (ix1 ⟨g.val * 4 + j.val, by omega⟩)
  refine (kernel_apply m c Q K W Z hQ hK hW hZ b i ⟨p.val * 64 + r.val, by omega⟩ ⟨g.val * 4 + j.val, by omega⟩ d).trans ?_
  have hg : (⟨(g.val * 4 + j.val) / 4, by omega⟩ : Fin 8) = g := Fin.ext (by dsimp only; omega)
  have hr : (⟨b.val * 8192 + (i.val * 128 + (p.val * 64 + r.val)), by omega⟩ : Fin 16384)
      = ⟨b.val * 8192 + ((2 * i.val + p.val) * 64 + r.val), by omega⟩ := Fin.ext (by dsimp only; omega)
  refine Eq.trans ?_ (congrArg (fun e => Cert.ReferenceIdeal.Read.val_main_v52 (F := Ideal) Q K W Z (ix2 e (⟨(g.val * 4 + j.val) * 128 + d.val, by omega⟩ : Fin 4096))) hr.symm)
  refine Eq.trans ?_ (reference_apply Q K W Z b ⟨2 * i.val + p.val, by omega⟩ r g j d).symm
  rw [ha]
  refine Eq.trans ?_ (element_eq Q K W fQ fK a b i p r g j d)
  dsimp only
  rw [hg]

end Cert.SwaClaim

end
-- ==== Proof.HeadRows.lean ====
/-
  One head's row: its norm, and its rotation by a table of cosines and sines, as the host's operations and as a kernel's
  rolls against three tables spell it.
-/
module

public import Idealize.ShloMosaic.Lib.Pointwise
public import Idealize.ShloMosaic.Lib.Pipeline.ValueKit.Point
public import Idealize.ShloMosaic.Lib.Pipeline.CanonAppend

@[expose] public section

set_option maxRecDepth 16384

noncomputable section

namespace Cert.HeadRows

open Idealize.ShloMosaic

abbrev N0 : Shape := ⟨0, ![]⟩
abbrev N1 (n : Nat) : Shape := ⟨1, ![n]⟩
abbrev N2 (n m : Nat) : Shape := ⟨2, ![n, m]⟩
abbrev N3 (n m k : Nat) : Shape := ⟨3, ![n, m, k]⟩
abbrev N4 (n m k l : Nat) : Shape := ⟨4, ![n, m, k, l]⟩

/-- The root mean square of a row of `D` entries divided out and the gain multiplied in (`d` is `D` as a float). -/
def normed {D : Nat} (d : BitVec 32) (p g : Fin D → EReal) (l : Fin D) : EReal :=
  p l * Ideal.rsqrt (Ideal.div (∑ k, p k * p k) (Ideal.ofBits FTy.f32 d) + Ideal.ofBits FTy.f32 0x358637BD#32) * g l

/-- The first `2 * H` entries of a row rotated in pairs (`l`, `l + H`); the rest as they are. -/
def rotated {D H : Nat} (hD : H + H ≤ D) (y : Fin D → EReal) (c s : Fin H → EReal) (l : Fin D) : EReal :=
  if h : l.val < H then y l * c ⟨l.val, h⟩ - y ⟨l.val + H, by omega⟩ * s ⟨l.val, h⟩
  else if h' : l.val - H < H then y l * c ⟨l.val - H, h'⟩ + y ⟨l.val - H, by omega⟩ * s ⟨l.val - H, h'⟩
  else y l

/-- The table that multiplies the row in place, -/
def tabC {H : Nat} (c : Fin H → EReal) (l : Nat) : EReal :=
  if h : l < H then c ⟨l, h⟩ else if h' : l - H < H then c ⟨l - H, h'⟩ else 1

/-- the one that multiplies it rolled back by `H`, -/
def tabS {H : Nat} (s : Fin H → EReal) (l : Nat) : EReal :=
  if h : l < H then -(s ⟨l, h⟩) else 0

/-- and the one that multiplies it rolled on by `H`. -/
def tabS' {H : Nat} (s : Fin H → EReal) (l : Nat) : EReal :=
  if l < H then 0 else if h' : l - H < H then s ⟨l - H, h'⟩ else 0

/-- The kernel's three products are the rotation; the rolled rows may hold anything where their table is zero. -/
theorem rotated_of_tables {D H : Nat} (hD : H + H ≤ D) (y : Fin D → EReal) (c s : Fin H → EReal) (l : Fin D) (u v : EReal)
    (hu : ∀ h : l.val < H, u = y ⟨l.val + H, by omega⟩) (hv : ∀ _ : ¬ l.val < H, ∀ _ : l.val - H < H, v = y ⟨l.val - H, by omega⟩) :
    y l * tabC c l.val + u * tabS s l.val + v * tabS' s l.val = rotated hD y c s l := by
  unfold rotated tabC tabS tabS'
  by_cases h : l.val < H
  · rw [dif_pos h, dif_pos h, if_pos h, dif_pos h, hu h, mul_zero, add_zero, mul_neg, sub_eq_add_neg]
  · rw [dif_neg h, dif_neg h, if_neg h, dif_neg h]
    by_cases h' : l.val - H < H
    · rw [dif_pos h', dif_pos h', dif_pos h', hv h h', mul_zero, add_zero]
    · rw [dif_neg h', dif_neg h', dif_neg h', mul_one, mul_zero, mul_zero, add_zero, add_zero]

/-- A lane rolled back by 16, -/
def back (l : Fin 128) : Fin 128 := ⟨(l.val + 128 - 112) % 128, Nat.mod_lt _ (by decide)⟩

/-- and on by 16. -/
def on (l : Fin 128) : Fin 128 := ⟨(l.val + 128 - 16) % 128, Nat.mod_lt _ (by decide)⟩

/-- A head's row, its gain and the three tables' rows, put together as a kernel does. -/
def turned (p g c s s' : Fin 128 → EReal) (l : Fin 128) : EReal :=
  normed 0x43000000#32 p g l * c l + normed 0x43000000#32 p g (back l) * s l + normed 0x43000000#32 p g (on l) * s' l

/-- Over the three tables it is the normed row's rotation. -/
theorem turned_eq (p g : Fin 128 → EReal) (c s : Fin 16 → EReal) (l : Fin 128) :
    turned p g (fun k => tabC c k.val) (fun k => tabS s k.val) (fun k => tabS' s k.val) l = rotated (by decide) (normed 0x43000000#32 p g) c s l := by
  refine rotated_of_tables (by decide) (normed 0x43000000#32 p g) c s l _ _ (fun h => congrArg _ (Fin.ext ?_)) (fun h h' => congrArg _ (Fin.ext ?_))
  · show (l.val + 128 - 112) % 128 = l.val + 16
    omega
  · show (l.val + 128 - 16) % 128 = l.val - 16
    omega

section at_index
variable {s : Shape} (x y : FVec Ideal s .f32) (i : s.Idx)
theorem mulf_at : mulf x y i = (x i * y i : EReal) := rfl
theorem addf_at : addf x y i = (x i + y i : EReal) := rfl
theorem subf_at : subf x y i = (x i - y i : EReal) := rfl
theorem divf_at : Host.divf x y i = Ideal.div (x i) (y i) := rfl
theorem rsqrt_at : Host.rsqrt x i = Ideal.rsqrt (x i) := rfl
end at_index

theorem spread {α : Type} {s t : Shape} (dims : Fin s.rank → Fin t.rank) (h : s.BroadcastsInDim t dims) (x : s.Idx → α) (j : t.Idx) (k : s.Idx)
    (hk : ∀ a : Fin s.rank, (k a).val = (j (dims a)).val ∨ s.size a = 1) : broadcastInDim t dims h x j = x k := by
  refine broadcastInDim_apply dims h x j k fun a => ?_
  split
  next h1 => have := (k a).isLt; omega
  next h1 => exact (hk a).resolve_right h1

theorem norm_host {B S N D : Nat} (Q : FVec Ideal (N4 B S N D) .f32) (g : FVec Ideal (N1 D) .f32) (d : BitVec 32)
    (h1 : (N3 B S N).BroadcastsInDim (N4 B S N 1) ![0, 1, 2]) (h2 : (N4 B S N D).ReducesTo [3] (N3 B S N)) (h2' h3 h4)
    (h5 : (N4 B S N 1).BroadcastsInDim (N4 B S N D) ![0, 1, 2, 3]) (h6 : (N1 D).BroadcastsInDim (N4 1 1 1 D) ![3])
    (h7 : (N4 1 1 1 D).BroadcastsInDim (N4 B S N D) ![0, 1, 2, 3]) (h8 : (N4 B S N D).Reduces [3] (N3 B S N)) (b s n l) :
    mulf (mulf Q (broadcastInDim (N4 B S N D) ![0, 1, 2, 3] h5 (Host.rsqrt (addf (Host.divf (broadcastInDim (N4 B S N 1) ![0, 1, 2] h1
        (Host.reduceAdd (axes := [3]) (t := N3 B S N) (u := N0) (mulf Q Q) (constant N0 .f32 0#32) h2 h2')) (broadcastInDim (N4 B S N 1) ![] h3 (constant N0 .f32 d)))
        (broadcastInDim (N4 B S N 1) ![] h4 (constant N0 .f32 0x358637BD#32))))))
      (broadcastInDim (N4 B S N D) ![0, 1, 2, 3] h7 (broadcastInDim (N4 1 1 1 D) ![3] h6 g)) (ix4 b s n l)
      = normed d (fun k => Q (ix4 b s n k)) (fun k => g (ix1 k)) l := by
  have e1 : ∀ x : FVec Ideal (N4 B S N 1) .f32, broadcastInDim (N4 B S N D) ![0, 1, 2, 3] h5 x (ix4 b s n l) = x (ix4 b s n 0) := fun x =>
    spread _ _ _ _ (ix4 b s n 0) fun a => match a with
      | ⟨0, _⟩ => .inl rfl
      | ⟨1, _⟩ => .inl rfl
      | ⟨2, _⟩ => .inl rfl
      | ⟨3, _⟩ => .inr rfl
  have e2 : ∀ x : FVec Ideal (N3 B S N) .f32, broadcastInDim (N4 B S N 1) ![0, 1, 2] h1 x (ix4 b s n 0) = x (ix3 b s n) := fun x =>
    spread _ _ _ _ (ix3 b s n) fun a => match a with
      | ⟨0, _⟩ => .inl rfl
      | ⟨1, _⟩ => .inl rfl
      | ⟨2, _⟩ => .inl rfl
  have e3 : broadcastInDim (N4 B S N D) ![0, 1, 2, 3] h7 (broadcastInDim (N4 1 1 1 D) ![3] h6 g) (ix4 b s n l) = g (ix1 l) := by
    refine (spread _ _ _ _ (ix4 (0 : Fin 1) (0 : Fin 1) (0 : Fin 1) l) fun a => ?_).trans (spread _ _ _ _ (ix1 l) fun a => ?_)
    · match a with
      | ⟨0, _⟩ => exact .inr rfl
      | ⟨1, _⟩ => exact .inr rfl
      | ⟨2, _⟩ => exact .inr rfl
      | ⟨3, _⟩ => exact .inl rfl
    · match a with
      | ⟨0, _⟩ => exact .inl rfl
  have e4 : ∀ c : BitVec 32, ∀ h, broadcastInDim (N4 B S N 1) ![] h (constant (F := Ideal) N0 .f32 c) (ix4 b s n 0) = Ideal.ofBits FTy.f32 c := fun c h =>
    spread _ _ _ _ ix0 fun a => a.elim0
  have e5 : Host.reduceAdd (F := Ideal) (axes := [3]) (t := N3 B S N) (u := N0) (mulf Q Q) (constant N0 .f32 0#32) h2 h2' (ix3 b s n)
      = ∑ k : Fin D, Q (ix4 b s n k) * Q (ix4 b s n k) := by
    simp only [Host.reduceAdd, Ideal.hostReduceAdd_def]
    rw [Ideal.hostReduceAdd_single h2 h8]
    refine (congr (congrArg _ (show _ = (0 : EReal) from ?_)) (Finset.sum_congr rfl fun k _ => ?_)).trans (zero_add _)
    · show Ideal.ofBits FTy.f32 0#32 = 0
      simp
    · have e : h8.lift (ix3 b s n) k = ix4 b s n k :=
        funext fun a => Fin.ext (by match a with | ⟨0, _⟩ => rfl | ⟨1, _⟩ => rfl | ⟨2, _⟩ => rfl | ⟨3, _⟩ => rfl)
      exact congrArg (mulf Q Q) e
  unfold normed
  rw [mulf_at, mulf_at, e1, e3, rsqrt_at, addf_at, divf_at, e2, e4, e4, e5]

/-- A table of a row per position, spread over batches and heads. -/
theorem table_host {B S N H : Nat} (C : FVec Ideal (N2 S H) .f32) (h1 : (N4 1 S 1 H).BroadcastsInDim (N4 B S N H) ![0, 1, 2, 3])
    (h2 : (N3 S 1 H).BroadcastsInDim (N4 1 S 1 H) ![1, 2, 3]) (h3 : (N2 S H).BroadcastsInDim (N3 S 1 H) ![0, 2]) (b s n l) :
    broadcastInDim (N4 B S N H) ![0, 1, 2, 3] h1 (broadcastInDim (N4 1 S 1 H) ![1, 2, 3] h2 (broadcastInDim (N3 S 1 H) ![0, 2] h3 C)) (ix4 b s n l)
      = C (ix2 s l) := by
  refine (spread _ _ _ _ (ix4 (0 : Fin 1) s (0 : Fin 1) l) fun a => ?_).trans ((spread _ _ _ _ (ix3 s (0 : Fin 1) l) fun a => ?_).trans (spread _ _ _ _ (ix2 s l) fun a => ?_))
  · match a with
    | ⟨0, _⟩ => exact .inr rfl
    | ⟨1, _⟩ => exact .inl rfl
    | ⟨2, _⟩ => exact .inr rfl
    | ⟨3, _⟩ => exact .inl rfl
  · match a with
    | ⟨0, _⟩ => exact .inl rfl
    | ⟨1, _⟩ => exact .inr rfl
    | ⟨2, _⟩ => exact .inl rfl
  · match a with
    | ⟨0, _⟩ => exact .inl rfl
    | ⟨1, _⟩ => exact .inl rfl

/-- The angles: each position times each frequency. -/
theorem angle_host {S H : Nat} (p : IVec (N1 S) 32) (f : FVec Ideal (N1 H) .f32) (h1 : (N2 S 1).BroadcastsInDim (N2 S H) ![0, 1])
    (h2 : (N1 S).BroadcastsInDim (N2 S 1) ![0]) (h3 : (N2 1 H).BroadcastsInDim (N2 S H) ![0, 1]) (h4 : (N1 H).BroadcastsInDim (N2 1 H) ![1]) (s l) :
    mulf (F := Ideal) (broadcastInDim (N2 S H) ![0, 1] h1 (broadcastInDim (N2 S 1) ![0] h2 (sitofp .f32 p)))
        (broadcastInDim (N2 S H) ![0, 1] h3 (broadcastInDim (N2 1 H) ![1] h4 f)) (ix2 s l)
      = FloatOps.sitofp (F := Ideal) .f32 (p (ix1 s)) * f (ix1 l) := by
  rw [mulf_at]
  refine congrArg₂ (fun a b : EReal => a * b) ?_ ?_
  · refine (spread _ _ _ _ (ix2 s (0 : Fin 1)) fun a => ?_).trans (spread _ _ _ _ (ix1 s) fun a => ?_)
    · match a with
      | ⟨0, _⟩ => exact .inl rfl
      | ⟨1, _⟩ => exact .inr rfl
    · match a with
      | ⟨0, _⟩ => exact .inl rfl
  · refine (spread _ _ _ _ (ix2 (0 : Fin 1) l) fun a => ?_).trans (spread _ _ _ _ (ix1 l) fun a => ?_)
    · match a with
      | ⟨0, _⟩ => exact .inr rfl
      | ⟨1, _⟩ => exact .inl rfl
    · match a with
      | ⟨0, _⟩ => exact .inl rfl

theorem cut4 {B S N D E : Nat} {α : Type} (Q : (N4 B S N D).Idx → α) (o : Nat) (h : (N4 B S N D).Slices ![0, 0, 0, o] (N4 B S N E)) (b s n) (l : Fin E) (k : Fin D)
    (hk : k.val = o + l.val) : extractStridedSlice (N4 B S N E) ![0, 0, 0, o] Q h (ix4 b s n l) = Q (ix4 b s n k) := by
  refine congrArg Q (funext fun a => Fin.ext ?_)
  match a with
  | ⟨0, _⟩ => show 0 + b.val = b.val; omega
  | ⟨1, _⟩ => show 0 + s.val = s.val; omega
  | ⟨2, _⟩ => show 0 + n.val = n.val; omega
  | ⟨3, _⟩ => exact hk.symm

/-- The host's rotation: the two rotated halves and the rest, laid side by side. -/
theorem rotate_host {B S N D H R : Nat} (hD : H + H + R = D) (Q : FVec Ideal (N4 B S N D) .f32) (c s c' s' : FVec Ideal (N4 B S N H) .f32) (C T : FVec Ideal (N2 S H) .f32)
    (h1 : (N4 B S N D).Slices ![0, 0, 0, 0] (N4 B S N H)) (h2 : (N4 B S N D).Slices ![0, 0, 0, H] (N4 B S N H))
    (o : Nat) (ho : o = H + H) (h3 : (N4 B S N D).Slices ![0, 0, 0, o] (N4 B S N R)) (h4)
    (hc : ∀ b t n l, c (ix4 b t n l) = C (ix2 t l)) (hs : ∀ b t n l, s (ix4 b t n l) = T (ix2 t l))
    (hc' : ∀ b t n l, c' (ix4 b t n l) = C (ix2 t l)) (hs' : ∀ b t n l, s' (ix4 b t n l) = T (ix2 t l)) (b t n) (l : Fin D) :
    concatenate (N4 B S N D) 3 [⟨N4 B S N H, subf (mulf (extractStridedSlice (N4 B S N H) ![0, 0, 0, 0] Q h1) c) (mulf (extractStridedSlice (N4 B S N H) ![0, 0, 0, H] Q h2) s)⟩,
        ⟨N4 B S N H, addf (mulf (extractStridedSlice (N4 B S N H) ![0, 0, 0, H] Q h2) c') (mulf (extractStridedSlice (N4 B S N H) ![0, 0, 0, 0] Q h1) s')⟩,
        ⟨N4 B S N R, extractStridedSlice (N4 B S N R) ![0, 0, 0, o] Q h3⟩] h4 (ix4 b t n l)
      = rotated (by omega) (fun k => Q (ix4 b t n k)) (fun k => C (ix2 t k)) (fun k => T (ix2 t k)) l := by
  have side : ∀ {E : Nat} (e : Fin E) (a : Fin 4), a ≠ 3 → ((ix4 b t n e : (N4 B S N E).Idx) a).val = ((ix4 b t n l : (N4 B S N D).Idx) a).val := fun e a ha => by
    match a with
    | ⟨0, _⟩ => rfl
    | ⟨1, _⟩ => rfl
    | ⟨2, _⟩ => rfl
    | ⟨3, _⟩ => exact absurd rfl ha
  unfold rotated
  by_cases h : l.val < H
  · rw [dif_pos h]
    refine (concatenate_apply_piece 3 _ h4 _ 0 (by simp) (N4 B S N H) _ rfl rfl 0 (by simp) (ix4 b t n ⟨l.val, h⟩) (fun a ha => side _ a ha) (by show 0 + l.val = l.val; omega)).trans ?_
    refine congr (congrArg _ (congr (congrArg _ (cut4 Q 0 h1 b t n _ l (by simp))) (hc _ _ _ _))) (congr (congrArg _ (cut4 Q H h2 b t n _ ⟨l.val + H, by omega⟩ (by simp; omega))) (hs _ _ _ _))
  · rw [dif_neg h]
    by_cases h' : l.val - H < H
    · rw [dif_pos h']
      refine (concatenate_apply_piece 3 _ h4 _ 1 (by simp) (N4 B S N H) _ rfl rfl H (by simp) (ix4 b t n ⟨l.val - H, h'⟩) (fun a ha => side _ a ha) (by show H + (l.val - H) = l.val; omega)).trans ?_
      refine congr (congrArg _ (congr (congrArg _ (cut4 Q H h2 b t n _ l (by simp; omega))) (hc' _ _ _ _))) (congr (congrArg _ (cut4 Q 0 h1 b t n _ ⟨l.val - H, by omega⟩ (by simp))) (hs' _ _ _ _))
    · rw [dif_neg h']
      refine (concatenate_apply_piece 3 _ h4 _ 2 (by simp) (N4 B S N R) _ rfl rfl (H + H) (by simp) (ix4 b t n ⟨l.val - (H + H), by omega⟩) (fun a ha => side _ a ha) (by show H + H + (l.val - (H + H)) = l.val; omega)).trans ?_
      exact cut4 Q o h3 b t n _ l (by simp; omega)

/-- Tiles that cover a block and agree with one function of it leave that function. -/
theorem stored {S : Shape} {e : EltTy} (G : Vec Ideal S e) (L : List (View.Piece (Elt Ideal) S e)) (y : S.Idx) (hy : ∃ p ∈ L, y ∈ p.1.set)
    (hL : ∀ p ∈ L, ∀ x : p.1.shape.Idx, p.2 x = G (p.1.emb x)) : View.canon L y = G y := by
  have c := View.canon_append_of_pieces G [] L hL y hy
  rw [List.append_nil] at c
  exact c

end Cert.HeadRows

end
-- ==== Proof.FirstHeads.lean ====
/-
  The heads' norm and rotation at one grid point: each stored tile is one head's function of the point's blocks, and so
  each block is one function of them.
-/
module

public import proofs.«01_k».proof.Proof.HeadRows
public import proofs.«01_k».proof.Proof.Gen.Kernel2Ideal.Frame

@[expose] public section

set_option maxRecDepth 16384

noncomputable section

namespace Cert.FirstHeads

open Cert.HeadRows Cert.Kernel2Ideal Cert.Kernel2Ideal.Gen Idealize.ShloMosaic Idealize.ShloMosaic.TcCoe Idealize.SL.Sem

section payloads
variable (v1 v3 v5 : FVec Ideal S256x128 .f32) (v7 : FVec Ideal S1x128 .f32) (x : Vec Ideal S256x128 .f32) (r : Fin 256) (l : Fin 128)

theorem query_apply : k2_pay67 v1 v3 v5 v7 x (ix2 r l)
    = turned (fun k => x (ix2 r k)) (fun k => v7 (ix2 0 k)) (fun k => v1 (ix2 r k)) (fun k => v3 (ix2 r k)) (fun k => v5 (ix2 r k)) l * Ideal.ofBits FTy.f32 0x3DB504F3#32 := by
  pointwise [k2_pay67]
  rfl

theorem key_apply : k2_pay114 v1 v3 v5 v7 x (ix3 r 0 l)
    = turned (fun k => x (ix2 r k)) (fun k => v7 (ix2 0 k)) (fun k => v1 (ix2 r k)) (fun k => v3 (ix2 r k)) (fun k => v5 (ix2 r k)) l := by
  pointwise [k2_pay114, k2_pay113]
  rfl

theorem value_apply : k2_pay117 x (ix3 r 0 l) = x (ix2 r l) := by
  pointwise [k2_pay117, k2_pay116]

end payloads

theorem inb_in (h : Fin 48) : ∀ a, (![0, 128 * h.val] : Fin 2 → Nat) a + S256x128.size a ≤ S256x6144.size a := by
  intro a; match a with
  | ⟨0, _⟩ => show 0 + 256 ≤ 256; omega
  | ⟨1, _⟩ => show 128 * h.val + 128 ≤ 6144; omega

theorem inb_q (h : Fin 32) : ∀ a, (![0, 128 * h.val] : Fin 2 → Nat) a + S256x128.size a ≤ S256x4096.size a := by
  intro a; match a with
  | ⟨0, _⟩ => show 0 + 256 ≤ 256; omega
  | ⟨1, _⟩ => show 128 * h.val + 128 ≤ 4096; omega

theorem inb_kv (h : Fin 8) : ∀ a, (![0, h.val, 0] : Fin 3 → Nat) a + S256x1x128.size a ≤ S256x8x128.size a := by
  intro a; match a with
  | ⟨0, _⟩ => show 0 + 256 ≤ 256; omega
  | ⟨1, _⟩ => show h.val + 1 ≤ 8; omega
  | ⟨2, _⟩ => show 0 + 128 ≤ 128; omega

/-- The columns of head `h` among the projection's, -/
abbrev rin (h : Fin 48) : Rect S256x6144 := Rect.unit ![0, 128 * h.val] S256x128.size (inb_in h)

/-- of query head `h` among the queries', -/
abbrev rq (h : Fin 32) : Rect S256x4096 := Rect.unit ![0, 128 * h.val] S256x128.size (inb_q h)

/-- and key or value head `h` among the keys or values. -/
abbrev rkv (h : Fin 8) : Rect S256x8x128 := Rect.unit ![0, h.val, 0] S256x1x128.size (inb_kv h)

section blocks
variable (x0 : Vec Ideal S256x6144 .f32) (x1 x2 : Vec Ideal S1x128 .f32) (x3 x4 x5 : Vec Ideal S256x128 .f32)

/-- Query head `h`'s tile, -/
def qtile (h : Fin 32) : FVec Ideal S256x128 .bf16 :=
  k2_pay67 (k2_pay119 x0 x1 x2 x3 x4 x5) (k2_pay120 x0 x1 x2 x3 x4 x5) (k2_pay121 x0 x1 x2 x3 x4 x5) (k2_pay122 x0 x1 x2 x3 x4 x5) (View.ld x0 (rin ⟨h.val, by omega⟩))

/-- key head `h`'s -/
def ktile (h : Fin 8) : FVec Ideal S256x1x128 .f32 :=
  k2_pay114 (k2_pay119 x0 x1 x2 x3 x4 x5) (k2_pay120 x0 x1 x2 x3 x4 x5) (k2_pay121 x0 x1 x2 x3 x4 x5) (k2_pay123 x0 x1 x2 x3 x4 x5) (View.ld x0 (rin ⟨32 + h.val, by omega⟩))

/-- and value head `h`'s. -/
def vtile (h : Fin 8) : FVec Ideal S256x1x128 .f32 :=
  k2_pay117 (View.ld x0 (rin ⟨40 + h.val, by omega⟩))

def qblock : Vec Ideal S256x4096 .bf16 := fun y =>
  qtile x0 x1 x2 x3 x4 x5 ⟨(y 1).val / 128, by have := (y 1).isLt; show _ < 32; change (y 1).val < 4096 at this; omega⟩ (ix2 (y 0) ⟨(y 1).val % 128, Nat.mod_lt _ (by decide)⟩)

def kblock : Vec Ideal S256x8x128 .f32 := fun y => ktile x0 x1 x2 x3 x4 x5 (y 1) (ix3 (y 0) 0 (y 2))

def vblock : Vec Ideal S256x8x128 .f32 := fun y => vtile x0 (y 1) (ix3 (y 0) 0 (y 2))

theorem qblock_emb (h : Fin 32) (x : S256x128.Idx) : qblock x0 x1 x2 x3 x4 x5 ((rq h).emb x) = qtile x0 x1 x2 x3 x4 x5 h x := by
  have h1 : (((rq h).emb x) 1).val = 128 * h.val + (x 1).val := by
    show 128 * h.val + 1 * (x 1).val = _; omega
  have hx : (x 1).val < 128 := (x 1).isLt
  unfold qblock
  congr 1
  · apply Fin.ext; show (((rq h).emb x) 1).val / 128 = h.val; rw [h1]; omega
  · rw [eq_ix2 x]
    congr 1
    · apply Fin.ext; show 0 + 1 * (x 0).val = (x 0).val; omega
    · apply Fin.ext; show (((rq h).emb x) 1).val % 128 = (x 1).val; rw [h1]; omega

theorem kv_index (h : Fin 8) (x : S256x1x128.Idx) : (rkv h).emb x = ix3 (x 0) h (x 2) ∧ x = ix3 (x 0) 0 (x 2) := by
  have h1 : (x 1).val < 1 := (x 1).isLt
  constructor
  · funext a; apply Fin.ext
    match a with
    | ⟨0, _⟩ => show 0 + 1 * (x 0).val = (x 0).val; omega
    | ⟨1, _⟩ => show h.val + 1 * (x 1).val = h.val; omega
    | ⟨2, _⟩ => show 0 + 1 * (x 2).val = (x 2).val; omega
  · funext a; apply Fin.ext
    match a with
    | ⟨0, _⟩ => rfl
    | ⟨1, _⟩ => show (x 1).val = 0; omega
    | ⟨2, _⟩ => rfl

theorem kblock_emb (h : Fin 8) (x : S256x1x128.Idx) : kblock x0 x1 x2 x3 x4 x5 ((rkv h).emb x) = ktile x0 x1 x2 x3 x4 x5 h x := by
  unfold kblock
  rw [(kv_index h x).1]
  exact congrArg (ktile x0 x1 x2 x3 x4 x5 h) (kv_index h x).2.symm

theorem vblock_emb (h : Fin 8) (x : S256x1x128.Idx) : vblock x0 ((rkv h).emb x) = vtile x0 h x := by
  unfold vblock
  rw [(kv_index h x).1]
  exact congrArg (vtile x0 h) (kv_index h x).2.symm

theorem out_q : out2_6 x0 x1 x2 x3 x4 x5 = qblock x0 x1 x2 x3 x4 x5 := by
  funext y
  unfold out2_6
  refine stored (qblock x0 x1 x2 x3 x4 x5) _ y (cover2_6 _ _ _ _ _ _ _ _ _ _ _ _ _ _ _ _ _ _ _ _ _ _ _ _ _ _ _ _ _ _ _ _ y) ?_
  refine List.forall_mem_cons.mpr ⟨fun x => (qblock_emb x0 x1 x2 x3 x4 x5 31 x).symm, ?_⟩
  refine List.forall_mem_cons.mpr ⟨fun x => (qblock_emb x0 x1 x2 x3 x4 x5 30 x).symm, ?_⟩
  refine List.forall_mem_cons.mpr ⟨fun x => (qblock_emb x0 x1 x2 x3 x4 x5 29 x).symm, ?_⟩
  refine List.forall_mem_cons.mpr ⟨fun x => (qblock_emb x0 x1 x2 x3 x4 x5 28 x).symm, ?_⟩
  refine List.forall_mem_cons.mpr ⟨fun x => (qblock_emb x0 x1 x2 x3 x4 x5 27 x).symm, ?_⟩
  refine List.forall_mem_cons.mpr ⟨fun x => (qblock_emb x0 x1 x2 x3 x4 x5 26 x).symm, ?_⟩
  refine List.forall_mem_cons.mpr ⟨fun x => (qblock_emb x0 x1 x2 x3 x4 x5 25 x).symm, ?_⟩
  refine List.forall_mem_cons.mpr ⟨fun x => (qblock_emb x0 x1 x2 x3 x4 x5 24 x).symm, ?_⟩
  refine List.forall_mem_cons.mpr ⟨fun x => (qblock_emb x0 x1 x2 x3 x4 x5 23 x).symm, ?_⟩
  refine List.forall_mem_cons.mpr ⟨fun x => (qblock_emb x0 x1 x2 x3 x4 x5 22 x).symm, ?_⟩
  refine List.forall_mem_cons.mpr ⟨fun x => (qblock_emb x0 x1 x2 x3 x4 x5 21 x).symm, ?_⟩
  refine List.forall_mem_cons.mpr ⟨fun x => (qblock_emb x0 x1 x2 x3 x4 x5 20 x).symm, ?_⟩
  refine List.forall_mem_cons.mpr ⟨fun x => (qblock_emb x0 x1 x2 x3 x4 x5 19 x).symm, ?_⟩
  refine List.forall_mem_cons.mpr ⟨fun x => (qblock_emb x0 x1 x2 x3 x4 x5 18 x).symm, ?_⟩
  refine List.forall_mem_cons.mpr ⟨fun x => (qblock_emb x0 x1 x2 x3 x4 x5 17 x).symm, ?_⟩
  refine List.forall_mem_cons.mpr ⟨fun x => (qblock_emb x0 x1 x2 x3 x4 x5 16 x).symm, ?_⟩
  refine List.forall_mem_cons.mpr ⟨fun x => (qblock_emb x0 x1 x2 x3 x4 x5 15 x).symm, ?_⟩
  refine List.forall_mem_cons.mpr ⟨fun x => (qblock_emb x0 x1 x2 x3 x4 x5 14 x).symm, ?_⟩
  refine List.forall_mem_cons.mpr ⟨fun x => (qblock_emb x0 x1 x2 x3 x4 x5 13 x).symm, ?_⟩
  refine List.forall_mem_cons.mpr ⟨fun x => (qblock_emb x0 x1 x2 x3 x4 x5 12 x).symm, ?_⟩
  refine List.forall_mem_cons.mpr ⟨fun x => (qblock_emb x0 x1 x2 x3 x4 x5 11 x).symm, ?_⟩
  refine List.forall_mem_cons.mpr ⟨fun x => (qblock_emb x0 x1 x2 x3 x4 x5 10 x).symm, ?_⟩
  refine List.forall_mem_cons.mpr ⟨fun x => (qblock_emb x0 x1 x2 x3 x4 x5 9 x).symm, ?_⟩
  refine List.forall_mem_cons.mpr ⟨fun x => (qblock_emb x0 x1 x2 x3 x4 x5 8 x).symm, ?_⟩
  refine List.forall_mem_cons.mpr ⟨fun x => (qblock_emb x0 x1 x2 x3 x4 x5 7 x).symm, ?_⟩
  refine List.forall_mem_cons.mpr ⟨fun x => (qblock_emb x0 x1 x2 x3 x4 x5 6 x).symm, ?_⟩
  refine List.forall_mem_cons.mpr ⟨fun x => (qblock_emb x0 x1 x2 x3 x4 x5 5 x).symm, ?_⟩
  refine List.forall_mem_cons.mpr ⟨fun x => (qblock_emb x0 x1 x2 x3 x4 x5 4 x).symm, ?_⟩
  refine List.forall_mem_cons.mpr ⟨fun x => (qblock_emb x0 x1 x2 x3 x4 x5 3 x).symm, ?_⟩
  refine List.forall_mem_cons.mpr ⟨fun x => (qblock_emb x0 x1 x2 x3 x4 x5 2 x).symm, ?_⟩
  refine List.forall_mem_cons.mpr ⟨fun x => (qblock_emb x0 x1 x2 x3 x4 x5 1 x).symm, ?_⟩
  refine List.forall_mem_cons.mpr ⟨fun x => (qblock_emb x0 x1 x2 x3 x4 x5 0 x).symm, ?_⟩
  exact fun p hp => absurd hp List.not_mem_nil

theorem out_k : out2_7 x0 x1 x2 x3 x4 x5 = kblock x0 x1 x2 x3 x4 x5 := by
  funext y
  unfold out2_7
  refine stored (kblock x0 x1 x2 x3 x4 x5) _ y (cover2_7 _ _ _ _ _ _ _ _ y) ?_
  refine List.forall_mem_cons.mpr ⟨fun x => (kblock_emb x0 x1 x2 x3 x4 x5 7 x).symm, ?_⟩
  refine List.forall_mem_cons.mpr ⟨fun x => (kblock_emb x0 x1 x2 x3 x4 x5 6 x).symm, ?_⟩
  refine List.forall_mem_cons.mpr ⟨fun x => (kblock_emb x0 x1 x2 x3 x4 x5 5 x).symm, ?_⟩
  refine List.forall_mem_cons.mpr ⟨fun x => (kblock_emb x0 x1 x2 x3 x4 x5 4 x).symm, ?_⟩
  refine List.forall_mem_cons.mpr ⟨fun x => (kblock_emb x0 x1 x2 x3 x4 x5 3 x).symm, ?_⟩
  refine List.forall_mem_cons.mpr ⟨fun x => (kblock_emb x0 x1 x2 x3 x4 x5 2 x).symm, ?_⟩
  refine List.forall_mem_cons.mpr ⟨fun x => (kblock_emb x0 x1 x2 x3 x4 x5 1 x).symm, ?_⟩
  refine List.forall_mem_cons.mpr ⟨fun x => (kblock_emb x0 x1 x2 x3 x4 x5 0 x).symm, ?_⟩
  exact fun p hp => absurd hp List.not_mem_nil

theorem out_v : out2_9 x0 x1 x2 x3 x4 x5 = vblock x0 := by
  funext y
  unfold out2_9
  refine stored (vblock x0) _ y (cover2_9 _ _ _ _ _ _ _ _ y) ?_
  refine List.forall_mem_cons.mpr ⟨fun x => (vblock_emb x0 7 x).symm, ?_⟩
  refine List.forall_mem_cons.mpr ⟨fun x => (vblock_emb x0 6 x).symm, ?_⟩
  refine List.forall_mem_cons.mpr ⟨fun x => (vblock_emb x0 5 x).symm, ?_⟩
  refine List.forall_mem_cons.mpr ⟨fun x => (vblock_emb x0 4 x).symm, ?_⟩
  refine List.forall_mem_cons.mpr ⟨fun x => (vblock_emb x0 3 x).symm, ?_⟩
  refine List.forall_mem_cons.mpr ⟨fun x => (vblock_emb x0 2 x).symm, ?_⟩
  refine List.forall_mem_cons.mpr ⟨fun x => (vblock_emb x0 1 x).symm, ?_⟩
  refine List.forall_mem_cons.mpr ⟨fun x => (vblock_emb x0 0 x).symm, ?_⟩
  exact fun p hp => absurd hp List.not_mem_nil

/-- A table's block is the table's. -/
theorem table_ld (x : Vec Ideal S256x128 .f32) : k2_pay1 (View.ld x r2_0) = x ∧ k2_pay2 (View.ld x r2_0) = x ∧ k2_pay3 (View.ld x r2_0) = x := by
  have e : View.ld x r2_0 = x := by
    funext y
    refine congrArg x (funext fun a => Fin.ext ?_)
    match a with
    | ⟨0, _⟩ => show 0 + 1 * (y 0).val = (y 0).val; omega
    | ⟨1, _⟩ => show 0 + 1 * (y 1).val = (y 1).val; omega
  unfold k2_pay1 k2_pay2 k2_pay3
  dsimp only
  rw [shapeCast_self, e]
  exact ⟨rfl, rfl, rfl⟩

theorem gain_ld (x : Vec Ideal S1x128 .f32) : k2_pay4 (View.ld x r2_1) = x ∧ k2_pay5 (View.ld x r2_1) = x := by
  have e : View.ld x r2_1 = x := by
    funext y
    refine congrArg x (funext fun a => Fin.ext ?_)
    match a with
    | ⟨0, _⟩ => show 0 + 1 * (y 0).val = (y 0).val; omega
    | ⟨1, _⟩ => show 0 + 1 * (y 1).val = (y 1).val; omega
  unfold k2_pay4 k2_pay5
  dsimp only
  rw [shapeCast_self, e]
  exact ⟨rfl, rfl⟩

theorem rin_at (h : Fin 48) (r : Fin 256) (l : Fin 128) : View.ld x0 (rin h) (ix2 r l) = x0 (ix2 r ⟨h.val * 128 + l.val, by omega⟩) := by
  refine congrArg x0 (funext fun a => Fin.ext ?_)
  match a with
  | ⟨0, _⟩ => show 0 + 1 * r.val = r.val; omega
  | ⟨1, _⟩ => show 128 * h.val + 1 * l.val = h.val * 128 + l.val; omega

theorem qblock_apply (r : Fin 256) (h : Fin 32) (l : Fin 128) : qblock x0 x1 x2 x3 x4 x5 (ix2 r ⟨h.val * 128 + l.val, by omega⟩)
    = turned (fun k => x0 (ix2 r ⟨h.val * 128 + k.val, by omega⟩)) (fun k => x1 (ix2 0 k)) (fun k => x3 (ix2 r k)) (fun k => x4 (ix2 r k)) (fun k => x5 (ix2 r k)) l
        * Ideal.ofBits FTy.f32 0x3DB504F3#32 := by
  have e : (ix2 r ⟨h.val * 128 + l.val, by omega⟩ : S256x4096.Idx) = (rq h).emb (ix2 r l) := by
    funext a; apply Fin.ext
    match a with
    | ⟨0, _⟩ => show r.val = 0 + 1 * r.val; omega
    | ⟨1, _⟩ => show h.val * 128 + l.val = 128 * h.val + 1 * l.val; omega
  rw [e, qblock_emb]
  unfold qtile k2_pay119 k2_pay120 k2_pay121 k2_pay122
  rw [query_apply, (table_ld x3).1, (table_ld x4).2.1, (table_ld x5).2.2, (gain_ld x1).1]
  exact congrArg (fun p => turned p (fun k => x1 (ix2 0 k)) (fun k => x3 (ix2 r k)) (fun k => x4 (ix2 r k)) (fun k => x5 (ix2 r k)) l * Ideal.ofBits FTy.f32 0x3DB504F3#32)
    (funext fun k => rin_at x0 ⟨h.val, by omega⟩ r k)

theorem kblock_apply (r : Fin 256) (h : Fin 8) (l : Fin 128) : kblock x0 x1 x2 x3 x4 x5 (ix3 r h l)
    = turned (fun k => x0 (ix2 r ⟨(32 + h.val) * 128 + k.val, by omega⟩)) (fun k => x2 (ix2 0 k)) (fun k => x3 (ix2 r k)) (fun k => x4 (ix2 r k)) (fun k => x5 (ix2 r k)) l := by
  unfold kblock ktile k2_pay119 k2_pay120 k2_pay121 k2_pay123
  refine (key_apply _ _ _ _ _ r l).trans ?_
  rw [(table_ld x3).1, (table_ld x4).2.1, (table_ld x5).2.2, (gain_ld x2).2]
  exact congrArg (fun p => turned p (fun k => x2 (ix2 0 k)) (fun k => x3 (ix2 r k)) (fun k => x4 (ix2 r k)) (fun k => x5 (ix2 r k)) l)
    (funext fun k => rin_at x0 ⟨32 + h.val, by omega⟩ r k)

theorem vblock_apply (r : Fin 256) (h : Fin 8) (l : Fin 128) : vblock x0 (ix3 r h l) = x0 (ix2 r ⟨(40 + h.val) * 128 + l.val, by omega⟩) := by
  unfold vblock vtile
  refine (value_apply _ r l).trans ?_
  exact rin_at x0 ⟨40 + h.val, by omega⟩ r l

end blocks

end Cert.FirstHeads

end
-- ==== Proof.RowLayout.lean ====
/-
  The rows of the prompt and of the samples laid one under the other, and read back.
-/
module

public import Idealize.ShloMosaic.Lib.Pointwise

@[expose] public section

set_option maxRecDepth 16384

noncomputable section

namespace Cert.RowLayout

open Idealize.ShloMosaic

variable {F : FTy → Type} {e : EltTy} {n : Nat}

/-- A prompt row of the joined array. -/
abbrev rowP (b : Fin 2) (s : Fin 8192) : Fin 16640 := ⟨b.val * 8192 + s.val, by omega⟩

/-- A sample row of the joined array. -/
abbrev rowS (b : Fin 8) (s : Fin 32) : Fin 16640 := ⟨16384 + (b.val * 32 + s.val), by omega⟩

theorem join_prompt (x : (⟨⟨3, ![2, 8192, n]⟩, e⟩ : BufTy).Contents (Elt F)) (x' : (⟨⟨3, ![8, 32, n]⟩, e⟩ : BufTy).Contents (Elt F)) (h₁ h₂ h₃)
    (b : Fin 2) (s : Fin 8192) (j : Fin n) :
    concatenate (⟨2, ![16640, n]⟩ : Shape) 0 [⟨⟨2, ![16384, n]⟩, shapeCast ⟨2, ![16384, n]⟩ x h₁⟩, ⟨⟨2, ![256, n]⟩, shapeCast ⟨2, ![256, n]⟩ x' h₂⟩] h₃
      (ix2 (rowP b s) j) = x (ix3 b s j) := by
  refine (concatenate_pair_apply_left 0 (shapeCast ⟨2, ![16384, n]⟩ x h₁) (shapeCast ⟨2, ![256, n]⟩ x' h₂) h₃ _ rfl
    (ix2 (⟨b.val * 8192 + s.val, by omega⟩ : Fin 16384) j) (fun a => match a with | ⟨0, _⟩ => rfl | ⟨1, _⟩ => rfl)).trans ?_
  refine shapeCast_apply _ _ _ _ ?_
  rw [Shape.rowMajor_val_three, Shape.rowMajor_val_two]
  rfl

theorem join_sample (x : (⟨⟨3, ![2, 8192, n]⟩, e⟩ : BufTy).Contents (Elt F)) (x' : (⟨⟨3, ![8, 32, n]⟩, e⟩ : BufTy).Contents (Elt F)) (h₁ h₂ h₃)
    (b : Fin 8) (s : Fin 32) (j : Fin n) :
    concatenate (⟨2, ![16640, n]⟩ : Shape) 0 [⟨⟨2, ![16384, n]⟩, shapeCast ⟨2, ![16384, n]⟩ x h₁⟩, ⟨⟨2, ![256, n]⟩, shapeCast ⟨2, ![256, n]⟩ x' h₂⟩] h₃
      (ix2 (rowS b s) j) = x' (ix3 b s j) := by
  refine (concatenate_pair_apply_right 0 (shapeCast ⟨2, ![16384, n]⟩ x h₁) (shapeCast ⟨2, ![256, n]⟩ x' h₂) h₃ _ rfl rfl
    (ix2 (⟨b.val * 32 + s.val, by omega⟩ : Fin 256) j) (fun a => ?_) ?_).trans ?_
  · match a with
    | ⟨0, _⟩ => exact fun h => absurd rfl h
    | ⟨1, _⟩ => exact fun _ => rfl
  · show b.val * 32 + s.val + 16384 = 16384 + (b.val * 32 + s.val); omega
  refine shapeCast_apply _ _ _ _ ?_
  rw [Shape.rowMajor_val_three, Shape.rowMajor_val_two]
  rfl

/-- The prompt's rows of a joined array, by batch and position. -/
theorem split_prompt (x : (⟨⟨2, ![16640, n]⟩, e⟩ : BufTy).Contents (Elt F)) (h₁ h₂) (b : Fin 2) (s : Fin 8192) (j : Fin n) :
    shapeCast (⟨3, ![2, 8192, n]⟩ : Shape) (extractStridedSlice (⟨2, ![16384, n]⟩ : Shape) ![0, 0] x h₁) h₂ (ix3 b s j) = x (ix2 (rowP b s) j) := by
  refine (shapeCast_apply _ _ _ (ix2 (⟨b.val * 8192 + s.val, by omega⟩ : Fin 16384) j) ?_).trans ?_
  · rw [Shape.rowMajor_val_three, Shape.rowMajor_val_two]
    rfl
  · refine congrArg x (funext fun a => Fin.ext ?_)
    match a with
    | ⟨0, _⟩ => show 0 + (b.val * 8192 + s.val) = b.val * 8192 + s.val; omega
    | ⟨1, _⟩ => show 0 + j.val = j.val; omega

/-- The samples' rows of a joined array, by row and position. -/
theorem split_sample (x : (⟨⟨2, ![16640, n]⟩, e⟩ : BufTy).Contents (Elt F)) (h₁ h₂) (b : Fin 8) (s : Fin 32) (j : Fin n) :
    shapeCast (⟨3, ![8, 32, n]⟩ : Shape) (extractStridedSlice (⟨2, ![256, n]⟩ : Shape) ![16384, 0] x h₁) h₂ (ix3 b s j) = x (ix2 (rowS b s) j) := by
  refine (shapeCast_apply _ _ _ (ix2 (⟨b.val * 32 + s.val, by omega⟩ : Fin 256) j) ?_).trans ?_
  · rw [Shape.rowMajor_val_three, Shape.rowMajor_val_two]
    rfl
  · refine congrArg x (funext fun a => Fin.ext ?_)
    match a with
    | ⟨0, _⟩ => rfl
    | ⟨1, _⟩ => show 0 + j.val = j.val; omega

end Cert.RowLayout

end
-- ==== Proof.FrontRows.lean ====
/-
  A layer's front, row by row: the row's norm, its projection, and each head's norm and rotation by the row's position;
  and the host's arrangements of rows, heads, positions and tables around it, read at an index.
-/
module

public import proofs.«01_k».proof.Proof.HeadRows
public import proofs.«01_k».proof.Proof.RowLayout

@[expose] public section

set_option maxRecDepth 16384

noncomputable section

namespace Cert.FrontRows

open Cert.HeadRows Cert.RowLayout Idealize.ShloMosaic

/-- A row's norm, projected. -/
def projected {M : Nat} (x g : Fin 4096 → EReal) (W : Fin 4096 → Fin M → EReal) (j : Fin M) : EReal :=
  ∑ k : Fin 4096, normed 0x45800000#32 x g k * W k j

/-- A position's angle. -/
def angle (p : BitVec 32) (f : Fin 16 → EReal) (l : Fin 16) : EReal := FloatOps.sitofp (F := Ideal) .f32 p * f l

/-- A head's row at a position. -/
def headRow (p : BitVec 32) (f : Fin 16 → EReal) (q g : Fin 128 → EReal) (l : Fin 128) : EReal :=
  rotated (by decide) (normed 0x43000000#32 q g) (fun k => Ideal.cos (angle p f k)) (fun k => Ideal.sin (angle p f k)) l

section arrays

/-- Each row's norm, of whole arrays, -/
def normRows (X : FVec Ideal (N2 16640 4096) .f32) (G : FVec Ideal (N2 1 4096) .f32) : FVec Ideal (N2 16640 4096) .bf16 :=
  fun y => normed 0x45800000#32 (fun k : Fin 4096 => X (ix2 (y 0) k)) (fun k => G (ix2 0 k)) (y 1)

/-- the product, -/
def product {M : Nat} (X : FVec Ideal (N2 16640 4096) .bf16) (W : FVec Ideal (N2 4096 M) .bf16) : FVec Ideal (N2 16640 M) .f32 :=
  fun y => ∑ k : Fin 4096, X (ix2 (y 0) k) * W (ix2 k (y 1))

variable (z : BitVec 32) (P : FVec Ideal (N2 16640 6144) .f32) (G G' : FVec Ideal (N2 1 128) .f32) (C T T' : FVec Ideal (N2 16640 128) .f32)

/-- a head's query at a row, `z` the scores' scale, -/
def queryAt (r : Fin 16640) (h : Fin 32) (l : Fin 128) : EReal :=
  turned (fun k => P (ix2 r ⟨h.val * 128 + k.val, by omega⟩)) (fun k => G (ix2 0 k)) (fun k => C (ix2 r k)) (fun k => T (ix2 r k)) (fun k => T' (ix2 r k)) l
    * Ideal.ofBits FTy.f32 z

/-- its key -/
def keyAt (r : Fin 16640) (h : Fin 8) (l : Fin 128) : EReal :=
  turned (fun k => P (ix2 r ⟨(32 + h.val) * 128 + k.val, by omega⟩)) (fun k => G' (ix2 0 k)) (fun k => C (ix2 r k)) (fun k => T (ix2 r k)) (fun k => T' (ix2 r k)) l

/-- and its value. -/
def valueAt (r : Fin 16640) (h : Fin 8) (l : Fin 128) : EReal := P (ix2 r ⟨(40 + h.val) * 128 + l.val, by omega⟩)

def queries : FVec Ideal (N2 16640 4096) .bf16 := fun y =>
  queryAt z P G C T T' (y 0) ⟨(y 1).val / 128, by have := (y 1).isLt; show _ < 32; change (y 1).val < 4096 at this; omega⟩ ⟨(y 1).val % 128, Nat.mod_lt _ (by decide)⟩

theorem queries_apply (r : Fin 16640) (h : Fin 32) (l : Fin 128) : queries z P G C T T' (ix2 r ⟨h.val * 128 + l.val, by omega⟩) = queryAt z P G C T T' r h l := by
  show queryAt z P G C T T' r _ _ = queryAt z P G C T T' r h l
  congr 1
  · apply Fin.ext; show (h.val * 128 + l.val) / 128 = h.val; omega
  · apply Fin.ext; show (h.val * 128 + l.val) % 128 = l.val; omega

def keys : FVec Ideal (N3 16640 8 128) .f32 := fun y => keyAt P G' C T T' (y 0) (y 1) (y 2)

def values : FVec Ideal (N3 16640 8 128) .f32 := fun y => valueAt P (y 0) (y 1) (y 2)

section rows
variable (r : Fin 16640) (x g : Fin 4096 → EReal) (W : Fin 4096 → Fin 6144 → EReal) (u u' : Fin 128 → EReal) (p : BitVec 32) (f : Fin 16 → EReal)
  (hP : ∀ j, P (ix2 r j) = projected x g W j) (hG : ∀ k, G (ix2 0 k) = u k) (hG' : ∀ k, G' (ix2 0 k) = u' k)
  (hC : ∀ k : Fin 128, C (ix2 r k) = tabC (fun i => Ideal.cos (angle p f i)) k.val)
  (hT : ∀ k : Fin 128, T (ix2 r k) = tabS (fun i => Ideal.sin (angle p f i)) k.val)
  (hT' : ∀ k : Fin 128, T' (ix2 r k) = tabS' (fun i => Ideal.sin (angle p f i)) k.val)

include hP hG hC hT hT' in
theorem queryAt_row (h : Fin 32) (l : Fin 128) : queryAt z P G C T T' r h l
    = headRow p f (fun k => projected x g W ⟨h.val * 128 + k.val, by omega⟩) u l * Ideal.ofBits FTy.f32 z := by
  unfold queryAt
  simp only [hP, hG, hC, hT, hT']
  rw [turned_eq]
  rfl

include hP hG' hC hT hT' in
theorem keyAt_row (h : Fin 8) (l : Fin 128) : keyAt P G' C T T' r h l = headRow p f (fun k => projected x g W ⟨(32 + h.val) * 128 + k.val, by omega⟩) u' l := by
  unfold keyAt
  simp only [hP, hG', hC, hT, hT']
  rw [turned_eq]
  rfl

include hP in
theorem valueAt_row (h : Fin 8) (l : Fin 128) : valueAt P r h l = projected x g W ⟨(40 + h.val) * 128 + l.val, by omega⟩ := hP _

end rows

end arrays

section host

/-- The host's norm of a row. -/
theorem norm_host3 {B S D : Nat} (Q : FVec Ideal (N3 B S D) .f32) (g : FVec Ideal (N1 D) .f32) (d : BitVec 32)
    (h1 : (N2 B S).BroadcastsInDim (N3 B S 1) ![0, 1]) (h2 : (N3 B S D).ReducesTo [2] (N2 B S)) (h2' h3 h4)
    (h5 : (N3 B S 1).BroadcastsInDim (N3 B S D) ![0, 1, 2]) (h6 : (N1 D).BroadcastsInDim (N3 1 1 D) ![2])
    (h7 : (N3 1 1 D).BroadcastsInDim (N3 B S D) ![0, 1, 2]) (h8 : (N3 B S D).Reduces [2] (N2 B S)) (b s l) :
    mulf (mulf Q (broadcastInDim (N3 B S D) ![0, 1, 2] h5 (Host.rsqrt (addf (Host.divf (broadcastInDim (N3 B S 1) ![0, 1] h1
        (Host.reduceAdd (axes := [2]) (t := N2 B S) (u := N0) (mulf Q Q) (constant N0 .f32 0#32) h2 h2')) (broadcastInDim (N3 B S 1) ![] h3 (constant N0 .f32 d)))
        (broadcastInDim (N3 B S 1) ![] h4 (constant N0 .f32 0x358637BD#32))))))
      (broadcastInDim (N3 B S D) ![0, 1, 2] h7 (broadcastInDim (N3 1 1 D) ![2] h6 g)) (ix3 b s l)
      = normed d (fun k => Q (ix3 b s k)) (fun k => g (ix1 k)) l := by
  have e1 : ∀ x : FVec Ideal (N3 B S 1) .f32, broadcastInDim (N3 B S D) ![0, 1, 2] h5 x (ix3 b s l) = x (ix3 b s 0) := fun x =>
    spread _ _ _ _ (ix3 b s (0 : Fin 1)) fun a => match a with
      | ⟨0, _⟩ => .inl rfl
      | ⟨1, _⟩ => .inl rfl
      | ⟨2, _⟩ => .inr rfl
  have e2 : ∀ x : FVec Ideal (N2 B S) .f32, broadcastInDim (N3 B S 1) ![0, 1] h1 x (ix3 b s 0) = x (ix2 b s) := fun x =>
    spread _ _ _ _ (ix2 b s) fun a => match a with
      | ⟨0, _⟩ => .inl rfl
      | ⟨1, _⟩ => .inl rfl
  have e3 : broadcastInDim (N3 B S D) ![0, 1, 2] h7 (broadcastInDim (N3 1 1 D) ![2] h6 g) (ix3 b s l) = g (ix1 l) := by
    refine (spread _ _ _ _ (ix3 (0 : Fin 1) (0 : Fin 1) l) fun a => ?_).trans (spread _ _ _ _ (ix1 l) fun a => ?_)
    · match a with
      | ⟨0, _⟩ => exact .inr rfl
      | ⟨1, _⟩ => exact .inr rfl
      | ⟨2, _⟩ => exact .inl rfl
    · match a with
      | ⟨0, _⟩ => exact .inl rfl
  have e4 : ∀ c : BitVec 32, ∀ h, broadcastInDim (N3 B S 1) ![] h (constant (F := Ideal) N0 .f32 c) (ix3 b s 0) = Ideal.ofBits FTy.f32 c := fun c h =>
    spread _ _ _ _ ix0 fun a => a.elim0
  have e5 : Host.reduceAdd (F := Ideal) (axes := [2]) (t := N2 B S) (u := N0) (mulf Q Q) (constant N0 .f32 0#32) h2 h2' (ix2 b s)
      = ∑ k : Fin D, Q (ix3 b s k) * Q (ix3 b s k) := by
    simp only [Host.reduceAdd, Ideal.hostReduceAdd_def]
    rw [Ideal.hostReduceAdd_single h2 h8]
    refine (congr (congrArg _ (show _ = (0 : EReal) from ?_)) (Finset.sum_congr rfl fun k _ => ?_)).trans (zero_add _)
    · show Ideal.ofBits FTy.f32 0#32 = 0
      simp
    · have e : h8.lift (ix2 b s) k = ix3 b s k :=
        funext fun a => Fin.ext (by match a with | ⟨0, _⟩ => rfl | ⟨1, _⟩ => rfl | ⟨2, _⟩ => rfl)
      exact congrArg (mulf Q Q) e
  unfold normed
  rw [mulf_at, mulf_at, e1, e3, rsqrt_at, addf_at, divf_at, e2, e4, e4, e5]

/-- A run of columns read as heads. -/
theorem heads {α : Type} {B S M N E : Nat} (hE : E = N * 128) (P : (N3 B S M).Idx → α) (o : Nat) (h : (N3 B S M).Slices ![0, 0, o] (N3 B S E))
    (h' : (N3 B S E).ShapeCasts (N4 B S N 128)) (b s n) (k : Fin 128) (j : Fin M) (hj : j.val = o + (n.val * 128 + k.val)) :
    shapeCast (N4 B S N 128) (extractStridedSlice (N3 B S E) ![0, 0, o] P h) h' (ix4 b s n k) = P (ix3 b s j) := by
  subst hE
  have hn := n.isLt
  refine (shapeCast_apply _ _ _ (ix3 b s (⟨n.val * 128 + k.val, by have := k.isLt; omega⟩ : Fin (N * 128))) ?_).trans ?_
  · rw [Shape.rowMajor_val_four, Shape.rowMajor_val_three]
    show (b.val * S + s.val) * (N * 128) + (n.val * 128 + k.val) = ((b.val * S + s.val) * N + n.val) * 128 + k.val
    ring
  · refine congrArg P (funext fun a => Fin.ext ?_)
    match a with
    | ⟨0, _⟩ => show 0 + b.val = b.val; omega
    | ⟨1, _⟩ => show 0 + s.val = s.val; omega
    | ⟨2, _⟩ => exact hj.symm

/-- Three pieces laid side by side, each replaced by its equal. -/
theorem pieces3 {α : Type} {t s₁ s₂ s₃ : Shape} {a : Fin t.rank} {x x' : s₁.Idx → α} {y y' : s₂.Idx → α} {z z' : s₃.Idx → α} (hx : x = x') (hy : y = y') (hz : z = z') (h) (i) :
    concatenate t a [⟨s₁, x⟩, ⟨s₂, y⟩, ⟨s₃, z⟩] h i = concatenate t a [⟨s₁, x'⟩, ⟨s₂, y'⟩, ⟨s₃, z'⟩] h i := by
  subst hx hy hz
  rfl

theorem pieces2 {α : Type} {t s₁ s₂ : Shape} {a : Fin t.rank} {x x' : s₁.Idx → α} {y y' : s₂.Idx → α} (hx : x = x') (hy : y = y') (h) (i) :
    concatenate t a [⟨s₁, x⟩, ⟨s₂, y⟩] h i = concatenate t a [⟨s₁, x'⟩, ⟨s₂, y'⟩] h i := by
  subst hx hy
  rfl

/-- A vector laid out as one row. -/
theorem as_row {α : Type} {D : Nat} (x : (N1 D).Idx → α) (h) (k : Fin D) : shapeCast (N2 1 D) x h (ix2 0 k) = x (ix1 k) :=
  shapeCast_apply _ _ _ (ix1 k) (by rw [Shape.rowMajor_val_two, Shape.rowMajor_val_one]; show k.val = 0 * D + k.val; omega)

/-- Positions of the prompt's rows, and of the samples', laid one under the other. -/
theorem place_prompt {α : Type} (p : (N1 8192).Idx → α) (q : (N1 256).Idx → α) (h : (N2 1 8192).BroadcastsInDim (N2 2 8192) ![0, 1]) (h0 h1 hc) (b : Fin 2) (s : Fin 8192) :
    concatenate (N1 16640) 0 [⟨N1 16384, shapeCast (N1 16384) (broadcastInDim (N2 2 8192) ![0, 1] h (shapeCast (N2 1 8192) p h0)) h1⟩, ⟨N1 256, q⟩] hc (ix1 (rowP b s)) = p (ix1 s) := by
  refine (concatenate_pair_apply_left 0 (shapeCast (N1 16384) (broadcastInDim (N2 2 8192) ![0, 1] h (shapeCast (N2 1 8192) p h0)) h1) q hc _ rfl (ix1 (⟨b.val * 8192 + s.val, by omega⟩ : Fin 16384)) (fun a => match a with | ⟨0, _⟩ => rfl)).trans ?_
  refine (shapeCast_apply _ _ _ (ix2 b s) ?_).trans ((spread _ _ _ _ (ix2 (0 : Fin 1) s) fun a => ?_).trans (shapeCast_apply _ _ _ (ix1 s) ?_))
  · rw [Shape.rowMajor_val_two, Shape.rowMajor_val_one]
    rfl
  · match a with
    | ⟨0, _⟩ => exact .inr rfl
    | ⟨1, _⟩ => exact .inl rfl
  · rw [Shape.rowMajor_val_two, Shape.rowMajor_val_one]
    show s.val = 0 * 8192 + s.val
    omega

theorem place_sample {α : Type} (p : (N1 32).Idx → α) (q : (N1 16384).Idx → α) (h : (N2 1 32).BroadcastsInDim (N2 8 32) ![0, 1]) (h0 h1 hc) (b : Fin 8) (s : Fin 32) :
    concatenate (N1 16640) 0 [⟨N1 16384, q⟩, ⟨N1 256, shapeCast (N1 256) (broadcastInDim (N2 8 32) ![0, 1] h (shapeCast (N2 1 32) p h0)) h1⟩] hc (ix1 (rowS b s)) = p (ix1 s) := by
  refine (concatenate_pair_apply_right 0 q (shapeCast (N1 256) (broadcastInDim (N2 8 32) ![0, 1] h (shapeCast (N2 1 32) p h0)) h1) hc _ rfl rfl (ix1 (⟨b.val * 32 + s.val, by omega⟩ : Fin 256)) (fun a => ?_) ?_).trans ?_
  · match a with
    | ⟨0, _⟩ => exact fun h => absurd rfl h
  · show b.val * 32 + s.val + 16384 = 16384 + (b.val * 32 + s.val); omega
  refine (shapeCast_apply _ _ _ (ix2 b s) ?_).trans ((spread _ _ _ _ (ix2 (0 : Fin 1) s) fun a => ?_).trans (shapeCast_apply _ _ _ (ix1 s) ?_))
  · rw [Shape.rowMajor_val_two, Shape.rowMajor_val_one]
    rfl
  · match a with
    | ⟨0, _⟩ => exact .inr rfl
    | ⟨1, _⟩ => exact .inl rfl
  · rw [Shape.rowMajor_val_two, Shape.rowMajor_val_one]
    show s.val = 0 * 32 + s.val
    omega

/-- A table of rows carried through the host's reshapes is itself. -/
theorem carried {α : Type} {R D : Nat} (X : (N2 R D).Idx → α) (h : (N4 1 R 1 D).BroadcastsInDim (N4 1 R 1 D) ![0, 1, 2, 3]) (h1 h2) (r l) :
    shapeCast (N2 R D) (broadcastInDim (N4 1 R 1 D) ![0, 1, 2, 3] h (shapeCast (N4 1 R 1 D) X h1)) h2 (ix2 r l) = X (ix2 r l) := by
  refine (shapeCast_apply _ _ _ (ix4 (0 : Fin 1) r (0 : Fin 1) l) ?_).trans ((spread _ _ _ _ (ix4 (0 : Fin 1) r (0 : Fin 1) l) fun a => ?_).trans (shapeCast_apply _ _ _ (ix2 r l) ?_))
  · rw [Shape.rowMajor_val_two, Shape.rowMajor_val_four]
    show ((0 * R + r.val) * 1 + 0) * D + l.val = r.val * D + l.val
    simp
  · match a with
    | ⟨0, _⟩ => exact .inl rfl
    | ⟨1, _⟩ => exact .inl rfl
    | ⟨2, _⟩ => exact .inl rfl
    | ⟨3, _⟩ => exact .inl rfl
  · rw [Shape.rowMajor_val_two, Shape.rowMajor_val_four]
    show r.val * D + l.val = ((0 * R + r.val) * 1 + 0) * D + l.val
    simp

section tables
variable {R D H E : Nat} (X : FVec Ideal (N2 R H) .f32)

theorem side {r : Fin R} {n m : Nat} (e : Fin n) (l : Fin m) (a : Fin 2) (ha : a ≠ 1) : ((ix2 r e : (N2 R n).Idx) a).val = ((ix2 r l : (N2 R m).Idx) a).val := by
  match a with
  | ⟨0, _⟩ => rfl
  | ⟨1, _⟩ => exact absurd rfl ha

theorem tableC (hD : H + H + E = D) (one : FVec Ideal (N2 R E) .f32) (h1 : ∀ i, one i = (1 : EReal)) (hc) (r) (l : Fin D) :
    concatenate (N2 R D) 1 [⟨N2 R H, X⟩, ⟨N2 R H, X⟩, ⟨N2 R E, one⟩] hc (ix2 r l) = tabC (fun k => X (ix2 r k)) l.val := by
  unfold tabC
  by_cases h : l.val < H
  · rw [dif_pos h]
    exact concatenate_apply_piece 1 _ hc _ 0 (by simp) (N2 R H) _ rfl rfl 0 (by simp) (ix2 r ⟨l.val, h⟩) (fun a ha => side _ _ a ha) (by show 0 + l.val = l.val; omega)
  · rw [dif_neg h]
    by_cases h' : l.val - H < H
    · rw [dif_pos h']
      exact concatenate_apply_piece 1 _ hc _ 1 (by simp) (N2 R H) _ rfl rfl H (by simp) (ix2 r ⟨l.val - H, h'⟩) (fun a ha => side _ _ a ha) (by show H + (l.val - H) = l.val; omega)
    · rw [dif_neg h']
      exact (concatenate_apply_piece 1 _ hc _ 2 (by simp) (N2 R E) _ rfl rfl (H + H) (by simp) (ix2 r ⟨l.val - (H + H), by omega⟩) (fun a ha => side _ _ a ha) (by show H + H + (l.val - (H + H)) = l.val; omega)).trans (h1 _)

theorem tableS (hD : H + E = D) (zero : FVec Ideal (N2 R E) .f32) (h0 : ∀ i, zero i = (0 : EReal)) (hc) (r) (l : Fin D) :
    concatenate (N2 R D) 1 [⟨N2 R H, Host.negf X⟩, ⟨N2 R E, zero⟩] hc (ix2 r l) = tabS (fun k => X (ix2 r k)) l.val := by
  unfold tabS
  by_cases h : l.val < H
  · rw [dif_pos h]
    exact concatenate_apply_piece 1 _ hc _ 0 (by simp) (N2 R H) _ rfl rfl 0 (by simp) (ix2 r ⟨l.val, h⟩) (fun a ha => side _ _ a ha) (by show 0 + l.val = l.val; omega)
  · rw [dif_neg h]
    exact (concatenate_apply_piece 1 _ hc _ 1 (by simp) (N2 R E) _ rfl rfl H (by simp) (ix2 r ⟨l.val - H, by omega⟩) (fun a ha => side _ _ a ha) (by show H + (l.val - H) = l.val; omega)).trans (h0 _)

theorem tableS' (hD : H + H + E = D) (zero : FVec Ideal (N2 R H) .f32) (zero' : FVec Ideal (N2 R E) .f32) (h0 : ∀ i, zero i = (0 : EReal)) (h0' : ∀ i, zero' i = (0 : EReal)) (hc) (r) (l : Fin D) :
    concatenate (N2 R D) 1 [⟨N2 R H, zero⟩, ⟨N2 R H, X⟩, ⟨N2 R E, zero'⟩] hc (ix2 r l) = tabS' (fun k => X (ix2 r k)) l.val := by
  unfold tabS'
  by_cases h : l.val < H
  · rw [if_pos h]
    exact (concatenate_apply_piece 1 _ hc _ 0 (by simp) (N2 R H) _ rfl rfl 0 (by simp) (ix2 r ⟨l.val, h⟩) (fun a ha => side _ _ a ha) (by show 0 + l.val = l.val; omega)).trans (h0 _)
  · rw [if_neg h]
    by_cases h' : l.val - H < H
    · rw [dif_pos h']
      exact concatenate_apply_piece 1 _ hc _ 1 (by simp) (N2 R H) _ rfl rfl H (by simp) (ix2 r ⟨l.val - H, h'⟩) (fun a ha => side _ _ a ha) (by show H + (l.val - H) = l.val; omega)
    · rw [dif_neg h']
      exact (concatenate_apply_piece 1 _ hc _ 2 (by simp) (N2 R E) _ rfl rfl (H + H) (by simp) (ix2 r ⟨l.val - (H + H), by omega⟩) (fun a ha => side _ _ a ha) (by show H + H + (l.val - (H + H)) = l.val; omega)).trans (h0' _)

end tables

section split
variable {α : Type}

theorem queries_prompt (x : (N2 16640 4096).Idx → α) (h₁ h₂) (b : Fin 2) (s : Fin 8192) (n : Fin 32) (l : Fin 128) :
    shapeCast (N4 2 8192 32 128) (extractStridedSlice (N2 16384 4096) ![0, 0] x h₁) h₂ (ix4 b s n l) = x (ix2 (rowP b s) ⟨n.val * 128 + l.val, by omega⟩) := by
  refine (shapeCast_apply _ _ _ (ix2 (⟨b.val * 8192 + s.val, by omega⟩ : Fin 16384) (⟨n.val * 128 + l.val, by omega⟩ : Fin 4096)) ?_).trans ?_
  · rw [Shape.rowMajor_val_four, Shape.rowMajor_val_two]
    show (b.val * 8192 + s.val) * 4096 + (n.val * 128 + l.val) = ((b.val * 8192 + s.val) * 32 + n.val) * 128 + l.val
    omega
  · refine congrArg x (funext fun a => Fin.ext ?_)
    match a with
    | ⟨0, _⟩ => show 0 + (b.val * 8192 + s.val) = b.val * 8192 + s.val; omega
    | ⟨1, _⟩ => show 0 + (n.val * 128 + l.val) = n.val * 128 + l.val; omega

theorem queries_sample (x : (N2 16640 4096).Idx → α) (h₁ h₂) (b : Fin 8) (s : Fin 32) (n : Fin 32) (l : Fin 128) :
    shapeCast (N4 8 32 32 128) (extractStridedSlice (N2 256 4096) ![16384, 0] x h₁) h₂ (ix4 b s n l) = x (ix2 (rowS b s) ⟨n.val * 128 + l.val, by omega⟩) := by
  refine (shapeCast_apply _ _ _ (ix2 (⟨b.val * 32 + s.val, by omega⟩ : Fin 256) (⟨n.val * 128 + l.val, by omega⟩ : Fin 4096)) ?_).trans ?_
  · rw [Shape.rowMajor_val_four, Shape.rowMajor_val_two]
    show (b.val * 32 + s.val) * 4096 + (n.val * 128 + l.val) = ((b.val * 32 + s.val) * 32 + n.val) * 128 + l.val
    omega
  · refine congrArg x (funext fun a => Fin.ext ?_)
    match a with
    | ⟨0, _⟩ => rfl
    | ⟨1, _⟩ => show 0 + (n.val * 128 + l.val) = n.val * 128 + l.val; omega

theorem heads_prompt (x : (N3 16640 8 128).Idx → α) (h₁ h₂) (b : Fin 2) (s : Fin 8192) (n : Fin 8) (l : Fin 128) :
    shapeCast (N4 2 8192 8 128) (extractStridedSlice (N3 16384 8 128) ![0, 0, 0] x h₁) h₂ (ix4 b s n l) = x (ix3 (rowP b s) n l) := by
  refine (shapeCast_apply _ _ _ (ix3 (⟨b.val * 8192 + s.val, by omega⟩ : Fin 16384) n l) ?_).trans ?_
  · rw [Shape.rowMajor_val_four, Shape.rowMajor_val_three]
    rfl
  · refine congrArg x (funext fun a => Fin.ext ?_)
    match a with
    | ⟨0, _⟩ => show 0 + (b.val * 8192 + s.val) = b.val * 8192 + s.val; omega
    | ⟨1, _⟩ => show 0 + n.val = n.val; omega
    | ⟨2, _⟩ => show 0 + l.val = l.val; omega

theorem heads_sample (x : (N3 16640 8 128).Idx → α) (h₁ h₂) (b : Fin 8) (s : Fin 32) (n : Fin 8) (l : Fin 128) :
    shapeCast (N4 8 32 8 128) (extractStridedSlice (N3 256 8 128) ![16384, 0, 0] x h₁) h₂ (ix4 b s n l) = x (ix3 (rowS b s) n l) := by
  refine (shapeCast_apply _ _ _ (ix3 (⟨b.val * 32 + s.val, by omega⟩ : Fin 256) n l) ?_).trans ?_
  · rw [Shape.rowMajor_val_four, Shape.rowMajor_val_three]
    rfl
  · refine congrArg x (funext fun a => Fin.ext ?_)
    match a with
    | ⟨0, _⟩ => rfl
    | ⟨1, _⟩ => show 0 + n.val = n.val; omega
    | ⟨2, _⟩ => show 0 + l.val = l.val; omega

end split

end host

end Cert.FrontRows

end
-- ==== Proof.FirstArrays.lean ====
/-
  The first layer's front on the kernel's side: what each of its three regions leaves of the arrays it reads.
-/
module

public import proofs.«01_k».proof.Proof.FirstHeads
public import proofs.«01_k».proof.Proof.FrontRows
public import Idealize.ShloMosaic.Lib.Tactic.CleanTypes

@[expose] public section

set_option maxRecDepth 16384

noncomputable section

namespace Cert.FirstArrays

open Cert.HeadRows Cert.FrontRows Cert.FirstHeads Cert.Kernel2Ideal Cert.Kernel2Ideal.Gen Idealize.ShloMosaic Idealize.ShloMosaic.TcCoe Idealize.SL.Sem

theorem rms_apply (x : Vec Ideal S256x4096 .f32) (g : Vec Ideal S1x4096 .f32) (r : Fin 256) (l : Fin 4096) :
    k0_pay1 x g (ix2 r l) = normed 0x45800000#32 (fun k => x (ix2 r k)) (fun k => g (ix2 0 k)) l := by
  pointwise [k0_pay1]
  rfl

theorem product_apply (x : Vec Ideal S1280x4096 .bf16) (w : Vec Ideal S4096x512 .bf16) (r : Fin 1280) (l : Fin 512) :
    k1_pay1 x w (ix2 r l) = ∑ k : Fin 4096, x (ix2 r k) * w (ix2 k l) := by
  pointwise [k1_pay1]

variable (V : (c : Dev nD) → (b : Ref sig .tc) → Buf (Elt Ideal) ((c : Thread nD τ).loc b)) (c : Dev nD)

section region0

theorem widx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

def row0 (t : Fin cfg0.N) (r : Fin 256) : Fin 16640 :=
  ⟨(grid0.coords t 0).val * 256 + r.val, by have h : (grid0.coords t 0).val < 65 := (grid0.coords t 0).isLt; omega⟩

theorem emb0_0 (t : Fin cfg0.N) (r : Fin 256) (k : Fin 4096) : ((cfg0.win 0).blk t).view.emb (ix2 r k) = ix2 (row0 t r) k := by
  unfold row0; blk_ext [(widx0 t).1]

theorem emb0_1 (t : Fin cfg0.N) (r : Fin 1) (k : Fin 4096) : ((cfg0.win 1).blk t).view.emb (ix2 r k) = ix2 r k := by
  blk_ext [(widx0 t).2.1]

theorem emb0_2 (t : Fin cfg0.N) (r : Fin 256) (k : Fin 4096) : ((cfg0.win 2).blk t).view.emb (ix2 r k) = ix2 (row0 t r) k := by
  unfold row0; blk_ext [(widx0 t).2.2]

theorem array0 : ((dat0 V c).arrAt 2 cfg0.N : FVec Ideal S16640x4096 .bf16) = normRows (V c main_v2) (V c main_v46) := by
  refine (dat0 V c).arrAt_eq_of_covers 2 _ (by decide +kernel) fun t hf y => ?_
  blk_simp
  rw [after0_2]
  frame_out
  obtain ⟨r, l, rfl⟩ : ∃ r l, y = ix2 r l := ⟨y 0, y 1, eq_ix2 y⟩
  rw [rms_apply]
  refine Eq.trans ?_ (congrArg (normRows (V c main_v2) (V c main_v46)) (emb0_2 t r l)).symm
  have key : ∀ (X : FVec Ideal S16640x4096 .f32) (G : FVec Ideal S1x4096 .f32),
      normed 0x45800000#32 (fun k : Fin 4096 => X (((cfg0.win 0).blk t).view.emb (ix2 r k))) (fun k => G (((cfg0.win 1).blk t).view.emb (ix2 0 k))) l
        = normRows X G (ix2 (row0 t r) l) := fun X G =>
    congrArg₂ (fun p g : Fin 4096 → EReal => normed 0x45800000#32 p g l) (funext fun k => congrArg X (emb0_0 t r k)) (funext fun k => congrArg G (emb0_1 t 0 k))
  exact key (V c main_v2) (V c main_v46)

end region0

section region1

theorem widx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)

def row1 (t : Fin cfg1.N) (r : Fin 1280) : Fin 16640 :=
  ⟨(grid1.coords t 0).val * 1280 + r.val, by have h : (grid1.coords t 0).val < 13 := (grid1.coords t 0).isLt; omega⟩

def col1 (t : Fin cfg1.N) (l : Fin 512) : Fin 6144 :=
  ⟨(grid1.coords t 1).val * 512 + l.val, by have h : (grid1.coords t 1).val < 12 := (grid1.coords t 1).isLt; omega⟩

theorem emb1_0 (t : Fin cfg1.N) (r : Fin 1280) (k : Fin 4096) : ((cfg1.win 0).blk t).view.emb (ix2 r k) = ix2 (row1 t r) k := by
  unfold row1; blk_ext [(widx1 t).1]

theorem emb1_1 (t : Fin cfg1.N) (k : Fin 4096) (l : Fin 512) : ((cfg1.win 1).blk t).view.emb (ix2 k l) = ix2 k (col1 t l) := by
  unfold col1; blk_ext [(widx1 t).2.1]

theorem emb1_2 (t : Fin cfg1.N) (r : Fin 1280) (l : Fin 512) : ((cfg1.win 2).blk t).view.emb (ix2 r l) = ix2 (row1 t r) (col1 t l) := by
  unfold row1 col1; blk_ext [(widx1 t).2.2]

theorem array1 : ((dat1 V c).arrAt 2 cfg1.N : FVec Ideal S16640x6144 .f32) = product (V c main_v47) (V c main_v48) := by
  refine (dat1 V c).arrAt_eq_of_covers 2 _ (by decide +kernel) fun t hf y => ?_
  blk_simp
  rw [after1_2]
  frame_out
  obtain ⟨r, l, rfl⟩ : ∃ r l, y = ix2 r l := ⟨y 0, y 1, eq_ix2 y⟩
  rw [product_apply]
  refine Eq.trans ?_ (congrArg (product (V c main_v47) (V c main_v48)) (emb1_2 t r l)).symm
  have key : ∀ (X : FVec Ideal S16640x4096 .bf16) (W : FVec Ideal S4096x6144 .bf16),
      ∑ k : Fin 4096, X (((cfg1.win 0).blk t).view.emb (ix2 r k)) * W (((cfg1.win 1).blk t).view.emb (ix2 k l))
        = product X W (ix2 (row1 t r) (col1 t l)) := fun X W =>
    Finset.sum_congr rfl fun k _ => congr (congrArg _ (congrArg X (emb1_0 t r k))) (congrArg W (emb1_1 t k l))
  exact key (V c main_v47) (V c main_v48)

end region1

section region2

theorem widx2 : ∀ t : Fin cfg2.N, win2_0.index t = ![(grid2.coords t 0).val, 0] ∧ win2_1.index t = ![0, 0] ∧ win2_2.index t = ![0, 0]
    ∧ win2_3.index t = ![(grid2.coords t 0).val, 0] ∧ win2_4.index t = ![(grid2.coords t 0).val, 0] ∧ win2_5.index t = ![(grid2.coords t 0).val, 0]
    ∧ win2_6.index t = ![(grid2.coords t 0).val, 0] ∧ win2_7.index t = ![(grid2.coords t 0).val, 0, 0] ∧ win2_9.index t = ![(grid2.coords t 0).val, 0, 0] :=
  (by decide +kernel : ∀ t : Fin grid2.N, _)

def row2 (t : Fin cfg2.N) (r : Fin 256) : Fin 16640 :=
  ⟨(grid2.coords t 0).val * 256 + r.val, by have h : (grid2.coords t 0).val < 65 := (grid2.coords t 0).isLt; omega⟩

theorem emb2_0 (t : Fin cfg2.N) (r : Fin 256) (k : Fin 6144) : ((cfg2.win 0).blk t).view.emb (ix2 r k) = ix2 (row2 t r) k := by
  unfold row2; blk_ext [(widx2 t).1]

theorem emb2_1 (t : Fin cfg2.N) (r : Fin 1) (k : Fin 128) : ((cfg2.win 1).blk t).view.emb (ix2 r k) = ix2 r k := by
  blk_ext [(widx2 t).2.1]

theorem emb2_2 (t : Fin cfg2.N) (r : Fin 1) (k : Fin 128) : ((cfg2.win 2).blk t).view.emb (ix2 r k) = ix2 r k := by
  blk_ext [(widx2 t).2.2.1]

theorem emb2_3 (t : Fin cfg2.N) (r : Fin 256) (k : Fin 128) : ((cfg2.win 3).blk t).view.emb (ix2 r k) = ix2 (row2 t r) k := by
  unfold row2; blk_ext [(widx2 t).2.2.2.1]

theorem emb2_4 (t : Fin cfg2.N) (r : Fin 256) (k : Fin 128) : ((cfg2.win 4).blk t).view.emb (ix2 r k) = ix2 (row2 t r) k := by
  unfold row2; blk_ext [(widx2 t).2.2.2.2.1]

theorem emb2_5 (t : Fin cfg2.N) (r : Fin 256) (k : Fin 128) : ((cfg2.win 5).blk t).view.emb (ix2 r k) = ix2 (row2 t r) k := by
  unfold row2; blk_ext [(widx2 t).2.2.2.2.2.1]

theorem emb2_6 (t : Fin cfg2.N) (r : Fin 256) (k : Fin 4096) : ((cfg2.win 6).blk t).view.emb (ix2 r k) = ix2 (row2 t r) k := by
  unfold row2; blk_ext [(widx2 t).2.2.2.2.2.2.1]

theorem emb2_7 (t : Fin cfg2.N) (r : Fin 256) (h : Fin 8) (l : Fin 128) : ((cfg2.win 7).blk t).view.emb (ix3 r h l) = ix3 (row2 t r) h l := by
  unfold row2; blk_ext [(widx2 t).2.2.2.2.2.2.2.1]

theorem emb2_9 (t : Fin cfg2.N) (r : Fin 256) (h : Fin 8) (l : Fin 128) : ((cfg2.win 9).blk t).view.emb (ix3 r h l) = ix3 (row2 t r) h l := by
  unfold row2; blk_ext [(widx2 t).2.2.2.2.2.2.2.2]

/-- A row of a point's blocks, turned, is the arrays' row, turned. -/
theorem turned_row (t : Fin cfg2.N) (r : Fin 256) (b : Nat) (hb : ∀ k : Fin 128, b * 128 + k.val < 6144) (l : Fin 128)
    (P : FVec Ideal S16640x6144 .f32) (g : Fin 128 → EReal) (C T T' : FVec Ideal S16640x128 .f32) :
    turned (fun k : Fin 128 => P (((cfg2.win 0).blk t).view.emb (ix2 r ⟨b * 128 + k.val, hb k⟩))) g (fun k => C (((cfg2.win 3).blk t).view.emb (ix2 r k)))
        (fun k => T (((cfg2.win 4).blk t).view.emb (ix2 r k))) (fun k => T' (((cfg2.win 5).blk t).view.emb (ix2 r k))) l
      = turned (fun k : Fin 128 => P (ix2 (row2 t r) ⟨b * 128 + k.val, hb k⟩)) g (fun k => C (ix2 (row2 t r) k)) (fun k => T (ix2 (row2 t r) k)) (fun k => T' (ix2 (row2 t r) k)) l := by
  rw [show (fun k : Fin 128 => P (((cfg2.win 0).blk t).view.emb (ix2 r ⟨b * 128 + k.val, hb k⟩))) = fun k => P (ix2 (row2 t r) ⟨b * 128 + k.val, hb k⟩) from funext fun k => congrArg P (emb2_0 t r _),
    show (fun k : Fin 128 => C (((cfg2.win 3).blk t).view.emb (ix2 r k))) = fun k => C (ix2 (row2 t r) k) from funext fun k => congrArg C (emb2_3 t r k),
    show (fun k : Fin 128 => T (((cfg2.win 4).blk t).view.emb (ix2 r k))) = fun k => T (ix2 (row2 t r) k) from funext fun k => congrArg T (emb2_4 t r k),
    show (fun k : Fin 128 => T' (((cfg2.win 5).blk t).view.emb (ix2 r k))) = fun k => T' (ix2 (row2 t r) k) from funext fun k => congrArg T' (emb2_5 t r k)]

theorem array2_6 : ((dat2 V c).arrAt 6 cfg2.N : FVec Ideal S16640x4096 .bf16)
    = queries 0x3DB504F3#32 (V c main_v49) (V c main_v50) (V c main_v39) (V c main_v42) (V c main_v45) := by
  refine (dat2 V c).arrAt_eq_of_covers 6 _ (by decide +kernel) fun t hf y => ?_
  blk_simp
  rw [after2_6, out_q]
  obtain ⟨r, h, l, rfl⟩ : ∃ (r : Fin 256) (h : Fin 32) (l : Fin 128), y = ix2 r ⟨h.val * 128 + l.val, by omega⟩ := by
    have hy : (y 1).val < 4096 := (y 1).isLt
    refine ⟨y 0, ⟨(y 1).val / 128, by omega⟩, ⟨(y 1).val % 128, Nat.mod_lt _ (by decide)⟩, ?_⟩
    funext a; apply Fin.ext
    match a with
    | ⟨0, _⟩ => rfl
    | ⟨1, _⟩ => show (y 1).val = (y 1).val / 128 * 128 + (y 1).val % 128; omega
  rw [qblock_apply]
  refine Eq.trans ?_ (congrArg (queries 0x3DB504F3#32 (V c main_v49) (V c main_v50) (V c main_v39) (V c main_v42) (V c main_v45)) (emb2_6 t r ⟨h.val * 128 + l.val, by omega⟩)).symm
  have key : ∀ (P : FVec Ideal S16640x6144 .f32) (G : FVec Ideal S1x128 .f32) (C T T' : FVec Ideal S16640x128 .f32),
      turned (fun k : Fin 128 => P (((cfg2.win 0).blk t).view.emb (ix2 r ⟨h.val * 128 + k.val, by omega⟩))) (fun k => G (((cfg2.win 1).blk t).view.emb (ix2 0 k)))
          (fun k => C (((cfg2.win 3).blk t).view.emb (ix2 r k))) (fun k => T (((cfg2.win 4).blk t).view.emb (ix2 r k))) (fun k => T' (((cfg2.win 5).blk t).view.emb (ix2 r k))) l
          * Ideal.ofBits FTy.f32 0x3DB504F3#32
        = queries 0x3DB504F3#32 P G C T T' (ix2 (row2 t r) ⟨h.val * 128 + l.val, by omega⟩) := fun P G C T T' => by
    rw [turned_row t r h.val (by omega) l P _ C T T', show (fun k : Fin 128 => G (((cfg2.win 1).blk t).view.emb (ix2 0 k))) = fun k => G (ix2 0 k) from funext fun k => congrArg G (emb2_1 t 0 k)]
    exact (queries_apply _ P G C T T' (row2 t r) h l).symm
  exact key (V c main_v49) (V c main_v50) (V c main_v39) (V c main_v42) (V c main_v45)

theorem array2_7 : ((dat2 V c).arrAt 7 cfg2.N : FVec Ideal S16640x8x128 .f32)
    = keys (V c main_v49) (V c main_v51) (V c main_v39) (V c main_v42) (V c main_v45) := by
  refine (dat2 V c).arrAt_eq_of_covers 7 _ (by decide +kernel) fun t hf y => ?_
  blk_simp
  rw [after2_7, out_k]
  obtain ⟨r, h, l, rfl⟩ : ∃ r h l, y = ix3 r h l := ⟨y 0, y 1, y 2, eq_ix3 y⟩
  rw [kblock_apply]
  refine Eq.trans ?_ (congrArg (keys (V c main_v49) (V c main_v51) (V c main_v39) (V c main_v42) (V c main_v45)) (emb2_7 t r h l)).symm
  have key : ∀ (P : FVec Ideal S16640x6144 .f32) (G : FVec Ideal S1x128 .f32) (C T T' : FVec Ideal S16640x128 .f32),
      turned (fun k : Fin 128 => P (((cfg2.win 0).blk t).view.emb (ix2 r ⟨(32 + h.val) * 128 + k.val, by omega⟩))) (fun k => G (((cfg2.win 2).blk t).view.emb (ix2 0 k)))
          (fun k => C (((cfg2.win 3).blk t).view.emb (ix2 r k))) (fun k => T (((cfg2.win 4).blk t).view.emb (ix2 r k))) (fun k => T' (((cfg2.win 5).blk t).view.emb (ix2 r k))) l
        = keys P G C T T' (ix3 (row2 t r) h l) := fun P G C T T' => by
    rw [turned_row t r (32 + h.val) (by omega) l P _ C T T', show (fun k : Fin 128 => G (((cfg2.win 2).blk t).view.emb (ix2 0 k))) = fun k => G (ix2 0 k) from funext fun k => congrArg G (emb2_2 t 0 k)]
    rfl
  exact key (V c main_v49) (V c main_v51) (V c main_v39) (V c main_v42) (V c main_v45)

theorem array2_9 : ((dat2 V c).arrAt 9 cfg2.N : FVec Ideal S16640x8x128 .f32) = values (V c main_v49) := by
  refine (dat2 V c).arrAt_eq_of_covers 9 _ (by decide +kernel) fun t hf y => ?_
  blk_simp
  rw [after2_9, out_v]
  obtain ⟨r, h, l, rfl⟩ : ∃ r h l, y = ix3 r h l := ⟨y 0, y 1, y 2, eq_ix3 y⟩
  rw [vblock_apply]
  refine Eq.trans ?_ (congrArg (values (V c main_v49)) (emb2_9 t r h l)).symm
  have key : ∀ (P : FVec Ideal S16640x6144 .f32), P (((cfg2.win 0).blk t).view.emb (ix2 r ⟨(40 + h.val) * 128 + l.val, by omega⟩)) = values P (ix3 (row2 t r) h l) :=
    fun P => congrArg P (emb2_0 t r _)
  exact key (V c main_v49)

end region2

end Cert.FirstArrays

end
-- ==== Proof.FirstRun.lean ====
/-
  The first layer's front on the kernel's side: what the run leaves in the results, of what was launched.
-/
module

public import proofs.«01_k».proof.Proof.FirstArrays
public import Idealize.ShloMosaic.Lib.Tactic.CleanTypes
public import Idealize.ShloMosaic.Lib.StableHlo.RunRead

@[expose] public section

set_option maxRecDepth 16384

noncomputable section

namespace Cert.FirstRun

open Cert.HeadRows Cert.FrontRows Cert.RowLayout Cert.FirstArrays Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

/-- The rotation's frequencies, -/
def freq : FVec Ideal S16 .f32 :=
  Host.divf (broadcastInDim S16 ![] bcast_S_S16 (constant S_ .f32 0x3F800000#32))
    (Host.powf (broadcastInDim S16 ![] bcast_S_S16 (constant S_ .f32 0x48F42400#32)) (mulf (sitofp .f32 (iotaInDim S16 32 0)) (broadcastInDim S16 ![] bcast_S_S16 (constant S_ .f32 0x3D800000#32))))

/-- each row's position, -/
def place : IVec S16640 32 :=
  concatenate S16640 0 [⟨S16384, shapeCast S16384 (broadcastInDim S2x8192 ![0, 1] bcast_S1x8192_S2x8192_0_1 (shapeCast S1x8192 (iotaInDim S8192 32 0) shapeCasts_S8192_S1x8192)) shapeCasts_S2x8192_S16384⟩,
    ⟨S256, shapeCast S256 (broadcastInDim S8x32 ![0, 1] bcast_S1x32_S8x32_0_1 (shapeCast S1x32 (addi (broadcastInDim S32 ![] bcast_S_S32 (constantI S_ 32 2048#32)) (iotaInDim S32 32 0)) shapeCasts_S32_S1x32)) shapeCasts_S8x32_S256⟩]
    concatenates_S16384_S256_S16640_d0

/-- and the angles. -/
def angles : FVec Ideal S16640x16 .f32 :=
  mulf (broadcastInDim S16640x16 ![0, 1] bcast_S16640x1_S16640x16_0_1 (broadcastInDim S16640x1 ![0] bcast_S16640_S16640x1_0 (sitofp .f32 place)))
    (broadcastInDim S16640x16 ![0, 1] bcast_S1x16_S16640x16_0_1 (broadcastInDim S1x16 ![1] bcast_S16_S1x16_1 freq))

theorem angles_apply (r : Fin 16640) (l : Fin 16) : angles (ix2 r l) = angle (place (ix1 r)) (fun k => freq (ix1 k)) l :=
  angle_host place freq _ _ _ _ r l

theorem ones (s : Shape) (h : S_.BroadcastsInDim s ![]) (i : s.Idx) : broadcastInDim s ![] h (constant (F := Ideal) S_ .f32 0x3F800000#32) i = (1 : EReal) := by
  refine (spread _ _ _ _ ix0 fun a => a.elim0).trans ?_
  show Ideal.ofBits FTy.f32 0x3F800000#32 = 1
  simp

theorem zeros (s : Shape) (h : S_.BroadcastsInDim s ![]) (i : s.Idx) : broadcastInDim s ![] h (constant (F := Ideal) S_ .f32 0x00000000#32) i = (0 : EReal) := by
  refine (spread _ _ _ _ ix0 fun a => a.elim0).trans ?_
  show Ideal.ofBits FTy.f32 0x00000000#32 = 0
  simp

theorem tables_c (r : Fin 16640) (l : Fin 128) : (W1 m ρ c (Proc.devRef .tc main_v39) : FVec Ideal S16640x128 .f32) (ix2 r l)
    = tabC (fun k => Ideal.cos (angle (place (ix1 r)) (fun k => freq (ix1 k)) k)) l.val := by
  unfold W1
  after_reads_simp
  have hx : (StableHlo.upto hostOps0 (W0 m ρ c) 35 (Proc.devRef .tc main_v27) : FVec Ideal S16640x16 .f32) = Host.cos angles := by after_reads_simp; rfl
  have ho : (StableHlo.upto hostOps0 (W0 m ρ c) 35 (Proc.devRef .tc main_v29) : FVec Ideal S16640x96 .f32)
      = broadcastInDim S16640x96 ![] bcast_S_S16640x96 (constant (F := Ideal) S_ .f32 0x3F800000#32) := by after_reads_simp
  refine (carried _ _ _ _ r l).trans ((pieces3 hx hx ho _ _).trans ((tableC (Host.cos angles) (by decide) _ (ones _ _) _ r l).trans ?_))
  exact congrArg (fun f => tabC f l.val) (funext fun k => congrArg Ideal.cos (angles_apply r k))

theorem tables_s (r : Fin 16640) (l : Fin 128) : (W1 m ρ c (Proc.devRef .tc main_v42) : FVec Ideal S16640x128 .f32) (ix2 r l)
    = tabS (fun k => Ideal.sin (angle (place (ix1 r)) (fun k => freq (ix1 k)) k)) l.val := by
  unfold W1
  after_reads_simp
  have hx : (StableHlo.upto hostOps0 (W0 m ρ c) 39 (Proc.devRef .tc main_v31) : FVec Ideal S16640x16 .f32) = Host.negf (Host.sin angles) := by after_reads_simp; rfl
  have hz : (StableHlo.upto hostOps0 (W0 m ρ c) 39 (Proc.devRef .tc main_v32) : FVec Ideal S16640x112 .f32)
      = broadcastInDim S16640x112 ![] bcast_S_S16640x112 (constant (F := Ideal) S_ .f32 0x00000000#32) := by after_reads_simp
  refine (carried _ _ _ _ r l).trans ((pieces2 hx hz _ _).trans ((tableS (Host.sin angles) (by decide) _ (zeros _ _) _ r l).trans ?_))
  exact congrArg (fun f => tabS f l.val) (funext fun k => congrArg Ideal.sin (angles_apply r k))

theorem tables_s' (r : Fin 16640) (l : Fin 128) : (W1 m ρ c (Proc.devRef .tc main_v45) : FVec Ideal S16640x128 .f32) (ix2 r l)
    = tabS' (fun k => Ideal.sin (angle (place (ix1 r)) (fun k => freq (ix1 k)) k)) l.val := by
  unfold W1
  after_reads_simp
  have hz : (StableHlo.upto hostOps0 (W0 m ρ c) 44 (Proc.devRef .tc main_v34) : FVec Ideal S16640x16 .f32)
      = broadcastInDim S16640x16 ![] bcast_S_S16640x16 (constant (F := Ideal) S_ .f32 0x00000000#32) := by after_reads_simp
  have hx : (StableHlo.upto hostOps0 (W0 m ρ c) 44 (Proc.devRef .tc main_v28) : FVec Ideal S16640x16 .f32) = Host.sin angles := by after_reads_simp; rfl
  have hz' : (StableHlo.upto hostOps0 (W0 m ρ c) 44 (Proc.devRef .tc main_v35) : FVec Ideal S16640x96 .f32)
      = broadcastInDim S16640x96 ![] bcast_S_S16640x96 (constant (F := Ideal) S_ .f32 0x00000000#32) := by after_reads_simp
  refine (carried _ _ _ _ r l).trans ((pieces3 hz hx hz' _ _).trans ((tableS' (Host.sin angles) (by decide) _ _ (zeros _ _) (zeros _ _) _ r l).trans ?_))
  exact congrArg (fun f => tabS' f l.val) (funext fun k => congrArg Ideal.sin (angles_apply r k))

theorem x_prompt (b : Fin 2) (s : Fin 8192) (j : Fin 4096) : (W1 m ρ c (Proc.devRef .tc main_v2) : FVec Ideal S16640x4096 .f32) (ix2 (rowP b s) j)
    = (m ((c : Thread nD τ).loc main_arg0) : FVec Ideal S2x8192x4096 .f32) (ix3 b s j) := by
  unfold W1
  after_reads_simp
  exact join_prompt (F := Ideal) (e := .f32) (m ((c : Thread nD τ).loc main_arg0)) (m ((c : Thread nD τ).loc main_arg1)) _ _ concatenates_S16384x4096_S256x4096_S16640x4096_d0 b s j

theorem x_sample (b : Fin 8) (s : Fin 32) (j : Fin 4096) : (W1 m ρ c (Proc.devRef .tc main_v2) : FVec Ideal S16640x4096 .f32) (ix2 (rowS b s) j)
    = (m ((c : Thread nD τ).loc main_arg1) : FVec Ideal S8x32x4096 .f32) (ix3 b s j) := by
  unfold W1
  after_reads_simp
  exact join_sample (F := Ideal) (e := .f32) (m ((c : Thread nD τ).loc main_arg0)) (m ((c : Thread nD τ).loc main_arg1)) _ _ concatenates_S16384x4096_S256x4096_S16640x4096_d0 b s j

theorem gain_row (k : Fin 4096) : (W1 m ρ c (Proc.devRef .tc main_v46) : FVec Ideal S1x4096 .f32) (ix2 0 k)
    = (m ((c : Thread nD τ).loc main_arg4) : FVec Ideal S4096 .f32) (ix1 k) := by
  unfold W1
  after_reads_simp
  exact as_row (α := EReal) (m ((c : Thread nD τ).loc main_arg4)) _ k

theorem weight (k : Fin 4096) (j : Fin 6144) : (W3 m ρ c (Proc.devRef .tc main_v48) : FVec Ideal S4096x6144 .bf16) (ix2 k j)
    = (m ((c : Thread nD τ).loc main_arg5) : FVec Ideal S4096x6144 .f32) (ix2 k j) := by
  unfold W3
  after_reads_simp
  exact congrFun (W2_args m ρ c main_arg5 (by decide)) (ix2 k j)

theorem gain_q (k : Fin 128) : (W5 m ρ c (Proc.devRef .tc main_v50) : FVec Ideal S1x128 .f32) (ix2 0 k)
    = (m ((c : Thread nD τ).loc main_arg6) : FVec Ideal S128 .f32) (ix1 k) := by
  unfold W5
  after_reads_simp
  refine (as_row (α := EReal) (W4 m ρ c (Proc.devRef .tc main_arg6)) _ k).trans ?_
  exact congrFun (W4_args m ρ c main_arg6 (by decide)) (ix1 k)

theorem gain_k (k : Fin 128) : (W5 m ρ c (Proc.devRef .tc main_v51) : FVec Ideal S1x128 .f32) (ix2 0 k)
    = (m ((c : Thread nD τ).loc main_arg7) : FVec Ideal S128 .f32) (ix1 k) := by
  unfold W5
  after_reads_simp
  refine (as_row (α := EReal) (W4 m ρ c (Proc.devRef .tc main_arg7)) _ k).trans ?_
  exact congrFun (W4_args m ρ c main_arg7 (by decide)) (ix1 k)

theorem normed_rows : (W3 m ρ c (Proc.devRef .tc main_v47) : FVec Ideal S16640x4096 .bf16)
    = normRows (W1 m ρ c (Proc.devRef .tc main_v2)) (W1 m ρ c (Proc.devRef .tc main_v46)) :=
  (W3_of m ρ c main_v47 (by decide)).trans ((W2_arr m ρ c 2).trans (array0 (V1 m ρ) c))

theorem projected_rows : (W5 m ρ c (Proc.devRef .tc main_v49) : FVec Ideal S16640x6144 .f32)
    = product (W3 m ρ c (Proc.devRef .tc main_v47)) (W3 m ρ c (Proc.devRef .tc main_v48)) :=
  (W5_of m ρ c main_v49 (by decide)).trans ((W4_arr m ρ c 2).trans (array1 (V3 m ρ) c))

theorem kept (r : Ref sig .tc) (h5 : r ∉ hostOps2_W) (h4 : ∀ w : Fin cfg1.W, Pipeline.arrRef spec1 w = r → (cfg1.win w).isOut = false)
    (h3 : r ∉ hostOps1_W) (h2 : ∀ w : Fin cfg0.W, Pipeline.arrRef spec0 w = r → (cfg0.win w).isOut = false) :
    W5 m ρ c (Proc.devRef .tc r) = W1 m ρ c (Proc.devRef .tc r) :=
  (W5_of m ρ c r h5).trans ((W4_of m ρ c r h4).trans ((W3_of m ρ c r h3).trans (W2_of m ρ c r h2)))

theorem kept_c : W5 m ρ c (Proc.devRef .tc main_v39) = W1 m ρ c (Proc.devRef .tc main_v39) := kept m ρ c main_v39 (by decide) (by decide) (by decide) (by decide)
theorem kept_s : W5 m ρ c (Proc.devRef .tc main_v42) = W1 m ρ c (Proc.devRef .tc main_v42) := kept m ρ c main_v42 (by decide) (by decide) (by decide) (by decide)
theorem kept_s' : W5 m ρ c (Proc.devRef .tc main_v45) = W1 m ρ c (Proc.devRef .tc main_v45) := kept m ρ c main_v45 (by decide) (by decide) (by decide) (by decide)

abbrev rowsP : FVec Ideal S16640x6144 .f32 := W5 m ρ c (Proc.devRef .tc main_v49)
abbrev rowsC : FVec Ideal S16640x128 .f32 := W5 m ρ c (Proc.devRef .tc main_v39)
abbrev rowsS : FVec Ideal S16640x128 .f32 := W5 m ρ c (Proc.devRef .tc main_v42)
abbrev rowsS' : FVec Ideal S16640x128 .f32 := W5 m ρ c (Proc.devRef .tc main_v45)

theorem q_array : (W6 m ρ c (Proc.devRef .tc main_v52_0) : FVec Ideal S16640x4096 .bf16)
    = queries 0x3DB504F3#32 (rowsP m ρ c) (W5 m ρ c (Proc.devRef .tc main_v50)) (rowsC m ρ c) (rowsS m ρ c) (rowsS' m ρ c) :=
  (W6_arr m ρ c 6).trans (array2_6 (V5 m ρ) c)

theorem k_array : (W6 m ρ c (Proc.devRef .tc main_v52_1) : FVec Ideal S16640x8x128 .f32)
    = keys (rowsP m ρ c) (W5 m ρ c (Proc.devRef .tc main_v51)) (rowsC m ρ c) (rowsS m ρ c) (rowsS' m ρ c) :=
  (W6_arr m ρ c 7).trans (array2_7 (V5 m ρ) c)

theorem v_array : (W6 m ρ c (Proc.devRef .tc main_v52_3) : FVec Ideal S16640x8x128 .f32) = values (rowsP m ρ c) :=
  (W6_arr m ρ c 9).trans (array2_9 (V5 m ρ) c)

section row
variable (r : Fin 16640) (x : Fin 4096 → EReal) (hx : ∀ k, (W1 m ρ c (Proc.devRef .tc main_v2) : FVec Ideal S16640x4096 .f32) (ix2 r k) = x k)

/-- The row's projection. -/
abbrev proj (j : Fin 6144) : EReal :=
  projected x (fun k => (m ((c : Thread nD τ).loc main_arg4) : FVec Ideal S4096 .f32) (ix1 k)) (fun k j => (m ((c : Thread nD τ).loc main_arg5) : FVec Ideal S4096x6144 .f32) (ix2 k j)) j

include hx in
theorem p_row (j : Fin 6144) : rowsP m ρ c (ix2 r j) = proj m c x j := by
  unfold rowsP
  rw [projected_rows, normed_rows]
  have key : ∀ (X : FVec Ideal S16640x4096 .f32) (G : FVec Ideal S1x4096 .f32) (W : FVec Ideal S4096x6144 .bf16) (g : Fin 4096 → EReal) (w : Fin 4096 → Fin 6144 → EReal),
      (∀ k, X (ix2 r k) = x k) → (∀ k, G (ix2 0 k) = g k) → (∀ k j, W (ix2 k j) = w k j) → product (normRows X G) W (ix2 r j) = projected x g w j := fun X G W g w h1 h2 h3 => by
    show ∑ k : Fin 4096, normed 0x45800000#32 (fun k : Fin 4096 => X (ix2 r k)) (fun k => G (ix2 0 k)) k * W (ix2 k j) = _
    simp only [h1, h2, h3]
    rfl
  exact key _ _ _ _ _ hx (gain_row m ρ c) (weight m ρ c)

include hx in
theorem q_row (h : Fin 32) (l : Fin 128) : (W6 m ρ c (Proc.devRef .tc main_v52_0) : FVec Ideal S16640x4096 .bf16) (ix2 r ⟨h.val * 128 + l.val, by omega⟩)
    = headRow (place (ix1 r)) (fun k => freq (ix1 k)) (fun k => proj m c x ⟨h.val * 128 + k.val, by omega⟩) (fun k => (m ((c : Thread nD τ).loc main_arg6) : FVec Ideal S128 .f32) (ix1 k)) l
      * Ideal.ofBits FTy.f32 0x3DB504F3#32 := by
  rw [q_array, queries_apply]
  refine queryAt_row _ _ _ _ _ _ r x _ _ _ _ _ (p_row m ρ c r x hx) (gain_q m ρ c) (fun k => ?_) (fun k => ?_) (fun k => ?_) h l
  · exact (congrFun (kept_c m ρ c) _).trans (tables_c m ρ c r k)
  · exact (congrFun (kept_s m ρ c) _).trans (tables_s m ρ c r k)
  · exact (congrFun (kept_s' m ρ c) _).trans (tables_s' m ρ c r k)

include hx in
theorem k_row (h : Fin 8) (l : Fin 128) : (W6 m ρ c (Proc.devRef .tc main_v52_1) : FVec Ideal S16640x8x128 .f32) (ix3 r h l)
    = headRow (place (ix1 r)) (fun k => freq (ix1 k)) (fun k => proj m c x ⟨(32 + h.val) * 128 + k.val, by omega⟩) (fun k => (m ((c : Thread nD τ).loc main_arg7) : FVec Ideal S128 .f32) (ix1 k)) l := by
  rw [k_array]
  refine keyAt_row _ _ _ _ _ r x _ _ _ _ _ (p_row m ρ c r x hx) (gain_k m ρ c) (fun k => ?_) (fun k => ?_) (fun k => ?_) h l
  · exact (congrFun (kept_c m ρ c) _).trans (tables_c m ρ c r k)
  · exact (congrFun (kept_s m ρ c) _).trans (tables_s m ρ c r k)
  · exact (congrFun (kept_s' m ρ c) _).trans (tables_s' m ρ c r k)

include hx in
theorem v_row (h : Fin 8) (l : Fin 128) : (W6 m ρ c (Proc.devRef .tc main_v52_3) : FVec Ideal S16640x8x128 .f32) (ix3 r h l)
    = proj m c x ⟨(40 + h.val) * 128 + l.val, by omega⟩ := by
  rw [v_array]
  exact p_row m ρ c r x hx _

end row

theorem place_p (b : Fin 2) (s : Fin 8192) : place (ix1 (rowP b s)) = iotaInDim S8192 32 0 (ix1 s) :=
  place_prompt (iotaInDim S8192 32 0) _ _ _ _ _ b s

theorem place_s (b : Fin 8) (s : Fin 32) : place (ix1 (rowS b s)) = addi (broadcastInDim S32 ![] bcast_S_S32 (constantI S_ 32 2048#32)) (iotaInDim S32 32 0) (ix1 s) :=
  place_sample (addi (broadcastInDim S32 ![] bcast_S_S32 (constantI S_ 32 2048#32)) (iotaInDim S32 32 0)) _ _ _ _ _ b s

end Cert.FirstRun

end
-- ==== Proof.FirstLaunch.lean ====
/-
  The first layer's front: the launch of its regions, keeping what every buffer holds at the end.
-/
module

public import proofs.«01_k».proof.Proof.Gen.Kernel2Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pointwise

@[expose] public section

set_option maxRecDepth 16384

noncomputable section

namespace Cert.FirstLaunch

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer ends at its contents after the last host stretch. -/
theorem run_holds : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.FirstLaunch

end
-- ==== Proof.FirstReference.lean ====
/-
  The first layer's front as the reference spells it, row by row.
-/
module

public import proofs.«01_k».proof.Proof.FrontRows
public import proofs.«01_k».proof.Proof.Gen.Reference2Ideal.Read

@[expose] public section

set_option maxRecDepth 16384

noncomputable section

namespace Cert.FirstReference

open Cert.HeadRows Cert.FrontRows Cert.Reference2Ideal Cert.Reference2Ideal.Read Idealize.ShloMosaic Idealize.ShloMosaic.TcCoe Idealize.SL.Sem

variable (x0 : FVec Ideal S2x8192x4096 .f32) (x1 : FVec Ideal S8x32x4096 .f32) (x4 : FVec Ideal S4096 .f32) (x5 : FVec Ideal S4096x6144 .f32) (x6 x7 : FVec Ideal S128 .f32)

/-- A row's projection. -/
abbrev proj (x : Fin 4096 → EReal) (j : Fin 6144) : EReal := projected x (fun k => x4 (ix1 k)) (fun k j => x5 (ix2 k j)) j

theorem proj_prompt (b s j) : val_main_v30 (F := Ideal) x0 x4 x5 (ix3 b s j) = proj x4 x5 (fun k => x0 (ix3 b s k)) j := by
  rw [val_main_v30_apply]
  refine Finset.sum_congr rfl fun k _ => congrArg₂ (fun a b : EReal => a * b) ?_ ?_
  · refine (congrArg (val_main_v16 (F := Ideal) x0 x4) (funext fun a => ?_)).trans (norm_host3 x0 x4 0x45800000#32 _ _ _ _ _ _ _ _ (by decide) b s k)
    match a with | ⟨0, _⟩ => rfl | ⟨1, _⟩ => rfl | ⟨2, _⟩ => rfl
  · refine congrArg x5 (funext fun a => ?_)
    match a with | ⟨0, _⟩ => rfl | ⟨1, _⟩ => rfl

theorem proj_sample (b s j) : val_main_v134 (F := Ideal) x1 x4 x5 (ix3 b s j) = proj x4 x5 (fun k => x1 (ix3 b s k)) j := by
  rw [val_main_v134_apply]
  refine Finset.sum_congr rfl fun k _ => congrArg₂ (fun a b : EReal => a * b) ?_ ?_
  · refine (congrArg (val_main_v29 (F := Ideal) x1 x4) (funext fun a => ?_)).trans (norm_host3 x1 x4 0x45800000#32 _ _ _ _ _ _ _ _ (by decide) b s k)
    match a with | ⟨0, _⟩ => rfl | ⟨1, _⟩ => rfl | ⟨2, _⟩ => rfl
  · refine congrArg x5 (funext fun a => ?_)
    match a with | ⟨0, _⟩ => rfl | ⟨1, _⟩ => rfl

abbrev freq (l : Fin 16) : EReal := val_main_v56 (F := Ideal) (ix1 l)

theorem q_prompt (b s) (n : Fin 32) (l : Fin 128) : val_main_v242 (F := Ideal) x0 x4 x5 x6 (ix4 b s n l)
    = headRow (val_main_v0 (F := Ideal) (ix1 s)) freq (fun k => proj x4 x5 (fun k => x0 (ix3 b s k)) ⟨n.val * 128 + k.val, by omega⟩) (fun k => x6 (ix1 k)) l * Ideal.ofBits FTy.f32 0x3DB504F3#32 := by
  refine congrArg₂ (fun a b : EReal => a * b) ((rotate_host (hD := by decide) (val_main_v49 (F := Ideal) x0 x4 x5 x6) _ _ _ _ (val_main_v63 (F := Ideal)) (val_main_v65 (F := Ideal)) _ _ 32 rfl _ _
    (table_host _ _ _ _) (table_host _ _ _ _) (table_host _ _ _ _) (table_host _ _ _ _) b s n l).trans ?_) (spread _ _ _ _ ix0 fun a => a.elim0)
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v32 (F := Ideal) x0 x4 x5) x6 0x43000000#32 _ _ _ _ _ _ _ _ (by decide) b s n k).trans ?_
  refine congrArg (fun p => normed 0x43000000#32 p _ k) (funext fun k => (heads rfl (val_main_v30 (F := Ideal) x0 x4 x5) 0 _ _ b s n k _ ?_).trans (proj_prompt x0 x4 x5 b s _))
  show n.val * 128 + k.val = 0 + (n.val * 128 + k.val)
  omega

theorem q_sample (b s) (n : Fin 32) (l : Fin 128) : val_main_v245 (F := Ideal) x1 x4 x5 x6 (ix4 b s n l)
    = headRow (val_main_v3 (F := Ideal) (ix1 s)) freq (fun k => proj x4 x5 (fun k => x1 (ix3 b s k)) ⟨n.val * 128 + k.val, by omega⟩) (fun k => x6 (ix1 k)) l * Ideal.ofBits FTy.f32 0x3DB504F3#32 := by
  refine congrArg₂ (fun a b : EReal => a * b) ((rotate_host (hD := by decide) (val_main_v153 (F := Ideal) x1 x4 x5 x6) _ _ _ _ (val_main_v167 (F := Ideal)) (val_main_v169 (F := Ideal)) _ _ 32 rfl _ _
    (table_host _ _ _ _) (table_host _ _ _ _) (table_host _ _ _ _) (table_host _ _ _ _) b s n l).trans ?_) (spread _ _ _ _ ix0 fun a => a.elim0)
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v136 (F := Ideal) x1 x4 x5) x6 0x43000000#32 _ _ _ _ _ _ _ _ (by decide) b s n k).trans ?_
  refine congrArg (fun p => normed 0x43000000#32 p _ k) (funext fun k => (heads rfl (val_main_v134 (F := Ideal) x1 x4 x5) 0 _ _ b s n k _ ?_).trans (proj_sample x1 x4 x5 b s _))
  show n.val * 128 + k.val = 0 + (n.val * 128 + k.val)
  omega

theorem k_prompt (b s) (n : Fin 8) (l : Fin 128) : val_main_v132 (F := Ideal) x0 x4 x5 x7 (ix4 b s n l)
    = headRow (val_main_v0 (F := Ideal) (ix1 s)) freq (fun k => proj x4 x5 (fun k => x0 (ix3 b s k)) ⟨(32 + n.val) * 128 + k.val, by omega⟩) (fun k => x7 (ix1 k)) l := by
  refine (rotate_host (hD := by decide) (val_main_v97 (F := Ideal) x0 x4 x5 x7) _ _ _ _ (val_main_v111 (F := Ideal)) (val_main_v113 (F := Ideal)) _ _ 32 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v34 (F := Ideal) x0 x4 x5) x7 0x43000000#32 _ _ _ _ _ _ _ _ (by decide) b s n k).trans ?_
  refine congrArg (fun p => normed 0x43000000#32 p _ k) (funext fun k => (heads rfl (val_main_v30 (F := Ideal) x0 x4 x5) 4096 _ _ b s n k _ ?_).trans (proj_prompt x0 x4 x5 b s _))
  show (32 + n.val) * 128 + k.val = 4096 + (n.val * 128 + k.val)
  omega

theorem k_sample (b s) (n : Fin 8) (l : Fin 128) : val_main_v236 (F := Ideal) x1 x4 x5 x7 (ix4 b s n l)
    = headRow (val_main_v3 (F := Ideal) (ix1 s)) freq (fun k => proj x4 x5 (fun k => x1 (ix3 b s k)) ⟨(32 + n.val) * 128 + k.val, by omega⟩) (fun k => x7 (ix1 k)) l := by
  refine (rotate_host (hD := by decide) (val_main_v201 (F := Ideal) x1 x4 x5 x7) _ _ _ _ (val_main_v215 (F := Ideal)) (val_main_v217 (F := Ideal)) _ _ 32 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v138 (F := Ideal) x1 x4 x5) x7 0x43000000#32 _ _ _ _ _ _ _ _ (by decide) b s n k).trans ?_
  refine congrArg (fun p => normed 0x43000000#32 p _ k) (funext fun k => (heads rfl (val_main_v134 (F := Ideal) x1 x4 x5) 4096 _ _ b s n k _ ?_).trans (proj_sample x1 x4 x5 b s _))
  show (32 + n.val) * 128 + k.val = 4096 + (n.val * 128 + k.val)
  omega

theorem v_prompt (b s) (n : Fin 8) (l : Fin 128) : val_main_v36 (F := Ideal) x0 x4 x5 (ix4 b s n l) = proj x4 x5 (fun k => x0 (ix3 b s k)) ⟨(40 + n.val) * 128 + l.val, by omega⟩ :=
  (heads rfl (val_main_v30 (F := Ideal) x0 x4 x5) 5120 _ _ b s n l _ (by show (40 + n.val) * 128 + l.val = 5120 + (n.val * 128 + l.val); omega)).trans (proj_prompt x0 x4 x5 b s _)

theorem v_sample (b s) (n : Fin 8) (l : Fin 128) : val_main_v140 (F := Ideal) x1 x4 x5 (ix4 b s n l) = proj x4 x5 (fun k => x1 (ix3 b s k)) ⟨(40 + n.val) * 128 + l.val, by omega⟩ :=
  (heads rfl (val_main_v134 (F := Ideal) x1 x4 x5) 5120 _ _ b s n l _ (by show (40 + n.val) * 128 + l.val = 5120 + (n.val * 128 + l.val); omega)).trans (proj_sample x1 x4 x5 b s _)

end Cert.FirstReference

end
-- ==== Proof.FirstFront.lean ====
/-
  The first layer's front: the kernel's queries, keys and values are the reference's.
-/
module

public import proofs.«01_k».proof.Proof.FirstRun
public import proofs.«01_k».proof.Proof.FirstLaunch
public import proofs.«01_k».proof.Proof.FirstReference
public import proofs.«01_k».proof.Proof.Gen.Reference2Ideal.Run
public import proofs.«01_k».proof.Defs

@[expose] public section

set_option maxRecDepth 16384

noncomputable section

namespace Cert.FirstFront

open Cert.HeadRows Cert.FrontRows Cert.RowLayout Cert.FirstRun Cert.FirstLaunch Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg) (c : Dev nD)

abbrev X0 : FVec Ideal S2x8192x4096 .f32 := m ((c : Thread nD τ).loc main_arg0)
abbrev X1 : FVec Ideal S8x32x4096 .f32 := m ((c : Thread nD τ).loc main_arg1)
abbrev X2 : FVec Ideal S8x128x8x128 .f32 := m ((c : Thread nD τ).loc main_arg2)
abbrev X3 : FVec Ideal S8x128x8x128 .f32 := m ((c : Thread nD τ).loc main_arg3)
abbrev X4 : FVec Ideal S4096 .f32 := m ((c : Thread nD τ).loc main_arg4)
abbrev X5 : FVec Ideal S4096x6144 .f32 := m ((c : Thread nD τ).loc main_arg5)
abbrev X6 : FVec Ideal S128 .f32 := m ((c : Thread nD τ).loc main_arg6)
abbrev X7 : FVec Ideal S128 .f32 := m ((c : Thread nD τ).loc main_arg7)

theorem q_prompt_eq : shapeCast S2x8192x32x128 (extractStridedSlice S16384x4096 ![0, 0] (W6 m ρ c (Proc.devRef .tc main_v52_0) : FVec Ideal S16640x4096 .bf16) slices_S16640x4096_S16384x4096_0_0) shapeCasts_S16384x4096_S2x8192x32x128
    = Cert.Reference2Ideal.Read.val_main_v242 (F := Ideal) (X0 m c) (X4 m c) (X5 m c) (X6 m c) := by
  funext y
  obtain ⟨b, s, n, l, rfl⟩ : ∃ b s n l, y = ix4 b s n l := ⟨y 0, y 1, y 2, y 3, eq_ix4 y⟩
  rw [Cert.FirstReference.q_prompt]
  refine (queries_prompt (α := EReal) (W6 m ρ c (Proc.devRef .tc main_v52_0)) _ _ b s n l).trans ?_
  refine (q_row m ρ c (rowP b s) _ (x_prompt m ρ c b s) n l).trans ?_
  rw [place_p]
  rfl

theorem q_sample_eq : shapeCast S8x32x32x128 (extractStridedSlice S256x4096 ![16384, 0] (W6 m ρ c (Proc.devRef .tc main_v52_0) : FVec Ideal S16640x4096 .bf16) slices_S16640x4096_S256x4096_16384_0) shapeCasts_S256x4096_S8x32x32x128
    = Cert.Reference2Ideal.Read.val_main_v245 (F := Ideal) (X1 m c) (X4 m c) (X5 m c) (X6 m c) := by
  funext y
  obtain ⟨b, s, n, l, rfl⟩ : ∃ b s n l, y = ix4 b s n l := ⟨y 0, y 1, y 2, y 3, eq_ix4 y⟩
  rw [Cert.FirstReference.q_sample]
  refine (queries_sample (α := EReal) (W6 m ρ c (Proc.devRef .tc main_v52_0)) _ _ b s n l).trans ?_
  refine (q_row m ρ c (rowS b s) _ (x_sample m ρ c b s) n l).trans ?_
  rw [place_s]
  rfl

theorem k_prompt_eq : shapeCast S2x8192x8x128 (extractStridedSlice S16384x8x128 ![0, 0, 0] (W6 m ρ c (Proc.devRef .tc main_v52_1) : FVec Ideal S16640x8x128 .f32) slices_S16640x8x128_S16384x8x128_0_0_0) shapeCasts_S16384x8x128_S2x8192x8x128
    = Cert.Reference2Ideal.Read.val_main_v132 (F := Ideal) (X0 m c) (X4 m c) (X5 m c) (X7 m c) := by
  funext y
  obtain ⟨b, s, n, l, rfl⟩ : ∃ b s n l, y = ix4 b s n l := ⟨y 0, y 1, y 2, y 3, eq_ix4 y⟩
  rw [Cert.FirstReference.k_prompt]
  refine (heads_prompt (α := EReal) (W6 m ρ c (Proc.devRef .tc main_v52_1)) _ _ b s n l).trans ?_
  refine (k_row m ρ c (rowP b s) _ (x_prompt m ρ c b s) n l).trans ?_
  rw [place_p]
  rfl

theorem k_sample_eq : shapeCast S8x32x8x128 (extractStridedSlice S256x8x128 ![16384, 0, 0] (W6 m ρ c (Proc.devRef .tc main_v52_1) : FVec Ideal S16640x8x128 .f32) slices_S16640x8x128_S256x8x128_16384_0_0) shapeCasts_S256x8x128_S8x32x8x128
    = Cert.Reference2Ideal.Read.val_main_v236 (F := Ideal) (X1 m c) (X4 m c) (X5 m c) (X7 m c) := by
  funext y
  obtain ⟨b, s, n, l, rfl⟩ : ∃ b s n l, y = ix4 b s n l := ⟨y 0, y 1, y 2, y 3, eq_ix4 y⟩
  rw [Cert.FirstReference.k_sample]
  refine (heads_sample (α := EReal) (W6 m ρ c (Proc.devRef .tc main_v52_1)) _ _ b s n l).trans ?_
  refine (k_row m ρ c (rowS b s) _ (x_sample m ρ c b s) n l).trans ?_
  rw [place_s]
  rfl

theorem v_prompt_eq : shapeCast S2x8192x8x128 (extractStridedSlice S16384x8x128 ![0, 0, 0] (W6 m ρ c (Proc.devRef .tc main_v52_3) : FVec Ideal S16640x8x128 .f32) slices_S16640x8x128_S16384x8x128_0_0_0) shapeCasts_S16384x8x128_S2x8192x8x128
    = Cert.Reference2Ideal.Read.val_main_v36 (F := Ideal) (X0 m c) (X4 m c) (X5 m c) := by
  funext y
  obtain ⟨b, s, n, l, rfl⟩ : ∃ b s n l, y = ix4 b s n l := ⟨y 0, y 1, y 2, y 3, eq_ix4 y⟩
  rw [Cert.FirstReference.v_prompt]
  refine (heads_prompt (α := EReal) (W6 m ρ c (Proc.devRef .tc main_v52_3)) _ _ b s n l).trans ?_
  exact v_row m ρ c (rowP b s) _ (x_prompt m ρ c b s) n l

theorem v_sample_eq : shapeCast S8x32x8x128 (extractStridedSlice S256x8x128 ![16384, 0, 0] (W6 m ρ c (Proc.devRef .tc main_v52_3) : FVec Ideal S16640x8x128 .f32) slices_S16640x8x128_S256x8x128_16384_0_0) shapeCasts_S256x8x128_S8x32x8x128
    = Cert.Reference2Ideal.Read.val_main_v140 (F := Ideal) (X1 m c) (X4 m c) (X5 m c) := by
  funext y
  obtain ⟨b, s, n, l, rfl⟩ : ∃ b s n l, y = ix4 b s n l := ⟨y 0, y 1, y 2, y 3, eq_ix4 y⟩
  rw [Cert.FirstReference.v_sample]
  refine (heads_sample (α := EReal) (W6 m ρ c (Proc.devRef .tc main_v52_3)) _ _ b s n l).trans ?_
  exact v_row m ρ c (rowS b s) _ (x_sample m ρ c b s) n l

theorem r0 : W7 m ρ c (Proc.devRef .tc main_v60) = Cert.Reference2Ideal.Read.val_main_v242 (F := Ideal) (X0 m c) (X4 m c) (X5 m c) (X6 m c) := by
  unfold W7
  after_reads_simp
  exact q_prompt_eq m ρ c

theorem r1 : W7 m ρ c (Proc.devRef .tc main_v62) = Cert.Reference2Ideal.Read.val_main_v245 (F := Ideal) (X1 m c) (X4 m c) (X5 m c) (X6 m c) := by
  unfold W7
  after_reads_simp
  exact q_sample_eq m ρ c

/-- The prompt's last rows of a cache. -/
abbrev latest (A : FVec Ideal S2x8192x8x128 .f32) : FVec Ideal S2x128x8x128 .f32 :=
  extractStridedSlice S2x128x8x128 ![0, 8064, 0, 0] A slices_S2x8192x8x128_S2x128x8x128_0_8064_0_0

theorem r2 : W7 m ρ c (Proc.devRef .tc main_v65) = Cert.Reference2Ideal.Read.val_main_v246 (F := Ideal) (X0 m c) (X4 m c) (X5 m c) (X7 m c) := by
  unfold W7
  after_reads_simp
  exact congrArg latest (k_prompt_eq m ρ c)

theorem r3 : W7 m ρ c (Proc.devRef .tc main_v68) = Cert.Reference2Ideal.Read.val_main_v247 (F := Ideal) (X0 m c) (X4 m c) (X5 m c) := by
  unfold W7
  after_reads_simp
  exact congrArg latest (v_prompt_eq m ρ c)

/-- A window without its oldest rows. -/
abbrev shifted (A : FVec Ideal S8x160x8x128 .f32) : FVec Ideal S8x128x8x128 .f32 :=
  extractStridedSlice S8x128x8x128 ![0, 32, 0, 0] A slices_S8x160x8x128_S8x128x8x128_0_32_0_0

/-- A cached window followed by the new rows, the oldest rows dropped. -/
abbrev windowed (A : FVec Ideal S8x128x8x128 .f32) (B : FVec Ideal S8x32x8x128 .f32) : FVec Ideal S8x128x8x128 .f32 :=
  shifted (concatenate S8x160x8x128 1 [⟨S8x128x8x128, A⟩, ⟨S8x32x8x128, B⟩] concatenates_S8x128x8x128_S8x32x8x128_S8x160x8x128_d1)

theorem r4 : W7 m ρ c (Proc.devRef .tc main_v69) = Cert.Reference2Ideal.Read.val_main_v248 (F := Ideal) (X1 m c) (X2 m c) (X4 m c) (X5 m c) (X7 m c) := by
  have h : W7 m ρ c (Proc.devRef .tc main_v69) = windowed (W6 m ρ c (Proc.devRef .tc main_arg2)) (shapeCast S8x32x8x128 (extractStridedSlice S256x8x128 ![16384, 0, 0] (W6 m ρ c (Proc.devRef .tc main_v52_1) : FVec Ideal S16640x8x128 .f32) slices_S16640x8x128_S256x8x128_16384_0_0) shapeCasts_S256x8x128_S8x32x8x128) := by
    unfold W7
    after_reads_simp
    refine congrArg shifted (funext fun i => ?_)
    exact pieces2 (by after_reads_simp) (by after_reads_simp; rfl) _ i
  rw [h, k_sample_eq, W6_args m ρ c main_arg2 (by decide)]
  rfl

theorem r5 : W7 m ρ c (Proc.devRef .tc main_v70) = Cert.Reference2Ideal.Read.val_main_v249 (F := Ideal) (X1 m c) (X3 m c) (X4 m c) (X5 m c) := by
  have h : W7 m ρ c (Proc.devRef .tc main_v70) = windowed (W6 m ρ c (Proc.devRef .tc main_arg3)) (shapeCast S8x32x8x128 (extractStridedSlice S256x8x128 ![16384, 0, 0] (W6 m ρ c (Proc.devRef .tc main_v52_3) : FVec Ideal S16640x8x128 .f32) slices_S16640x8x128_S256x8x128_16384_0_0) shapeCasts_S256x8x128_S8x32x8x128) := by
    unfold W7
    after_reads_simp
    refine congrArg shifted (funext fun i => ?_)
    exact pieces2 (by after_reads_simp) (by after_reads_simp; rfl) _ i
  rw [h, v_sample_eq, W6_args m ρ c main_arg3 (by decide)]
  rfl

theorem value : Cert.algebraic_Kernel2Ideal_Reference2Ideal := by
  intro m ρ m' ρ' _ hagree
  refine ⟨fun c => Cert.Reference2Ideal.Read.val_main_v242 (F := Ideal) (X0 m c) (X4 m c) (X5 m c) (X6 m c),
    fun c => Cert.Reference2Ideal.Read.val_main_v245 (F := Ideal) (X1 m c) (X4 m c) (X5 m c) (X6 m c),
    fun c => Cert.Reference2Ideal.Read.val_main_v246 (F := Ideal) (X0 m c) (X4 m c) (X5 m c) (X7 m c),
    fun c => Cert.Reference2Ideal.Read.val_main_v247 (F := Ideal) (X0 m c) (X4 m c) (X5 m c),
    fun c => Cert.Reference2Ideal.Read.val_main_v248 (F := Ideal) (X1 m c) (X2 m c) (X4 m c) (X5 m c) (X7 m c),
    fun c => Cert.Reference2Ideal.Read.val_main_v249 (F := Ideal) (X1 m c) (X3 m c) (X4 m c) (X5 m c), ?_, ?_⟩
  · exact (θ_run defs _ _).mono (fun r h c => ⟨(h.1 c _ (mem_uc main_v60 (by decide))).trans (r0 m ρ c), (h.1 c _ (mem_uc main_v62 (by decide))).trans (r1 m ρ c),
      (h.1 c _ (mem_uc main_v65 (by decide))).trans (r2 m ρ c), (h.1 c _ (mem_uc main_v68 (by decide))).trans (r3 m ρ c),
      (h.1 c _ (mem_uc main_v69 (by decide))).trans (r4 m ρ c), (h.1 c _ (mem_uc main_v70 (by decide))).trans (r5 m ρ c), h.2 c⟩)
      (θ_run_and (run_holds m ρ) (unchanged m ρ))
  · refine (θ_run Cert.Reference2Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference2Ideal.Value.run m' ρ')
    all_goals
      obtain ⟨a0, a1, a2, a3, a4, a5, a6, a7⟩ := hagree c
      have e0 : StableHlo.launchContents m' c (Proc.devRef .tc Cert.Reference2Ideal.main_arg0) = X0 m c := a0
      have e1 : StableHlo.launchContents m' c (Proc.devRef .tc Cert.Reference2Ideal.main_arg1) = X1 m c := a1
      have e2 : StableHlo.launchContents m' c (Proc.devRef .tc Cert.Reference2Ideal.main_arg2) = X2 m c := a2
      have e3 : StableHlo.launchContents m' c (Proc.devRef .tc Cert.Reference2Ideal.main_arg3) = X3 m c := a3
      have e4 : StableHlo.launchContents m' c (Proc.devRef .tc Cert.Reference2Ideal.main_arg4) = X4 m c := a4
      have e5 : StableHlo.launchContents m' c (Proc.devRef .tc Cert.Reference2Ideal.main_arg5) = X5 m c := a5
      have e6 : StableHlo.launchContents m' c (Proc.devRef .tc Cert.Reference2Ideal.main_arg6) = X6 m c := a6
      have e7 : StableHlo.launchContents m' c (Proc.devRef .tc Cert.Reference2Ideal.main_arg7) = X7 m c := a7
    · exact (Cert.Reference2Ideal.Read.val_main_v242_eq (StableHlo.launchContents m' c)).trans (by rw [e0, e4, e5, e6])
    · exact (Cert.Reference2Ideal.Read.val_main_v245_eq (StableHlo.launchContents m' c)).trans (by rw [e1, e4, e5, e6])
    · exact (Cert.Reference2Ideal.Read.val_main_v246_eq (StableHlo.launchContents m' c)).trans (by rw [e0, e4, e5, e7])
    · exact (Cert.Reference2Ideal.Read.val_main_v247_eq (StableHlo.launchContents m' c)).trans (by rw [e0, e4, e5])
    · exact (Cert.Reference2Ideal.Read.val_main_v248_eq (StableHlo.launchContents m' c)).trans (by rw [e1, e2, e4, e5, e7])
    · exact (Cert.Reference2Ideal.Read.val_main_v249_eq (StableHlo.launchContents m' c)).trans (by rw [e1, e3, e4, e5])

end Cert.FirstFront

end
-- ==== Proof.OutProj.lean ====
/-
  The output projection with its residual: the kernel's two results are the reference's.
-/
module

public import proofs.«01_k».proof.Defs
public import proofs.«01_k».proof.Proof.RowLayout
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Tactic.CleanTypes
public import Idealize.ShloMosaic.Lib.Claim
public import Idealize.ShloMosaic.Lib.Pipeline.ValueKit.Point

@[expose] public section

set_option maxRecDepth 16384

noncomputable section

namespace Cert.OutProj

open Cert.Kernel4Ideal Cert.Kernel4Ideal.Gen Cert.RowLayout Idealize.ShloMosaic Idealize.ShloMosaic.TcCoe Idealize.SL.Sem

/-- The residual plus the product, of whole arrays. -/
def sumRow (H : FVec Ideal S16640x4096 .f32) (O : FVec Ideal S16640x4096 .bf16) (W : FVec Ideal S4096x4096 .bf16) : FVec Ideal S16640x4096 .f32 :=
  fun y => H y + ∑ k : Fin 4096, O (ix2 (y 0) k) * W (ix2 k (y 1))

theorem pay_apply (h : FVec Ideal S1280x512 .f32) (o : FVec Ideal S1280x4096 .bf16) (w : FVec Ideal S4096x512 .bf16) (r : Fin 1280) (l : Fin 512) :
    k0_pay1 h o w (ix2 r l) = h (ix2 r l) + ∑ k : Fin 4096, o (ix2 r k) * w (ix2 k l) := by
  pointwise [k0_pay1]

variable (m : (ℓ : Loc nD τ sig) → Buf (Elt Ideal) ℓ) (c : Dev nD)

theorem widx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The row of the array that row `r` of the blocks at point `t` is, -/
def row (t : Fin cfg0.N) (r : Fin 1280) : Fin 16640 :=
  ⟨(grid0.coords t 0).val * 1280 + r.val, by have h : (grid0.coords t 0).val < 13 := (grid0.coords t 0).isLt; omega⟩

/-- and the column that column `l` is. -/
def col (t : Fin cfg0.N) (l : Fin 512) : Fin 4096 :=
  ⟨(grid0.coords t 1).val * 512 + l.val, by have h : (grid0.coords t 1).val < 8 := (grid0.coords t 1).isLt; omega⟩

theorem emb0 (t : Fin cfg0.N) (r : Fin 1280) (k : Fin 4096) : ((cfg0.win 0).blk t).view.emb (ix2 r k) = ix2 (row t r) k := by
  unfold row; blk_ext [(widx t).1]

theorem emb1 (t : Fin cfg0.N) (k : Fin 4096) (l : Fin 512) : ((cfg0.win 1).blk t).view.emb (ix2 k l) = ix2 k (col t l) := by
  unfold col; blk_ext [(widx t).2.1]

theorem emb2 (t : Fin cfg0.N) (r : Fin 1280) (l : Fin 512) : ((cfg0.win 2).blk t).view.emb (ix2 r l) = ix2 (row t r) (col t l) := by
  unfold row col; blk_ext [(widx t).2.2.1]

theorem emb3 (t : Fin cfg0.N) (r : Fin 1280) (l : Fin 512) : ((cfg0.win 3).blk t).view.emb (ix2 r l) = ix2 (row t r) (col t l) := by
  unfold row col; blk_ext [(widx t).2.2.2]

theorem array_eq : ((dats m 0 c).arrAt 3 cfg0.N : FVec Ideal S16640x4096 .f32)
    = sumRow (V m c main_v6) (V m c main_v7) (V m c main_v8) := by
  refine (dats m 0 c).arrAt_eq_of_covers 3 _ (by decide +kernel) fun t hf y => ?_
  blk_simp
  rw [after0_3]
  frame_out
  obtain ⟨r, l, rfl⟩ : ∃ r l, y = ix2 r l := ⟨y 0, y 1, eq_ix2 y⟩
  rw [pay_apply]
  refine Eq.trans ?_ (congrArg (sumRow (V m c main_v6) (V m c main_v7) (V m c main_v8)) (emb3 t r l)).symm
  have key : ∀ (H : FVec Ideal S16640x4096 .f32) (O : FVec Ideal S16640x4096 .bf16) (W : FVec Ideal S4096x4096 .bf16),
      H (((cfg0.win 2).blk t).view.emb (ix2 r l)) + ∑ k : Fin 4096, O (((cfg0.win 0).blk t).view.emb (ix2 r k)) * W (((cfg0.win 1).blk t).view.emb (ix2 k l))
        = sumRow H O W (ix2 (row t r) (col t l)) := fun H O W => by
    refine congr (congrArg _ (congrArg H (emb2 t r l))) (Finset.sum_congr rfl fun k _ => ?_)
    exact congr (congrArg _ (congrArg O (emb0 t r k))) (congrArg W (emb1 t k l))
  exact key (V m c main_v6) (V m c main_v7) (V m c main_v8)

theorem run_results (ρ : Dev nD → PrngReg) :
    θ_run defs (onTc (τ := τ) (main (F := Ideal))) ⟨m, fun _ => 0, ρ⟩ fun r => ∀ c : Dev nD,
      r.2.mem ((c : Thread nD τ).loc main_v11) = shapeCast S2x8192x4096 (extractStridedSlice S16384x4096 ![0, 0] (sumRow (V m c main_v6) (V m c main_v7) (V m c main_v8)) slices_S16640x4096_S16384x4096_0_0) shapeCasts_S16384x4096_S2x8192x4096
      ∧ r.2.mem ((c : Thread nD τ).loc main_v13) = shapeCast S8x32x4096 (extractStridedSlice S256x4096 ![16384, 0] (sumRow (V m c main_v6) (V m c main_v7) (V m c main_v8)) slices_S16640x4096_S256x4096_16384_0) shapeCasts_S256x4096_S8x32x4096 := by
  refine (θ_run defs _ _).mono (fun r h c => ⟨?_, ?_⟩) (run_main m ρ)
  · refine ((h c).2 main_v11 (Pipeline.mem_restRefs_of main_v11 (by decide) (by decide))).trans ?_
    unfold Pipeline.afterTail₀
    entry_read
    rw [← array_eq]
    exact congrArg (fun A : FVec Ideal S16640x4096 .f32 => shapeCast S2x8192x4096 (extractStridedSlice S16384x4096 ![0, 0] A slices_S16640x4096_S16384x4096_0_0) shapeCasts_S16384x4096_S2x8192x4096)
      (Pipeline.withArrays_arr spec0 launch0.win.arr_inj c (V0 m c) (fun w => (dats m 0 c).arrAt w cfg0.N) 3)
  · refine ((h c).2 main_v13 (Pipeline.mem_restRefs_of main_v13 (by decide) (by decide))).trans ?_
    unfold Pipeline.afterTail₀
    entry_read
    rw [← array_eq]
    exact congrArg (fun A : FVec Ideal S16640x4096 .f32 => shapeCast S8x32x4096 (extractStridedSlice S256x4096 ![16384, 0] A slices_S16640x4096_S256x4096_16384_0) shapeCasts_S256x4096_S8x32x4096)
      (Pipeline.withArrays_arr spec0 launch0.win.arr_inj c (V0 m c) (fun w => (dats m 0 c).arrAt w cfg0.N) 3)

section entry
variable (O : FVec Ideal S2x8192x4096 .f32) (O' : FVec Ideal S8x32x4096 .f32) (W : FVec Ideal S4096x4096 .f32)
  (H : FVec Ideal S2x8192x4096 .f32) (H' : FVec Ideal S8x32x4096 .f32)
  (hO : m ((c : Thread nD τ).loc main_arg0) = O) (hO' : m ((c : Thread nD τ).loc main_arg1) = O')
  (hW : m ((c : Thread nD τ).loc main_arg2) = W)
  (hH : m ((c : Thread nD τ).loc main_arg3) = H) (hH' : m ((c : Thread nD τ).loc main_arg4) = H')

include hH in
theorem V6P (b : Fin 2) (s : Fin 8192) (j : Fin 4096) : (V m c main_v6 : FVec Ideal S16640x4096 .f32) (ix2 (rowP b s) j) = H (ix3 b s j) := by
  subst hH
  entry_read
  exact join_prompt (F := Ideal) (e := .f32) (m ((c : Thread nD τ).loc main_arg3)) (m ((c : Thread nD τ).loc main_arg4)) _ _ concatenates_S16384x4096_S256x4096_S16640x4096_d0 b s j

include hH' in
theorem V6S (b : Fin 8) (s : Fin 32) (j : Fin 4096) : (V m c main_v6 : FVec Ideal S16640x4096 .f32) (ix2 (rowS b s) j) = H' (ix3 b s j) := by
  subst hH'
  entry_read
  exact join_sample (F := Ideal) (e := .f32) (m ((c : Thread nD τ).loc main_arg3)) (m ((c : Thread nD τ).loc main_arg4)) _ _ concatenates_S16384x4096_S256x4096_S16640x4096_d0 b s j

include hO in
theorem V7P (b : Fin 2) (s : Fin 8192) (j : Fin 4096) : (V m c main_v7 : FVec Ideal S16640x4096 .bf16) (ix2 (rowP b s) j) = O (ix3 b s j) := by
  subst hO
  entry_read
  exact join_prompt (F := Ideal) (e := .f32) (m ((c : Thread nD τ).loc main_arg0)) (m ((c : Thread nD τ).loc main_arg1)) _ _ concatenates_S16384x4096_S256x4096_S16640x4096_d0 b s j

include hO' in
theorem V7S (b : Fin 8) (s : Fin 32) (j : Fin 4096) : (V m c main_v7 : FVec Ideal S16640x4096 .bf16) (ix2 (rowS b s) j) = O' (ix3 b s j) := by
  subst hO'
  entry_read
  exact join_sample (F := Ideal) (e := .f32) (m ((c : Thread nD τ).loc main_arg0)) (m ((c : Thread nD τ).loc main_arg1)) _ _ concatenates_S16384x4096_S256x4096_S16640x4096_d0 b s j

include hW in
theorem V8 (k j : Fin 4096) : (V m c main_v8 : FVec Ideal S4096x4096 .bf16) (ix2 k j) = W (ix2 k j) := by
  subst hW
  entry_read
  rfl

include hO hW hH in
theorem prompt_eq : shapeCast S2x8192x4096 (extractStridedSlice S16384x4096 ![0, 0] (sumRow (V m c main_v6) (V m c main_v7) (V m c main_v8)) slices_S16640x4096_S16384x4096_0_0) shapeCasts_S16384x4096_S2x8192x4096
    = Cert.Reference4Ideal.Read.val_main_v1 (F := Ideal) O W H := by
  funext y
  obtain ⟨b, s, j, rfl⟩ : ∃ b s j, y = ix3 b s j := ⟨y 0, y 1, y 2, eq_ix3 y⟩
  rw [Cert.Reference4Ideal.Read.val_main_v1_apply, Cert.Reference4Ideal.Read.val_main_v0_apply]
  refine (split_prompt (F := Ideal) (e := .f32) (sumRow (V m c main_v6) (V m c main_v7) (V m c main_v8)) _ _ b s j).trans ?_
  refine congr (congrArg _ (V6P m c H hH b s j)) (Finset.sum_congr rfl fun k _ => ?_)
  refine congr (congrArg _ ((V7P m c O hO b s k).trans ?_)) ((V8 m c W hW k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

include hO' hW hH' in
theorem sample_eq : shapeCast S8x32x4096 (extractStridedSlice S256x4096 ![16384, 0] (sumRow (V m c main_v6) (V m c main_v7) (V m c main_v8)) slices_S16640x4096_S256x4096_16384_0) shapeCasts_S256x4096_S8x32x4096
    = Cert.Reference4Ideal.Read.val_main_v3 (F := Ideal) O' W H' := by
  funext y
  obtain ⟨b, s, j, rfl⟩ : ∃ b s j, y = ix3 b s j := ⟨y 0, y 1, y 2, eq_ix3 y⟩
  rw [Cert.Reference4Ideal.Read.val_main_v3_apply, Cert.Reference4Ideal.Read.val_main_v2_apply]
  refine (split_sample (F := Ideal) (e := .f32) (sumRow (V m c main_v6) (V m c main_v7) (V m c main_v8)) _ _ b s j).trans ?_
  refine congr (congrArg _ (V6S m c H' hH' b s j)) (Finset.sum_congr rfl fun k _ => ?_)
  refine congr (congrArg _ ((V7S m c O' hO' b s k).trans ?_)) ((V8 m c W hW k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

end entry

theorem value : Cert.algebraic_Kernel4Ideal_Reference4Ideal := by
  intro m ρ m' ρ' _ hagree
  refine ⟨fun c => Cert.Reference4Ideal.Read.val_main_v1 (F := Ideal) (m ((c : Thread nD τ).loc main_arg0)) (m ((c : Thread nD τ).loc main_arg2)) (m ((c : Thread nD τ).loc main_arg3)),
    fun c => Cert.Reference4Ideal.Read.val_main_v3 (F := Ideal) (m ((c : Thread nD τ).loc main_arg1)) (m ((c : Thread nD τ).loc main_arg2)) (m ((c : Thread nD τ).loc main_arg4)), ?_, ?_⟩
  · exact (θ_run defs _ _).mono (fun r h c => ⟨(h.1 c).1.trans (prompt_eq m c _ _ _ rfl rfl rfl), (h.1 c).2.trans (sample_eq m c _ _ _ rfl rfl rfl), h.2 c⟩)
      (θ_run_and (run_results m ρ) (unchanged m ρ))
  · refine (θ_run Cert.Reference4Ideal.defs _ _).mono (fun r h c => ⟨(h c).1.trans ?_, (h c).2.1.trans ?_, (h c).2.2⟩) (Cert.Reference4Ideal.Value.run m' ρ')
    · obtain ⟨a0, a1, a2, a3, a4⟩ := hagree c
      rw [Cert.Reference4Ideal.Read.val_main_v1_eq, a0, a2, a3]
    · obtain ⟨a0, a1, a2, a3, a4⟩ := hagree c
      rw [Cert.Reference4Ideal.Read.val_main_v3_eq, a1, a2, a4]

end Cert.OutProj

end
-- ==== Proof.SecondHeads.lean ====
/-
  The heads' norm and rotation at one grid point: each stored tile is one head's function of the point's blocks, and so
  each block is one function of them.
-/
module

public import proofs.«01_k».proof.Proof.HeadRows
public import proofs.«01_k».proof.Proof.Gen.Kernel3Ideal.Frame

@[expose] public section

set_option maxRecDepth 16384

noncomputable section

namespace Cert.SecondHeads

open Cert.HeadRows Cert.Kernel3Ideal Cert.Kernel3Ideal.Gen Idealize.ShloMosaic Idealize.ShloMosaic.TcCoe Idealize.SL.Sem

section payloads
variable (v1 v3 v5 : FVec Ideal S256x128 .f32) (v7 : FVec Ideal S1x128 .f32) (x : Vec Ideal S256x128 .f32) (r : Fin 256) (l : Fin 128)

theorem query_apply : k3_pay67 v1 v3 v5 v7 x (ix2 r l)
    = turned (fun k => x (ix2 r k)) (fun k => v7 (ix2 0 k)) (fun k => v1 (ix2 r k)) (fun k => v3 (ix2 r k)) (fun k => v5 (ix2 r k)) l * Ideal.ofBits FTy.f32 0x3E0293EE#32 := by
  pointwise [k3_pay67]
  rfl

theorem key_apply : k3_pay114 v1 v3 v5 v7 x (ix3 r 0 l)
    = turned (fun k => x (ix2 r k)) (fun k => v7 (ix2 0 k)) (fun k => v1 (ix2 r k)) (fun k => v3 (ix2 r k)) (fun k => v5 (ix2 r k)) l := by
  pointwise [k3_pay114, k3_pay113]
  rfl

theorem value_apply : k3_pay117 x (ix3 r 0 l) = x (ix2 r l) := by
  pointwise [k3_pay117, k3_pay116]

end payloads

theorem inb_in (h : Fin 48) : ∀ a, (![0, 128 * h.val] : Fin 2 → Nat) a + S256x128.size a ≤ S256x6144.size a := by
  intro a; match a with
  | ⟨0, _⟩ => show 0 + 256 ≤ 256; omega
  | ⟨1, _⟩ => show 128 * h.val + 128 ≤ 6144; omega

theorem inb_q (h : Fin 32) : ∀ a, (![0, 128 * h.val] : Fin 2 → Nat) a + S256x128.size a ≤ S256x4096.size a := by
  intro a; match a with
  | ⟨0, _⟩ => show 0 + 256 ≤ 256; omega
  | ⟨1, _⟩ => show 128 * h.val + 128 ≤ 4096; omega

theorem inb_kv (h : Fin 8) : ∀ a, (![0, h.val, 0] : Fin 3 → Nat) a + S256x1x128.size a ≤ S256x8x128.size a := by
  intro a; match a with
  | ⟨0, _⟩ => show 0 + 256 ≤ 256; omega
  | ⟨1, _⟩ => show h.val + 1 ≤ 8; omega
  | ⟨2, _⟩ => show 0 + 128 ≤ 128; omega

/-- The columns of head `h` among the projection's, -/
abbrev rin (h : Fin 48) : Rect S256x6144 := Rect.unit ![0, 128 * h.val] S256x128.size (inb_in h)

/-- of query head `h` among the queries', -/
abbrev rq (h : Fin 32) : Rect S256x4096 := Rect.unit ![0, 128 * h.val] S256x128.size (inb_q h)

/-- and key or value head `h` among the keys or values. -/
abbrev rkv (h : Fin 8) : Rect S256x8x128 := Rect.unit ![0, h.val, 0] S256x1x128.size (inb_kv h)

section blocks
variable (x0 : Vec Ideal S256x6144 .f32) (x1 x2 : Vec Ideal S1x128 .f32) (x3 x4 x5 : Vec Ideal S256x128 .f32)

/-- Query head `h`'s tile, -/
def qtile (h : Fin 32) : FVec Ideal S256x128 .bf16 :=
  k3_pay67 (k3_pay119 x0 x1 x2 x3 x4 x5) (k3_pay120 x0 x1 x2 x3 x4 x5) (k3_pay121 x0 x1 x2 x3 x4 x5) (k3_pay122 x0 x1 x2 x3 x4 x5) (View.ld x0 (rin ⟨h.val, by omega⟩))

/-- key head `h`'s -/
def ktile (h : Fin 8) : FVec Ideal S256x1x128 .f32 :=
  k3_pay114 (k3_pay119 x0 x1 x2 x3 x4 x5) (k3_pay120 x0 x1 x2 x3 x4 x5) (k3_pay121 x0 x1 x2 x3 x4 x5) (k3_pay123 x0 x1 x2 x3 x4 x5) (View.ld x0 (rin ⟨32 + h.val, by omega⟩))

/-- and value head `h`'s. -/
def vtile (h : Fin 8) : FVec Ideal S256x1x128 .f32 :=
  k3_pay117 (View.ld x0 (rin ⟨40 + h.val, by omega⟩))

def qblock : Vec Ideal S256x4096 .bf16 := fun y =>
  qtile x0 x1 x2 x3 x4 x5 ⟨(y 1).val / 128, by have := (y 1).isLt; show _ < 32; change (y 1).val < 4096 at this; omega⟩ (ix2 (y 0) ⟨(y 1).val % 128, Nat.mod_lt _ (by decide)⟩)

def kblock : Vec Ideal S256x8x128 .f32 := fun y => ktile x0 x1 x2 x3 x4 x5 (y 1) (ix3 (y 0) 0 (y 2))

def vblock : Vec Ideal S256x8x128 .f32 := fun y => vtile x0 (y 1) (ix3 (y 0) 0 (y 2))

theorem qblock_emb (h : Fin 32) (x : S256x128.Idx) : qblock x0 x1 x2 x3 x4 x5 ((rq h).emb x) = qtile x0 x1 x2 x3 x4 x5 h x := by
  have h1 : (((rq h).emb x) 1).val = 128 * h.val + (x 1).val := by
    show 128 * h.val + 1 * (x 1).val = _; omega
  have hx : (x 1).val < 128 := (x 1).isLt
  unfold qblock
  congr 1
  · apply Fin.ext; show (((rq h).emb x) 1).val / 128 = h.val; rw [h1]; omega
  · rw [eq_ix2 x]
    congr 1
    · apply Fin.ext; show 0 + 1 * (x 0).val = (x 0).val; omega
    · apply Fin.ext; show (((rq h).emb x) 1).val % 128 = (x 1).val; rw [h1]; omega

theorem kv_index (h : Fin 8) (x : S256x1x128.Idx) : (rkv h).emb x = ix3 (x 0) h (x 2) ∧ x = ix3 (x 0) 0 (x 2) := by
  have h1 : (x 1).val < 1 := (x 1).isLt
  constructor
  · funext a; apply Fin.ext
    match a with
    | ⟨0, _⟩ => show 0 + 1 * (x 0).val = (x 0).val; omega
    | ⟨1, _⟩ => show h.val + 1 * (x 1).val = h.val; omega
    | ⟨2, _⟩ => show 0 + 1 * (x 2).val = (x 2).val; omega
  · funext a; apply Fin.ext
    match a with
    | ⟨0, _⟩ => rfl
    | ⟨1, _⟩ => show (x 1).val = 0; omega
    | ⟨2, _⟩ => rfl

theorem kblock_emb (h : Fin 8) (x : S256x1x128.Idx) : kblock x0 x1 x2 x3 x4 x5 ((rkv h).emb x) = ktile x0 x1 x2 x3 x4 x5 h x := by
  unfold kblock
  rw [(kv_index h x).1]
  exact congrArg (ktile x0 x1 x2 x3 x4 x5 h) (kv_index h x).2.symm

theorem vblock_emb (h : Fin 8) (x : S256x1x128.Idx) : vblock x0 ((rkv h).emb x) = vtile x0 h x := by
  unfold vblock
  rw [(kv_index h x).1]
  exact congrArg (vtile x0 h) (kv_index h x).2.symm

theorem out_q : out3_6 x0 x1 x2 x3 x4 x5 = qblock x0 x1 x2 x3 x4 x5 := by
  funext y
  unfold out3_6
  refine stored (qblock x0 x1 x2 x3 x4 x5) _ y (cover3_6 _ _ _ _ _ _ _ _ _ _ _ _ _ _ _ _ _ _ _ _ _ _ _ _ _ _ _ _ _ _ _ _ y) ?_
  refine List.forall_mem_cons.mpr ⟨fun x => (qblock_emb x0 x1 x2 x3 x4 x5 31 x).symm, ?_⟩
  refine List.forall_mem_cons.mpr ⟨fun x => (qblock_emb x0 x1 x2 x3 x4 x5 30 x).symm, ?_⟩
  refine List.forall_mem_cons.mpr ⟨fun x => (qblock_emb x0 x1 x2 x3 x4 x5 29 x).symm, ?_⟩
  refine List.forall_mem_cons.mpr ⟨fun x => (qblock_emb x0 x1 x2 x3 x4 x5 28 x).symm, ?_⟩
  refine List.forall_mem_cons.mpr ⟨fun x => (qblock_emb x0 x1 x2 x3 x4 x5 27 x).symm, ?_⟩
  refine List.forall_mem_cons.mpr ⟨fun x => (qblock_emb x0 x1 x2 x3 x4 x5 26 x).symm, ?_⟩
  refine List.forall_mem_cons.mpr ⟨fun x => (qblock_emb x0 x1 x2 x3 x4 x5 25 x).symm, ?_⟩
  refine List.forall_mem_cons.mpr ⟨fun x => (qblock_emb x0 x1 x2 x3 x4 x5 24 x).symm, ?_⟩
  refine List.forall_mem_cons.mpr ⟨fun x => (qblock_emb x0 x1 x2 x3 x4 x5 23 x).symm, ?_⟩
  refine List.forall_mem_cons.mpr ⟨fun x => (qblock_emb x0 x1 x2 x3 x4 x5 22 x).symm, ?_⟩
  refine List.forall_mem_cons.mpr ⟨fun x => (qblock_emb x0 x1 x2 x3 x4 x5 21 x).symm, ?_⟩
  refine List.forall_mem_cons.mpr ⟨fun x => (qblock_emb x0 x1 x2 x3 x4 x5 20 x).symm, ?_⟩
  refine List.forall_mem_cons.mpr ⟨fun x => (qblock_emb x0 x1 x2 x3 x4 x5 19 x).symm, ?_⟩
  refine List.forall_mem_cons.mpr ⟨fun x => (qblock_emb x0 x1 x2 x3 x4 x5 18 x).symm, ?_⟩
  refine List.forall_mem_cons.mpr ⟨fun x => (qblock_emb x0 x1 x2 x3 x4 x5 17 x).symm, ?_⟩
  refine List.forall_mem_cons.mpr ⟨fun x => (qblock_emb x0 x1 x2 x3 x4 x5 16 x).symm, ?_⟩
  refine List.forall_mem_cons.mpr ⟨fun x => (qblock_emb x0 x1 x2 x3 x4 x5 15 x).symm, ?_⟩
  refine List.forall_mem_cons.mpr ⟨fun x => (qblock_emb x0 x1 x2 x3 x4 x5 14 x).symm, ?_⟩
  refine List.forall_mem_cons.mpr ⟨fun x => (qblock_emb x0 x1 x2 x3 x4 x5 13 x).symm, ?_⟩
  refine List.forall_mem_cons.mpr ⟨fun x => (qblock_emb x0 x1 x2 x3 x4 x5 12 x).symm, ?_⟩
  refine List.forall_mem_cons.mpr ⟨fun x => (qblock_emb x0 x1 x2 x3 x4 x5 11 x).symm, ?_⟩
  refine List.forall_mem_cons.mpr ⟨fun x => (qblock_emb x0 x1 x2 x3 x4 x5 10 x).symm, ?_⟩
  refine List.forall_mem_cons.mpr ⟨fun x => (qblock_emb x0 x1 x2 x3 x4 x5 9 x).symm, ?_⟩
  refine List.forall_mem_cons.mpr ⟨fun x => (qblock_emb x0 x1 x2 x3 x4 x5 8 x).symm, ?_⟩
  refine List.forall_mem_cons.mpr ⟨fun x => (qblock_emb x0 x1 x2 x3 x4 x5 7 x).symm, ?_⟩
  refine List.forall_mem_cons.mpr ⟨fun x => (qblock_emb x0 x1 x2 x3 x4 x5 6 x).symm, ?_⟩
  refine List.forall_mem_cons.mpr ⟨fun x => (qblock_emb x0 x1 x2 x3 x4 x5 5 x).symm, ?_⟩
  refine List.forall_mem_cons.mpr ⟨fun x => (qblock_emb x0 x1 x2 x3 x4 x5 4 x).symm, ?_⟩
  refine List.forall_mem_cons.mpr ⟨fun x => (qblock_emb x0 x1 x2 x3 x4 x5 3 x).symm, ?_⟩
  refine List.forall_mem_cons.mpr ⟨fun x => (qblock_emb x0 x1 x2 x3 x4 x5 2 x).symm, ?_⟩
  refine List.forall_mem_cons.mpr ⟨fun x => (qblock_emb x0 x1 x2 x3 x4 x5 1 x).symm, ?_⟩
  refine List.forall_mem_cons.mpr ⟨fun x => (qblock_emb x0 x1 x2 x3 x4 x5 0 x).symm, ?_⟩
  exact fun p hp => absurd hp List.not_mem_nil

theorem out_k : out3_7 x0 x1 x2 x3 x4 x5 = kblock x0 x1 x2 x3 x4 x5 := by
  funext y
  unfold out3_7
  refine stored (kblock x0 x1 x2 x3 x4 x5) _ y (cover3_7 _ _ _ _ _ _ _ _ y) ?_
  refine List.forall_mem_cons.mpr ⟨fun x => (kblock_emb x0 x1 x2 x3 x4 x5 7 x).symm, ?_⟩
  refine List.forall_mem_cons.mpr ⟨fun x => (kblock_emb x0 x1 x2 x3 x4 x5 6 x).symm, ?_⟩
  refine List.forall_mem_cons.mpr ⟨fun x => (kblock_emb x0 x1 x2 x3 x4 x5 5 x).symm, ?_⟩
  refine List.forall_mem_cons.mpr ⟨fun x => (kblock_emb x0 x1 x2 x3 x4 x5 4 x).symm, ?_⟩
  refine List.forall_mem_cons.mpr ⟨fun x => (kblock_emb x0 x1 x2 x3 x4 x5 3 x).symm, ?_⟩
  refine List.forall_mem_cons.mpr ⟨fun x => (kblock_emb x0 x1 x2 x3 x4 x5 2 x).symm, ?_⟩
  refine List.forall_mem_cons.mpr ⟨fun x => (kblock_emb x0 x1 x2 x3 x4 x5 1 x).symm, ?_⟩
  refine List.forall_mem_cons.mpr ⟨fun x => (kblock_emb x0 x1 x2 x3 x4 x5 0 x).symm, ?_⟩
  exact fun p hp => absurd hp List.not_mem_nil

theorem out_v : out3_9 x0 x1 x2 x3 x4 x5 = vblock x0 := by
  funext y
  unfold out3_9
  refine stored (vblock x0) _ y (cover3_9 _ _ _ _ _ _ _ _ y) ?_
  refine List.forall_mem_cons.mpr ⟨fun x => (vblock_emb x0 7 x).symm, ?_⟩
  refine List.forall_mem_cons.mpr ⟨fun x => (vblock_emb x0 6 x).symm, ?_⟩
  refine List.forall_mem_cons.mpr ⟨fun x => (vblock_emb x0 5 x).symm, ?_⟩
  refine List.forall_mem_cons.mpr ⟨fun x => (vblock_emb x0 4 x).symm, ?_⟩
  refine List.forall_mem_cons.mpr ⟨fun x => (vblock_emb x0 3 x).symm, ?_⟩
  refine List.forall_mem_cons.mpr ⟨fun x => (vblock_emb x0 2 x).symm, ?_⟩
  refine List.forall_mem_cons.mpr ⟨fun x => (vblock_emb x0 1 x).symm, ?_⟩
  refine List.forall_mem_cons.mpr ⟨fun x => (vblock_emb x0 0 x).symm, ?_⟩
  exact fun p hp => absurd hp List.not_mem_nil

/-- A table's block is the table's. -/
theorem table_ld (x : Vec Ideal S256x128 .f32) : k3_pay1 (View.ld x r3_0) = x ∧ k3_pay2 (View.ld x r3_0) = x ∧ k3_pay3 (View.ld x r3_0) = x := by
  have e : View.ld x r3_0 = x := by
    funext y
    refine congrArg x (funext fun a => Fin.ext ?_)
    match a with
    | ⟨0, _⟩ => show 0 + 1 * (y 0).val = (y 0).val; omega
    | ⟨1, _⟩ => show 0 + 1 * (y 1).val = (y 1).val; omega
  unfold k3_pay1 k3_pay2 k3_pay3
  dsimp only
  rw [shapeCast_self, e]
  exact ⟨rfl, rfl, rfl⟩

theorem gain_ld (x : Vec Ideal S1x128 .f32) : k3_pay4 (View.ld x r3_1) = x ∧ k3_pay5 (View.ld x r3_1) = x := by
  have e : View.ld x r3_1 = x := by
    funext y
    refine congrArg x (funext fun a => Fin.ext ?_)
    match a with
    | ⟨0, _⟩ => show 0 + 1 * (y 0).val = (y 0).val; omega
    | ⟨1, _⟩ => show 0 + 1 * (y 1).val = (y 1).val; omega
  unfold k3_pay4 k3_pay5
  dsimp only
  rw [shapeCast_self, e]
  exact ⟨rfl, rfl⟩

theorem rin_at (h : Fin 48) (r : Fin 256) (l : Fin 128) : View.ld x0 (rin h) (ix2 r l) = x0 (ix2 r ⟨h.val * 128 + l.val, by omega⟩) := by
  refine congrArg x0 (funext fun a => Fin.ext ?_)
  match a with
  | ⟨0, _⟩ => show 0 + 1 * r.val = r.val; omega
  | ⟨1, _⟩ => show 128 * h.val + 1 * l.val = h.val * 128 + l.val; omega

theorem qblock_apply (r : Fin 256) (h : Fin 32) (l : Fin 128) : qblock x0 x1 x2 x3 x4 x5 (ix2 r ⟨h.val * 128 + l.val, by omega⟩)
    = turned (fun k => x0 (ix2 r ⟨h.val * 128 + k.val, by omega⟩)) (fun k => x1 (ix2 0 k)) (fun k => x3 (ix2 r k)) (fun k => x4 (ix2 r k)) (fun k => x5 (ix2 r k)) l
        * Ideal.ofBits FTy.f32 0x3E0293EE#32 := by
  have e : (ix2 r ⟨h.val * 128 + l.val, by omega⟩ : S256x4096.Idx) = (rq h).emb (ix2 r l) := by
    funext a; apply Fin.ext
    match a with
    | ⟨0, _⟩ => show r.val = 0 + 1 * r.val; omega
    | ⟨1, _⟩ => show h.val * 128 + l.val = 128 * h.val + 1 * l.val; omega
  rw [e, qblock_emb]
  unfold qtile k3_pay119 k3_pay120 k3_pay121 k3_pay122
  rw [query_apply, (table_ld x3).1, (table_ld x4).2.1, (table_ld x5).2.2, (gain_ld x1).1]
  exact congrArg (fun p => turned p (fun k => x1 (ix2 0 k)) (fun k => x3 (ix2 r k)) (fun k => x4 (ix2 r k)) (fun k => x5 (ix2 r k)) l * Ideal.ofBits FTy.f32 0x3E0293EE#32)
    (funext fun k => rin_at x0 ⟨h.val, by omega⟩ r k)

theorem kblock_apply (r : Fin 256) (h : Fin 8) (l : Fin 128) : kblock x0 x1 x2 x3 x4 x5 (ix3 r h l)
    = turned (fun k => x0 (ix2 r ⟨(32 + h.val) * 128 + k.val, by omega⟩)) (fun k => x2 (ix2 0 k)) (fun k => x3 (ix2 r k)) (fun k => x4 (ix2 r k)) (fun k => x5 (ix2 r k)) l := by
  unfold kblock ktile k3_pay119 k3_pay120 k3_pay121 k3_pay123
  refine (key_apply _ _ _ _ _ r l).trans ?_
  rw [(table_ld x3).1, (table_ld x4).2.1, (table_ld x5).2.2, (gain_ld x2).2]
  exact congrArg (fun p => turned p (fun k => x2 (ix2 0 k)) (fun k => x3 (ix2 r k)) (fun k => x4 (ix2 r k)) (fun k => x5 (ix2 r k)) l)
    (funext fun k => rin_at x0 ⟨32 + h.val, by omega⟩ r k)

theorem vblock_apply (r : Fin 256) (h : Fin 8) (l : Fin 128) : vblock x0 (ix3 r h l) = x0 (ix2 r ⟨(40 + h.val) * 128 + l.val, by omega⟩) := by
  unfold vblock vtile
  refine (value_apply _ r l).trans ?_
  exact rin_at x0 ⟨40 + h.val, by omega⟩ r l

end blocks

end Cert.SecondHeads

end
-- ==== Proof.IndexRows.lean ====
/-
  The indexer's rows: its queries' rotation, two heads of 64 lanes to a tile, its key's norm and rotation over the first
  half of a tile and its weights' scale; and the host's arrangements around them, read at an index.
-/
module

public import proofs.«01_k».proof.Proof.FrontRows
public import Idealize.ShloMosaic.Lib.KernelVsHost

@[expose] public section

set_option maxRecDepth 16384

noncomputable section

namespace Cert.IndexRows

open Cert.HeadRows Cert.FrontRows Cert.RowLayout Idealize.ShloMosaic

/-- A position's angle. -/
def slant (p : BitVec 32) (f : Fin 8 → EReal) (l : Fin 8) : EReal := FloatOps.sitofp (F := Ideal) .f32 p * f l

/-- A head's query at a position, -/
def indexRow (p : BitVec 32) (f : Fin 8 → EReal) (q : Fin 64 → EReal) (l : Fin 64) : EReal :=
  rotated (by decide) q (fun k => Ideal.cos (slant p f k)) (fun k => Ideal.sin (slant p f k)) l

/-- and the key. -/
def indexKey (p : BitVec 32) (f : Fin 8 → EReal) (q g : Fin 64 → EReal) (l : Fin 64) : EReal :=
  indexRow p f (normed 0x42800000#32 q g) l

/-- A lane rolled back by 8, -/
def ahead (l : Fin 128) : Fin 128 := ⟨(l.val + 128 - 120) % 128, Nat.mod_lt _ (by decide)⟩

/-- and on by 8. -/
def behind (l : Fin 128) : Fin 128 := ⟨(l.val + 128 - 8) % 128, Nat.mod_lt _ (by decide)⟩

/-- A tile and the three tables' rows, put together as a kernel does. -/
def swung (y c s s' : Fin 128 → EReal) (l : Fin 128) : EReal := y l * c l + y (ahead l) * s l + y (behind l) * s' l

/-- Over the three tables, laid twice, it is each half's rotation. -/
theorem swung_eq (y : Fin 128 → EReal) (c s : Fin 8 → EReal) (e : Fin 2) (l : Fin 64) :
    swung y (fun k => tabC c (k.val % 64)) (fun k => tabS s (k.val % 64)) (fun k => tabS' s (k.val % 64)) ⟨e.val * 64 + l.val, by omega⟩
      = rotated (by decide) (fun k : Fin 64 => y ⟨e.val * 64 + k.val, by omega⟩) c s l := by
  unfold swung
  have hl : (e.val * 64 + l.val) % 64 = l.val := by omega
  simp only [hl]
  refine rotated_of_tables (by decide) (fun k : Fin 64 => y ⟨e.val * 64 + k.val, by omega⟩) c s l _ _ (fun h => congrArg y (Fin.ext ?_)) (fun h h' => congrArg y (Fin.ext ?_))
  · show (e.val * 64 + l.val + 128 - 120) % 128 = e.val * 64 + (l.val + 8)
    omega
  · show (e.val * 64 + l.val + 128 - 8) % 128 = e.val * 64 + (l.val - 8)
    omega

/-- The tile's first half, its norm taken over that half only. -/
def halfNorm (t g : Fin 128 → EReal) (l : Fin 128) : EReal :=
  t l * Ideal.rsqrt ((∑ k : Fin 128, if k.val < 64 then t k * t k else 0) * Ideal.ofBits FTy.f32 0x3C800000#32 + Ideal.ofBits FTy.f32 0x358637BD#32) * g l

theorem half_sum (f : Fin 128 → EReal) : (∑ k : Fin 128, if k.val < 64 then f k else 0) = ∑ k : Fin 64, f ⟨k.val, by omega⟩ := by
  have h := Fin.sum_univ_add (a := 64) (b := 64) (fun k : Fin (64 + 64) => if k.val < 64 then f k else 0)
  refine h.trans ?_
  have h1 : (∑ i : Fin 64, if (Fin.castAdd 64 i).val < 64 then f (Fin.castAdd 64 i) else 0) = ∑ k : Fin 64, f ⟨k.val, by omega⟩ :=
    Finset.sum_congr rfl fun k _ => if_pos (show (Fin.castAdd 64 k).val < 64 from k.isLt)
  have h2 : (∑ i : Fin 64, if (Fin.natAdd 64 i).val < 64 then f (Fin.natAdd 64 i) else 0) = 0 :=
    Finset.sum_eq_zero fun k _ => if_neg (show ¬ (Fin.natAdd 64 k).val < 64 from by rw [Fin.val_natAdd]; omega)
  exact (congrArg₂ (fun x y : EReal => x + y) h1 h2).trans (add_zero _)

theorem sixty_four (x : EReal) : x * Ideal.ofBits FTy.f32 0x3C800000#32 = Ideal.div x (Ideal.ofBits FTy.f32 0x42800000#32) := by
  have h1 : Ideal.ofBits FTy.f32 0x42800000#32 = ((64 : ℝ) : EReal) := by simp [Ideal.ofBits, Ideal.ieee]; rw [← EReal.coe_mul]; norm_num
  have h2 : Ideal.ofBits FTy.f32 0x3C800000#32 = ((1 / 64 : ℝ) : EReal) := by simp [Ideal.ofBits, Ideal.ieee]; rw [← EReal.coe_mul]; norm_num
  rw [h1, h2, Ideal.div_coe (by norm_num)]

/-- The two scales of the weights are one. -/
theorem two_scales (x : EReal) : x * Ideal.ofBits FTy.f32 0x3D000000#32 = x * Ideal.ofBits FTy.f32 0x3E800000#32 * Ideal.ofBits FTy.f32 0x3E000000#32 := by
  have h1 : Ideal.ofBits FTy.f32 0x3D000000#32 = ((1 / 32 : ℝ) : EReal) := by simp [Ideal.ofBits, Ideal.ieee]; rw [← EReal.coe_mul]; norm_num
  have h2 : Ideal.ofBits FTy.f32 0x3E800000#32 = ((1 / 4 : ℝ) : EReal) := by simp [Ideal.ofBits, Ideal.ieee]; rw [← EReal.coe_mul]; norm_num
  have h3 : Ideal.ofBits FTy.f32 0x3E000000#32 = ((1 / 8 : ℝ) : EReal) := by simp [Ideal.ofBits, Ideal.ieee]; rw [← EReal.coe_mul]; norm_num
  rw [h1, h2, h3, mul_assoc, ← EReal.coe_mul]
  norm_num

theorem halfNorm_eq (t g : Fin 128 → EReal) (l : Fin 64) : halfNorm t g ⟨l.val, by omega⟩
    = normed 0x42800000#32 (fun k : Fin 64 => t ⟨k.val, by omega⟩) (fun k => g ⟨k.val, by omega⟩) l := by
  unfold halfNorm normed
  rw [half_sum (fun k => t k * t k), sixty_four]

section arrays
variable (P : FVec Ideal (N2 16640 1152) .f32) (G : FVec Ideal (N2 1 128) .f32) (C T T' : FVec Ideal (N2 16640 128) .f32)

/-- A tile of queries at a row, -/
def indexAt (r : Fin 16640) (t : Fin 8) (l : Fin 128) : EReal :=
  swung (fun k => P (ix2 r ⟨t.val * 128 + k.val, by omega⟩)) (fun k => C (ix2 r k)) (fun k => T (ix2 r k)) (fun k => T' (ix2 r k)) l

def indexQueries : FVec Ideal (N2 16640 1024) .bf16 := fun y =>
  indexAt P C T T' (y 0) ⟨(y 1).val / 128, by have := (y 1).isLt; show _ < 8; change (y 1).val < 1024 at this; omega⟩ ⟨(y 1).val % 128, Nat.mod_lt _ (by decide)⟩

theorem indexQueries_apply (r : Fin 16640) (t : Fin 8) (l : Fin 128) : indexQueries P C T T' (ix2 r ⟨t.val * 128 + l.val, by omega⟩) = indexAt P C T T' r t l := by
  show indexAt P C T T' r _ _ = indexAt P C T T' r t l
  congr 1
  · apply Fin.ext; show (t.val * 128 + l.val) / 128 = t.val; omega
  · apply Fin.ext; show (t.val * 128 + l.val) % 128 = l.val; omega

/-- and the last tile: the key in its first half, the weights after it. -/
def tailAt (r : Fin 16640) (l : Fin 128) : EReal :=
  if l.val < 64 then
    swung (halfNorm (fun k => P (ix2 r ⟨1024 + k.val, by omega⟩)) (fun k => G (ix2 0 k))) (fun k => C (ix2 r k)) (fun k => T (ix2 r k)) (fun k => T' (ix2 r k)) l
  else P (ix2 r ⟨1024 + l.val, by omega⟩) * Ideal.ofBits FTy.f32 0x3D000000#32

def tails : FVec Ideal (N2 16640 128) .f32 := fun y => tailAt P G C T T' (y 0) (y 1)

theorem query_row (r : Fin 16640) (w : Fin 1104 → EReal) (p : BitVec 32) (f : Fin 8 → EReal)
    (hP : ∀ j : Fin 1104, P (ix2 r ⟨j.val, by omega⟩) = w j)
    (hC : ∀ k : Fin 128, C (ix2 r k) = tabC (fun i => Ideal.cos (slant p f i)) (k.val % 64))
    (hT : ∀ k : Fin 128, T (ix2 r k) = tabS (fun i => Ideal.sin (slant p f i)) (k.val % 64))
    (hT' : ∀ k : Fin 128, T' (ix2 r k) = tabS' (fun i => Ideal.sin (slant p f i)) (k.val % 64)) (h : Fin 16) (l : Fin 64) : indexQueries P C T T' (ix2 r ⟨h.val * 64 + l.val, by omega⟩)
    = indexRow p f (fun k => w ⟨h.val * 64 + k.val, by omega⟩) l := by
  have e : (⟨h.val * 64 + l.val, by omega⟩ : Fin 1024) = ⟨h.val / 2 * 128 + (h.val % 2 * 64 + l.val), by omega⟩ := Fin.ext (by show h.val * 64 + l.val = h.val / 2 * 128 + (h.val % 2 * 64 + l.val); omega)
  rw [e]
  refine (indexQueries_apply P C T T' r ⟨h.val / 2, by omega⟩ ⟨h.val % 2 * 64 + l.val, by omega⟩).trans ?_
  unfold indexAt
  simp only [hC, hT, hT']
  refine (swung_eq _ _ _ ⟨h.val % 2, by omega⟩ l).trans ?_
  unfold indexRow
  refine congrArg (fun q : Fin 64 → EReal => rotated (by decide) q _ _ l) (funext fun k => ?_)
  refine Eq.trans (congrArg P ?_) (hP ⟨h.val * 64 + k.val, by omega⟩)
  refine congrArg (ix2 r) (Fin.ext ?_)
  show h.val / 2 * 128 + (h.val % 2 * 64 + k.val) = h.val * 64 + k.val
  omega

theorem key_row (r : Fin 16640) (w : Fin 1104 → EReal) (u : Fin 64 → EReal) (p : BitVec 32) (f : Fin 8 → EReal)
    (hP : ∀ j : Fin 1104, P (ix2 r ⟨j.val, by omega⟩) = w j) (hG : ∀ k : Fin 64, G (ix2 0 ⟨k.val, by omega⟩) = u k)
    (hC : ∀ k : Fin 128, C (ix2 r k) = tabC (fun i => Ideal.cos (slant p f i)) (k.val % 64))
    (hT : ∀ k : Fin 128, T (ix2 r k) = tabS (fun i => Ideal.sin (slant p f i)) (k.val % 64))
    (hT' : ∀ k : Fin 128, T' (ix2 r k) = tabS' (fun i => Ideal.sin (slant p f i)) (k.val % 64)) (l : Fin 64) : tails P G C T T' (ix2 r ⟨l.val, by omega⟩) = indexKey p f (fun k => w ⟨1024 + k.val, by omega⟩) u l := by
  show tailAt P G C T T' r ⟨l.val, by omega⟩ = _
  unfold tailAt
  rw [if_pos l.isLt]
  simp only [hC, hT, hT']
  have e : (⟨l.val, by omega⟩ : Fin 128) = ⟨(0 : Fin 2).val * 64 + l.val, by have := l.isLt; show 0 * 64 + l.val < 128; omega⟩ := Fin.ext (by show l.val = 0 * 64 + l.val; omega)
  rw [e, swung_eq]
  unfold indexKey indexRow
  refine congrArg (fun q : Fin 64 → EReal => rotated (by decide) q _ _ l) (funext fun k => ?_)
  have e' : (⟨(0 : Fin 2).val * 64 + k.val, by have := k.isLt; show 0 * 64 + k.val < 128; omega⟩ : Fin 128) = ⟨k.val, by omega⟩ := Fin.ext (by show 0 * 64 + k.val = k.val; omega)
  rw [e', halfNorm_eq]
  exact congrArg₂ (fun p g : Fin 64 → EReal => normed 0x42800000#32 p g k) (funext fun i => hP ⟨1024 + i.val, by omega⟩) (funext hG)

theorem weight_row (r : Fin 16640) (w : Fin 1104 → EReal) (hP : ∀ j : Fin 1104, P (ix2 r ⟨j.val, by omega⟩) = w j) (l : Fin 16) : tails P G C T T' (ix2 r ⟨64 + l.val, by omega⟩)
    = w ⟨1088 + l.val, by omega⟩ * Ideal.ofBits FTy.f32 0x3E800000#32 * Ideal.ofBits FTy.f32 0x3E000000#32 := by
  show tailAt P G C T T' r ⟨64 + l.val, by omega⟩ = _
  unfold tailAt
  rw [if_neg (by show ¬ 64 + l.val < 64; omega), two_scales]
  refine congrArg (fun x : EReal => x * _ * _) (Eq.trans (congrArg P ?_) (hP ⟨1088 + l.val, by omega⟩))
  refine congrArg (ix2 r) (Fin.ext ?_)
  show 1024 + (64 + l.val) = 1088 + l.val
  omega

end arrays

section host

/-- A table of rows of 64 laid twice. -/
theorem laid_twice {α : Type} {R : Nat} (X : (N2 R 64).Idx → α) (h : (N4 1 R 1 64).BroadcastsInDim (N4 1 R 2 64) ![0, 1, 2, 3]) (h1 h2) (r) (l : Fin 128) :
    shapeCast (N2 R 128) (broadcastInDim (N4 1 R 2 64) ![0, 1, 2, 3] h (shapeCast (N4 1 R 1 64) X h1)) h2 (ix2 r l) = X (ix2 r ⟨l.val % 64, Nat.mod_lt _ (by decide)⟩) := by
  refine (shapeCast_apply _ _ _ (ix4 (0 : Fin 1) r (⟨l.val / 64, by omega⟩ : Fin 2) (⟨l.val % 64, Nat.mod_lt _ (by decide)⟩ : Fin 64)) ?_).trans
    ((spread _ _ _ _ (ix4 (0 : Fin 1) r (0 : Fin 1) (⟨l.val % 64, Nat.mod_lt _ (by decide)⟩ : Fin 64)) fun a => ?_).trans (shapeCast_apply _ _ _ (ix2 r ⟨l.val % 64, Nat.mod_lt _ (by decide)⟩) ?_))
  · rw [Shape.rowMajor_val_two, Shape.rowMajor_val_four]
    show ((0 * R + r.val) * 2 + l.val / 64) * 64 + l.val % 64 = r.val * 128 + l.val
    omega
  · match a with
    | ⟨0, _⟩ => exact .inl rfl
    | ⟨1, _⟩ => exact .inl rfl
    | ⟨2, _⟩ => exact .inr rfl
    | ⟨3, _⟩ => exact .inl rfl
  · rw [Shape.rowMajor_val_two, Shape.rowMajor_val_four]
    show r.val * 64 + l.val % 64 = ((0 * R + r.val) * 1 + 0) * 64 + l.val % 64
    omega

theorem cut3 {α : Type} {B S M E : Nat} (P : (N3 B S M).Idx → α) (o : Nat) (h : (N3 B S M).Slices ![0, 0, o] (N3 B S E)) (b s) (l : Fin E) (j : Fin M)
    (hj : j.val = o + l.val) : extractStridedSlice (N3 B S E) ![0, 0, o] P h (ix3 b s l) = P (ix3 b s j) := by
  refine congrArg P (funext fun a => Fin.ext ?_)
  match a with
  | ⟨0, _⟩ => show 0 + b.val = b.val; omega
  | ⟨1, _⟩ => show 0 + s.val = s.val; omega
  | ⟨2, _⟩ => exact hj.symm

theorem cut2 {α : Type} {R M E : Nat} (P : (N2 R M).Idx → α) (o : Nat) (h : (N2 R M).Slices ![0, o] (N2 R E)) (r) (l : Fin E) (j : Fin M)
    (hj : j.val = o + l.val) : extractStridedSlice (N2 R E) ![0, o] P h (ix2 r l) = P (ix2 r j) := by
  refine congrArg P (funext fun a => Fin.ext ?_)
  match a with
  | ⟨0, _⟩ => show 0 + r.val = r.val; omega
  | ⟨1, _⟩ => exact hj.symm

/-- Rows of 1024 columns read as heads of 64. -/
theorem as_heads {α : Type} {B S : Nat} (P : (N3 B S 1024).Idx → α) (h : (N3 B S 1024).ShapeCasts (N4 B S 16 64)) (b s) (n : Fin 16) (k : Fin 64) :
    shapeCast (N4 B S 16 64) P h (ix4 b s n k) = P (ix3 b s ⟨n.val * 64 + k.val, by omega⟩) := by
  refine shapeCast_apply _ _ _ (ix3 b s (⟨n.val * 64 + k.val, by omega⟩ : Fin 1024)) ?_
  rw [Shape.rowMajor_val_four, Shape.rowMajor_val_three]
  show (b.val * S + s.val) * 1024 + (n.val * 64 + k.val) = ((b.val * S + s.val) * 16 + n.val) * 64 + k.val
  omega

/-- Rows with one head, that head dropped, -/
theorem one_head {α : Type} {B S D : Nat} (P : (N4 B S 1 D).Idx → α) (h) (b s k) : shapeCast (N3 B S D) P h (ix3 b s k) = P (ix4 b s 0 k) := by
  refine shapeCast_apply _ _ _ (ix4 b s (0 : Fin 1) k) ?_
  rw [Shape.rowMajor_val_four, Shape.rowMajor_val_three]
  show ((b.val * S + s.val) * 1 + 0) * D + k.val = (b.val * S + s.val) * D + k.val
  simp

/-- and put in. -/
theorem put_head {α : Type} {B S D : Nat} (P : (N3 B S D).Idx → α) (h : (N3 B S D).BroadcastsInDim (N4 B S 1 D) ![0, 1, 3]) (b s n k) :
    broadcastInDim (N4 B S 1 D) ![0, 1, 3] h P (ix4 b s n k) = P (ix3 b s k) :=
  spread _ _ _ _ (ix3 b s k) fun a => match a with
    | ⟨0, _⟩ => .inl rfl
    | ⟨1, _⟩ => .inl rfl
    | ⟨2, _⟩ => .inl rfl

theorem index_prompt {α : Type} (x : (N2 16640 1024).Idx → α) (h₁ h₂) (b : Fin 2) (s : Fin 8192) (n : Fin 16) (l : Fin 64) :
    shapeCast (N4 2 8192 16 64) (extractStridedSlice (N2 16384 1024) ![0, 0] x h₁) h₂ (ix4 b s n l) = x (ix2 (rowP b s) ⟨n.val * 64 + l.val, by omega⟩) := by
  refine (shapeCast_apply _ _ _ (ix2 (⟨b.val * 8192 + s.val, by omega⟩ : Fin 16384) (⟨n.val * 64 + l.val, by omega⟩ : Fin 1024)) ?_).trans ?_
  · rw [Shape.rowMajor_val_four, Shape.rowMajor_val_two]
    show (b.val * 8192 + s.val) * 1024 + (n.val * 64 + l.val) = ((b.val * 8192 + s.val) * 16 + n.val) * 64 + l.val
    omega
  · refine congrArg x (funext fun a => Fin.ext ?_)
    match a with
    | ⟨0, _⟩ => show 0 + (b.val * 8192 + s.val) = b.val * 8192 + s.val; omega
    | ⟨1, _⟩ => show 0 + (n.val * 64 + l.val) = n.val * 64 + l.val; omega

theorem index_sample {α : Type} (x : (N2 16640 1024).Idx → α) (h₁ h₂) (b : Fin 8) (s : Fin 32) (n : Fin 16) (l : Fin 64) :
    shapeCast (N4 8 32 16 64) (extractStridedSlice (N2 256 1024) ![16384, 0] x h₁) h₂ (ix4 b s n l) = x (ix2 (rowS b s) ⟨n.val * 64 + l.val, by omega⟩) := by
  refine (shapeCast_apply _ _ _ (ix2 (⟨b.val * 32 + s.val, by omega⟩ : Fin 256) (⟨n.val * 64 + l.val, by omega⟩ : Fin 1024)) ?_).trans ?_
  · rw [Shape.rowMajor_val_four, Shape.rowMajor_val_two]
    show (b.val * 32 + s.val) * 1024 + (n.val * 64 + l.val) = ((b.val * 32 + s.val) * 16 + n.val) * 64 + l.val
    omega
  · refine congrArg x (funext fun a => Fin.ext ?_)
    match a with
    | ⟨0, _⟩ => rfl
    | ⟨1, _⟩ => show 0 + (n.val * 64 + l.val) = n.val * 64 + l.val; omega

end host

end Cert.IndexRows

end
-- ==== Proof.SecondIndex.lean ====
/-
  The indexer's features at one grid point: each block that the point stores is one function of the point's blocks.
-/
module

public import proofs.«01_k».proof.Proof.IndexRows
public import proofs.«01_k».proof.Proof.Gen.Kernel3Ideal.Frame

@[expose] public section

set_option maxRecDepth 16384

noncomputable section

namespace Cert.SecondIndex

open Cert.HeadRows Cert.IndexRows Cert.Kernel3Ideal Cert.Kernel3Ideal.Gen Idealize.ShloMosaic Idealize.ShloMosaic.TcCoe Idealize.SL.Sem

section payloads
variable (v1 v3 v5 : FVec Ideal S256x128 .f32) (x : Vec Ideal S256x128 .f32) (g : Vec Ideal S1x128 .f32) (r : Fin 256) (l : Fin 128)

theorem tile_apply : k4_pay16 v1 v3 v5 x (ix2 r l) = swung (fun k => x (ix2 r k)) (fun k => v1 (ix2 r k)) (fun k => v3 (ix2 r k)) (fun k => v5 (ix2 r k)) l := by
  pointwise [k4_pay16]
  rfl

theorem lane_lt {α : Type} (l : Fin 128) (a b : α) : Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by decide +kernel
  rw [h l]
  by_cases hl : l.val < 64
  · rw [if_pos hl, if_pos hl]; rfl
  · rw [if_neg hl, if_neg hl]; rfl

theorem tail_apply : k4_pay1 v1 v3 v5 (k4_pay17 x) k4_pay18 (k4_pay19 x) g (ix2 r l)
    = if l.val < 64 then swung (halfNorm (fun k => x (ix2 r k)) (fun k => g (ix2 0 k))) (fun k => v1 (ix2 r k)) (fun k => v3 (ix2 r k)) (fun k => v5 (ix2 r k)) l
      else x (ix2 r l) * Ideal.ofBits FTy.f32 0x3D000000#32 := by
  pointwise [k4_pay1, k4_pay17, k4_pay18, k4_pay19]
  simp only [lane_lt]
  rfl

end payloads

theorem inb_x (h : Fin 9) : ∀ a, (![0, 128 * h.val] : Fin 2 → Nat) a + S256x128.size a ≤ S256x1152.size a := by
  intro a; match a with
  | ⟨0, _⟩ => show 0 + 256 ≤ 256; omega
  | ⟨1, _⟩ => show 128 * h.val + 128 ≤ 1152; omega

theorem inb_y (h : Fin 8) : ∀ a, (![0, 128 * h.val] : Fin 2 → Nat) a + S256x128.size a ≤ S256x1024.size a := by
  intro a; match a with
  | ⟨0, _⟩ => show 0 + 256 ≤ 256; omega
  | ⟨1, _⟩ => show 128 * h.val + 128 ≤ 1024; omega

/-- The columns of tile `h` among the projection's, -/
abbrev rx (h : Fin 9) : Rect S256x1152 := Rect.unit ![0, 128 * h.val] S256x128.size (inb_x h)

/-- and among the queries'. -/
abbrev ry (h : Fin 8) : Rect S256x1024 := Rect.unit ![0, 128 * h.val] S256x128.size (inb_y h)

section blocks
variable (x0 : Vec Ideal S256x1152 .f32) (x1 : Vec Ideal S1x128 .f32) (x2 x3 x4 : Vec Ideal S256x128 .f32)

/-- Tile `h` of the queries, -/
def itile (h : Fin 8) : FVec Ideal S256x128 .bf16 :=
  k4_pay16 (k4_pay20 x0 x1 x2 x3 x4) (k4_pay21 x0 x1 x2 x3 x4) (k4_pay22 x0 x1 x2 x3 x4) (View.ld x0 (rx ⟨h.val, by omega⟩))

/-- and all of them. -/
def iblock : Vec Ideal S256x1024 .bf16 := fun y =>
  itile x0 x1 x2 x3 x4 ⟨(y 1).val / 128, by have := (y 1).isLt; show _ < 8; change (y 1).val < 1024 at this; omega⟩ (ix2 (y 0) ⟨(y 1).val % 128, Nat.mod_lt _ (by decide)⟩)

theorem iblock_emb (h : Fin 8) (x : S256x128.Idx) : iblock x0 x1 x2 x3 x4 ((ry h).emb x) = itile x0 x1 x2 x3 x4 h x := by
  have h1 : (((ry h).emb x) 1).val = 128 * h.val + (x 1).val := by
    show 128 * h.val + 1 * (x 1).val = _; omega
  have hx : (x 1).val < 128 := (x 1).isLt
  unfold iblock
  congr 1
  · apply Fin.ext; show (((ry h).emb x) 1).val / 128 = h.val; rw [h1]; omega
  · rw [eq_ix2 x]
    congr 1
    · apply Fin.ext; show 0 + 1 * (x 0).val = (x 0).val; omega
    · apply Fin.ext; show (((ry h).emb x) 1).val % 128 = (x 1).val; rw [h1]; omega

theorem out_index : out4_5 x0 x1 x2 x3 x4 = iblock x0 x1 x2 x3 x4 := by
  funext y
  unfold out4_5
  refine stored (iblock x0 x1 x2 x3 x4) _ y (cover4_5 _ _ _ _ _ _ _ _ y) ?_
  refine List.forall_mem_cons.mpr ⟨fun x => (iblock_emb x0 x1 x2 x3 x4 7 x).symm, ?_⟩
  refine List.forall_mem_cons.mpr ⟨fun x => (iblock_emb x0 x1 x2 x3 x4 6 x).symm, ?_⟩
  refine List.forall_mem_cons.mpr ⟨fun x => (iblock_emb x0 x1 x2 x3 x4 5 x).symm, ?_⟩
  refine List.forall_mem_cons.mpr ⟨fun x => (iblock_emb x0 x1 x2 x3 x4 4 x).symm, ?_⟩
  refine List.forall_mem_cons.mpr ⟨fun x => (iblock_emb x0 x1 x2 x3 x4 3 x).symm, ?_⟩
  refine List.forall_mem_cons.mpr ⟨fun x => (iblock_emb x0 x1 x2 x3 x4 2 x).symm, ?_⟩
  refine List.forall_mem_cons.mpr ⟨fun x => (iblock_emb x0 x1 x2 x3 x4 1 x).symm, ?_⟩
  refine List.forall_mem_cons.mpr ⟨fun x => (iblock_emb x0 x1 x2 x3 x4 0 x).symm, ?_⟩
  exact fun p hp => absurd hp List.not_mem_nil

theorem whole (x : Vec Ideal S256x128 .f32) : View.ld x r4_0 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- A table's block is the table's. -/
theorem tables_ld : k4_pay20 x0 x1 x2 x3 x4 = x2 ∧ k4_pay21 x0 x1 x2 x3 x4 = x3 ∧ k4_pay22 x0 x1 x2 x3 x4 = x4 := by
  unfold k4_pay20 k4_pay21 k4_pay22 k4_pay3 k4_pay4 k4_pay5
  dsimp only
  rw [shapeCast_self, shapeCast_self, shapeCast_self, whole, whole, whole]
  exact ⟨rfl, rfl, rfl⟩

theorem rx_at (h : Fin 9) (r : Fin 256) (l : Fin 128) : View.ld x0 (rx h) (ix2 r l) = x0 (ix2 r ⟨h.val * 128 + l.val, by omega⟩) := by
  refine congrArg x0 (funext fun a => Fin.ext ?_)
  match a with
  | ⟨0, _⟩ => show 0 + 1 * r.val = r.val; omega
  | ⟨1, _⟩ => show 128 * h.val + 1 * l.val = h.val * 128 + l.val; omega

theorem iblock_apply (r : Fin 256) (h : Fin 8) (l : Fin 128) : iblock x0 x1 x2 x3 x4 (ix2 r ⟨h.val * 128 + l.val, by omega⟩)
    = swung (fun k => x0 (ix2 r ⟨h.val * 128 + k.val, by omega⟩)) (fun k => x2 (ix2 r k)) (fun k => x3 (ix2 r k)) (fun k => x4 (ix2 r k)) l := by
  have e : (ix2 r ⟨h.val * 128 + l.val, by omega⟩ : S256x1024.Idx) = (ry h).emb (ix2 r l) := by
    funext a; apply Fin.ext
    match a with
    | ⟨0, _⟩ => show r.val = 0 + 1 * r.val; omega
    | ⟨1, _⟩ => show h.val * 128 + l.val = 128 * h.val + 1 * l.val; omega
  rw [e, iblock_emb]
  unfold itile
  rw [(tables_ld x0 x1 x2 x3 x4).1, (tables_ld x0 x1 x2 x3 x4).2.1, (tables_ld x0 x1 x2 x3 x4).2.2, tile_apply]
  exact congrArg (fun p => swung p (fun k => x2 (ix2 r k)) (fun k => x3 (ix2 r k)) (fun k => x4 (ix2 r k)) l) (funext fun k => rx_at x0 ⟨h.val, by omega⟩ r k)

theorem out_tail (r : Fin 256) (l : Fin 128) : out4_6 x0 x1 x2 x3 x4 (ix2 r l)
    = if l.val < 64 then swung (halfNorm (fun k => x0 (ix2 r ⟨1024 + k.val, by omega⟩)) (fun k => x1 (ix2 0 k))) (fun k => x2 (ix2 r k)) (fun k => x3 (ix2 r k)) (fun k => x4 (ix2 r k)) l
      else x0 (ix2 r ⟨1024 + l.val, by omega⟩) * Ideal.ofBits FTy.f32 0x3D000000#32 := by
  frame_out
  rw [(tables_ld x0 x1 x2 x3 x4).1, (tables_ld x0 x1 x2 x3 x4).2.1, (tables_ld x0 x1 x2 x3 x4).2.2]
  unfold k4_pay23 k4_pay24 k4_pay25
  rw [tail_apply]
  have e : ∀ k : Fin 128, View.ld x0 r4_17 (ix2 r k) = x0 (ix2 r ⟨1024 + k.val, by omega⟩) := fun k => rx_at x0 8 r k
  simp only [e]

end blocks

end Cert.SecondIndex

end
-- ==== Proof.SecondArrays.lean ====
/-
  The second layer's front on the kernel's side: what each of its five regions leaves of the arrays it reads.
-/
module

public import proofs.«01_k».proof.Proof.SecondHeads
public import proofs.«01_k».proof.Proof.SecondIndex
public import Idealize.ShloMosaic.Lib.Tactic.CleanTypes

@[expose] public section

set_option maxRecDepth 16384

noncomputable section

namespace Cert.SecondArrays

open Cert.HeadRows Cert.FrontRows Cert.IndexRows Cert.SecondIndex Cert.SecondHeads Cert.Kernel3Ideal Cert.Kernel3Ideal.Gen Idealize.ShloMosaic Idealize.ShloMosaic.TcCoe Idealize.SL.Sem

theorem rms_apply (x : Vec Ideal S256x4096 .f32) (g : Vec Ideal S1x4096 .f32) (r : Fin 256) (l : Fin 4096) :
    k0_pay1 x g (ix2 r l) = normed 0x45800000#32 (fun k => x (ix2 r k)) (fun k => g (ix2 0 k)) l := by
  pointwise [k0_pay1]
  rfl

theorem product1_apply (x : Vec Ideal S1280x4096 .bf16) (w : Vec Ideal S4096x384 .bf16) (r : Fin 1280) (l : Fin 384) :
    k1_pay1 x w (ix2 r l) = ∑ k : Fin 4096, x (ix2 r k) * w (ix2 k l) := by
  pointwise [k1_pay1]

theorem product2_apply (x : Vec Ideal S1280x4096 .bf16) (w : Vec Ideal S4096x512 .bf16) (r : Fin 1280) (l : Fin 512) :
    k2_pay1 x w (ix2 r l) = ∑ k : Fin 4096, x (ix2 r k) * w (ix2 k l) := by
  pointwise [k2_pay1]

variable (V : (c : Dev nD) → (b : Ref sig .tc) → Buf (Elt Ideal) ((c : Thread nD τ).loc b)) (c : Dev nD)

section region0

theorem widx0 : ∀ t : Fin cfg0.N, win0_0.index t = ![(grid0.coords t 0).val, 0] ∧ win0_1.index t = ![0, 0] ∧ win0_2.index t = ![(grid0.coords t 0).val, 0] :=
  (by decide +kernel : ∀ t : Fin grid0.N, _)

def row0 (t : Fin cfg0.N) (r : Fin 256) : Fin 16640 :=
  ⟨(grid0.coords t 0).val * 256 + r.val, by have h : (grid0.coords t 0).val < 65 := (grid0.coords t 0).isLt; omega⟩

theorem emb0_0 (t : Fin cfg0.N) (r : Fin 256) (k : Fin 4096) : ((cfg0.win 0).blk t).view.emb (ix2 r k) = ix2 (row0 t r) k := by
  unfold row0; blk_ext [(widx0 t).1]

theorem emb0_1 (t : Fin cfg0.N) (r : Fin 1) (k : Fin 4096) : ((cfg0.win 1).blk t).view.emb (ix2 r k) = ix2 r k := by
  blk_ext [(widx0 t).2.1]

theorem emb0_2 (t : Fin cfg0.N) (r : Fin 256) (k : Fin 4096) : ((cfg0.win 2).blk t).view.emb (ix2 r k) = ix2 (row0 t r) k := by
  unfold row0; blk_ext [(widx0 t).2.2]

theorem array0 : ((dat0 V c).arrAt 2 cfg0.N : FVec Ideal S16640x4096 .bf16) = normRows (V c main_v2) (V c main_v78) := by
  refine (dat0 V c).arrAt_eq_of_covers 2 _ (by decide +kernel) fun t hf y => ?_
  blk_simp
  rw [after0_2]
  frame_out
  obtain ⟨r, l, rfl⟩ : ∃ r l, y = ix2 r l := ⟨y 0, y 1, eq_ix2 y⟩
  rw [rms_apply]
  refine Eq.trans ?_ (congrArg (normRows (V c main_v2) (V c main_v78)) (emb0_2 t r l)).symm
  have key : ∀ (X : FVec Ideal S16640x4096 .f32) (G : FVec Ideal S1x4096 .f32),
      normed 0x45800000#32 (fun k : Fin 4096 => X (((cfg0.win 0).blk t).view.emb (ix2 r k))) (fun k => G (((cfg0.win 1).blk t).view.emb (ix2 0 k))) l
        = normRows X G (ix2 (row0 t r) l) := fun X G =>
    congrArg₂ (fun p g : Fin 4096 → EReal => normed 0x45800000#32 p g l) (funext fun k => congrArg X (emb0_0 t r k)) (funext fun k => congrArg G (emb0_1 t 0 k))
  exact key (V c main_v2) (V c main_v78)

end region0

section region1

theorem widx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)

def row1 (t : Fin cfg1.N) (r : Fin 1280) : Fin 16640 :=
  ⟨(grid1.coords t 0).val * 1280 + r.val, by have h : (grid1.coords t 0).val < 13 := (grid1.coords t 0).isLt; omega⟩

def col1 (t : Fin cfg1.N) (l : Fin 384) : Fin 1152 :=
  ⟨(grid1.coords t 1).val * 384 + l.val, by have h : (grid1.coords t 1).val < 3 := (grid1.coords t 1).isLt; omega⟩

theorem emb1_0 (t : Fin cfg1.N) (r : Fin 1280) (k : Fin 4096) : ((cfg1.win 0).blk t).view.emb (ix2 r k) = ix2 (row1 t r) k := by
  unfold row1; blk_ext [(widx1 t).1]

theorem emb1_1 (t : Fin cfg1.N) (k : Fin 4096) (l : Fin 384) : ((cfg1.win 1).blk t).view.emb (ix2 k l) = ix2 k (col1 t l) := by
  unfold col1; blk_ext [(widx1 t).2.1]

theorem emb1_2 (t : Fin cfg1.N) (r : Fin 1280) (l : Fin 384) : ((cfg1.win 2).blk t).view.emb (ix2 r l) = ix2 (row1 t r) (col1 t l) := by
  unfold row1 col1; blk_ext [(widx1 t).2.2]

theorem array1 : ((dat1 V c).arrAt 2 cfg1.N : FVec Ideal S16640x1152 .f32) = product (V c main_v79) (V c main_v82) := by
  refine (dat1 V c).arrAt_eq_of_covers 2 _ (by decide +kernel) fun t hf y => ?_
  blk_simp
  rw [after1_2]
  frame_out
  obtain ⟨r, l, rfl⟩ : ∃ r l, y = ix2 r l := ⟨y 0, y 1, eq_ix2 y⟩
  rw [product1_apply]
  refine Eq.trans ?_ (congrArg (product (V c main_v79) (V c main_v82)) (emb1_2 t r l)).symm
  have key : ∀ (X : FVec Ideal S16640x4096 .bf16) (W : FVec Ideal S4096x1152 .bf16),
      ∑ k : Fin 4096, X (((cfg1.win 0).blk t).view.emb (ix2 r k)) * W (((cfg1.win 1).blk t).view.emb (ix2 k l))
        = product X W (ix2 (row1 t r) (col1 t l)) := fun X W =>
    Finset.sum_congr rfl fun k _ => congr (congrArg _ (congrArg X (emb1_0 t r k))) (congrArg W (emb1_1 t k l))
  exact key (V c main_v79) (V c main_v82)

end region1

section region2

theorem widx2 : ∀ t : Fin cfg2.N, win2_0.index t = ![(grid2.coords t 0).val, 0] ∧ win2_1.index t = ![0, (grid2.coords t 1).val]
    ∧ win2_2.index t = ![(grid2.coords t 0).val, (grid2.coords t 1).val] :=
  (by decide +kernel : ∀ t : Fin grid2.N, _)

def row2 (t : Fin cfg2.N) (r : Fin 1280) : Fin 16640 :=
  ⟨(grid2.coords t 0).val * 1280 + r.val, by have h : (grid2.coords t 0).val < 13 := (grid2.coords t 0).isLt; omega⟩

def col2 (t : Fin cfg2.N) (l : Fin 512) : Fin 6144 :=
  ⟨(grid2.coords t 1).val * 512 + l.val, by have h : (grid2.coords t 1).val < 12 := (grid2.coords t 1).isLt; omega⟩

theorem emb2_0 (t : Fin cfg2.N) (r : Fin 1280) (k : Fin 4096) : ((cfg2.win 0).blk t).view.emb (ix2 r k) = ix2 (row2 t r) k := by
  unfold row2; blk_ext [(widx2 t).1]

theorem emb2_1 (t : Fin cfg2.N) (k : Fin 4096) (l : Fin 512) : ((cfg2.win 1).blk t).view.emb (ix2 k l) = ix2 k (col2 t l) := by
  unfold col2; blk_ext [(widx2 t).2.1]

theorem emb2_2 (t : Fin cfg2.N) (r : Fin 1280) (l : Fin 512) : ((cfg2.win 2).blk t).view.emb (ix2 r l) = ix2 (row2 t r) (col2 t l) := by
  unfold row2 col2; blk_ext [(widx2 t).2.2]

theorem array2 : ((dat2 V c).arrAt 2 cfg2.N : FVec Ideal S16640x6144 .f32) = product (V c main_v79) (V c main_v85) := by
  refine (dat2 V c).arrAt_eq_of_covers 2 _ (by decide +kernel) fun t hf y => ?_
  blk_simp
  rw [after2_2]
  frame_out
  obtain ⟨r, l, rfl⟩ : ∃ r l, y = ix2 r l := ⟨y 0, y 1, eq_ix2 y⟩
  rw [product2_apply]
  refine Eq.trans ?_ (congrArg (product (V c main_v79) (V c main_v85)) (emb2_2 t r l)).symm
  have key : ∀ (X : FVec Ideal S16640x4096 .bf16) (W : FVec Ideal S4096x6144 .bf16),
      ∑ k : Fin 4096, X (((cfg2.win 0).blk t).view.emb (ix2 r k)) * W (((cfg2.win 1).blk t).view.emb (ix2 k l))
        = product X W (ix2 (row2 t r) (col2 t l)) := fun X W =>
    Finset.sum_congr rfl fun k _ => congr (congrArg _ (congrArg X (emb2_0 t r k))) (congrArg W (emb2_1 t k l))
  exact key (V c main_v79) (V c main_v85)

end region2

section region3

theorem widx3 : ∀ t : Fin cfg3.N, win3_0.index t = ![(grid3.coords t 0).val, 0] ∧ win3_1.index t = ![0, 0] ∧ win3_2.index t = ![0, 0]
    ∧ win3_3.index t = ![(grid3.coords t 0).val, 0] ∧ win3_4.index t = ![(grid3.coords t 0).val, 0] ∧ win3_5.index t = ![(grid3.coords t 0).val, 0]
    ∧ win3_6.index t = ![(grid3.coords t 0).val, 0] ∧ win3_7.index t = ![(grid3.coords t 0).val, 0, 0] ∧ win3_9.index t = ![(grid3.coords t 0).val, 0, 0] :=
  (by decide +kernel : ∀ t : Fin grid3.N, _)

def row3 (t : Fin cfg3.N) (r : Fin 256) : Fin 16640 :=
  ⟨(grid3.coords t 0).val * 256 + r.val, by have h : (grid3.coords t 0).val < 65 := (grid3.coords t 0).isLt; omega⟩

theorem emb3_0 (t : Fin cfg3.N) (r : Fin 256) (k : Fin 6144) : ((cfg3.win 0).blk t).view.emb (ix2 r k) = ix2 (row3 t r) k := by
  unfold row3; blk_ext [(widx3 t).1]

theorem emb3_1 (t : Fin cfg3.N) (r : Fin 1) (k : Fin 128) : ((cfg3.win 1).blk t).view.emb (ix2 r k) = ix2 r k := by
  blk_ext [(widx3 t).2.1]

theorem emb3_2 (t : Fin cfg3.N) (r : Fin 1) (k : Fin 128) : ((cfg3.win 2).blk t).view.emb (ix2 r k) = ix2 r k := by
  blk_ext [(widx3 t).2.2.1]

theorem emb3_3 (t : Fin cfg3.N) (r : Fin 256) (k : Fin 128) : ((cfg3.win 3).blk t).view.emb (ix2 r k) = ix2 (row3 t r) k := by
  unfold row3; blk_ext [(widx3 t).2.2.2.1]

theorem emb3_4 (t : Fin cfg3.N) (r : Fin 256) (k : Fin 128) : ((cfg3.win 4).blk t).view.emb (ix2 r k) = ix2 (row3 t r) k := by
  unfold row3; blk_ext [(widx3 t).2.2.2.2.1]

theorem emb3_5 (t : Fin cfg3.N) (r : Fin 256) (k : Fin 128) : ((cfg3.win 5).blk t).view.emb (ix2 r k) = ix2 (row3 t r) k := by
  unfold row3; blk_ext [(widx3 t).2.2.2.2.2.1]

theorem emb3_6 (t : Fin cfg3.N) (r : Fin 256) (k : Fin 4096) : ((cfg3.win 6).blk t).view.emb (ix2 r k) = ix2 (row3 t r) k := by
  unfold row3; blk_ext [(widx3 t).2.2.2.2.2.2.1]

theorem emb3_7 (t : Fin cfg3.N) (r : Fin 256) (h : Fin 8) (l : Fin 128) : ((cfg3.win 7).blk t).view.emb (ix3 r h l) = ix3 (row3 t r) h l := by
  unfold row3; blk_ext [(widx3 t).2.2.2.2.2.2.2.1]

theorem emb3_9 (t : Fin cfg3.N) (r : Fin 256) (h : Fin 8) (l : Fin 128) : ((cfg3.win 9).blk t).view.emb (ix3 r h l) = ix3 (row3 t r) h l := by
  unfold row3; blk_ext [(widx3 t).2.2.2.2.2.2.2.2]

/-- A row of a point's blocks, turned, is the arrays' row, turned. -/
theorem turned_row (t : Fin cfg3.N) (r : Fin 256) (b : Nat) (hb : ∀ k : Fin 128, b * 128 + k.val < 6144) (l : Fin 128)
    (P : FVec Ideal S16640x6144 .f32) (g : Fin 128 → EReal) (C T T' : FVec Ideal S16640x128 .f32) :
    turned (fun k : Fin 128 => P (((cfg3.win 0).blk t).view.emb (ix2 r ⟨b * 128 + k.val, hb k⟩))) g (fun k => C (((cfg3.win 3).blk t).view.emb (ix2 r k)))
        (fun k => T (((cfg3.win 4).blk t).view.emb (ix2 r k))) (fun k => T' (((cfg3.win 5).blk t).view.emb (ix2 r k))) l
      = turned (fun k : Fin 128 => P (ix2 (row3 t r) ⟨b * 128 + k.val, hb k⟩)) g (fun k => C (ix2 (row3 t r) k)) (fun k => T (ix2 (row3 t r) k)) (fun k => T' (ix2 (row3 t r) k)) l := by
  rw [show (fun k : Fin 128 => P (((cfg3.win 0).blk t).view.emb (ix2 r ⟨b * 128 + k.val, hb k⟩))) = fun k => P (ix2 (row3 t r) ⟨b * 128 + k.val, hb k⟩) from funext fun k => congrArg P (emb3_0 t r _),
    show (fun k : Fin 128 => C (((cfg3.win 3).blk t).view.emb (ix2 r k))) = fun k => C (ix2 (row3 t r) k) from funext fun k => congrArg C (emb3_3 t r k),
    show (fun k : Fin 128 => T (((cfg3.win 4).blk t).view.emb (ix2 r k))) = fun k => T (ix2 (row3 t r) k) from funext fun k => congrArg T (emb3_4 t r k),
    show (fun k : Fin 128 => T' (((cfg3.win 5).blk t).view.emb (ix2 r k))) = fun k => T' (ix2 (row3 t r) k) from funext fun k => congrArg T' (emb3_5 t r k)]

theorem array3_6 : ((dat3 V c).arrAt 6 cfg3.N : FVec Ideal S16640x4096 .bf16)
    = queries 0x3E0293EE#32 (V c main_v86) (V c main_v87) (V c main_v39) (V c main_v42) (V c main_v45) := by
  refine (dat3 V c).arrAt_eq_of_covers 6 _ (by decide +kernel) fun t hf y => ?_
  blk_simp
  rw [after3_6, out_q]
  obtain ⟨r, h, l, rfl⟩ : ∃ (r : Fin 256) (h : Fin 32) (l : Fin 128), y = ix2 r ⟨h.val * 128 + l.val, by omega⟩ := by
    have hy : (y 1).val < 4096 := (y 1).isLt
    refine ⟨y 0, ⟨(y 1).val / 128, by omega⟩, ⟨(y 1).val % 128, Nat.mod_lt _ (by decide)⟩, ?_⟩
    funext a; apply Fin.ext
    match a with
    | ⟨0, _⟩ => rfl
    | ⟨1, _⟩ => show (y 1).val = (y 1).val / 128 * 128 + (y 1).val % 128; omega
  rw [qblock_apply]
  refine Eq.trans ?_ (congrArg (queries 0x3E0293EE#32 (V c main_v86) (V c main_v87) (V c main_v39) (V c main_v42) (V c main_v45)) (emb3_6 t r ⟨h.val * 128 + l.val, by omega⟩)).symm
  have key : ∀ (P : FVec Ideal S16640x6144 .f32) (G : FVec Ideal S1x128 .f32) (C T T' : FVec Ideal S16640x128 .f32),
      turned (fun k : Fin 128 => P (((cfg3.win 0).blk t).view.emb (ix2 r ⟨h.val * 128 + k.val, by omega⟩))) (fun k => G (((cfg3.win 1).blk t).view.emb (ix2 0 k)))
          (fun k => C (((cfg3.win 3).blk t).view.emb (ix2 r k))) (fun k => T (((cfg3.win 4).blk t).view.emb (ix2 r k))) (fun k => T' (((cfg3.win 5).blk t).view.emb (ix2 r k))) l
          * Ideal.ofBits FTy.f32 0x3E0293EE#32
        = queries 0x3E0293EE#32 P G C T T' (ix2 (row3 t r) ⟨h.val * 128 + l.val, by omega⟩) := fun P G C T T' => by
    rw [turned_row t r h.val (by omega) l P _ C T T', show (fun k : Fin 128 => G (((cfg3.win 1).blk t).view.emb (ix2 0 k))) = fun k => G (ix2 0 k) from funext fun k => congrArg G (emb3_1 t 0 k)]
    exact (queries_apply _ P G C T T' (row3 t r) h l).symm
  exact key (V c main_v86) (V c main_v87) (V c main_v39) (V c main_v42) (V c main_v45)

theorem array3_7 : ((dat3 V c).arrAt 7 cfg3.N : FVec Ideal S16640x8x128 .f32)
    = keys (V c main_v86) (V c main_v88) (V c main_v39) (V c main_v42) (V c main_v45) := by
  refine (dat3 V c).arrAt_eq_of_covers 7 _ (by decide +kernel) fun t hf y => ?_
  blk_simp
  rw [after3_7, out_k]
  obtain ⟨r, h, l, rfl⟩ : ∃ r h l, y = ix3 r h l := ⟨y 0, y 1, y 2, eq_ix3 y⟩
  rw [kblock_apply]
  refine Eq.trans ?_ (congrArg (keys (V c main_v86) (V c main_v88) (V c main_v39) (V c main_v42) (V c main_v45)) (emb3_7 t r h l)).symm
  have key : ∀ (P : FVec Ideal S16640x6144 .f32) (G : FVec Ideal S1x128 .f32) (C T T' : FVec Ideal S16640x128 .f32),
      turned (fun k : Fin 128 => P (((cfg3.win 0).blk t).view.emb (ix2 r ⟨(32 + h.val) * 128 + k.val, by omega⟩))) (fun k => G (((cfg3.win 2).blk t).view.emb (ix2 0 k)))
          (fun k => C (((cfg3.win 3).blk t).view.emb (ix2 r k))) (fun k => T (((cfg3.win 4).blk t).view.emb (ix2 r k))) (fun k => T' (((cfg3.win 5).blk t).view.emb (ix2 r k))) l
        = keys P G C T T' (ix3 (row3 t r) h l) := fun P G C T T' => by
    rw [turned_row t r (32 + h.val) (by omega) l P _ C T T', show (fun k : Fin 128 => G (((cfg3.win 2).blk t).view.emb (ix2 0 k))) = fun k => G (ix2 0 k) from funext fun k => congrArg G (emb3_2 t 0 k)]
    rfl
  exact key (V c main_v86) (V c main_v88) (V c main_v39) (V c main_v42) (V c main_v45)

theorem array3_9 : ((dat3 V c).arrAt 9 cfg3.N : FVec Ideal S16640x8x128 .f32) = values (V c main_v86) := by
  refine (dat3 V c).arrAt_eq_of_covers 9 _ (by decide +kernel) fun t hf y => ?_
  blk_simp
  rw [after3_9, out_v]
  obtain ⟨r, h, l, rfl⟩ : ∃ r h l, y = ix3 r h l := ⟨y 0, y 1, y 2, eq_ix3 y⟩
  rw [vblock_apply]
  refine Eq.trans ?_ (congrArg (values (V c main_v86)) (emb3_9 t r h l)).symm
  have key : ∀ (P : FVec Ideal S16640x6144 .f32), P (((cfg3.win 0).blk t).view.emb (ix2 r ⟨(40 + h.val) * 128 + l.val, by omega⟩)) = values P (ix3 (row3 t r) h l) :=
    fun P => congrArg P (emb3_0 t r _)
  exact key (V c main_v86)

end region3

section region4

theorem widx4 : ∀ t : Fin cfg4.N, win4_0.index t = ![(grid4.coords t 0).val, 0] ∧ win4_1.index t = ![0, 0] ∧ win4_2.index t = ![(grid4.coords t 0).val, 0]
    ∧ win4_3.index t = ![(grid4.coords t 0).val, 0] ∧ win4_4.index t = ![(grid4.coords t 0).val, 0] ∧ win4_5.index t = ![(grid4.coords t 0).val, 0]
    ∧ win4_6.index t = ![(grid4.coords t 0).val, 0] :=
  (by decide +kernel : ∀ t : Fin grid4.N, _)

def row4 (t : Fin cfg4.N) (r : Fin 256) : Fin 16640 :=
  ⟨(grid4.coords t 0).val * 256 + r.val, by have h : (grid4.coords t 0).val < 65 := (grid4.coords t 0).isLt; omega⟩

theorem emb4_0 (t : Fin cfg4.N) (r : Fin 256) (k : Fin 1152) : ((cfg4.win 0).blk t).view.emb (ix2 r k) = ix2 (row4 t r) k := by
  unfold row4; blk_ext [(widx4 t).1]

theorem emb4_1 (t : Fin cfg4.N) (r : Fin 1) (k : Fin 128) : ((cfg4.win 1).blk t).view.emb (ix2 r k) = ix2 r k := by
  blk_ext [(widx4 t).2.1]

theorem emb4_2 (t : Fin cfg4.N) (r : Fin 256) (k : Fin 128) : ((cfg4.win 2).blk t).view.emb (ix2 r k) = ix2 (row4 t r) k := by
  unfold row4; blk_ext [(widx4 t).2.2.1]

theorem emb4_3 (t : Fin cfg4.N) (r : Fin 256) (k : Fin 128) : ((cfg4.win 3).blk t).view.emb (ix2 r k) = ix2 (row4 t r) k := by
  unfold row4; blk_ext [(widx4 t).2.2.2.1]

theorem emb4_4 (t : Fin cfg4.N) (r : Fin 256) (k : Fin 128) : ((cfg4.win 4).blk t).view.emb (ix2 r k) = ix2 (row4 t r) k := by
  unfold row4; blk_ext [(widx4 t).2.2.2.2.1]

theorem emb4_5 (t : Fin cfg4.N) (r : Fin 256) (k : Fin 1024) : ((cfg4.win 5).blk t).view.emb (ix2 r k) = ix2 (row4 t r) k := by
  unfold row4; blk_ext [(widx4 t).2.2.2.2.2.1]

theorem emb4_6 (t : Fin cfg4.N) (r : Fin 256) (k : Fin 128) : ((cfg4.win 6).blk t).view.emb (ix2 r k) = ix2 (row4 t r) k := by
  unfold row4; blk_ext [(widx4 t).2.2.2.2.2.2]

theorem swung_row (t : Fin cfg4.N) (r : Fin 256) (y : Fin 128 → EReal) (l : Fin 128) (C T T' : FVec Ideal S16640x128 .f32) :
    swung y (fun k => C (((cfg4.win 2).blk t).view.emb (ix2 r k))) (fun k => T (((cfg4.win 3).blk t).view.emb (ix2 r k))) (fun k => T' (((cfg4.win 4).blk t).view.emb (ix2 r k))) l
      = swung y (fun k => C (ix2 (row4 t r) k)) (fun k => T (ix2 (row4 t r) k)) (fun k => T' (ix2 (row4 t r) k)) l := by
  rw [show (fun k : Fin 128 => C (((cfg4.win 2).blk t).view.emb (ix2 r k))) = fun k => C (ix2 (row4 t r) k) from funext fun k => congrArg C (emb4_2 t r k),
    show (fun k : Fin 128 => T (((cfg4.win 3).blk t).view.emb (ix2 r k))) = fun k => T (ix2 (row4 t r) k) from funext fun k => congrArg T (emb4_3 t r k),
    show (fun k : Fin 128 => T' (((cfg4.win 4).blk t).view.emb (ix2 r k))) = fun k => T' (ix2 (row4 t r) k) from funext fun k => congrArg T' (emb4_4 t r k)]

theorem array4_5 : ((dat4 V c).arrAt 5 cfg4.N : FVec Ideal S16640x1024 .bf16)
    = indexQueries (V c main_v83) (V c main_v71) (V c main_v74) (V c main_v77) := by
  refine (dat4 V c).arrAt_eq_of_covers 5 _ (by decide +kernel) fun t hf y => ?_
  blk_simp
  rw [after4_5, out_index]
  obtain ⟨r, h, l, rfl⟩ : ∃ (r : Fin 256) (h : Fin 8) (l : Fin 128), y = ix2 r ⟨h.val * 128 + l.val, by omega⟩ := by
    have hy : (y 1).val < 1024 := (y 1).isLt
    refine ⟨y 0, ⟨(y 1).val / 128, by omega⟩, ⟨(y 1).val % 128, Nat.mod_lt _ (by decide)⟩, ?_⟩
    funext a; apply Fin.ext
    match a with
    | ⟨0, _⟩ => rfl
    | ⟨1, _⟩ => show (y 1).val = (y 1).val / 128 * 128 + (y 1).val % 128; omega
  rw [iblock_apply]
  refine Eq.trans ?_ (congrArg (indexQueries (V c main_v83) (V c main_v71) (V c main_v74) (V c main_v77)) (emb4_5 t r ⟨h.val * 128 + l.val, by omega⟩)).symm
  have key : ∀ (P : FVec Ideal S16640x1152 .f32) (C T T' : FVec Ideal S16640x128 .f32),
      swung (fun k : Fin 128 => P (((cfg4.win 0).blk t).view.emb (ix2 r ⟨h.val * 128 + k.val, by omega⟩)))
          (fun k => C (((cfg4.win 2).blk t).view.emb (ix2 r k))) (fun k => T (((cfg4.win 3).blk t).view.emb (ix2 r k))) (fun k => T' (((cfg4.win 4).blk t).view.emb (ix2 r k))) l
        = indexQueries P C T T' (ix2 (row4 t r) ⟨h.val * 128 + l.val, by omega⟩) := fun P C T T' => by
    rw [swung_row, show (fun k : Fin 128 => P (((cfg4.win 0).blk t).view.emb (ix2 r ⟨h.val * 128 + k.val, by omega⟩))) = fun k => P (ix2 (row4 t r) ⟨h.val * 128 + k.val, by omega⟩) from
      funext fun k => congrArg P (emb4_0 t r _)]
    exact (indexQueries_apply P C T T' (row4 t r) h l).symm
  exact key (V c main_v83) (V c main_v71) (V c main_v74) (V c main_v77)

theorem array4_6 : ((dat4 V c).arrAt 6 cfg4.N : FVec Ideal S16640x128 .f32)
    = tails (V c main_v83) (V c main_v92) (V c main_v71) (V c main_v74) (V c main_v77) := by
  refine (dat4 V c).arrAt_eq_of_covers 6 _ (by decide +kernel) fun t hf y => ?_
  blk_simp
  rw [after4_6]
  obtain ⟨r, l, rfl⟩ : ∃ r l, y = ix2 r l := ⟨y 0, y 1, eq_ix2 y⟩
  rw [out_tail]
  refine Eq.trans ?_ (congrArg (tails (V c main_v83) (V c main_v92) (V c main_v71) (V c main_v74) (V c main_v77)) (emb4_6 t r l)).symm
  have key : ∀ (P : FVec Ideal S16640x1152 .f32) (G : FVec Ideal S1x128 .f32) (C T T' : FVec Ideal S16640x128 .f32),
      (if l.val < 64 then swung (halfNorm (fun k : Fin 128 => P (((cfg4.win 0).blk t).view.emb (ix2 r ⟨1024 + k.val, by omega⟩))) (fun k => G (((cfg4.win 1).blk t).view.emb (ix2 0 k))))
          (fun k => C (((cfg4.win 2).blk t).view.emb (ix2 r k))) (fun k => T (((cfg4.win 3).blk t).view.emb (ix2 r k))) (fun k => T' (((cfg4.win 4).blk t).view.emb (ix2 r k))) l
        else P (((cfg4.win 0).blk t).view.emb (ix2 r ⟨1024 + l.val, by omega⟩)) * Ideal.ofBits FTy.f32 0x3D000000#32)
        = tails P G C T T' (ix2 (row4 t r) l) := fun P G C T T' => by
    rw [swung_row, show (fun k : Fin 128 => P (((cfg4.win 0).blk t).view.emb (ix2 r ⟨1024 + k.val, by omega⟩))) = fun k => P (ix2 (row4 t r) ⟨1024 + k.val, by omega⟩) from
      funext fun k => congrArg P (emb4_0 t r _),
      show (fun k : Fin 128 => G (((cfg4.win 1).blk t).view.emb (ix2 0 k))) = fun k => G (ix2 0 k) from funext fun k => congrArg G (emb4_1 t 0 k),
      show P (((cfg4.win 0).blk t).view.emb (ix2 r ⟨1024 + l.val, by omega⟩)) = P (ix2 (row4 t r) ⟨1024 + l.val, by omega⟩) from congrArg P (emb4_0 t r _)]
    rfl
  exact key (V c main_v83) (V c main_v92) (V c main_v71) (V c main_v74) (V c main_v77)

end region4

end Cert.SecondArrays

end
-- ==== Proof.SecondRun.lean ====
/-
  The second layer's front on the kernel's side: what the run leaves in the results, of what was launched.
-/
module

public import proofs.«01_k».proof.Proof.SecondArrays
public import Idealize.ShloMosaic.Lib.Tactic.CleanTypes
public import Idealize.ShloMosaic.Lib.StableHlo.RunRead

@[expose] public section

set_option maxRecDepth 16384

noncomputable section

namespace Cert.SecondRun

open Cert.HeadRows Cert.FrontRows Cert.IndexRows Cert.RowLayout Cert.SecondArrays Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg) (c : Dev nD)

/-- The rotation's frequencies, -/
def freq : FVec Ideal S16 .f32 :=
  Host.divf (broadcastInDim S16 ![] bcast_S_S16 (constant S_ .f32 0x3F800000#32))
    (Host.powf (broadcastInDim S16 ![] bcast_S_S16 (constant S_ .f32 0x48F42400#32)) (mulf (sitofp .f32 (iotaInDim S16 32 0)) (broadcastInDim S16 ![] bcast_S_S16 (constant S_ .f32 0x3D800000#32))))

/-- each row's position, -/
def place : IVec S16640 32 :=
  concatenate S16640 0 [⟨S16384, shapeCast S16384 (broadcastInDim S2x8192 ![0, 1] bcast_S1x8192_S2x8192_0_1 (shapeCast S1x8192 (iotaInDim S8192 32 0) shapeCasts_S8192_S1x8192)) shapeCasts_S2x8192_S16384⟩,
    ⟨S256, shapeCast S256 (broadcastInDim S8x32 ![0, 1] bcast_S1x32_S8x32_0_1 (shapeCast S1x32 (addi (broadcastInDim S32 ![] bcast_S_S32 (constantI S_ 32 2048#32)) (iotaInDim S32 32 0)) shapeCasts_S32_S1x32)) shapeCasts_S8x32_S256⟩]
    concatenates_S16384_S256_S16640_d0

/-- and the angles. -/
def angles : FVec Ideal S16640x16 .f32 :=
  mulf (broadcastInDim S16640x16 ![0, 1] bcast_S16640x1_S16640x16_0_1 (broadcastInDim S16640x1 ![0] bcast_S16640_S16640x1_0 (sitofp .f32 place)))
    (broadcastInDim S16640x16 ![0, 1] bcast_S1x16_S16640x16_0_1 (broadcastInDim S1x16 ![1] bcast_S16_S1x16_1 freq))

theorem angles_apply (r : Fin 16640) (l : Fin 16) : angles (ix2 r l) = angle (place (ix1 r)) (fun k => freq (ix1 k)) l :=
  angle_host place freq _ _ _ _ r l

/-- The indexer's frequencies, -/
def slow : FVec Ideal S8 .f32 :=
  Host.divf (broadcastInDim S8 ![] bcast_S_S8 (constant S_ .f32 0x3F800000#32))
    (Host.powf (broadcastInDim S8 ![] bcast_S_S8 (constant S_ .f32 0x48F42400#32)) (mulf (sitofp .f32 (iotaInDim S8 32 0)) (broadcastInDim S8 ![] bcast_S_S8 (constant S_ .f32 0x3E000000#32))))

/-- and angles. -/
def slants : FVec Ideal S16640x8 .f32 :=
  mulf (broadcastInDim S16640x8 ![0, 1] bcast_S16640x1_S16640x8_0_1 (broadcastInDim S16640x1 ![0] bcast_S16640_S16640x1_0 (sitofp .f32 place)))
    (broadcastInDim S16640x8 ![0, 1] bcast_S1x8_S16640x8_0_1 (broadcastInDim S1x8 ![1] bcast_S8_S1x8_1 slow))

theorem slants_apply (r : Fin 16640) (l : Fin 8) : slants (ix2 r l) = slant (place (ix1 r)) (fun k => slow (ix1 k)) l :=
  angle_host place slow _ _ _ _ r l

theorem ones (s : Shape) (h : S_.BroadcastsInDim s ![]) (i : s.Idx) : broadcastInDim s ![] h (constant (F := Ideal) S_ .f32 0x3F800000#32) i = (1 : EReal) := by
  refine (spread _ _ _ _ ix0 fun a => a.elim0).trans ?_
  show Ideal.ofBits FTy.f32 0x3F800000#32 = 1
  simp

theorem zeros (s : Shape) (h : S_.BroadcastsInDim s ![]) (i : s.Idx) : broadcastInDim s ![] h (constant (F := Ideal) S_ .f32 0x00000000#32) i = (0 : EReal) := by
  refine (spread _ _ _ _ ix0 fun a => a.elim0).trans ?_
  show Ideal.ofBits FTy.f32 0x00000000#32 = 0
  simp

theorem tables_c (r : Fin 16640) (l : Fin 128) : (W1 m ρ c (Proc.devRef .tc main_v39) : FVec Ideal S16640x128 .f32) (ix2 r l)
    = tabC (fun k => Ideal.cos (angle (place (ix1 r)) (fun k => freq (ix1 k)) k)) l.val := by
  unfold W1
  after_reads_simp
  have hx : (StableHlo.upto hostOps0 (W0 m ρ c) 35 (Proc.devRef .tc main_v27) : FVec Ideal S16640x16 .f32) = Host.cos angles := by after_reads_simp; rfl
  have ho : (StableHlo.upto hostOps0 (W0 m ρ c) 35 (Proc.devRef .tc main_v29) : FVec Ideal S16640x96 .f32)
      = broadcastInDim S16640x96 ![] bcast_S_S16640x96 (constant (F := Ideal) S_ .f32 0x3F800000#32) := by after_reads_simp
  refine (carried _ _ _ _ r l).trans ((pieces3 hx hx ho _ _).trans ((tableC (Host.cos angles) (by decide) _ (ones _ _) _ r l).trans ?_))
  exact congrArg (fun f => tabC f l.val) (funext fun k => congrArg Ideal.cos (angles_apply r k))

theorem tables_s (r : Fin 16640) (l : Fin 128) : (W1 m ρ c (Proc.devRef .tc main_v42) : FVec Ideal S16640x128 .f32) (ix2 r l)
    = tabS (fun k => Ideal.sin (angle (place (ix1 r)) (fun k => freq (ix1 k)) k)) l.val := by
  unfold W1
  after_reads_simp
  have hx : (StableHlo.upto hostOps0 (W0 m ρ c) 39 (Proc.devRef .tc main_v31) : FVec Ideal S16640x16 .f32) = Host.negf (Host.sin angles) := by after_reads_simp; rfl
  have hz : (StableHlo.upto hostOps0 (W0 m ρ c) 39 (Proc.devRef .tc main_v32) : FVec Ideal S16640x112 .f32)
      = broadcastInDim S16640x112 ![] bcast_S_S16640x112 (constant (F := Ideal) S_ .f32 0x00000000#32) := by after_reads_simp
  refine (carried _ _ _ _ r l).trans ((pieces2 hx hz _ _).trans ((tableS (Host.sin angles) (by decide) _ (zeros _ _) _ r l).trans ?_))
  exact congrArg (fun f => tabS f l.val) (funext fun k => congrArg Ideal.sin (angles_apply r k))

theorem tables_s' (r : Fin 16640) (l : Fin 128) : (W1 m ρ c (Proc.devRef .tc main_v45) : FVec Ideal S16640x128 .f32) (ix2 r l)
    = tabS' (fun k => Ideal.sin (angle (place (ix1 r)) (fun k => freq (ix1 k)) k)) l.val := by
  unfold W1
  after_reads_simp
  have hz : (StableHlo.upto hostOps0 (W0 m ρ c) 44 (Proc.devRef .tc main_v34) : FVec Ideal S16640x16 .f32)
      = broadcastInDim S16640x16 ![] bcast_S_S16640x16 (constant (F := Ideal) S_ .f32 0x00000000#32) := by after_reads_simp
  have hx : (StableHlo.upto hostOps0 (W0 m ρ c) 44 (Proc.devRef .tc main_v28) : FVec Ideal S16640x16 .f32) = Host.sin angles := by after_reads_simp; rfl
  have hz' : (StableHlo.upto hostOps0 (W0 m ρ c) 44 (Proc.devRef .tc main_v35) : FVec Ideal S16640x96 .f32)
      = broadcastInDim S16640x96 ![] bcast_S_S16640x96 (constant (F := Ideal) S_ .f32 0x00000000#32) := by after_reads_simp
  refine (carried _ _ _ _ r l).trans ((pieces3 hz hx hz' _ _).trans ((tableS' (Host.sin angles) (by decide) _ _ (zeros _ _) (zeros _ _) _ r l).trans ?_))
  exact congrArg (fun f => tabS' f l.val) (funext fun k => congrArg Ideal.sin (angles_apply r k))

theorem itables_c (r : Fin 16640) (l : Fin 128) : (W1 m ρ c (Proc.devRef .tc main_v71) : FVec Ideal S16640x128 .f32) (ix2 r l)
    = tabC (fun k => Ideal.cos (slant (place (ix1 r)) (fun k => slow (ix1 k)) k)) (l.val % 64) := by
  unfold W1
  after_reads_simp
  have hx : (StableHlo.upto hostOps0 (W0 m ρ c) 74 (Proc.devRef .tc main_v59) : FVec Ideal S16640x8 .f32) = Host.cos slants := by after_reads_simp; rfl
  have ho : (StableHlo.upto hostOps0 (W0 m ρ c) 74 (Proc.devRef .tc main_v61) : FVec Ideal S16640x48 .f32)
      = broadcastInDim S16640x48 ![] bcast_S_S16640x48 (constant (F := Ideal) S_ .f32 0x3F800000#32) := by after_reads_simp
  refine (laid_twice _ _ _ _ r l).trans ((pieces3 hx hx ho _ _).trans ((tableC (Host.cos slants) (by decide) _ (ones _ _) _ r ⟨l.val % 64, Nat.mod_lt _ (by decide)⟩).trans ?_))
  exact congrArg (fun f => tabC f (l.val % 64)) (funext fun k => congrArg Ideal.cos (slants_apply r k))

theorem itables_s (r : Fin 16640) (l : Fin 128) : (W1 m ρ c (Proc.devRef .tc main_v74) : FVec Ideal S16640x128 .f32) (ix2 r l)
    = tabS (fun k => Ideal.sin (slant (place (ix1 r)) (fun k => slow (ix1 k)) k)) (l.val % 64) := by
  unfold W1
  after_reads_simp
  have hx : (StableHlo.upto hostOps0 (W0 m ρ c) 78 (Proc.devRef .tc main_v63) : FVec Ideal S16640x8 .f32) = Host.negf (Host.sin slants) := by after_reads_simp; rfl
  have hz : (StableHlo.upto hostOps0 (W0 m ρ c) 78 (Proc.devRef .tc main_v64) : FVec Ideal S16640x56 .f32)
      = broadcastInDim S16640x56 ![] bcast_S_S16640x56 (constant (F := Ideal) S_ .f32 0x00000000#32) := by after_reads_simp
  refine (laid_twice _ _ _ _ r l).trans ((pieces2 hx hz _ _).trans ((tableS (Host.sin slants) (by decide) _ (zeros _ _) _ r ⟨l.val % 64, Nat.mod_lt _ (by decide)⟩).trans ?_))
  exact congrArg (fun f => tabS f (l.val % 64)) (funext fun k => congrArg Ideal.sin (slants_apply r k))

theorem itables_s' (r : Fin 16640) (l : Fin 128) : (W1 m ρ c (Proc.devRef .tc main_v77) : FVec Ideal S16640x128 .f32) (ix2 r l)
    = tabS' (fun k => Ideal.sin (slant (place (ix1 r)) (fun k => slow (ix1 k)) k)) (l.val % 64) := by
  unfold W1
  after_reads_simp
  have hz : (StableHlo.upto hostOps0 (W0 m ρ c) 83 (Proc.devRef .tc main_v66) : FVec Ideal S16640x8 .f32)
      = broadcastInDim S16640x8 ![] bcast_S_S16640x8 (constant (F := Ideal) S_ .f32 0x00000000#32) := by after_reads_simp
  have hx : (StableHlo.upto hostOps0 (W0 m ρ c) 83 (Proc.devRef .tc main_v60) : FVec Ideal S16640x8 .f32) = Host.sin slants := by after_reads_simp; rfl
  have hz' : (StableHlo.upto hostOps0 (W0 m ρ c) 83 (Proc.devRef .tc main_v67) : FVec Ideal S16640x48 .f32)
      = broadcastInDim S16640x48 ![] bcast_S_S16640x48 (constant (F := Ideal) S_ .f32 0x00000000#32) := by after_reads_simp
  refine (laid_twice _ _ _ _ r l).trans ((pieces3 hz hx hz' _ _).trans ((tableS' (Host.sin slants) (by decide) _ _ (zeros _ _) (zeros _ _) _ r ⟨l.val % 64, Nat.mod_lt _ (by decide)⟩).trans ?_))
  exact congrArg (fun f => tabS' f (l.val % 64)) (funext fun k => congrArg Ideal.sin (slants_apply r k))

theorem x_prompt (b : Fin 2) (s : Fin 8192) (j : Fin 4096) : (W1 m ρ c (Proc.devRef .tc main_v2) : FVec Ideal S16640x4096 .f32) (ix2 (rowP b s) j)
    = (m ((c : Thread nD τ).loc main_arg0) : FVec Ideal S2x8192x4096 .f32) (ix3 b s j) := by
  unfold W1
  after_reads_simp
  exact join_prompt (F := Ideal) (e := .f32) (m ((c : Thread nD τ).loc main_arg0)) (m ((c : Thread nD τ).loc main_arg1)) _ _ concatenates_S16384x4096_S256x4096_S16640x4096_d0 b s j

theorem x_sample (b : Fin 8) (s : Fin 32) (j : Fin 4096) : (W1 m ρ c (Proc.devRef .tc main_v2) : FVec Ideal S16640x4096 .f32) (ix2 (rowS b s) j)
    = (m ((c : Thread nD τ).loc main_arg1) : FVec Ideal S8x32x4096 .f32) (ix3 b s j) := by
  unfold W1
  after_reads_simp
  exact join_sample (F := Ideal) (e := .f32) (m ((c : Thread nD τ).loc main_arg0)) (m ((c : Thread nD τ).loc main_arg1)) _ _ concatenates_S16384x4096_S256x4096_S16640x4096_d0 b s j

theorem gain_row (k : Fin 4096) : (W1 m ρ c (Proc.devRef .tc main_v78) : FVec Ideal S1x4096 .f32) (ix2 0 k)
    = (m ((c : Thread nD τ).loc main_arg2) : FVec Ideal S4096 .f32) (ix1 k) := by
  unfold W1
  after_reads_simp
  exact as_row (α := EReal) (m ((c : Thread nD τ).loc main_arg2)) _ k

theorem weight (k : Fin 4096) (j : Fin 6144) : (W7 m ρ c (Proc.devRef .tc main_v85) : FVec Ideal S4096x6144 .bf16) (ix2 k j)
    = (m ((c : Thread nD τ).loc main_arg3) : FVec Ideal S4096x7248 .f32) (ix2 k ⟨j.val, by omega⟩) := by
  unfold W7
  after_reads_simp
  refine Eq.trans (b := (W6 m ρ c (Proc.devRef .tc main_arg3) : FVec Ideal S4096x7248 .f32) (ix2 k ⟨j.val, by omega⟩))
    (cut2 (α := EReal) (W6 m ρ c (Proc.devRef .tc main_arg3)) 0 slices_S4096x7248_S4096x6144_0_0 k j ⟨j.val, by omega⟩ (by show j.val = 0 + j.val; omega)) ?_
  exact congrFun (W6_args m ρ c main_arg3 (by decide)) _

theorem weight_rest (k : Fin 4096) (j : Fin 1104) : (W5 m ρ c (Proc.devRef .tc main_v82) : FVec Ideal S4096x1152 .bf16) (ix2 k ⟨j.val, by omega⟩)
    = (m ((c : Thread nD τ).loc main_arg3) : FVec Ideal S4096x7248 .f32) (ix2 k ⟨6144 + j.val, by omega⟩) := by
  have h3 : (W3 m ρ c (Proc.devRef .tc main_v80) : FVec Ideal S4096x1104 .f32) (ix2 k j) = (m ((c : Thread nD τ).loc main_arg3) : FVec Ideal S4096x7248 .f32) (ix2 k ⟨6144 + j.val, by omega⟩) := by
    unfold W3
    after_reads_simp
    refine (cut2 (α := EReal) (W2 m ρ c (Proc.devRef .tc main_arg3)) 6144 _ k j ⟨6144 + j.val, by omega⟩ rfl).trans ?_
    exact congrFun (W2_args m ρ c main_arg3 (by decide)) _
  have h4 : (W4 m ρ c (Proc.devRef .tc main_v81) : FVec Ideal S4096x1152 .f32) (ix2 k ⟨j.val, by omega⟩) = (W3 m ρ c (Proc.devRef .tc main_v80) : FVec Ideal S4096x1104 .f32) (ix2 k j) := by
    unfold W4
    after_reads_simp
    refine pad_apply_of_inside ![0, 0] ![0, 48] ![0, 0] _ _ pads_S4096x1104_S4096x1152_000_0480 _ _ (ix2 k j) fun a => ?_
    match a with
    | ⟨0, _⟩ => show k.val = 0 + k.val * (0 + 1); omega
    | ⟨1, _⟩ => show j.val = 0 + j.val * (0 + 1); omega
  unfold W5
  after_reads_simp
  exact h4.trans h3

theorem gain_q (k : Fin 128) : (W9 m ρ c (Proc.devRef .tc main_v87) : FVec Ideal S1x128 .f32) (ix2 0 k)
    = (m ((c : Thread nD τ).loc main_arg4) : FVec Ideal S128 .f32) (ix1 k) := by
  unfold W9
  after_reads_simp
  refine (as_row (α := EReal) (W8 m ρ c (Proc.devRef .tc main_arg4)) _ k).trans ?_
  exact congrFun (W8_args m ρ c main_arg4 (by decide)) (ix1 k)

theorem gain_k (k : Fin 128) : (W9 m ρ c (Proc.devRef .tc main_v88) : FVec Ideal S1x128 .f32) (ix2 0 k)
    = (m ((c : Thread nD τ).loc main_arg5) : FVec Ideal S128 .f32) (ix1 k) := by
  unfold W9
  after_reads_simp
  refine (as_row (α := EReal) (W8 m ρ c (Proc.devRef .tc main_arg5)) _ k).trans ?_
  exact congrFun (W8_args m ρ c main_arg5 (by decide)) (ix1 k)

/-- The indexer's gain, laid out with zeros after it. -/
theorem gain_index (k : Fin 64) : (W11 m ρ c (Proc.devRef .tc main_v92) : FVec Ideal S1x128 .f32) (ix2 0 ⟨k.val, by omega⟩)
    = (m ((c : Thread nD τ).loc main_arg6) : FVec Ideal S64 .f32) (ix1 k) := by
  unfold W11
  after_reads_simp
  have hx : (StableHlo.upto hostOps4 (W10 m ρ c) 2 (Proc.devRef .tc main_arg6) : FVec Ideal S64 .f32) = m ((c : Thread nD τ).loc main_arg6) := by
    after_reads_simp; exact W10_args m ρ c main_arg6 (by decide)
  refine (as_row (α := EReal) _ _ (⟨k.val, by omega⟩ : Fin 128)).trans ((pieces2 hx rfl _ _).trans ?_)
  exact concatenate_pair_apply_left 0 (m ((c : Thread nD τ).loc main_arg6) : FVec Ideal S64 .f32) _ concatenates_S64_S64_S128_d0 (ix1 (⟨k.val, by omega⟩ : Fin 128)) rfl (ix1 k) (fun a => match a with | ⟨0, _⟩ => rfl)

/-- Between the host's first stretch and the heads' region nothing but the regions' own arrays changes. -/
theorem kept (r : Ref sig .tc) (h9 : r ∉ hostOps3_W) (h8 : ∀ w : Fin cfg2.W, Pipeline.arrRef spec2 w = r → (cfg2.win w).isOut = false)
    (h7 : r ∉ hostOps2_W) (h6 : ∀ w : Fin cfg1.W, Pipeline.arrRef spec1 w = r → (cfg1.win w).isOut = false) (h5 : r ∉ hostOps1_2_W) (h4 : r ∉ hostOps1_1_W)
    (h3 : r ∉ hostOps1_W) (h2 : ∀ w : Fin cfg0.W, Pipeline.arrRef spec0 w = r → (cfg0.win w).isOut = false) :
    W9 m ρ c (Proc.devRef .tc r) = W1 m ρ c (Proc.devRef .tc r) :=
  (W9_of m ρ c r h9).trans ((W8_of m ρ c r h8).trans ((W7_of m ρ c r h7).trans ((W6_of m ρ c r h6).trans ((W5_of m ρ c r h5).trans ((W4_of m ρ c r h4).trans
    ((W3_of m ρ c r h3).trans (W2_of m ρ c r h2)))))))

theorem kept_c : W9 m ρ c (Proc.devRef .tc main_v39) = W1 m ρ c (Proc.devRef .tc main_v39) := kept m ρ c main_v39 (by decide) (by decide) (by decide) (by decide) (by decide) (by decide) (by decide) (by decide)
theorem kept_s : W9 m ρ c (Proc.devRef .tc main_v42) = W1 m ρ c (Proc.devRef .tc main_v42) := kept m ρ c main_v42 (by decide) (by decide) (by decide) (by decide) (by decide) (by decide) (by decide) (by decide)
theorem kept_s' : W9 m ρ c (Proc.devRef .tc main_v45) = W1 m ρ c (Proc.devRef .tc main_v45) := kept m ρ c main_v45 (by decide) (by decide) (by decide) (by decide) (by decide) (by decide) (by decide) (by decide)

/-- The heads' region and the host's next stretch keep what they do not write. -/
theorem kept_on (r : Ref sig .tc) (h11 : r ∉ hostOps4_W) (h10 : ∀ w : Fin cfg3.W, Pipeline.arrRef spec3 w = r → (cfg3.win w).isOut = false) :
    W11 m ρ c (Proc.devRef .tc r) = W9 m ρ c (Proc.devRef .tc r) :=
  (W11_of m ρ c r h11).trans (W10_of m ρ c r h10)

theorem ikept_c : W11 m ρ c (Proc.devRef .tc main_v71) = W1 m ρ c (Proc.devRef .tc main_v71) :=
  (kept_on m ρ c main_v71 (by decide) (by decide)).trans (kept m ρ c main_v71 (by decide) (by decide) (by decide) (by decide) (by decide) (by decide) (by decide) (by decide))
theorem ikept_s : W11 m ρ c (Proc.devRef .tc main_v74) = W1 m ρ c (Proc.devRef .tc main_v74) :=
  (kept_on m ρ c main_v74 (by decide) (by decide)).trans (kept m ρ c main_v74 (by decide) (by decide) (by decide) (by decide) (by decide) (by decide) (by decide) (by decide))
theorem ikept_s' : W11 m ρ c (Proc.devRef .tc main_v77) = W1 m ρ c (Proc.devRef .tc main_v77) :=
  (kept_on m ρ c main_v77 (by decide) (by decide)).trans (kept m ρ c main_v77 (by decide) (by decide) (by decide) (by decide) (by decide) (by decide) (by decide) (by decide))

theorem normed_rows : (W5 m ρ c (Proc.devRef .tc main_v79) : FVec Ideal S16640x4096 .bf16)
    = normRows (W1 m ρ c (Proc.devRef .tc main_v2)) (W1 m ρ c (Proc.devRef .tc main_v78)) :=
  (W5_of m ρ c main_v79 (by decide)).trans ((W4_of m ρ c main_v79 (by decide)).trans ((W3_of m ρ c main_v79 (by decide)).trans ((W2_arr m ρ c 2).trans (array0 (V1 m ρ) c))))

theorem normed_rows' : (W7 m ρ c (Proc.devRef .tc main_v79) : FVec Ideal S16640x4096 .bf16)
    = normRows (W1 m ρ c (Proc.devRef .tc main_v2)) (W1 m ρ c (Proc.devRef .tc main_v78)) :=
  (W7_of m ρ c main_v79 (by decide)).trans ((W6_of m ρ c main_v79 (by decide)).trans (normed_rows m ρ c))

theorem projected_rows : (W9 m ρ c (Proc.devRef .tc main_v86) : FVec Ideal S16640x6144 .f32)
    = product (W7 m ρ c (Proc.devRef .tc main_v79)) (W7 m ρ c (Proc.devRef .tc main_v85)) :=
  (W9_of m ρ c main_v86 (by decide)).trans ((W8_arr m ρ c 2).trans (array2 (V7 m ρ) c))

theorem projected_rest : (W11 m ρ c (Proc.devRef .tc main_v83) : FVec Ideal S16640x1152 .f32)
    = product (W5 m ρ c (Proc.devRef .tc main_v79)) (W5 m ρ c (Proc.devRef .tc main_v82)) :=
  (kept_on m ρ c main_v83 (by decide) (by decide)).trans ((W9_of m ρ c main_v83 (by decide)).trans ((W8_of m ρ c main_v83 (by decide)).trans ((W7_of m ρ c main_v83 (by decide)).trans
    ((W6_arr m ρ c 2).trans (array1 (V5 m ρ) c)))))

abbrev rowsP : FVec Ideal S16640x6144 .f32 := W9 m ρ c (Proc.devRef .tc main_v86)
abbrev rowsC : FVec Ideal S16640x128 .f32 := W9 m ρ c (Proc.devRef .tc main_v39)
abbrev rowsS : FVec Ideal S16640x128 .f32 := W9 m ρ c (Proc.devRef .tc main_v42)
abbrev rowsS' : FVec Ideal S16640x128 .f32 := W9 m ρ c (Proc.devRef .tc main_v45)
abbrev rowsQ : FVec Ideal S16640x1152 .f32 := W11 m ρ c (Proc.devRef .tc main_v83)
abbrev irowsC : FVec Ideal S16640x128 .f32 := W11 m ρ c (Proc.devRef .tc main_v71)
abbrev irowsS : FVec Ideal S16640x128 .f32 := W11 m ρ c (Proc.devRef .tc main_v74)
abbrev irowsS' : FVec Ideal S16640x128 .f32 := W11 m ρ c (Proc.devRef .tc main_v77)

theorem q_array : (W10 m ρ c (Proc.devRef .tc main_v89_0) : FVec Ideal S16640x4096 .bf16)
    = queries 0x3E0293EE#32 (rowsP m ρ c) (W9 m ρ c (Proc.devRef .tc main_v87)) (rowsC m ρ c) (rowsS m ρ c) (rowsS' m ρ c) :=
  (W10_arr m ρ c 6).trans (array3_6 (V9 m ρ) c)

theorem k_array : (W10 m ρ c (Proc.devRef .tc main_v89_1) : FVec Ideal S16640x8x128 .f32)
    = keys (rowsP m ρ c) (W9 m ρ c (Proc.devRef .tc main_v88)) (rowsC m ρ c) (rowsS m ρ c) (rowsS' m ρ c) :=
  (W10_arr m ρ c 7).trans (array3_7 (V9 m ρ) c)

theorem v_array : (W10 m ρ c (Proc.devRef .tc main_v89_3) : FVec Ideal S16640x8x128 .f32) = values (rowsP m ρ c) :=
  (W10_arr m ρ c 9).trans (array3_9 (V9 m ρ) c)

theorem i_array : (W12 m ρ c (Proc.devRef .tc main_v93_0) : FVec Ideal S16640x1024 .bf16)
    = indexQueries (rowsQ m ρ c) (irowsC m ρ c) (irowsS m ρ c) (irowsS' m ρ c) :=
  (W12_arr m ρ c 5).trans (array4_5 (V11 m ρ) c)

theorem t_array : (W12 m ρ c (Proc.devRef .tc main_v93_1) : FVec Ideal S16640x128 .f32)
    = tails (rowsQ m ρ c) (W11 m ρ c (Proc.devRef .tc main_v92)) (irowsC m ρ c) (irowsS m ρ c) (irowsS' m ρ c) :=
  (W12_arr m ρ c 6).trans (array4_6 (V11 m ρ) c)

theorem kept_last (r : Ref sig .tc) (h12 : ∀ w : Fin cfg4.W, Pipeline.arrRef spec4 w = r → (cfg4.win w).isOut = false) (h11 : r ∉ hostOps4_W) :
    W12 m ρ c (Proc.devRef .tc r) = W10 m ρ c (Proc.devRef .tc r) :=
  (W12_of m ρ c r h12).trans (W11_of m ρ c r h11)

section row
variable (r : Fin 16640) (x : Fin 4096 → EReal) (hx : ∀ k, (W1 m ρ c (Proc.devRef .tc main_v2) : FVec Ideal S16640x4096 .f32) (ix2 r k) = x k)

/-- The row's projection, -/
abbrev proj (j : Fin 7248) : EReal :=
  projected x (fun k => (m ((c : Thread nD τ).loc main_arg2) : FVec Ideal S4096 .f32) (ix1 k)) (fun k j => (m ((c : Thread nD τ).loc main_arg3) : FVec Ideal S4096x7248 .f32) (ix2 k j)) j

/-- the columns of its queries, keys and values, -/
abbrev front (j : Fin 6144) : EReal :=
  projected x (fun k => (m ((c : Thread nD τ).loc main_arg2) : FVec Ideal S4096 .f32) (ix1 k)) (fun k (j : Fin 6144) => (m ((c : Thread nD τ).loc main_arg3) : FVec Ideal S4096x7248 .f32) (ix2 k ⟨j.val, by omega⟩)) j

/-- and those that follow them. -/
abbrev rest (j : Fin 1104) : EReal := proj m c x ⟨6144 + j.val, by omega⟩

include hx in
theorem p_row (j : Fin 6144) : rowsP m ρ c (ix2 r j) = front m c x j := by
  unfold rowsP
  rw [projected_rows, normed_rows']
  have key : ∀ (X : FVec Ideal S16640x4096 .f32) (G : FVec Ideal S1x4096 .f32) (W : FVec Ideal S4096x6144 .bf16) (g : Fin 4096 → EReal) (w : Fin 4096 → Fin 6144 → EReal),
      (∀ k, X (ix2 r k) = x k) → (∀ k, G (ix2 0 k) = g k) → (∀ k j, W (ix2 k j) = w k j) → product (normRows X G) W (ix2 r j) = projected x g w j := fun X G W g w h1 h2 h3 => by
    show ∑ k : Fin 4096, normed 0x45800000#32 (fun k : Fin 4096 => X (ix2 r k)) (fun k => G (ix2 0 k)) k * W (ix2 k j) = _
    simp only [h1, h2, h3]
    rfl
  exact key _ _ _ _ _ hx (gain_row m ρ c) (weight m ρ c)

include hx in
theorem p_rest (j : Fin 1104) : rowsQ m ρ c (ix2 r ⟨j.val, by omega⟩) = rest m c x j := by
  unfold rowsQ
  rw [projected_rest, normed_rows]
  have key : ∀ (X : FVec Ideal S16640x4096 .f32) (G : FVec Ideal S1x4096 .f32) (W : FVec Ideal S4096x1152 .bf16) (g : Fin 4096 → EReal) (w : Fin 4096 → Fin 7248 → EReal),
      (∀ k, X (ix2 r k) = x k) → (∀ k, G (ix2 0 k) = g k) → (∀ k, W (ix2 k ⟨j.val, by omega⟩) = w k ⟨6144 + j.val, by omega⟩) →
      product (normRows X G) W (ix2 r ⟨j.val, by omega⟩) = projected x g w ⟨6144 + j.val, by omega⟩ := fun X G W g w h1 h2 h3 => by
    show ∑ k : Fin 4096, normed 0x45800000#32 (fun k : Fin 4096 => X (ix2 r k)) (fun k => G (ix2 0 k)) k * W (ix2 k ⟨j.val, _⟩) = _
    simp only [h1, h2, h3]
    rfl
  exact key _ _ _ _ _ hx (gain_row m ρ c) (fun k => weight_rest m ρ c k j)

include hx in
theorem q_row (h : Fin 32) (l : Fin 128) : (W10 m ρ c (Proc.devRef .tc main_v89_0) : FVec Ideal S16640x4096 .bf16) (ix2 r ⟨h.val * 128 + l.val, by omega⟩)
    = headRow (place (ix1 r)) (fun k => freq (ix1 k)) (fun k => front m c x ⟨h.val * 128 + k.val, by omega⟩) (fun k => (m ((c : Thread nD τ).loc main_arg4) : FVec Ideal S128 .f32) (ix1 k)) l
      * Ideal.ofBits FTy.f32 0x3E0293EE#32 := by
  rw [q_array, queries_apply]
  refine queryAt_row _ _ _ _ _ _ r x _ _ _ _ _ (p_row m ρ c r x hx) (gain_q m ρ c) (fun k => ?_) (fun k => ?_) (fun k => ?_) h l
  · exact (congrFun (kept_c m ρ c) _).trans (tables_c m ρ c r k)
  · exact (congrFun (kept_s m ρ c) _).trans (tables_s m ρ c r k)
  · exact (congrFun (kept_s' m ρ c) _).trans (tables_s' m ρ c r k)

include hx in
theorem k_row (h : Fin 8) (l : Fin 128) : (W10 m ρ c (Proc.devRef .tc main_v89_1) : FVec Ideal S16640x8x128 .f32) (ix3 r h l)
    = headRow (place (ix1 r)) (fun k => freq (ix1 k)) (fun k => front m c x ⟨(32 + h.val) * 128 + k.val, by omega⟩) (fun k => (m ((c : Thread nD τ).loc main_arg5) : FVec Ideal S128 .f32) (ix1 k)) l := by
  rw [k_array]
  refine keyAt_row _ _ _ _ _ r x _ _ _ _ _ (p_row m ρ c r x hx) (gain_k m ρ c) (fun k => ?_) (fun k => ?_) (fun k => ?_) h l
  · exact (congrFun (kept_c m ρ c) _).trans (tables_c m ρ c r k)
  · exact (congrFun (kept_s m ρ c) _).trans (tables_s m ρ c r k)
  · exact (congrFun (kept_s' m ρ c) _).trans (tables_s' m ρ c r k)

include hx in
theorem v_row (h : Fin 8) (l : Fin 128) : (W10 m ρ c (Proc.devRef .tc main_v89_3) : FVec Ideal S16640x8x128 .f32) (ix3 r h l)
    = front m c x ⟨(40 + h.val) * 128 + l.val, by omega⟩ := by
  rw [v_array]
  exact p_row m ρ c r x hx _

include hx in
theorem i_row (h : Fin 16) (l : Fin 64) : (W12 m ρ c (Proc.devRef .tc main_v93_0) : FVec Ideal S16640x1024 .bf16) (ix2 r ⟨h.val * 64 + l.val, by omega⟩)
    = indexRow (place (ix1 r)) (fun k => slow (ix1 k)) (fun k => rest m c x ⟨h.val * 64 + k.val, by omega⟩) l := by
  rw [i_array]
  refine query_row _ _ _ _ r (rest m c x) _ _ (p_rest m ρ c r x hx) (fun k => ?_) (fun k => ?_) (fun k => ?_) h l
  · exact (congrFun (ikept_c m ρ c) _).trans (itables_c m ρ c r k)
  · exact (congrFun (ikept_s m ρ c) _).trans (itables_s m ρ c r k)
  · exact (congrFun (ikept_s' m ρ c) _).trans (itables_s' m ρ c r k)

include hx in
theorem ik_row (l : Fin 64) : (W12 m ρ c (Proc.devRef .tc main_v93_1) : FVec Ideal S16640x128 .f32) (ix2 r ⟨l.val, by omega⟩)
    = indexKey (place (ix1 r)) (fun k => slow (ix1 k)) (fun k => rest m c x ⟨1024 + k.val, by omega⟩) (fun k => (m ((c : Thread nD τ).loc main_arg6) : FVec Ideal S64 .f32) (ix1 k)) l := by
  rw [t_array]
  refine key_row _ _ _ _ _ r (rest m c x) _ _ _ (p_rest m ρ c r x hx) (gain_index m ρ c) (fun k => ?_) (fun k => ?_) (fun k => ?_) l
  · exact (congrFun (ikept_c m ρ c) _).trans (itables_c m ρ c r k)
  · exact (congrFun (ikept_s m ρ c) _).trans (itables_s m ρ c r k)
  · exact (congrFun (ikept_s' m ρ c) _).trans (itables_s' m ρ c r k)

include hx in
theorem iw_row (l : Fin 16) : (W12 m ρ c (Proc.devRef .tc main_v93_1) : FVec Ideal S16640x128 .f32) (ix2 r ⟨64 + l.val, by omega⟩)
    = rest m c x ⟨1088 + l.val, by omega⟩ * Ideal.ofBits FTy.f32 0x3E800000#32 * Ideal.ofBits FTy.f32 0x3E000000#32 := by
  rw [t_array]
  exact weight_row _ _ _ _ _ r (rest m c x) (p_rest m ρ c r x hx) l

end row

theorem place_p (b : Fin 2) (s : Fin 8192) : place (ix1 (rowP b s)) = iotaInDim S8192 32 0 (ix1 s) :=
  place_prompt (iotaInDim S8192 32 0) _ _ _ _ _ b s

theorem place_s (b : Fin 8) (s : Fin 32) : place (ix1 (rowS b s)) = addi (broadcastInDim S32 ![] bcast_S_S32 (constantI S_ 32 2048#32)) (iotaInDim S32 32 0) (ix1 s) :=
  place_sample (addi (broadcastInDim S32 ![] bcast_S_S32 (constantI S_ 32 2048#32)) (iotaInDim S32 32 0)) _ _ _ _ _ b s

end Cert.SecondRun

end
-- ==== Proof.SecondLaunch.lean ====
/-
  The second layer's front: the launch of its regions, keeping what every buffer holds at the end.
-/
module

public import proofs.«01_k».proof.Proof.Gen.Kernel3Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pointwise

@[expose] public section

set_option maxRecDepth 16384

noncomputable section

namespace Cert.SecondLaunch

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer ends at its contents after the last host stretch. -/
theorem run_holds : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.SecondLaunch

end
-- ==== Proof.SecondReference.lean ====
/-
  The second layer's front as the reference spells it, row by row.
-/
module

public import proofs.«01_k».proof.Proof.IndexRows
public import proofs.«01_k».proof.Proof.Gen.Reference3Ideal.Read

@[expose] public section

set_option maxRecDepth 16384

noncomputable section

namespace Cert.SecondReference

open Cert.HeadRows Cert.FrontRows Cert.IndexRows Cert.Reference3Ideal Cert.Reference3Ideal.Read Idealize.ShloMosaic Idealize.ShloMosaic.TcCoe Idealize.SL.Sem

variable (x0 : FVec Ideal S2x8192x4096 .f32) (x1 : FVec Ideal S8x32x4096 .f32) (x2 : FVec Ideal S4096 .f32) (x3 : FVec Ideal S4096x7248 .f32) (x4 x5 : FVec Ideal S128 .f32) (x6 : FVec Ideal S64 .f32)

/-- A row's projection. -/
abbrev proj (x : Fin 4096 → EReal) (j : Fin 7248) : EReal := projected x (fun k => x2 (ix1 k)) (fun k j => x3 (ix2 k j)) j

theorem proj_prompt (b s j) : val_main_v30 (F := Ideal) x0 x2 x3 (ix3 b s j) = proj x2 x3 (fun k => x0 (ix3 b s k)) j := by
  rw [val_main_v30_apply]
  refine Finset.sum_congr rfl fun k _ => congrArg₂ (fun a b : EReal => a * b) ?_ ?_
  · refine (congrArg (val_main_v16 (F := Ideal) x0 x2) (funext fun a => ?_)).trans (norm_host3 x0 x2 0x45800000#32 _ _ _ _ _ _ _ _ (by decide) b s k)
    match a with | ⟨0, _⟩ => rfl | ⟨1, _⟩ => rfl | ⟨2, _⟩ => rfl
  · refine congrArg x3 (funext fun a => ?_)
    match a with | ⟨0, _⟩ => rfl | ⟨1, _⟩ => rfl

theorem proj_sample (b s j) : val_main_v225 (F := Ideal) x1 x2 x3 (ix3 b s j) = proj x2 x3 (fun k => x1 (ix3 b s k)) j := by
  rw [val_main_v225_apply]
  refine Finset.sum_congr rfl fun k _ => congrArg₂ (fun a b : EReal => a * b) ?_ ?_
  · refine (congrArg (val_main_v29 (F := Ideal) x1 x2) (funext fun a => ?_)).trans (norm_host3 x1 x2 0x45800000#32 _ _ _ _ _ _ _ _ (by decide) b s k)
    match a with | ⟨0, _⟩ => rfl | ⟨1, _⟩ => rfl | ⟨2, _⟩ => rfl
  · refine congrArg x3 (funext fun a => ?_)
    match a with | ⟨0, _⟩ => rfl | ⟨1, _⟩ => rfl

abbrev freq (l : Fin 16) : EReal := val_main_v56 (F := Ideal) (ix1 l)

theorem q_prompt (b s) (n : Fin 32) (l : Fin 128) : val_main_v422 (F := Ideal) x0 x2 x3 x4 (ix4 b s n l)
    = headRow (val_main_v0 (F := Ideal) (ix1 s)) freq (fun k => proj x2 x3 (fun k => x0 (ix3 b s k)) ⟨n.val * 128 + k.val, by omega⟩) (fun k => x4 (ix1 k)) l * Ideal.ofBits FTy.f32 0x3E0293EE#32 := by
  refine congrArg₂ (fun a b : EReal => a * b) ((rotate_host (hD := by decide) (val_main_v49 (F := Ideal) x0 x2 x3 x4) _ _ _ _ (val_main_v63 (F := Ideal)) (val_main_v65 (F := Ideal)) _ _ 32 rfl _ _
    (table_host _ _ _ _) (table_host _ _ _ _) (table_host _ _ _ _) (table_host _ _ _ _) b s n l).trans ?_) (spread _ _ _ _ ix0 fun a => a.elim0)
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v32 (F := Ideal) x0 x2 x3) x4 0x43000000#32 _ _ _ _ _ _ _ _ (by decide) b s n k).trans ?_
  refine congrArg (fun p => normed 0x43000000#32 p _ k) (funext fun k => (heads rfl (val_main_v30 (F := Ideal) x0 x2 x3) 0 _ _ b s n k _ ?_).trans (proj_prompt x0 x2 x3 b s _))
  show n.val * 128 + k.val = 0 + (n.val * 128 + k.val)
  omega

theorem q_sample (b s) (n : Fin 32) (l : Fin 128) : val_main_v425 (F := Ideal) x1 x2 x3 x4 (ix4 b s n l)
    = headRow (val_main_v3 (F := Ideal) (ix1 s)) freq (fun k => proj x2 x3 (fun k => x1 (ix3 b s k)) ⟨n.val * 128 + k.val, by omega⟩) (fun k => x4 (ix1 k)) l * Ideal.ofBits FTy.f32 0x3E0293EE#32 := by
  refine congrArg₂ (fun a b : EReal => a * b) ((rotate_host (hD := by decide) (val_main_v244 (F := Ideal) x1 x2 x3 x4) _ _ _ _ (val_main_v258 (F := Ideal)) (val_main_v260 (F := Ideal)) _ _ 32 rfl _ _
    (table_host _ _ _ _) (table_host _ _ _ _) (table_host _ _ _ _) (table_host _ _ _ _) b s n l).trans ?_) (spread _ _ _ _ ix0 fun a => a.elim0)
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v227 (F := Ideal) x1 x2 x3) x4 0x43000000#32 _ _ _ _ _ _ _ _ (by decide) b s n k).trans ?_
  refine congrArg (fun p => normed 0x43000000#32 p _ k) (funext fun k => (heads rfl (val_main_v225 (F := Ideal) x1 x2 x3) 0 _ _ b s n k _ ?_).trans (proj_sample x1 x2 x3 b s _))
  show n.val * 128 + k.val = 0 + (n.val * 128 + k.val)
  omega

theorem k_prompt (b s) (n : Fin 8) (l : Fin 128) : val_main_v132 (F := Ideal) x0 x2 x3 x5 (ix4 b s n l)
    = headRow (val_main_v0 (F := Ideal) (ix1 s)) freq (fun k => proj x2 x3 (fun k => x0 (ix3 b s k)) ⟨(32 + n.val) * 128 + k.val, by omega⟩) (fun k => x5 (ix1 k)) l := by
  refine (rotate_host (hD := by decide) (val_main_v97 (F := Ideal) x0 x2 x3 x5) _ _ _ _ (val_main_v111 (F := Ideal)) (val_main_v113 (F := Ideal)) _ _ 32 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v34 (F := Ideal) x0 x2 x3) x5 0x43000000#32 _ _ _ _ _ _ _ _ (by decide) b s n k).trans ?_
  refine congrArg (fun p => normed 0x43000000#32 p _ k) (funext fun k => (heads rfl (val_main_v30 (F := Ideal) x0 x2 x3) 4096 _ _ b s n k _ ?_).trans (proj_prompt x0 x2 x3 b s _))
  show (32 + n.val) * 128 + k.val = 4096 + (n.val * 128 + k.val)
  omega

theorem k_sample (b s) (n : Fin 8) (l : Fin 128) : val_main_v327 (F := Ideal) x1 x2 x3 x5 (ix4 b s n l)
    = headRow (val_main_v3 (F := Ideal) (ix1 s)) freq (fun k => proj x2 x3 (fun k => x1 (ix3 b s k)) ⟨(32 + n.val) * 128 + k.val, by omega⟩) (fun k => x5 (ix1 k)) l := by
  refine (rotate_host (hD := by decide) (val_main_v292 (F := Ideal) x1 x2 x3 x5) _ _ _ _ (val_main_v306 (F := Ideal)) (val_main_v308 (F := Ideal)) _ _ 32 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (norm_host (val_main_v229 (F := Ideal) x1 x2 x3) x5 0x43000000#32 _ _ _ _ _ _ _ _ (by decide) b s n k).trans ?_
  refine congrArg (fun p => normed 0x43000000#32 p _ k) (funext fun k => (heads rfl (val_main_v225 (F := Ideal) x1 x2 x3) 4096 _ _ b s n k _ ?_).trans (proj_sample x1 x2 x3 b s _))
  show (32 + n.val) * 128 + k.val = 4096 + (n.val * 128 + k.val)
  omega

theorem v_prompt (b s) (n : Fin 8) (l : Fin 128) : val_main_v36 (F := Ideal) x0 x2 x3 (ix4 b s n l) = proj x2 x3 (fun k => x0 (ix3 b s k)) ⟨(40 + n.val) * 128 + l.val, by omega⟩ :=
  (heads rfl (val_main_v30 (F := Ideal) x0 x2 x3) 5120 _ _ b s n l _ (by show (40 + n.val) * 128 + l.val = 5120 + (n.val * 128 + l.val); omega)).trans (proj_prompt x0 x2 x3 b s _)

theorem v_sample (b s) (n : Fin 8) (l : Fin 128) : val_main_v231 (F := Ideal) x1 x2 x3 (ix4 b s n l) = proj x2 x3 (fun k => x1 (ix3 b s k)) ⟨(40 + n.val) * 128 + l.val, by omega⟩ :=
  (heads rfl (val_main_v225 (F := Ideal) x1 x2 x3) 5120 _ _ b s n l _ (by show (40 + n.val) * 128 + l.val = 5120 + (n.val * 128 + l.val); omega)).trans (proj_sample x1 x2 x3 b s _)

/-- The columns that follow a row's queries, keys and values. -/
abbrev rest (x : Fin 4096 → EReal) (j : Fin 1104) : EReal := proj x2 x3 x ⟨6144 + j.val, by omega⟩

abbrev slow (l : Fin 8) : EReal := val_main_v146 (F := Ideal) (ix1 l)

theorem rest_prompt (b s) (j : Fin 1104) : val_main_v133 (F := Ideal) x0 x2 x3 (ix3 b s j) = rest x2 x3 (fun k => x0 (ix3 b s k)) j :=
  (cut3 (val_main_v30 (F := Ideal) x0 x2 x3) 6144 _ b s j ⟨6144 + j.val, by omega⟩ rfl).trans (proj_prompt x0 x2 x3 b s _)

theorem index_prompt (b s) (n : Fin 16) (l : Fin 64) : val_main_v426 (F := Ideal) x0 x2 x3 (ix4 b s n l)
    = indexRow (val_main_v0 (F := Ideal) (ix1 s)) slow (fun k => rest x2 x3 (fun k => x0 (ix3 b s k)) ⟨n.val * 64 + k.val, by omega⟩) l := by
  refine Eq.trans (b := (val_main_v174 (F := Ideal) x0 x2 x3 (ix4 b s n l) : EReal)) rfl ?_
  refine (rotate_host (hD := by decide) (val_main_v135 (F := Ideal) x0 x2 x3) _ _ _ _ (val_main_v153 (F := Ideal)) (val_main_v155 (F := Ideal)) _ _ 16 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  exact (as_heads (val_main_v134 (F := Ideal) x0 x2 x3) _ b s n k).trans
    ((cut3 (val_main_v133 (F := Ideal) x0 x2 x3) 0 _ b s _ ⟨n.val * 64 + k.val, by omega⟩ (by show n.val * 64 + k.val = 0 + (n.val * 64 + k.val); omega)).trans (rest_prompt x0 x2 x3 b s _))

theorem weight_prompt (b s) (l : Fin 16) : val_main_v429 (F := Ideal) x0 x2 x3 (ix3 b s l)
    = rest x2 x3 (fun k => x0 (ix3 b s k)) ⟨1088 + l.val, by omega⟩ * Ideal.ofBits FTy.f32 0x3E800000#32 * Ideal.ofBits FTy.f32 0x3E000000#32 := by
  refine congrArg₂ (fun a b : EReal => a * b) (congrArg₂ (fun a b : EReal => a * b) ?_ (spread _ _ _ _ ix0 fun a => a.elim0)) (spread _ _ _ _ ix0 fun a => a.elim0)
  exact (cut3 (val_main_v133 (F := Ideal) x0 x2 x3) 1088 _ b s l ⟨1088 + l.val, by omega⟩ rfl).trans (rest_prompt x0 x2 x3 b s _)

theorem key_prompt (b s) (l : Fin 64) : val_main_v224 (F := Ideal) x0 x2 x3 x6 (ix3 b s l)
    = indexKey (val_main_v0 (F := Ideal) (ix1 s)) slow (fun k => rest x2 x3 (fun k => x0 (ix3 b s k)) ⟨1024 + k.val, by omega⟩) (fun k => x6 (ix1 k)) l := by
  refine (one_head (val_main_v223 (F := Ideal) x0 x2 x3 x6) _ b s l).trans ?_
  refine (rotate_host (hD := by decide) (val_main_v188 (F := Ideal) x0 x2 x3 x6) _ _ _ _ (val_main_v202 (F := Ideal)) (val_main_v204 (F := Ideal)) _ _ 16 rfl _ _
    (table_host _ _ _ _) (table_host _ _ _ _) (table_host _ _ _ _) (table_host _ _ _ _) b s 0 l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (put_head (val_main_v187 (F := Ideal) x0 x2 x3 x6) _ b s 0 k).trans ?_
  refine (norm_host3 (val_main_v136 (F := Ideal) x0 x2 x3) x6 0x42800000#32 _ _ _ _ _ _ _ _ (by decide) b s k).trans ?_
  exact congrArg (fun p => normed 0x42800000#32 p _ k) (funext fun k =>
    (cut3 (val_main_v133 (F := Ideal) x0 x2 x3) 1024 _ b s k ⟨1024 + k.val, by omega⟩ rfl).trans (rest_prompt x0 x2 x3 b s _))

theorem rest_sample (b s) (j : Fin 1104) : val_main_v328 (F := Ideal) x1 x2 x3 (ix3 b s j) = rest x2 x3 (fun k => x1 (ix3 b s k)) j :=
  (cut3 (val_main_v225 (F := Ideal) x1 x2 x3) 6144 _ b s j ⟨6144 + j.val, by omega⟩ rfl).trans (proj_sample x1 x2 x3 b s _)

theorem index_sample (b s) (n : Fin 16) (l : Fin 64) : val_main_v427 (F := Ideal) x1 x2 x3 (ix4 b s n l)
    = indexRow (val_main_v3 (F := Ideal) (ix1 s)) slow (fun k => rest x2 x3 (fun k => x1 (ix3 b s k)) ⟨n.val * 64 + k.val, by omega⟩) l := by
  refine Eq.trans (b := (val_main_v369 (F := Ideal) x1 x2 x3 (ix4 b s n l) : EReal)) rfl ?_
  refine (rotate_host (hD := by decide) (val_main_v330 (F := Ideal) x1 x2 x3) _ _ _ _ (val_main_v348 (F := Ideal)) (val_main_v350 (F := Ideal)) _ _ 16 rfl _ _
    (table_host _ _ _ _) (table_host _ _ _ _) (table_host _ _ _ _) (table_host _ _ _ _) b s n l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  exact (as_heads (val_main_v329 (F := Ideal) x1 x2 x3) _ b s n k).trans
    ((cut3 (val_main_v328 (F := Ideal) x1 x2 x3) 0 _ b s _ ⟨n.val * 64 + k.val, by omega⟩ (by show n.val * 64 + k.val = 0 + (n.val * 64 + k.val); omega)).trans (rest_sample x1 x2 x3 b s _))

theorem weight_sample (b s) (l : Fin 16) : val_main_v431 (F := Ideal) x1 x2 x3 (ix3 b s l)
    = rest x2 x3 (fun k => x1 (ix3 b s k)) ⟨1088 + l.val, by omega⟩ * Ideal.ofBits FTy.f32 0x3E800000#32 * Ideal.ofBits FTy.f32 0x3E000000#32 := by
  refine congrArg₂ (fun a b : EReal => a * b) (congrArg₂ (fun a b : EReal => a * b) ?_ (spread _ _ _ _ ix0 fun a => a.elim0)) (spread _ _ _ _ ix0 fun a => a.elim0)
  exact (cut3 (val_main_v328 (F := Ideal) x1 x2 x3) 1088 _ b s l ⟨1088 + l.val, by omega⟩ rfl).trans (rest_sample x1 x2 x3 b s _)

theorem key_sample (b s) (l : Fin 64) : val_main_v419 (F := Ideal) x1 x2 x3 x6 (ix3 b s l)
    = indexKey (val_main_v3 (F := Ideal) (ix1 s)) slow (fun k => rest x2 x3 (fun k => x1 (ix3 b s k)) ⟨1024 + k.val, by omega⟩) (fun k => x6 (ix1 k)) l := by
  refine (one_head (val_main_v418 (F := Ideal) x1 x2 x3 x6) _ b s l).trans ?_
  refine (rotate_host (hD := by decide) (val_main_v383 (F := Ideal) x1 x2 x3 x6) _ _ _ _ (val_main_v397 (F := Ideal)) (val_main_v399 (F := Ideal)) _ _ 16 rfl _ _
    (table_host _ _ _ _) (table_host _ _ _ _) (table_host _ _ _ _) (table_host _ _ _ _) b s 0 l).trans ?_
  refine congr (congr (congr (congrArg (rotated _) (funext fun k => ?_)) (funext fun k => congrArg Ideal.cos (angle_host _ _ _ _ _ _ s k))) (funext fun k => congrArg Ideal.sin (angle_host _ _ _ _ _ _ s k))) rfl
  refine (put_head (val_main_v382 (F := Ideal) x1 x2 x3 x6) _ b s 0 k).trans ?_
  refine (norm_host3 (val_main_v331 (F := Ideal) x1 x2 x3) x6 0x42800000#32 _ _ _ _ _ _ _ _ (by decide) b s k).trans ?_
  exact congrArg (fun p => normed 0x42800000#32 p _ k) (funext fun k =>
    (cut3 (val_main_v328 (F := Ideal) x1 x2 x3) 1024 _ b s k ⟨1024 + k.val, by omega⟩ rfl).trans (rest_sample x1 x2 x3 b s _))

end Cert.SecondReference

end
-- ==== Proof.SecondFront.lean ====
/-
  The second layer's front: the kernel's queries, keys, values and indexer's features are the reference's.
-/
module

public import proofs.«01_k».proof.Proof.SecondRun
public import proofs.«01_k».proof.Proof.SecondLaunch
public import proofs.«01_k».proof.Proof.SecondReference
public import proofs.«01_k».proof.Proof.Gen.Reference3Ideal.Run
public import proofs.«01_k».proof.Defs

@[expose] public section

set_option maxRecDepth 16384

noncomputable section

namespace Cert.SecondFront

open Cert.HeadRows Cert.FrontRows Cert.IndexRows Cert.RowLayout Cert.SecondRun Cert.SecondLaunch Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg) (c : Dev nD)

abbrev X0 : FVec Ideal S2x8192x4096 .f32 := m ((c : Thread nD τ).loc main_arg0)
abbrev X1 : FVec Ideal S8x32x4096 .f32 := m ((c : Thread nD τ).loc main_arg1)
abbrev X2 : FVec Ideal S4096 .f32 := m ((c : Thread nD τ).loc main_arg2)
abbrev X3 : FVec Ideal S4096x7248 .f32 := m ((c : Thread nD τ).loc main_arg3)
abbrev X4 : FVec Ideal S128 .f32 := m ((c : Thread nD τ).loc main_arg4)
abbrev X5 : FVec Ideal S128 .f32 := m ((c : Thread nD τ).loc main_arg5)
abbrev X6 : FVec Ideal S64 .f32 := m ((c : Thread nD τ).loc main_arg6)

theorem q_prompt : W13 m ρ c (Proc.devRef .tc main_v97) = Cert.Reference3Ideal.Read.val_main_v422 (F := Ideal) (X0 m c) (X2 m c) (X3 m c) (X4 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.q_prompt (X0 m c) (X2 m c) (X3 m c) (X4 m c) b s n l).symm
  refine (queries_prompt (α := EReal) (W12 m ρ c (Proc.devRef .tc main_v89_0)) _ _ b s n l).trans ?_
  refine (congrFun (kept_last m ρ c main_v89_0 (by decide) (by decide)) _).trans ((q_row m ρ c (rowP b s) _ (x_prompt m ρ c b s) n l).trans ?_)
  rw [place_p]
  rfl

theorem indexed_prompt : W13 m ρ c (Proc.devRef .tc main_v101) = Cert.Reference3Ideal.Read.val_main_v426 (F := Ideal) (X0 m c) (X2 m c) (X3 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.index_prompt (X0 m c) (X2 m c) (X3 m c) b s n l).symm
  refine (index_prompt (α := EReal) (W12 m ρ c (Proc.devRef .tc main_v93_0)) _ _ b s n l).trans ?_
  refine (i_row m ρ c (rowP b s) _ (x_prompt m ρ c b s) n l).trans ?_
  rw [place_p]
  rfl

theorem weight_prompt : W13 m ρ c (Proc.devRef .tc main_v105) = Cert.Reference3Ideal.Read.val_main_v429 (F := Ideal) (X0 m c) (X2 m c) (X3 m c) := by
  unfold W13
  after_reads_simp
  funext y
  obtain ⟨b, s, l, rfl⟩ : ∃ b s l, y = ix3 b s l := ⟨y 0, y 1, y 2, eq_ix3 y⟩
  refine Eq.trans ?_ (Cert.SecondReference.weight_prompt (X0 m c) (X2 m c) (X3 m c) b s l).symm
  refine (split_prompt (F := Ideal) (e := .f32) (extractStridedSlice S16640x16 ![0, 64] (W12 m ρ c (Proc.devRef .tc main_v93_1) : FVec Ideal S16640x128 .f32) slices_S16640x128_S16640x16_0_64) _ _ b s l).trans ?_
  refine (cut2 (α := EReal) (W12 m ρ c (Proc.devRef .tc main_v93_1)) 64 slices_S16640x128_S16640x16_0_64 (rowP b s) l ⟨64 + l.val, by omega⟩ rfl).trans ?_
  exact iw_row m ρ c (rowP b s) _ (x_prompt m ρ c b s) l

theorem k_prompt : W13 m ρ c (Proc.devRef .tc main_v109) = Cert.Reference3Ideal.Read.val_main_v132 (F := Ideal) (X0 m c) (X2 m c) (X3 m c) (X5 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.k_prompt (X0 m c) (X2 m c) (X3 m c) (X5 m c) b s n l).symm
  refine (heads_prompt (α := EReal) (W12 m ρ c (Proc.devRef .tc main_v89_1)) _ _ b s n l).trans ?_
  refine (congrFun (kept_last m ρ c main_v89_1 (by decide) (by decide)) _).trans ((k_row m ρ c (rowP b s) _ (x_prompt m ρ c b s) n l).trans ?_)
  rw [place_p]
  rfl

theorem v_prompt : W13 m ρ c (Proc.devRef .tc main_v111) = Cert.Reference3Ideal.Read.val_main_v36 (F := Ideal) (X0 m c) (X2 m c) (X3 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.v_prompt (X0 m c) (X2 m c) (X3 m c) b s n l).symm
  refine (heads_prompt (α := EReal) (W12 m ρ c (Proc.devRef .tc main_v89_3)) _ _ b s n l).trans ?_
  exact (congrFun (kept_last m ρ c main_v89_3 (by decide) (by decide)) _).trans (v_row m ρ c (rowP b s) _ (x_prompt m ρ c b s) n l)

theorem key_prompt : W13 m ρ c (Proc.devRef .tc main_v113) = Cert.Reference3Ideal.Read.val_main_v224 (F := Ideal) (X0 m c) (X2 m c) (X3 m c) (X6 m c) := by
  unfold W13
  after_reads_simp
  funext y
  obtain ⟨b, s, l, rfl⟩ : ∃ b s l, y = ix3 b s l := ⟨y 0, y 1, y 2, eq_ix3 y⟩
  refine Eq.trans ?_ (Cert.SecondReference.key_prompt (X0 m c) (X2 m c) (X3 m c) (X6 m c) b s l).symm
  refine (split_prompt (F := Ideal) (e := .f32) (extractStridedSlice S16640x64 ![0, 0] (W12 m ρ c (Proc.devRef .tc main_v93_1) : FVec Ideal S16640x128 .f32) slices_S16640x128_S16640x64_0_0) _ _ b s l).trans ?_
  refine (cut2 (α := EReal) (W12 m ρ c (Proc.devRef .tc main_v93_1)) 0 slices_S16640x128_S16640x64_0_0 (rowP b s) l ⟨l.val, by omega⟩ (by show l.val = 0 + l.val; omega)).trans ?_
  refine (ik_row m ρ c (rowP b s) _ (x_prompt m ρ c b s) l).trans ?_
  rw [place_p]
  rfl

theorem q_sample : W13 m ρ c (Proc.devRef .tc main_v99) = Cert.Reference3Ideal.Read.val_main_v425 (F := Ideal) (X1 m c) (X2 m c) (X3 m c) (X4 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.q_sample (X1 m c) (X2 m c) (X3 m c) (X4 m c) b s n l).symm
  refine (queries_sample (α := EReal) (W12 m ρ c (Proc.devRef .tc main_v89_0)) _ _ b s n l).trans ?_
  refine (congrFun (kept_last m ρ c main_v89_0 (by decide) (by decide)) _).trans ((q_row m ρ c (rowS b s) _ (x_sample m ρ c b s) n l).trans ?_)
  rw [place_s]
  rfl

theorem indexed_sample : W13 m ρ c (Proc.devRef .tc main_v103) = Cert.Reference3Ideal.Read.val_main_v427 (F := Ideal) (X1 m c) (X2 m c) (X3 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.index_sample (X1 m c) (X2 m c) (X3 m c) b s n l).symm
  refine (index_sample (α := EReal) (W12 m ρ c (Proc.devRef .tc main_v93_0)) _ _ b s n l).trans ?_
  refine (i_row m ρ c (rowS b s) _ (x_sample m ρ c b s) n l).trans ?_
  rw [place_s]
  rfl

theorem weight_sample : W13 m ρ c (Proc.devRef .tc main_v107) = Cert.Reference3Ideal.Read.val_main_v431 (F := Ideal) (X1 m c) (X2 m c) (X3 m c) := by
  unfold W13
  after_reads_simp
  funext y
  obtain ⟨b, s, l, rfl⟩ : ∃ b s l, y = ix3 b s l := ⟨y 0, y 1, y 2, eq_ix3 y⟩
  refine Eq.trans ?_ (Cert.SecondReference.weight_sample (X1 m c) (X2 m c) (X3 m c) b s l).symm
  refine (split_sample (F := Ideal) (e := .f32) (extractStridedSlice S16640x16 ![0, 64] (W12 m ρ c (Proc.devRef .tc main_v93_1) : FVec Ideal S16640x128 .f32) slices_S16640x128_S16640x16_0_64) _ _ b s l).trans ?_
  refine (cut2 (α := EReal) (W12 m ρ c (Proc.devRef .tc main_v93_1)) 64 slices_S16640x128_S16640x16_0_64 (rowS b s) l ⟨64 + l.val, by omega⟩ rfl).trans ?_
  exact iw_row m ρ c (rowS b s) _ (x_sample m ρ c b s) l

theorem k_sample : W13 m ρ c (Proc.devRef .tc main_v115) = Cert.Reference3Ideal.Read.val_main_v327 (F := Ideal) (X1 m c) (X2 m c) (X3 m c) (X5 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.k_sample (X1 m c) (X2 m c) (X3 m c) (X5 m c) b s n l).symm
  refine (heads_sample (α := EReal) (W12 m ρ c (Proc.devRef .tc main_v89_1)) _ _ b s n l).trans ?_
  refine (congrFun (kept_last m ρ c main_v89_1 (by decide) (by decide)) _).trans ((k_row m ρ c (rowS b s) _ (x_sample m ρ c b s) n l).trans ?_)
  rw [place_s]
  rfl

theorem v_sample : W13 m ρ c (Proc.devRef .tc main_v117) = Cert.Reference3Ideal.Read.val_main_v231 (F := Ideal) (X1 m c) (X2 m c) (X3 m c) := by
  unfold W13
  after_reads_simp
  funext y
  obtain ⟨b, s, n, l, rfl⟩ : ∃ b s n l, y = ix4 b s n l := ⟨y 0, y 1, y 2, y 3, eq_ix4 y⟩
  refine Eq.trans ?_ (Cert.SecondReference.v_sample (X1 m c) (X2 m c) (X3 m c) b s n l).symm
  refine (heads_sample (α := EReal) (W12 m ρ c (Proc.devRef .tc main_v89_3)) _ _ b s n l).trans ?_
  exact (congrFun (kept_last m ρ c main_v89_3 (by decide) (by decide)) _).trans (v_row m ρ c (rowS b s) _ (x_sample m ρ c b s) n l)

theorem key_sample : W13 m ρ c (Proc.devRef .tc main_v119) = Cert.Reference3Ideal.Read.val_main_v419 (F := Ideal) (X1 m c) (X2 m c) (X3 m c) (X6 m c) := by
  unfold W13
  after_reads_simp
  funext y
  obtain ⟨b, s, l, rfl⟩ : ∃ b s l, y = ix3 b s l := ⟨y 0, y 1, y 2, eq_ix3 y⟩
  refine Eq.trans ?_ (Cert.SecondReference.key_sample (X1 m c) (X2 m c) (X3 m c) (X6 m c) b s l).symm
  refine (split_sample (F := Ideal) (e := .f32) (extractStridedSlice S16640x64 ![0, 0] (W12 m ρ c (Proc.devRef .tc main_v93_1) : FVec Ideal S16640x128 .f32) slices_S16640x128_S16640x64_0_0) _ _ b s l).trans ?_
  refine (cut2 (α := EReal) (W12 m ρ c (Proc.devRef .tc main_v93_1)) 0 slices_S16640x128_S16640x64_0_0 (rowS b s) l ⟨l.val, by omega⟩ (by show l.val = 0 + l.val; omega)).trans ?_
  refine (ik_row m ρ c (rowS b s) _ (x_sample m ρ c b s) l).trans ?_
  rw [place_s]
  rfl

theorem value : Cert.algebraic_Kernel3Ideal_Reference3Ideal := by
  intro m ρ m' ρ' _ hagree
  refine ⟨fun c => Cert.Reference3Ideal.Read.val_main_v422 (F := Ideal) (X0 m c) (X2 m c) (X3 m c) (X4 m c),
    fun c => Cert.Reference3Ideal.Read.val_main_v425 (F := Ideal) (X1 m c) (X2 m c) (X3 m c) (X4 m c),
    fun c => Cert.Reference3Ideal.Read.val_main_v426 (F := Ideal) (X0 m c) (X2 m c) (X3 m c),
    fun c => Cert.Reference3Ideal.Read.val_main_v427 (F := Ideal) (X1 m c) (X2 m c) (X3 m c),
    fun c => Cert.Reference3Ideal.Read.val_main_v429 (F := Ideal) (X0 m c) (X2 m c) (X3 m c),
    fun c => Cert.Reference3Ideal.Read.val_main_v431 (F := Ideal) (X1 m c) (X2 m c) (X3 m c),
    fun c => Cert.Reference3Ideal.Read.val_main_v132 (F := Ideal) (X0 m c) (X2 m c) (X3 m c) (X5 m c),
    fun c => Cert.Reference3Ideal.Read.val_main_v36 (F := Ideal) (X0 m c) (X2 m c) (X3 m c),
    fun c => Cert.Reference3Ideal.Read.val_main_v224 (F := Ideal) (X0 m c) (X2 m c) (X3 m c) (X6 m c),
    fun c => Cert.Reference3Ideal.Read.val_main_v327 (F := Ideal) (X1 m c) (X2 m c) (X3 m c) (X5 m c),
    fun c => Cert.Reference3Ideal.Read.val_main_v231 (F := Ideal) (X1 m c) (X2 m c) (X3 m c),
    fun c => Cert.Reference3Ideal.Read.val_main_v419 (F := Ideal) (X1 m c) (X2 m c) (X3 m c) (X6 m c), ?_, ?_⟩
  · exact (θ_run defs _ _).mono (fun r h c => ⟨(h.1 c _ (mem_uc main_v97 (by decide))).trans (q_prompt m ρ c),
      (h.1 c _ (mem_uc main_v99 (by decide))).trans (q_sample m ρ c),
      (h.1 c _ (mem_uc main_v101 (by decide))).trans (indexed_prompt m ρ c),
      (h.1 c _ (mem_uc main_v103 (by decide))).trans (indexed_sample m ρ c),
      (h.1 c _ (mem_uc main_v105 (by decide))).trans (weight_prompt m ρ c),
      (h.1 c _ (mem_uc main_v107 (by decide))).trans (weight_sample m ρ c),
      (h.1 c _ (mem_uc main_v109 (by decide))).trans (k_prompt m ρ c),
      (h.1 c _ (mem_uc main_v111 (by decide))).trans (v_prompt m ρ c),
      (h.1 c _ (mem_uc main_v113 (by decide))).trans (key_prompt m ρ c),
      (h.1 c _ (mem_uc main_v115 (by decide))).trans (k_sample m ρ c),
      (h.1 c _ (mem_uc main_v117 (by decide))).trans (v_sample m ρ c),
      (h.1 c _ (mem_uc main_v119 (by decide))).trans (key_sample m ρ c), h.2 c⟩)
      (θ_run_and (run_holds m ρ) (unchanged m ρ))
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
      (Cert.Reference3Ideal.Value.run m' ρ')
    all_goals
      obtain ⟨a0, a1, a2, a3, a4, a5, a6⟩ := hagree c
      have e0 : StableHlo.launchContents m' c (Proc.devRef .tc Cert.Reference3Ideal.main_arg0) = X0 m c := a0
      have e1 : StableHlo.launchContents m' c (Proc.devRef .tc Cert.Reference3Ideal.main_arg1) = X1 m c := a1
      have e2 : StableHlo.launchContents m' c (Proc.devRef .tc Cert.Reference3Ideal.main_arg2) = X2 m c := a2
      have e3 : StableHlo.launchContents m' c (Proc.devRef .tc Cert.Reference3Ideal.main_arg3) = X3 m c := a3
      have e4 : StableHlo.launchContents m' c (Proc.devRef .tc Cert.Reference3Ideal.main_arg4) = X4 m c := a4
      have e5 : StableHlo.launchContents m' c (Proc.devRef .tc Cert.Reference3Ideal.main_arg5) = X5 m c := a5
      have e6 : StableHlo.launchContents m' c (Proc.devRef .tc Cert.Reference3Ideal.main_arg6) = X6 m c := a6
    · exact (Cert.Reference3Ideal.Read.val_main_v422_eq (StableHlo.launchContents m' c)).trans (by rw [e0, e2, e3, e4])
    · exact (Cert.Reference3Ideal.Read.val_main_v425_eq (StableHlo.launchContents m' c)).trans (by rw [e1, e2, e3, e4])
    · exact (Cert.Reference3Ideal.Read.val_main_v426_eq (StableHlo.launchContents m' c)).trans (by rw [e0, e2, e3])
    · exact (Cert.Reference3Ideal.Read.val_main_v427_eq (StableHlo.launchContents m' c)).trans (by rw [e1, e2, e3])
    · exact (Cert.Reference3Ideal.Read.val_main_v429_eq (StableHlo.launchContents m' c)).trans (by rw [e0, e2, e3])
    · exact (Cert.Reference3Ideal.Read.val_main_v431_eq (StableHlo.launchContents m' c)).trans (by rw [e1, e2, e3])
    · exact (Cert.Reference3Ideal.Read.val_main_v132_eq (StableHlo.launchContents m' c)).trans (by rw [e0, e2, e3, e5])
    · exact (Cert.Reference3Ideal.Read.val_main_v36_eq (StableHlo.launchContents m' c)).trans (by rw [e0, e2, e3])
    · exact (Cert.Reference3Ideal.Read.val_main_v224_eq (StableHlo.launchContents m' c)).trans (by rw [e0, e2, e3, e6])
    · exact (Cert.Reference3Ideal.Read.val_main_v327_eq (StableHlo.launchContents m' c)).trans (by rw [e1, e2, e3, e5])
    · exact (Cert.Reference3Ideal.Read.val_main_v231_eq (StableHlo.launchContents m' c)).trans (by rw [e1, e2, e3])
    · exact (Cert.Reference3Ideal.Read.val_main_v419_eq (StableHlo.launchContents m' c)).trans (by rw [e1, e2, e3, e6])

end Cert.SecondFront

end
-- ==== Proof.SampleBlock.lean ====
/-
  The samples' attention kernel at one grid point: each of its 32 stored tiles is one head's function of the point's
  blocks, and so the block is one function of them.
-/
module

public import proofs.«01_k».proof.Proof.Gen.Kernel5Ideal.Value
public import Idealize.ShloMosaic.Lib.Pointwise
public import Idealize.ShloMosaic.Lib.Writes

@[expose] public section

set_option maxRecDepth 16384

noncomputable section

namespace Cert.SampleBlock

open Cert.Kernel5Ideal Cert.Kernel5Ideal.Gen Idealize.ShloMosaic Idealize.ShloMosaic.TcCoe Idealize.SL.Sem

theorem inb_q (h : Fin 32) : ∀ a, (![0, 128 * h.val] : Fin 2 → Nat) a + (![32, 128] : Fin 2 → Nat) a ≤ S32x4096.size a := by
  intro a; match a with
  | ⟨0, _⟩ => show 0 + 32 ≤ 32; omega
  | ⟨1, _⟩ => show 128 * h.val + 128 ≤ 4096; omega

theorem inb_kv (g : Fin 8) : ∀ a, (![0, 0, 128 * g.val] : Fin 3 → Nat) a + (![1, 160, 128] : Fin 3 → Nat) a ≤ S1x160x1024.size a := by
  intro a; match a with
  | ⟨0, _⟩ => show 0 + 1 ≤ 1; omega
  | ⟨1, _⟩ => show 0 + 160 ≤ 160; omega
  | ⟨2, _⟩ => show 128 * g.val + 128 ≤ 1024; omega

theorem inb_s (h : Fin 32) : ∀ a, (![h.val] : Fin 1 → Nat) a + (![1] : Fin 1 → Nat) a ≤ S32.size a := by
  intro a; match a with
  | ⟨0, _⟩ => show h.val + 1 ≤ 32; omega

/-- The columns of head `h` among a query block's. -/
abbrev rq (h : Fin 32) : Rect S32x4096 := Rect.unit ![0, 128 * h.val] ![32, 128] (inb_q h)

/-- The columns of key/value head `g` among a key or value block's. -/
abbrev rkv (g : Fin 8) : Rect S1x160x1024 := Rect.unit ![0, 0, 128 * g.val] ![1, 160, 128] (inb_kv g)

/-- Head `h`'s tile of a point's block. -/
def tile (x0 : Vec Ideal S32 .f32) (x1 : Vec Ideal S32x4096 .bf16) (x2 x3 : Vec Ideal S1x160x1024 .bf16) (h : Fin 32) : FVec Ideal S32x128 .bf16 :=
  k0_pay4 (View.ld x2 (rkv ⟨h.val / 4, by omega⟩)) (View.ld x3 (rkv ⟨h.val / 4, by omega⟩)) (View.ld x1 (rq h)) (x0 (ix1 h))

/-- A point's block. -/
def block (x0 : Vec Ideal S32 .f32) (x1 : Vec Ideal S32x4096 .bf16) (x2 x3 : Vec Ideal S1x160x1024 .bf16) : Vec Ideal S32x4096 .bf16 :=
  fun y => tile x0 x1 x2 x3 ⟨(y 1).val / 128, by have := (y 1).isLt; show _ < 32; change (y 1).val < 4096 at this; omega⟩
    (ix2 (y 0) ⟨(y 1).val % 128, Nat.mod_lt _ (by decide)⟩)

theorem block_rq (x0 : Vec Ideal S32 .f32) (x1 : Vec Ideal S32x4096 .bf16) (x2 x3 : Vec Ideal S1x160x1024 .bf16)
    (h : Fin 32) (x : S32x128.Idx) : block x0 x1 x2 x3 ((rq h).emb x) = tile x0 x1 x2 x3 h x := by
  have h1 : (((rq h).emb x) 1).val = 128 * h.val + (x 1).val := by
    show 128 * h.val + 1 * (x 1).val = _; omega
  have hx : (x 1).val < 128 := (x 1).isLt
  unfold block
  congr 1
  · apply Fin.ext; show (((rq h).emb x) 1).val / 128 = h.val; rw [h1]; omega
  · rw [eq_ix2 x]
    congr 1
    · apply Fin.ext; show 0 + 1 * (x 0).val = (x 0).val; omega
    · apply Fin.ext; show (((rq h).emb x) 1).val % 128 = (x 1).val; rw [h1]; omega

section
variable (c : Dev nD) (i : grid0.Coords) (arg1 : Memref sig .tc .smem S32 .f32) (harg1 : arg1.IsWhole) (arg2 : Memref sig .tc .vmem S32x4096 .bf16) (harg2 : arg2.IsWhole) (arg3 : Memref sig .tc .vmem S1x160x1024 .bf16) (harg3 : arg3.IsWhole) (arg4 : Memref sig .tc .vmem S1x160x1024 .bf16) (harg4 : arg4.IsWhole) (arg5 : Memref sig .tc .vmem S32x4096 .bf16) (harg5 : arg5.IsWhole)
  (x0 : Vec Ideal S32 .f32) (x1 : Vec Ideal S32x4096 .bf16) (x2 x3 : Vec Ideal S1x160x1024 .bf16)

include c harg1 harg2 harg3 harg4 in
/-- Head `h`'s tile from what the run loads. -/
theorem block_emb (h : Fin 32) (x : S32x128.Idx) :
    block x0 x1 x2 x3 ((rq h).emb x)
      = k0_pay4 (View.ld (arg3.view.read (Elt Ideal) (harg3.unread x2)) (rkv ⟨h.val / 4, by omega⟩))
          (View.ld (arg4.view.read (Elt Ideal) (harg4.unread x3)) (rkv ⟨h.val / 4, by omega⟩))
          (View.ld (arg2.view.read (Elt Ideal) (harg2.unread x1)) (rq h))
          (View.ld (arg1.view.read (Elt Ideal) (harg1.unread x0)) (Rect.unit ![h.val] ![1] (inb_s h)) (Shape.Idx.first (s := ⟨1, ![1]⟩) (by decide))) x := by
  rw [block_rq, harg1.read_unread, harg2.read_unread, harg3.read_unread, harg4.read_unread]
  unfold tile
  congr 1
  show x0 _ = x0 _
  congr 1
  funext a
  match a with
  | ⟨0, _⟩ => rfl

/-- The run's pieces leave the block. -/
theorem run_block (v : View sig .tc .vmem S32x4096 .bf16) (f : BufTy.Contents (Elt Ideal) v.ty) (y : S32x4096.Idx) :
    v.read (Elt Ideal) (v.writes (Elt Ideal) f
      (kernelRun0_A (F := Ideal) c i arg1 harg1 arg2 harg2 arg3 harg3 arg4 harg4 arg5 harg5 x0 x1 x2 x3).1) y
      = block x0 x1 x2 x3 y := by
  refine View.read_writes_apply_of_pieces _ _ _ _ ?_ y
    (cover0_A_4 c i arg1 harg1 arg2 harg2 arg3 harg3 arg4 harg4 arg5 harg5 x0 x1 x2 x3 y)
  unfold kernelRun0_A
  dsimp only
  refine List.forall_mem_cons.mpr ⟨fun x => (block_emb c arg1 harg1 arg2 harg2 arg3 harg3 arg4 harg4 x0 x1 x2 x3 31 x).symm, ?_⟩
  refine List.forall_mem_cons.mpr ⟨fun x => (block_emb c arg1 harg1 arg2 harg2 arg3 harg3 arg4 harg4 x0 x1 x2 x3 30 x).symm, ?_⟩
  refine List.forall_mem_cons.mpr ⟨fun x => (block_emb c arg1 harg1 arg2 harg2 arg3 harg3 arg4 harg4 x0 x1 x2 x3 29 x).symm, ?_⟩
  refine List.forall_mem_cons.mpr ⟨fun x => (block_emb c arg1 harg1 arg2 harg2 arg3 harg3 arg4 harg4 x0 x1 x2 x3 28 x).symm, ?_⟩
  refine List.forall_mem_cons.mpr ⟨fun x => (block_emb c arg1 harg1 arg2 harg2 arg3 harg3 arg4 harg4 x0 x1 x2 x3 27 x).symm, ?_⟩
  refine List.forall_mem_cons.mpr ⟨fun x => (block_emb c arg1 harg1 arg2 harg2 arg3 harg3 arg4 harg4 x0 x1 x2 x3 26 x).symm, ?_⟩
  refine List.forall_mem_cons.mpr ⟨fun x => (block_emb c arg1 harg1 arg2 harg2 arg3 harg3 arg4 harg4 x0 x1 x2 x3 25 x).symm, ?_⟩
  refine List.forall_mem_cons.mpr ⟨fun x => (block_emb c arg1 harg1 arg2 harg2 arg3 harg3 arg4 harg4 x0 x1 x2 x3 24 x).symm, ?_⟩
  refine List.forall_mem_cons.mpr ⟨fun x => (block_emb c arg1 harg1 arg2 harg2 arg3 harg3 arg4 harg4 x0 x1 x2 x3 23 x).symm, ?_⟩
  refine List.forall_mem_cons.mpr ⟨fun x => (block_emb c arg1 harg1 arg2 harg2 arg3 harg3 arg4 harg4 x0 x1 x2 x3 22 x).symm, ?_⟩
  refine List.forall_mem_cons.mpr ⟨fun x => (block_emb c arg1 harg1 arg2 harg2 arg3 harg3 arg4 harg4 x0 x1 x2 x3 21 x).symm, ?_⟩
  refine List.forall_mem_cons.mpr ⟨fun x => (block_emb c arg1 harg1 arg2 harg2 arg3 harg3 arg4 harg4 x0 x1 x2 x3 20 x).symm, ?_⟩
  refine List.forall_mem_cons.mpr ⟨fun x => (block_emb c arg1 harg1 arg2 harg2 arg3 harg3 arg4 harg4 x0 x1 x2 x3 19 x).symm, ?_⟩
  refine List.forall_mem_cons.mpr ⟨fun x => (block_emb c arg1 harg1 arg2 harg2 arg3 harg3 arg4 harg4 x0 x1 x2 x3 18 x).symm, ?_⟩
  refine List.forall_mem_cons.mpr ⟨fun x => (block_emb c arg1 harg1 arg2 harg2 arg3 harg3 arg4 harg4 x0 x1 x2 x3 17 x).symm, ?_⟩
  refine List.forall_mem_cons.mpr ⟨fun x => (block_emb c arg1 harg1 arg2 harg2 arg3 harg3 arg4 harg4 x0 x1 x2 x3 16 x).symm, ?_⟩
  refine List.forall_mem_cons.mpr ⟨fun x => (block_emb c arg1 harg1 arg2 harg2 arg3 harg3 arg4 harg4 x0 x1 x2 x3 15 x).symm, ?_⟩
  refine List.forall_mem_cons.mpr ⟨fun x => (block_emb c arg1 harg1 arg2 harg2 arg3 harg3 arg4 harg4 x0 x1 x2 x3 14 x).symm, ?_⟩
  refine List.forall_mem_cons.mpr ⟨fun x => (block_emb c arg1 harg1 arg2 harg2 arg3 harg3 arg4 harg4 x0 x1 x2 x3 13 x).symm, ?_⟩
  refine List.forall_mem_cons.mpr ⟨fun x => (block_emb c arg1 harg1 arg2 harg2 arg3 harg3 arg4 harg4 x0 x1 x2 x3 12 x).symm, ?_⟩
  refine List.forall_mem_cons.mpr ⟨fun x => (block_emb c arg1 harg1 arg2 harg2 arg3 harg3 arg4 harg4 x0 x1 x2 x3 11 x).symm, ?_⟩
  refine List.forall_mem_cons.mpr ⟨fun x => (block_emb c arg1 harg1 arg2 harg2 arg3 harg3 arg4 harg4 x0 x1 x2 x3 10 x).symm, ?_⟩
  refine List.forall_mem_cons.mpr ⟨fun x => (block_emb c arg1 harg1 arg2 harg2 arg3 harg3 arg4 harg4 x0 x1 x2 x3 9 x).symm, ?_⟩
  refine List.forall_mem_cons.mpr ⟨fun x => (block_emb c arg1 harg1 arg2 harg2 arg3 harg3 arg4 harg4 x0 x1 x2 x3 8 x).symm, ?_⟩
  refine List.forall_mem_cons.mpr ⟨fun x => (block_emb c arg1 harg1 arg2 harg2 arg3 harg3 arg4 harg4 x0 x1 x2 x3 7 x).symm, ?_⟩
  refine List.forall_mem_cons.mpr ⟨fun x => (block_emb c arg1 harg1 arg2 harg2 arg3 harg3 arg4 harg4 x0 x1 x2 x3 6 x).symm, ?_⟩
  refine List.forall_mem_cons.mpr ⟨fun x => (block_emb c arg1 harg1 arg2 harg2 arg3 harg3 arg4 harg4 x0 x1 x2 x3 5 x).symm, ?_⟩
  refine List.forall_mem_cons.mpr ⟨fun x => (block_emb c arg1 harg1 arg2 harg2 arg3 harg3 arg4 harg4 x0 x1 x2 x3 4 x).symm, ?_⟩
  refine List.forall_mem_cons.mpr ⟨fun x => (block_emb c arg1 harg1 arg2 harg2 arg3 harg3 arg4 harg4 x0 x1 x2 x3 3 x).symm, ?_⟩
  refine List.forall_mem_cons.mpr ⟨fun x => (block_emb c arg1 harg1 arg2 harg2 arg3 harg3 arg4 harg4 x0 x1 x2 x3 2 x).symm, ?_⟩
  refine List.forall_mem_cons.mpr ⟨fun x => (block_emb c arg1 harg1 arg2 harg2 arg3 harg3 arg4 harg4 x0 x1 x2 x3 1 x).symm, ?_⟩
  refine List.forall_mem_cons.mpr ⟨fun x => (block_emb c arg1 harg1 arg2 harg2 arg3 harg3 arg4 harg4 x0 x1 x2 x3 0 x).symm, ?_⟩
  exact fun p hp => absurd hp List.not_mem_nil

end

/-- What the run leaves at grid point `t` is the block of that point. -/
theorem outsAt_eq (m : (ℓ : Loc nD τ sig) → Buf (Elt Ideal) ℓ) (c : Dev nD) (t : Fin cfg0.N) (y : S32x4096.Idx) :
    outsAt0 m c t y = block (iblk m c 0 t) (iblk m c 1 t) (iblk m c 2 t) (iblk m c 3 t) y := by
  unfold outsAt0 out0_A_4
  exact run_block c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) VO0_4 VO0_4.junk y

end Cert.SampleBlock

end
-- ==== Proof.SampleValue.lean ====
/-
  The samples' attention kernel: an element of its result as a softmax over the 160 keys of a row, the cached ones and its own.
-/
module

public import proofs.«01_k».proof.Proof.SampleBlock
public import proofs.«01_k».proof.Proof.SinkSoftmax
public import Idealize.ShloMosaic.Lib.Tactic.CleanTypes
public import Idealize.ShloMosaic.Lib.Claim
public import Idealize.ShloMosaic.Lib.Pipeline.ValueKit.Point

@[expose] public section

set_option maxRecDepth 16384

noncomputable section

namespace Cert.SampleValue

open Cert.Kernel5Ideal Cert.Kernel5Ideal.Gen Cert.SampleBlock Cert.SinkSoftmax Idealize.ShloMosaic Idealize.ShloMosaic.TcCoe Idealize.SL.Sem

/-! ## One tile -/

/-- The score of query row `r` of a tile with key `t`. -/
def score (q : FVec Ideal S32x128 .bf16) (k : FVec Ideal S1x160x128 .bf16) (r : Fin 32) (t : Fin 160) : EReal :=
  ∑ x : Fin 128, q (ix2 r x) * k (ix3 0 t x)

theorem neg_inf : Ideal.ofBits FTy.f32 0xFF800000#32 = ⊥ := by
  simp [Ideal.ofBits, Ideal.ieee]

theorem flat_apply (k : FVec Ideal S1x160x128 .bf16) (t : Fin 160) (x : Fin 128) :
    shapeCast S160x128 k shapeCasts_S1x160x128_S160x128 (ix2 t x) = k (ix3 0 t x) := by
  refine shapeCast_apply _ _ _ _ ?_
  rw [Shape.rowMajor_val_three, Shape.rowMajor_val_two]
  show (0 * 160 + t.val) * 128 + x.val = t.val * 128 + x.val
  omega

theorem tile_apply (k v : FVec Ideal S1x160x128 .bf16) (q : FVec Ideal S32x128 .bf16) (sk : Ideal .f32) (r : Fin 32) (d : Fin 128) :
    k0_pay4 (F := Ideal) k v q sk (ix2 r d)
      = Ideal.div (∑ t, Ideal.exp (score q k r t - top (score q k r) sk) * v (ix3 0 t d)) (mass (score q k r) sk) := by
  pointwise [k0_pay4, k0_pay2, k0_pay3]
  rw [neg_inf]
  rfl

/-! ## The arrays the region reads -/

/-- The keys (or values) of the cache, then the new ones. -/
abbrev all (C : FVec Ideal S8x128x8x128 .f32) (K : FVec Ideal S8x32x8x128 .f32) : FVec Ideal S8x160x8x128 .f32 :=
  concatenate S8x160x8x128 1 [⟨S8x128x8x128, C⟩, ⟨S8x32x8x128, K⟩] concatenates_S8x128x8x128_S8x32x8x128_S8x160x8x128_d1

theorem rows_q (Q : FVec Ideal S2x8192x32x128 .f32) (Q' : FVec Ideal S8x32x32x128 .f32) (h₁ h₂ h₃) (b : Fin 8) (s : Fin 32) (h : Fin 32) (x : Fin 128) :
    concatenate S16640x4096 0 [⟨S16384x4096, shapeCast S16384x4096 Q h₁⟩, ⟨S256x4096, shapeCast S256x4096 Q' h₂⟩] h₃
      (ix2 ⟨16384 + (b.val * 32 + s.val), by omega⟩ ⟨h.val * 128 + x.val, by omega⟩) = Q' (ix4 b s h x) := by
  refine (concatenate_pair_apply_right 0 (shapeCast S16384x4096 Q h₁) (shapeCast S256x4096 Q' h₂) h₃ _ rfl rfl
    (ix2 (⟨b.val * 32 + s.val, by omega⟩ : Fin 256) (⟨h.val * 128 + x.val, by omega⟩ : Fin 4096)) (fun a => ?_) ?_).trans ?_
  · match a with
    | ⟨0, _⟩ => exact fun h => absurd rfl h
    | ⟨1, _⟩ => exact fun _ => rfl
  · show b.val * 32 + s.val + 16384 = 16384 + (b.val * 32 + s.val); omega
  refine shapeCast_apply _ _ _ _ ?_
  rw [Shape.rowMajor_val_four, Shape.rowMajor_val_two]
  show ((b.val * 32 + s.val) * 32 + h.val) * 128 + x.val = (b.val * 32 + s.val) * 4096 + (h.val * 128 + x.val)
  omega

theorem rows_kv (K : FVec Ideal S8x160x8x128 .f32) (h₁) (b : Fin 8) (t : Fin 160) (g : Fin 8) (x : Fin 128) :
    shapeCast S8x160x1024 K h₁ (ix3 b t (⟨g.val * 128 + x.val, by omega⟩ : Fin 1024)) = K (ix4 b t g x) := by
  refine shapeCast_apply _ _ _ _ ?_
  rw [Shape.rowMajor_val_four, Shape.rowMajor_val_three]
  show ((b.val * 160 + t.val) * 8 + g.val) * 128 + x.val = (b.val * 160 + t.val) * 1024 + (g.val * 128 + x.val)
  omega

/-- The scale of the scores, as the program's literal. -/
def scale : EReal := Ideal.ofBits .f32 0x3DB504F3#32

variable (m : (ℓ : Loc nD τ sig) → Buf (Elt Ideal) ℓ) (c : Dev nD)

section entry
variable (Q : FVec Ideal S8x32x32x128 .f32) (K W : FVec Ideal S8x32x8x128 .f32) (C D : FVec Ideal S8x128x8x128 .f32)
  (hQ : m ((c : Thread nD τ).loc main_arg1) = Q) (hK : m ((c : Thread nD τ).loc main_arg2) = K)
  (hW : m ((c : Thread nD τ).loc main_arg3) = W) (hC : m ((c : Thread nD τ).loc main_arg4) = C) (hD : m ((c : Thread nD τ).loc main_arg5) = D)

include hQ in
theorem V7 (b : Fin 8) (s : Fin 32) (h : Fin 32) (x : Fin 128) :
    (V m c main_v7 : FVec Ideal S16640x4096 .bf16) (ix2 ⟨16384 + (b.val * 32 + s.val), by omega⟩ ⟨h.val * 128 + x.val, by omega⟩)
      = Q (ix4 b s h x) * scale := by
  subst hQ
  entry_read
  exact rows_q _ (mulf (m ((c : Thread nD τ).loc main_arg1)) (broadcastInDim S8x32x32x128 ![] bcast_S_S8x32x32x128 (constant S_ FTy.f32 0x3DB504F3#32))) _ _ concatenates_S16384x4096_S256x4096_S16640x4096_d0 b s h x

include hK hC in
theorem V11 (b : Fin 8) (t : Fin 160) (g : Fin 8) (x : Fin 128) :
    (V m c main_v11 : FVec Ideal S8x160x1024 .bf16) (ix3 b t ⟨g.val * 128 + x.val, by omega⟩) = all C K (ix4 b t g x) := by
  subst hK hC
  entry_read
  exact rows_kv (all (m ((c : Thread nD τ).loc main_arg4)) (m ((c : Thread nD τ).loc main_arg2))) shapeCasts_S8x160x8x128_S8x160x1024 b t g x

include hW hD in
theorem V13 (b : Fin 8) (t : Fin 160) (g : Fin 8) (x : Fin 128) :
    (V m c main_v13 : FVec Ideal S8x160x1024 .bf16) (ix3 b t ⟨g.val * 128 + x.val, by omega⟩) = all D W (ix4 b t g x) := by
  subst hW hD
  entry_read
  exact rows_kv (all (m ((c : Thread nD τ).loc main_arg5)) (m ((c : Thread nD τ).loc main_arg3))) shapeCasts_S8x160x8x128_S8x160x1024 b t g x

end entry

/-! ## The grid -/

/-- The grid point of row `b`. -/
def pt (b : Fin 8) : Fin cfg0.N :=
  (⟨b.val, lt_of_lt_of_eq b.isLt (by decide : 8 = grid0.N)⟩ : Fin grid0.N)

theorem widx : ∀ b : Fin 8, win0_1.index (pt b) = ![512 + b.val, 0]
    ∧ win0_2.index (pt b) = ![b.val, 0, 0]
    ∧ win0_3.index (pt b) = ![b.val, 0, 0]
    ∧ win0_4.index (pt b) = ![b.val, 0]
    ∧ win0_0.index (pt b) = ![0] := by decide +kernel

theorem emb1 (b : Fin 8) (r : Fin 32) (l : Fin 4096) :
    ((cfg0.win 1).blk (pt b)).view.emb (ix2 r l) = ix2 (⟨16384 + (b.val * 32 + r.val), by omega⟩ : Fin 16640) l := by
  blk_ext [(widx b).1]

theorem emb2 (b : Fin 8) (t : Fin 160) (l : Fin 1024) :
    ((cfg0.win 2).blk (pt b)).view.emb (ix3 0 t l) = ix3 b t l := by
  blk_ext [(widx b).2.1]

theorem emb3 (b : Fin 8) (t : Fin 160) (l : Fin 1024) :
    ((cfg0.win 3).blk (pt b)).view.emb (ix3 0 t l) = ix3 b t l := by
  blk_ext [(widx b).2.2.1]

theorem emb4 (b : Fin 8) (r : Fin 32) (l : Fin 4096) :
    ((cfg0.win 4).blk (pt b)).view.emb (ix2 r l) = ix2 (⟨b.val * 32 + r.val, by omega⟩ : Fin 256) l := by
  blk_ext [(widx b).2.2.2.1]

theorem emb0 (b : Fin 8) (h : Fin 32) :
    ((cfg0.win 0).blk (pt b)).view.emb (ix1 h) = ix1 h := by
  blk_ext [(widx b).2.2.2.2]

/-! ## The result -/

/-- The kernel's scores of query `r` of head `h` with the row's keys. -/
def scoreK (Q : FVec Ideal S8x32x32x128 .f32) (A : FVec Ideal S8x160x8x128 .f32) (b : Fin 8) (r : Fin 32) (h : Fin 32) (t : Fin 160) : EReal :=
  ∑ x : Fin 128, Q (ix4 b r h x) * scale * A (ix4 b t ⟨h.val / 4, by omega⟩ x)

theorem ld_q (X : Vec Ideal S32x4096 .bf16) (h : Fin 32) (r : Fin 32) (x : Fin 128) :
    View.ld X (rq h) (ix2 r x) = X (ix2 r ⟨h.val * 128 + x.val, by omega⟩) := by
  show X _ = X _
  congr 1
  funext a
  apply Fin.ext
  match a with
  | ⟨0, _⟩ => show 0 + 1 * r.val = r.val; omega
  | ⟨1, _⟩ => show 128 * h.val + 1 * x.val = h.val * 128 + x.val; omega

theorem ld_kv (X : Vec Ideal S1x160x1024 .bf16) (g : Fin 8) (t : Fin 160) (x : Fin 128) :
    View.ld X (rkv g) (ix3 0 t x) = X (ix3 0 t ⟨g.val * 128 + x.val, by omega⟩) := by
  show X _ = X _
  congr 1
  funext a
  apply Fin.ext
  match a with
  | ⟨0, _⟩ => show 0 + 1 * 0 = 0; omega
  | ⟨1, _⟩ => show 0 + 1 * t.val = t.val; omega
  | ⟨2, _⟩ => show 128 * g.val + 1 * x.val = g.val * 128 + x.val; omega

theorem block_apply (Q : FVec Ideal S8x32x32x128 .f32) (A B : FVec Ideal S8x160x8x128 .f32) (z : EReal)
    (b : Fin 8) (r : Fin 32) (h : Fin 32) (d : Fin 128)
    (X0 : Vec Ideal S32 .f32) (X1 : Vec Ideal S32x4096 .bf16) (X2 X3 : Vec Ideal S1x160x1024 .bf16)
    (e0 : X0 (ix1 h) = z)
    (e1 : ∀ (r : Fin 32) (h : Fin 32) (x : Fin 128), X1 (ix2 r ⟨h.val * 128 + x.val, by omega⟩) = Q (ix4 b r h x) * scale)
    (e2 : ∀ (t : Fin 160) (g : Fin 8) (x : Fin 128), X2 (ix3 0 t ⟨g.val * 128 + x.val, by omega⟩) = A (ix4 b t g x))
    (e3 : ∀ (t : Fin 160) (g : Fin 8) (x : Fin 128), X3 (ix3 0 t ⟨g.val * 128 + x.val, by omega⟩) = B (ix4 b t g x)) :
    block X0 X1 X2 X3 (ix2 r ⟨h.val * 128 + d.val, by omega⟩)
      = Ideal.div (∑ t, Ideal.exp (scoreK Q A b r h t - top (scoreK Q A b r h) z) * B (ix4 b t ⟨h.val / 4, by omega⟩ d))
          (mass (scoreK Q A b r h) z) := by
  have hs : score (View.ld X1 (rq h)) (View.ld X2 (rkv ⟨h.val / 4, by omega⟩)) r = scoreK Q A b r h := by
    funext t
    unfold score scoreK
    refine Finset.sum_congr rfl fun x _ => ?_
    rw [ld_kv, e2, ld_q, e1]
  have he : (rq h).emb (ix2 r d) = ix2 r ⟨h.val * 128 + d.val, by omega⟩ := by
    funext a
    apply Fin.ext
    match a with
    | ⟨0, _⟩ => show 0 + 1 * r.val = r.val; omega
    | ⟨1, _⟩ => show 128 * h.val + 1 * d.val = h.val * 128 + d.val; omega
  have hb := block_rq X0 X1 X2 X3 h (ix2 r d)
  rw [he] at hb
  refine hb.trans ?_
  unfold tile
  rw [tile_apply, hs, e0]
  congr 1
  exact Finset.sum_congr rfl fun t _ => congrArg _ ((ld_kv X3 _ t d).trans (e3 t _ d))

theorem kernel_apply (Q : FVec Ideal S8x32x32x128 .f32) (K W : FVec Ideal S8x32x8x128 .f32) (C D : FVec Ideal S8x128x8x128 .f32) (Z : FVec Ideal S32 .f32)
    (hQ : m ((c : Thread nD τ).loc main_arg1) = Q) (hK : m ((c : Thread nD τ).loc main_arg2) = K)
    (hW : m ((c : Thread nD τ).loc main_arg3) = W) (hC : m ((c : Thread nD τ).loc main_arg4) = C) (hD : m ((c : Thread nD τ).loc main_arg5) = D)
    (hZ : m ((c : Thread nD τ).loc main_arg6) = Z)
    (b : Fin 8) (r : Fin 32) (h : Fin 32) (d : Fin 128) :
    ((dats m 0 c).arrAt 4 cfg0.N : FVec Ideal S256x4096 .bf16) (ix2 ⟨b.val * 32 + r.val, by omega⟩ ⟨h.val * 128 + d.val, by omega⟩)
      = Ideal.div (∑ t, Ideal.exp (scoreK Q (all C K) b r h t - top (scoreK Q (all C K) b r h) (Z (ix1 h))) * all D W (ix4 b t ⟨h.val / 4, by omega⟩ d))
          (mass (scoreK Q (all C K) b r h) (Z (ix1 h))) := by
  have hf := (dats m 0 c).arrAt_emb_eq_flushed 4 Value.disjoint4 (pt b) (flush0_4 _) (ix2 r ⟨h.val * 128 + d.val, by omega⟩)
  rw [emb4] at hf
  refine hf.trans ?_
  show (dats m 0 c).after 4 (pt b) (ix2 r ⟨h.val * 128 + d.val, _⟩) = _
  rw [after0_4, outsAt_eq]
  refine block_apply Q (all C K) (all D W) (Z (ix1 h)) b r h d _ _ _ _ ?_ ?_ ?_ ?_
  · show V m c main_arg6 (((cfg0.win 0).blk (pt b)).view.emb (ix1 h)) = _
    rw [emb0, V_main_arg6]; exact congrFun hZ (ix1 h)
  · intro r h x
    show V m c main_v7 (((cfg0.win 1).blk (pt b)).view.emb (ix2 r ⟨h.val * 128 + x.val, _⟩)) = _
    rw [emb1]; exact V7 m c Q hQ b r h x
  · intro t g x
    show V m c main_v11 (((cfg0.win 2).blk (pt b)).view.emb (ix3 0 t ⟨g.val * 128 + x.val, _⟩)) = _
    rw [emb2]; exact V11 m c K C hK hC b t g x
  · intro t g x
    show V m c main_v13 (((cfg0.win 3).blk (pt b)).view.emb (ix3 0 t ⟨g.val * 128 + x.val, _⟩)) = _
    rw [emb3]; exact V13 m c W D hW hD b t g x

end Cert.SampleValue

end
-- ==== Proof.SampleReference.lean ====
/-
  The reference's attention of the samples: an element of its result as a softmax over the 160 keys of a row.
-/
module

public import proofs.«01_k».proof.Proof.SinkSoftmax
public import proofs.«01_k».proof.Proof.Gen.Reference5Ideal.Read
public import Idealize.ShloMosaic.Lib.Pointwise
public import Idealize.ShloMosaic.Lib.KernelVsHost

@[expose] public section

set_option maxRecDepth 16384

noncomputable section

namespace Cert.SampleReference

open Cert.Reference5Ideal Cert.Reference5Ideal.Gen Cert.Reference5Ideal.Read Cert.SinkSoftmax Idealize.ShloMosaic Idealize.ShloMosaic.TcCoe Idealize.SL.Sem

theorem query_read (Q : FVec Ideal S8x32x32x128 .f32) (b : Fin 8) (r : Fin 32) (g : Fin 8) (j : Fin 4) (x : Fin 128) :
    val_main_v2 (F := Ideal) Q (ix5 b r g j x) = Q (ix4 b r ⟨g.val * 4 + j.val, by omega⟩ x) := by
  unfold val_main_v2
  refine shapeCast_apply _ _ _ _ ?_
  rw [Shape.rowMajor_val_four, Shape.rowMajor_val_five]
  show ((b.val * 32 + r.val) * 32 + (g.val * 4 + j.val)) * 128 + x.val = (((b.val * 32 + r.val) * 8 + g.val) * 4 + j.val) * 128 + x.val
  omega

/-- The scale of the scores, as the program's literal. -/
def scale : EReal := Ideal.ofBits .f32 0x3DB504F3#32

/-- The reference's scores of query `r` with the row's keys. -/
def scoreR (Q : FVec Ideal S8x32x32x128 .f32) (A : FVec Ideal S8x160x8x128 .f32) (b : Fin 8) (g : Fin 8) (j : Fin 4) (r : Fin 32) (n : Fin 160) : EReal :=
  (∑ x, A (ix4 b n g x) * Q (ix4 b r ⟨g.val * 4 + j.val, by omega⟩ x)) * scale

theorem neg_inf : Ideal.ofBits FTy.f32 0xFF800000#32 = ⊥ := by
  simp [Ideal.ofBits, Ideal.ieee]

variable (Q : FVec Ideal S8x32x32x128 .f32) (K W : FVec Ideal S8x32x8x128 .f32) (C D : FVec Ideal S8x128x8x128 .f32) (Z : FVec Ideal S32 .f32)

theorem score_read (b : Fin 8) (g : Fin 8) (j : Fin 4) (r : Fin 32) (n : Fin 160) :
    val_main_v6 (F := Ideal) Q K C (ix5 b g j r n) = scoreR Q (val_main_v0 (F := Ideal) K C) b g j r n := by
  rw [val_main_v6_apply, val_main_v4_apply, val_main_v3_apply]
  show (∑ k, _) * scale = _
  unfold scoreR
  congr 1
  refine Finset.sum_congr rfl fun x _ => ?_
  rw [← query_read Q b r g j x]
  congr 2
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl | ⟨4, _⟩ => rfl

/-! ## The softmax -/

theorem sink_read (b : Fin 8) (g : Fin 8) (j : Fin 4) (r : Fin 32) :
    val_main_v10 (F := Ideal) Z (ix4 b g j r) = Z (ix1 ⟨g.val * 4 + j.val, by omega⟩) := by
  rw [val_main_v10_apply, val_main_v9_apply, val_main_v7_apply]
  congr 1
  funext a
  match a with
  | ⟨0, _⟩ => apply Fin.ext; show (g.val * 4 + j.val) * 1 + 0 = g.val * 4 + j.val; omega

theorem max_read (b : Fin 8) (g : Fin 8) (j : Fin 4) (r : Fin 32) :
    val_main_v11 (F := Ideal) Q K C Z (ix4 b g j r) = top (scoreR Q (val_main_v0 (F := Ideal) K C) b g j r) (Z (ix1 ⟨g.val * 4 + j.val, by omega⟩)) := by
  rw [val_main_v11_apply, sink_read]
  unfold top
  show max _ _ = _
  refine congrArg (fun e => max e (Z (ix1 ⟨g.val * 4 + j.val, by omega⟩))) ?_
  unfold val_main_v8
  have hR : S8x8x4x32x160.Reduces [4] S8x8x4x32 := by decide
  refine (Host.reduce_eq_fold_single (FloatOps.maximumf (F := Ideal) (φ := .f32)) _ _ reducesTo_S8x8x4x32x160_S8x8x4x32_d4 hR h_S_ (ix4 b g j r)).trans ?_
  show Finset.fold max (Ideal.ofBits FTy.f32 0xFF800000#32) (fun n : Fin 160 => val_main_v6 (F := Ideal) Q K C (hR.lift (ix4 b g j r) n)) Finset.univ = _
  rw [neg_inf]
  refine Finset.fold_congr fun n _ => ?_
  rw [← score_read]
  congr 1
  funext a; apply Fin.ext
  match a with | ⟨0, _⟩ => rfl | ⟨1, _⟩ => rfl | ⟨2, _⟩ => rfl | ⟨3, _⟩ => rfl | ⟨4, _⟩ => rfl

theorem exp_read (b : Fin 8) (g : Fin 8) (j : Fin 4) (r : Fin 32) (n : Fin 160) :
    val_main_v15 (F := Ideal) Q K C Z (ix5 b g j r n)
      = Ideal.exp (scoreR Q (val_main_v0 (F := Ideal) K C) b g j r n - top (scoreR Q (val_main_v0 (F := Ideal) K C) b g j r) (Z (ix1 ⟨g.val * 4 + j.val, by omega⟩))) := by
  rw [val_main_v15_apply, val_main_v14_apply, score_read, val_main_v13_apply, val_main_v12_apply, ← max_read Q K C Z b g j r]
  show Ideal.exp (_ - _) = Ideal.exp (_ - _)
  congr 3
  funext a; match a with | ⟨0, _⟩ => rfl | ⟨1, _⟩ => rfl | ⟨2, _⟩ => rfl | ⟨3, _⟩ => rfl

theorem mass_read (b : Fin 8) (g : Fin 8) (j : Fin 4) (r : Fin 32) :
    val_main_v21 (F := Ideal) Q K C Z (ix4 b g j r) = mass (scoreR Q (val_main_v0 (F := Ideal) K C) b g j r) (Z (ix1 ⟨g.val * 4 + j.val, by omega⟩)) := by
  rw [val_main_v21_apply, val_main_v16_apply, val_main_v20_apply, val_main_v19_apply, max_read]
  unfold mass
  have h0 : (val_main_cst_1 (F := Ideal)) (Shape.Idx.first h_S_) = (0 : EReal) := by
    show Ideal.ofBits FTy.f32 0#32 = 0
    simp [Ideal.ofBits, Ideal.ieee]
  have hs : val_main_v18 (F := Ideal) Z (ix4 b g j r) = Z (ix1 ⟨g.val * 4 + j.val, by omega⟩) := sink_read Z b g j r
  rw [hs, h0, zero_add]
  show (∑ n, _) + Ideal.exp (_ - _) = _
  congr 1
  refine Finset.sum_congr rfl fun n _ => ?_
  rw [← exp_read]
  congr 1
  funext a; match a with | ⟨0, _⟩ => rfl | ⟨1, _⟩ => rfl | ⟨2, _⟩ => rfl | ⟨3, _⟩ => rfl | ⟨4, _⟩ => rfl

theorem reference_apply (b : Fin 8) (r : Fin 32) (g : Fin 8) (j : Fin 4) (d : Fin 128) :
    val_main_v28 (F := Ideal) Q K W C D Z (ix2 (⟨b.val * 32 + r.val, by omega⟩ : Fin 256) (⟨(g.val * 4 + j.val) * 128 + d.val, by omega⟩ : Fin 4096))
      = ∑ n, val_main_v1 (F := Ideal) W D (ix4 b n g d)
          * Ideal.div (Ideal.exp (scoreR Q (val_main_v0 (F := Ideal) K C) b g j r n - top (scoreR Q (val_main_v0 (F := Ideal) K C) b g j r) (Z (ix1 ⟨g.val * 4 + j.val, by omega⟩))))
              (mass (scoreR Q (val_main_v0 (F := Ideal) K C) b g j r) (Z (ix1 ⟨g.val * 4 + j.val, by omega⟩))) := by
  have h26 : val_main_v26 (F := Ideal) Q K W C D Z (ix5 b r g j d)
      = ∑ n, val_main_v1 (F := Ideal) W D (ix4 b n g d)
          * Ideal.div (Ideal.exp (scoreR Q (val_main_v0 (F := Ideal) K C) b g j r n - top (scoreR Q (val_main_v0 (F := Ideal) K C) b g j r) (Z (ix1 ⟨g.val * 4 + j.val, by omega⟩))))
              (mass (scoreR Q (val_main_v0 (F := Ideal) K C) b g j r) (Z (ix1 ⟨g.val * 4 + j.val, by omega⟩))) := by
    rw [val_main_v26_apply, val_main_v25_apply]
    refine Finset.sum_congr rfl fun n _ => ?_
    have e1 : lidx_main_v25 (idx_main_v26 (ix5 b r g j d)) n = ix4 b n g d := by
      funext a; match a with | ⟨0, _⟩ => rfl | ⟨1, _⟩ => rfl | ⟨2, _⟩ => rfl | ⟨3, _⟩ => rfl
    have e2 : ridx_main_v25 (idx_main_v26 (ix5 b r g j d)) n = ix5 b g j r n := by
      funext a; match a with | ⟨0, _⟩ => rfl | ⟨1, _⟩ => rfl | ⟨2, _⟩ => rfl | ⟨3, _⟩ => rfl | ⟨4, _⟩ => rfl
    rw [e1, e2, val_main_v24_apply, exp_read, val_main_v23_apply, val_main_v22_apply, ← mass_read]
    show _ * Ideal.div _ _ = _ * Ideal.div _ _
    congr 3
    funext a; match a with | ⟨0, _⟩ => rfl | ⟨1, _⟩ => rfl | ⟨2, _⟩ => rfl | ⟨3, _⟩ => rfl
  rw [← h26]
  show val_main_v27 (F := Ideal) _ _ _ _ _ _ _ = _
  unfold val_main_v27
  refine shapeCast_apply _ _ _ _ ?_
  rw [Shape.rowMajor_val_two, Shape.rowMajor_val_five]
  show (((b.val * 32 + r.val) * 8 + g.val) * 4 + j.val) * 128 + d.val = (b.val * 32 + r.val) * 4096 + ((g.val * 4 + j.val) * 128 + d.val)
  omega

end Cert.SampleReference

end
-- ==== Proof.SampleClaim.lean ====
/-
  The samples' attention: the kernel's array is the reference's, element by element.
-/
module

public import proofs.«01_k».proof.Defs
public import proofs.«01_k».proof.Proof.SampleValue
public import proofs.«01_k».proof.Proof.SampleReference
public import proofs.«01_k».proof.Proof.SwaAlgebra
public import proofs.«01_k».proof.Proof.Gen.Kernel5Ideal.Value
public import proofs.«01_k».proof.Proof.Gen.Reference5Ideal.Run

@[expose] public section

set_option maxRecDepth 16384

noncomputable section

namespace Cert.SampleClaim

open Cert.SinkSoftmax Cert.SampleValue Cert.SampleReference Idealize.ShloMosaic Idealize.ShloMosaic.TcCoe Idealize.SL.Sem
open Cert.SwaAlgebra (Real real_mul real_sum real_of_bit scale_real)

/-! ## The precondition -/

/-- The side conditions the precondition states. -/
theorem pre_facts : Cert.Pre_finite_sample.Facts where
  bcast_S_S8x32x32x128 := by decide
  reducesTo_S8x32x32x128_S_d0_1_2_3 := by decide
  h_S_ := by decide
  bcast_S_S8x32x8x128 := by decide
  reducesTo_S8x32x8x128_S_d0_1_2_3 := by decide
  bcast_S_S8x128x8x128 := by decide
  reducesTo_S8x128x8x128_S_d0_1_2_3 := by decide
  bcast_S_S32 := by decide
  reducesTo_S32_S_d0 := by decide

variable (Q : FVec Ideal ⟨4, ![8, 32, 32, 128]⟩ .f32) (K W : FVec Ideal ⟨4, ![8, 32, 8, 128]⟩ .f32) (C D : FVec Ideal ⟨4, ![8, 128, 8, 128]⟩ .f32)
  (Z : FVec Ideal ⟨1, ![32]⟩ .f32)

theorem finite_of [Cert.Pre_finite_sample.Facts] (P : FVec Ideal ⟨4, ![2, 8192, 32, 128]⟩ .f32)
    (h : Cert.Pre_finite_sample.fn (F := Ideal) P Q K W C D Z = fun _ => 1#1) :
    (∀ i, Real (Q i)) ∧ (∀ i, Real (K i)) ∧ (∀ i, Real (C i)) ∧ ∀ i, Real (Z i) := by
  have h0 := congrFun h (fun a => a.elim0)
  obtain ⟨h1, h2⟩ := IntOp.andi_eq_one.1 h0
  obtain ⟨h3, h4⟩ := IntOp.andi_eq_one.1 h1
  obtain ⟨h5, h6⟩ := IntOp.andi_eq_one.1 h3
  refine ⟨fun i => real_of_bit ?_, fun i => real_of_bit ?_, fun i => real_of_bit ?_, fun i => real_of_bit ?_⟩
  · exact Host.reduce_andi_all _ _ _ _ _ h5 i
  · exact Host.reduce_andi_all _ _ _ _ _ h6 i
  · exact Host.reduce_andi_all _ _ _ _ _ h4 i
  · exact Host.reduce_andi_all _ _ _ _ _ h2 i

/-! ## The algebra -/

/-- Of reals, the cached keys and then the new ones are reals. -/
theorem all_real (hC : ∀ i, Real (C i)) (hK : ∀ i, Real (K i)) (b : Fin 8) (n : Fin 160) (g : Fin 8) (x : Fin 128) :
    Real (all C K (ix4 b n g x)) := by
  by_cases h : n.val < 128
  · have e : all C K (ix4 b n g x) = C (ix4 b (⟨n.val, h⟩ : Fin 128) g x) :=
      concatenate_pair_apply_left (t := Cert.Kernel5Ideal.S8x160x8x128) 1 C K _ (ix4 b n g x) rfl (ix4 b (⟨n.val, h⟩ : Fin 128) g x)
        (fun a => match a with | ⟨0, _⟩ => rfl | ⟨1, _⟩ => rfl | ⟨2, _⟩ => rfl | ⟨3, _⟩ => rfl)
    rw [e]; exact hC _
  · have e : all C K (ix4 b n g x) = K (ix4 b (⟨n.val - 128, by omega⟩ : Fin 32) g x) := by
      refine concatenate_pair_apply_right (t := Cert.Kernel5Ideal.S8x160x8x128) 1 C K _ (ix4 b n g x) rfl rfl (ix4 b (⟨n.val - 128, by omega⟩ : Fin 32) g x) (fun a => ?_) ?_
      · match a with
        | ⟨0, _⟩ => exact fun _ => rfl
        | ⟨1, _⟩ => exact fun h => absurd rfl h
        | ⟨2, _⟩ => exact fun _ => rfl
        | ⟨3, _⟩ => exact fun _ => rfl
      · show n.val - 128 + 128 = n.val; omega
    rw [e]; exact hK _

theorem score_eq (A : FVec Ideal ⟨4, ![8, 160, 8, 128]⟩ .f32) (b : Fin 8) (r : Fin 32) (g : Fin 8) (j : Fin 4) (n : Fin 160) :
    scoreK Q A b r ⟨g.val * 4 + j.val, by omega⟩ n = scoreR Q A b g j r n := by
  unfold scoreK scoreR
  obtain ⟨a, ha, hs⟩ := scale_real
  have hs' : SampleReference.scale = (a : EReal) := hs
  have hs'' : SampleValue.scale = (a : EReal) := hs
  rw [hs', sum_mul_real _ ha]
  refine Finset.sum_congr rfl fun x _ => ?_
  have hg : (⟨(g.val * 4 + j.val) / 4, by omega⟩ : Fin 8) = g := Fin.ext (by dsimp only; omega)
  dsimp only
  rw [hg, hs'', mul_assoc, mul_comm (a : EReal), ← mul_assoc, mul_comm (Q _)]

theorem score_ne_top (A : FVec Ideal ⟨4, ![8, 160, 8, 128]⟩ .f32) (hQ : ∀ i, Real (Q i)) (b : Fin 8) (r : Fin 32) (g : Fin 8) (j : Fin 4) (n : Fin 160)
    (hA : ∀ x : Fin 128, Real (A (ix4 b n g x))) : scoreR Q A b g j r n ≠ ⊤ := by
  unfold scoreR
  obtain ⟨a, _, ha⟩ := scale_real
  obtain ⟨s, hs⟩ := real_mul (real_sum (fun x : Fin 128 => A (ix4 b n g x) * Q (ix4 b r ⟨g.val * 4 + j.val, by omega⟩ x))
    fun x => real_mul (hA x) (hQ _)) ⟨a, ha⟩
  have hs' : (∑ x : Fin 128, A (ix4 b n g x) * Q (ix4 b r ⟨g.val * 4 + j.val, by omega⟩ x)) * SampleReference.scale = (s : EReal) := hs
  rw [hs']
  exact EReal.coe_ne_top s

/-- The kernel's element is the reference's. -/
theorem element_eq (A B : FVec Ideal ⟨4, ![8, 160, 8, 128]⟩ .f32) (hQ : ∀ i, Real (Q i))
    (hA : ∀ (b : Fin 8) (n : Fin 160) (g : Fin 8) (x : Fin 128), Real (A (ix4 b n g x))) (a : ℝ)
    (b : Fin 8) (r : Fin 32) (g : Fin 8) (j : Fin 4) (d : Fin 128) :
    Ideal.div (∑ t, Ideal.exp (scoreK Q A b r ⟨g.val * 4 + j.val, by omega⟩ t - top (scoreK Q A b r ⟨g.val * 4 + j.val, by omega⟩) a) * B (ix4 b t g d))
        (mass (scoreK Q A b r ⟨g.val * 4 + j.val, by omega⟩) a)
      = ∑ n, B (ix4 b n g d) * Ideal.div (Ideal.exp (scoreR Q A b g j r n - top (scoreR Q A b g j r) a)) (mass (scoreR Q A b g j r) a) :=
  value_eq _ (fun t : Fin 160 => B (ix4 b t g d)) _ (fun n : Fin 160 => B (ix4 b n g d)) id Function.injective_id
    (fun t ht => absurd rfl (ht t)) (fun n => score_eq Q A b r g j n) (fun _ _ => rfl)
    (fun n => score_ne_top Q A hQ b r g j n fun x => hA b n g x) a

/-! ## The array -/

/-- Every element of a result of 256 rows and 4096 columns, by its row of the batch, its query and its head. -/
theorem index_split (y : Cert.Kernel5Ideal.S256x4096.Idx) : ∃ (b : Fin 8) (r : Fin 32) (g : Fin 8) (j : Fin 4) (d : Fin 128),
    y = ix2 (⟨b.val * 32 + r.val, by omega⟩ : Fin 256) (⟨(g.val * 4 + j.val) * 128 + d.val, by omega⟩ : Fin 4096) := by
  have h0 : (y 0).val < 256 := (y 0).isLt
  have h1 : (y 1).val < 4096 := (y 1).isLt
  refine ⟨⟨(y 0).val / 32, by omega⟩, ⟨(y 0).val % 32, by omega⟩,
    ⟨(y 1).val / 512, by omega⟩, ⟨(y 1).val / 128 % 4, by omega⟩, ⟨(y 1).val % 128, by omega⟩, ?_⟩
  funext a
  match a with
  | ⟨0, _⟩ =>
    apply Fin.ext
    show (y 0).val = (y 0).val / 32 * 32 + (y 0).val % 32
    omega
  | ⟨1, _⟩ =>
    apply Fin.ext
    show (y 1).val = ((y 1).val / 512 * 4 + (y 1).val / 128 % 4) * 128 + (y 1).val % 128
    omega

variable (m : (ℓ : Loc Cert.Kernel5Ideal.nD Cert.Kernel5Ideal.τ Cert.Kernel5Ideal.sig) → Buf (Elt Ideal) ℓ) (c : Dev Cert.Kernel5Ideal.nD)

theorem array_eq
    (hQ : m ((c.tc : Thread Cert.Kernel5Ideal.nD Cert.Kernel5Ideal.τ).loc Cert.Kernel5Ideal.main_arg1) = Q)
    (hK : m ((c.tc : Thread Cert.Kernel5Ideal.nD Cert.Kernel5Ideal.τ).loc Cert.Kernel5Ideal.main_arg2) = K)
    (hW : m ((c.tc : Thread Cert.Kernel5Ideal.nD Cert.Kernel5Ideal.τ).loc Cert.Kernel5Ideal.main_arg3) = W)
    (hC : m ((c.tc : Thread Cert.Kernel5Ideal.nD Cert.Kernel5Ideal.τ).loc Cert.Kernel5Ideal.main_arg4) = C)
    (hD : m ((c.tc : Thread Cert.Kernel5Ideal.nD Cert.Kernel5Ideal.τ).loc Cert.Kernel5Ideal.main_arg5) = D)
    (hZ : m ((c.tc : Thread Cert.Kernel5Ideal.nD Cert.Kernel5Ideal.τ).loc Cert.Kernel5Ideal.main_arg6) = Z)
    (fQ : ∀ i, Real (Q i)) (fK : ∀ i, Real (K i)) (fC : ∀ i, Real (C i)) (fZ : ∀ i, Real (Z i)) :
    ((Cert.Kernel5Ideal.Gen.dats m 0 c).arrAt 4 Cert.Kernel5Ideal.cfg0.N : FVec Ideal Cert.Kernel5Ideal.S256x4096 .bf16)
      = Cert.Reference5Ideal.Read.val_main_v28 (F := Ideal) Q K W C D Z := by
  funext y
  obtain ⟨b, r, g, j, d, rfl⟩ := index_split y
  obtain ⟨a, ha⟩ := fZ (ix1 ⟨g.val * 4 + j.val, by omega⟩)
  refine (kernel_apply m c Q K W C D Z hQ hK hW hC hD hZ b r ⟨g.val * 4 + j.val, by omega⟩ d).trans ?_
  have hg : (⟨(g.val * 4 + j.val) / 4, by omega⟩ : Fin 8) = g := Fin.ext (by dsimp only; omega)
  refine Eq.trans ?_ (reference_apply Q K W C D Z b r g j d).symm
  have hA : Cert.Reference5Ideal.Read.val_main_v0 (F := Ideal) K C = all C K := rfl
  have hB : Cert.Reference5Ideal.Read.val_main_v1 (F := Ideal) W D = all D W := rfl
  rw [ha, hA, hB]
  refine Eq.trans ?_ (element_eq Q (all C K) (all D W) fQ (all_real K C fC fK) a b r g j d)
  dsimp only
  rw [hg]

theorem value [hPre_finite_sample : Cert.Pre_finite_sample.Facts] : Cert.algebraic_Kernel5Ideal_Reference5Ideal_pre_finite_sample := by
  intro m ρ m' ρ' hpre hagree
  refine ⟨fun c => Cert.Reference5Ideal.Value.res_main_v28 m' c, ?_, ?_⟩
  · refine (θ_run Cert.Kernel5Ideal.defs _ _).mono (fun r h c => ⟨(h c).1.trans ?_, (h c).2⟩) (Cert.Kernel5Ideal.Value.run_blocks m ρ)
    obtain ⟨-, a1, a2, a3, a4, a5, a6⟩ := hagree c
    obtain ⟨fQ, fK, fC, fZ⟩ := finite_of _ _ _ _ _ _ _ (hpre c)
    exact (array_eq _ _ _ _ _ _ m c a1.symm a2.symm a3.symm a4.symm a5.symm a6.symm
      (by rw [a1]; exact fQ) (by rw [a2]; exact fK) (by rw [a4]; exact fC) (by rw [a6]; exact fZ)).trans
      (Cert.Reference5Ideal.Read.val_main_v28_eq m' c).symm
  · exact Cert.Reference5Ideal.Value.run m' ρ'

end Cert.SampleClaim

end
-- ==== Proof.RouterLogits.lean ====
/-
  The router's logits: the kernel's four results are the reference's.
-/
module

public import proofs.«01_k».proof.Defs
public import proofs.«01_k».proof.Proof.RowLayout
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Tactic.CleanTypes
public import Idealize.ShloMosaic.Lib.Claim
public import Idealize.ShloMosaic.Lib.Pipeline.ValueKit.Point

@[expose] public section

set_option maxRecDepth 16384

noncomputable section

namespace Cert.RouterLogits

open Cert.Kernel6Ideal Cert.Kernel6Ideal.Gen Cert.RowLayout Idealize.ShloMosaic Idealize.ShloMosaic.TcCoe Idealize.SL.Sem

section columns
variable {F : FTy → Type} {e : EltTy} {n w : Nat}

/-- Some columns of the prompt's rows of a joined array, by batch and position. -/
theorem split_prompt_cols (o : Nat) (hw : o + w ≤ n) (x : (⟨⟨2, ![16640, n]⟩, e⟩ : BufTy).Contents (Elt F)) (h₁ h₂) (b : Fin 2) (s : Fin 8192) (j : Fin w) :
    shapeCast (⟨3, ![2, 8192, w]⟩ : Shape) (extractStridedSlice (⟨2, ![16384, w]⟩ : Shape) ![0, o] x h₁) h₂ (ix3 b s j)
      = x (ix2 (rowP b s) (⟨o + j.val, by omega⟩ : Fin n)) := by
  refine (shapeCast_apply _ _ _ (ix2 (⟨b.val * 8192 + s.val, by omega⟩ : Fin 16384) j) ?_).trans ?_
  · rw [Shape.rowMajor_val_three, Shape.rowMajor_val_two]
    rfl
  · refine congrArg x (funext fun a => Fin.ext ?_)
    match a with
    | ⟨0, _⟩ => show 0 + (b.val * 8192 + s.val) = b.val * 8192 + s.val; omega
    | ⟨1, _⟩ => rfl

/-- Some columns of the samples' rows of a joined array, by row and position. -/
theorem split_sample_cols (o : Nat) (hw : o + w ≤ n) (x : (⟨⟨2, ![16640, n]⟩, e⟩ : BufTy).Contents (Elt F)) (h₁ h₂) (b : Fin 8) (s : Fin 32) (j : Fin w) :
    shapeCast (⟨3, ![8, 32, w]⟩ : Shape) (extractStridedSlice (⟨2, ![256, w]⟩ : Shape) ![16384, o] x h₁) h₂ (ix3 b s j)
      = x (ix2 (rowS b s) (⟨o + j.val, by omega⟩ : Fin n)) := by
  refine (shapeCast_apply _ _ _ (ix2 (⟨b.val * 32 + s.val, by omega⟩ : Fin 256) j) ?_).trans ?_
  · rw [Shape.rowMajor_val_three, Shape.rowMajor_val_two]
    rfl
  · refine congrArg x (funext fun a => Fin.ext ?_)
    match a with
    | ⟨0, _⟩ => rfl
    | ⟨1, _⟩ => rfl

end columns

/-- The product of whole arrays. -/
def prodRow (X : FVec Ideal S16640x4096 .bf16) (W : FVec Ideal S4096x128 .bf16) : FVec Ideal S16640x128 .f32 :=
  fun y => ∑ k : Fin 4096, X (ix2 (y 0) k) * W (ix2 k (y 1))

/-- The product of a block of rows. -/
def prodBlock (x : FVec Ideal S1280x4096 .bf16) (w : FVec Ideal S4096x128 .bf16) : FVec Ideal S1280x128 .f32 :=
  fun y => ∑ k : Fin 4096, x (ix2 (y 0) k) * w (ix2 k (y 1))

theorem pay_apply (x : FVec Ideal S1280x4096 .bf16) (w : FVec Ideal S4096x128 .bf16) (r : Fin 1280) (l : Fin 128) :
    k0_pay1 x w (ix2 r l) = prodBlock x w (ix2 r l) := by
  unfold prodBlock
  pointwise [k0_pay1]

variable (m : (ℓ : Loc nD τ sig) → Buf (Elt Ideal) ℓ) (c : Dev nD)

theorem widx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The row of the array that row `r` of the blocks at point `t` is. -/
def row (t : Fin cfg0.N) (r : Fin 1280) : Fin 16640 :=
  ⟨(grid0.coords t 0).val * 1280 + r.val, by have h : (grid0.coords t 0).val < 13 := (grid0.coords t 0).isLt; omega⟩

theorem emb0 (t : Fin cfg0.N) (r : Fin 1280) (k : Fin 4096) : ((cfg0.win 0).blk t).view.emb (ix2 r k) = ix2 (row t r) k := by
  unfold row; blk_ext [(widx t).1]

theorem emb1 (t : Fin cfg0.N) (k : Fin 4096) (l : Fin 128) : ((cfg0.win 1).blk t).view.emb (ix2 k l) = ix2 k l := by
  blk_ext [(widx t).2.1]

theorem emb2 (t : Fin cfg0.N) (r : Fin 1280) (l : Fin 128) : ((cfg0.win 2).blk t).view.emb (ix2 r l) = ix2 (row t r) l := by
  unfold row; blk_ext [(widx t).2.2]

theorem array_eq : ((dats m 0 c).arrAt 2 cfg0.N : FVec Ideal S16640x128 .f32) = prodRow (V m c main_v3) (V m c main_v6) := by
  refine (dats m 0 c).arrAt_eq_of_covers 2 _ (by decide +kernel) fun t hf y => ?_
  blk_simp
  rw [after0_2]
  frame_out
  obtain ⟨r, l, rfl⟩ : ∃ r l, y = ix2 r l := ⟨y 0, y 1, eq_ix2 y⟩
  rw [pay_apply]
  refine Eq.trans ?_ (congrArg (prodRow (V m c main_v3) (V m c main_v6)) (emb2 t r l)).symm
  have key : ∀ (X : FVec Ideal S16640x4096 .bf16) (W : FVec Ideal S4096x128 .bf16),
      (∑ k : Fin 4096, X (((cfg0.win 0).blk t).view.emb (ix2 r k)) * W (((cfg0.win 1).blk t).view.emb (ix2 k l)))
        = prodRow X W (ix2 (row t r) l) := fun X W => by
    refine Finset.sum_congr rfl fun k _ => ?_
    exact congr (congrArg _ (congrArg X (emb0 t r k))) (congrArg W (emb1 t k l))
  exact key (V m c main_v3) (V m c main_v6)

section results
variable (A : FVec Ideal S16640x128 .f32)

/-- The prompt rows against the group weights, -/
def groupP : FVec Ideal S2x8192x8 .f32 := shapeCast S2x8192x8 (extractStridedSlice S16384x8 ![0, 0] A slices_S16640x128_S16384x8_0_0) shapeCasts_S16384x8_S2x8192x8

/-- the samples' rows against them, -/
def groupS : FVec Ideal S8x32x8 .f32 := shapeCast S8x32x8 (extractStridedSlice S256x8 ![16384, 0] A slices_S16640x128_S256x8_16384_0) shapeCasts_S256x8_S8x32x8

/-- the prompt rows against the expert weights, -/
def expertP : FVec Ideal S2x8192x64 .f32 := shapeCast S2x8192x64 (extractStridedSlice S16384x64 ![0, 8] A slices_S16640x128_S16384x64_0_8) shapeCasts_S16384x64_S2x8192x64

/-- and the samples' rows against them. -/
def expertS : FVec Ideal S8x32x64 .f32 := shapeCast S8x32x64 (extractStridedSlice S256x64 ![16384, 8] A slices_S16640x128_S256x64_16384_8) shapeCasts_S256x64_S8x32x64

end results

theorem run_results (ρ : Dev nD → PrngReg) :
    θ_run defs (onTc (τ := τ) (main (F := Ideal))) ⟨m, fun _ => 0, ρ⟩ fun r => ∀ c : Dev nD,
      r.2.mem ((c : Thread nD τ).loc main_v9) = groupP (prodRow (V m c main_v3) (V m c main_v6))
      ∧ r.2.mem ((c : Thread nD τ).loc main_v11) = groupS (prodRow (V m c main_v3) (V m c main_v6))
      ∧ r.2.mem ((c : Thread nD τ).loc main_v13) = expertP (prodRow (V m c main_v3) (V m c main_v6))
      ∧ r.2.mem ((c : Thread nD τ).loc main_v15) = expertS (prodRow (V m c main_v3) (V m c main_v6)) := by
  refine (θ_run defs _ _).mono (fun r h c => ⟨?_, ?_, ?_, ?_⟩) (run_main m ρ)
  · refine ((h c).2 main_v9 (Pipeline.mem_restRefs_of main_v9 (by decide) (by decide))).trans ?_
    unfold Pipeline.afterTail₀
    entry_read
    rw [← array_eq]
    exact congrArg groupP
      (Pipeline.withArrays_arr spec0 launch0.win.arr_inj c (V0 m c) (fun w => (dats m 0 c).arrAt w cfg0.N) 2)
  · refine ((h c).2 main_v11 (Pipeline.mem_restRefs_of main_v11 (by decide) (by decide))).trans ?_
    unfold Pipeline.afterTail₀
    entry_read
    rw [← array_eq]
    exact congrArg groupS
      (Pipeline.withArrays_arr spec0 launch0.win.arr_inj c (V0 m c) (fun w => (dats m 0 c).arrAt w cfg0.N) 2)
  · refine ((h c).2 main_v13 (Pipeline.mem_restRefs_of main_v13 (by decide) (by decide))).trans ?_
    unfold Pipeline.afterTail₀
    entry_read
    rw [← array_eq]
    exact congrArg expertP
      (Pipeline.withArrays_arr spec0 launch0.win.arr_inj c (V0 m c) (fun w => (dats m 0 c).arrAt w cfg0.N) 2)
  · refine ((h c).2 main_v15 (Pipeline.mem_restRefs_of main_v15 (by decide) (by decide))).trans ?_
    unfold Pipeline.afterTail₀
    entry_read
    rw [← array_eq]
    exact congrArg expertS
      (Pipeline.withArrays_arr spec0 launch0.win.arr_inj c (V0 m c) (fun w => (dats m 0 c).arrAt w cfg0.N) 2)

section entry
variable (X : FVec Ideal S2x8192x4096 .f32) (X' : FVec Ideal S8x32x4096 .f32) (G : FVec Ideal S4096x8 .f32) (E : FVec Ideal S4096x64 .f32)
  (hX : m ((c : Thread nD τ).loc main_arg0) = X) (hX' : m ((c : Thread nD τ).loc main_arg1) = X')
  (hG : m ((c : Thread nD τ).loc main_arg2) = G) (hE : m ((c : Thread nD τ).loc main_arg3) = E)

include hX in
theorem V3P (b : Fin 2) (s : Fin 8192) (j : Fin 4096) : (V m c main_v3 : FVec Ideal S16640x4096 .bf16) (ix2 (rowP b s) j) = X (ix3 b s j) := by
  subst hX
  entry_read
  exact join_prompt (F := Ideal) (e := .f32) (m ((c : Thread nD τ).loc main_arg0)) (m ((c : Thread nD τ).loc main_arg1)) _ _ concatenates_S16384x4096_S256x4096_S16640x4096_d0 b s j

include hX' in
theorem V3S (b : Fin 8) (s : Fin 32) (j : Fin 4096) : (V m c main_v3 : FVec Ideal S16640x4096 .bf16) (ix2 (rowS b s) j) = X' (ix3 b s j) := by
  subst hX'
  entry_read
  exact join_sample (F := Ideal) (e := .f32) (m ((c : Thread nD τ).loc main_arg0)) (m ((c : Thread nD τ).loc main_arg1)) _ _ concatenates_S16384x4096_S256x4096_S16640x4096_d0 b s j

theorem side {w : Nat} (k : Fin 4096) (j : Fin w) (j' : Fin 128) : ∀ a : Fin 2, a ≠ 1 → (ix2 k j a).val = (ix2 k j' a).val := fun a ha => by
  match a with
  | ⟨0, _⟩ => rfl
  | ⟨1, _⟩ => exact absurd rfl ha

theorem weights_G (g : FVec Ideal S4096x8 .f32) (e : FVec Ideal S4096x64 .f32) (z : FVec Ideal S4096x56 .f32)
    (hc : Shape.Concatenates [S4096x8, S4096x64, S4096x56] S4096x128 1) (k : Fin 4096) (j : Fin 8) :
    (concatenate S4096x128 1 [⟨S4096x8, g⟩, ⟨S4096x64, e⟩, ⟨S4096x56, z⟩] hc : FVec Ideal S4096x128 .f32) (ix2 k (⟨0 + j.val, by omega⟩ : Fin 128)) = g (ix2 k j) :=
  concatenate_apply_piece (t := S4096x128) 1 [⟨S4096x8, g⟩, ⟨S4096x64, e⟩, ⟨S4096x56, z⟩] hc _ 0 (by simp) S4096x8 _ rfl rfl 0 (by simp) (ix2 k j) (fun a ha => side k j _ a ha) rfl

theorem weights_E (g : FVec Ideal S4096x8 .f32) (e : FVec Ideal S4096x64 .f32) (z : FVec Ideal S4096x56 .f32)
    (hc : Shape.Concatenates [S4096x8, S4096x64, S4096x56] S4096x128 1) (k : Fin 4096) (j : Fin 64) :
    (concatenate S4096x128 1 [⟨S4096x8, g⟩, ⟨S4096x64, e⟩, ⟨S4096x56, z⟩] hc : FVec Ideal S4096x128 .f32) (ix2 k (⟨8 + j.val, by omega⟩ : Fin 128)) = e (ix2 k j) :=
  concatenate_apply_piece (t := S4096x128) 1 [⟨S4096x8, g⟩, ⟨S4096x64, e⟩, ⟨S4096x56, z⟩] hc _ 1 (by simp) S4096x64 _ rfl rfl 8 rfl (ix2 k j) (fun a ha => side k j _ a ha) rfl

include hG in
theorem V6G (k : Fin 4096) (j : Fin 8) : (V m c main_v6 : FVec Ideal S4096x128 .bf16) (ix2 k (⟨0 + j.val, by omega⟩ : Fin 128)) = G (ix2 k j) := by
  subst hG
  entry_read
  exact weights_G _ _ _ concatenates_S4096x8_S4096x64_S4096x56_S4096x128_d1 k j

include hE in
theorem V6E (k : Fin 4096) (j : Fin 64) : (V m c main_v6 : FVec Ideal S4096x128 .bf16) (ix2 k (⟨8 + j.val, by omega⟩ : Fin 128)) = E (ix2 k j) := by
  subst hE
  entry_read
  exact weights_E _ _ _ concatenates_S4096x8_S4096x64_S4096x56_S4096x128_d1 k j

include hX hG in
theorem groupP_eq : groupP (prodRow (V m c main_v3) (V m c main_v6)) = Cert.Reference6Ideal.Read.val_main_v0 (F := Ideal) X G := by
  funext y
  obtain ⟨b, s, j, rfl⟩ : ∃ b s j, y = ix3 b s j := ⟨y 0, y 1, y 2, eq_ix3 y⟩
  rw [Cert.Reference6Ideal.Read.val_main_v0_apply]
  refine (split_prompt_cols (F := Ideal) (e := .f32) 0 (by omega) (prodRow (V m c main_v3) (V m c main_v6)) _ _ b s j).trans ?_
  refine Finset.sum_congr rfl fun k _ => ?_
  refine congr (congrArg _ ((V3P m c X hX b s k).trans ?_)) ((V6G m c G hG k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

include hX' hG in
theorem groupS_eq : groupS (prodRow (V m c main_v3) (V m c main_v6)) = Cert.Reference6Ideal.Read.val_main_v1 (F := Ideal) X' G := by
  funext y
  obtain ⟨b, s, j, rfl⟩ : ∃ b s j, y = ix3 b s j := ⟨y 0, y 1, y 2, eq_ix3 y⟩
  rw [Cert.Reference6Ideal.Read.val_main_v1_apply]
  refine (split_sample_cols (F := Ideal) (e := .f32) 0 (by omega) (prodRow (V m c main_v3) (V m c main_v6)) _ _ b s j).trans ?_
  refine Finset.sum_congr rfl fun k _ => ?_
  refine congr (congrArg _ ((V3S m c X' hX' b s k).trans ?_)) ((V6G m c G hG k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

include hX hE in
theorem expertP_eq : expertP (prodRow (V m c main_v3) (V m c main_v6)) = Cert.Reference6Ideal.Read.val_main_v2 (F := Ideal) X E := by
  funext y
  obtain ⟨b, s, j, rfl⟩ : ∃ b s j, y = ix3 b s j := ⟨y 0, y 1, y 2, eq_ix3 y⟩
  rw [Cert.Reference6Ideal.Read.val_main_v2_apply]
  refine (split_prompt_cols (F := Ideal) (e := .f32) 8 (by omega) (prodRow (V m c main_v3) (V m c main_v6)) _ _ b s j).trans ?_
  refine Finset.sum_congr rfl fun k _ => ?_
  refine congr (congrArg _ ((V3P m c X hX b s k).trans ?_)) ((V6E m c E hE k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

include hX' hE in
theorem expertS_eq : expertS (prodRow (V m c main_v3) (V m c main_v6)) = Cert.Reference6Ideal.Read.val_main_v3 (F := Ideal) X' E := by
  funext y
  obtain ⟨b, s, j, rfl⟩ : ∃ b s j, y = ix3 b s j := ⟨y 0, y 1, y 2, eq_ix3 y⟩
  rw [Cert.Reference6Ideal.Read.val_main_v3_apply]
  refine (split_sample_cols (F := Ideal) (e := .f32) 8 (by omega) (prodRow (V m c main_v3) (V m c main_v6)) _ _ b s j).trans ?_
  refine Finset.sum_congr rfl fun k _ => ?_
  refine congr (congrArg _ ((V3S m c X' hX' b s k).trans ?_)) ((V6E m c E hE k j).trans ?_)
  · exact congrArg _ (funext fun a => match a with | ⟨0, _⟩ => rfl | ⟨1, _⟩ => rfl | ⟨2, _⟩ => rfl)
  · exact congrArg _ (funext fun a => match a with | ⟨0, _⟩ => rfl | ⟨1, _⟩ => rfl)

end entry

theorem value : Cert.algebraic_Kernel6Ideal_Reference6Ideal := by
  intro m ρ m' ρ' _ hagree
  refine ⟨fun c => Cert.Reference6Ideal.Read.val_main_v0 (F := Ideal) (m ((c : Thread nD τ).loc main_arg0)) (m ((c : Thread nD τ).loc main_arg2)),
    fun c => Cert.Reference6Ideal.Read.val_main_v1 (F := Ideal) (m ((c : Thread nD τ).loc main_arg1)) (m ((c : Thread nD τ).loc main_arg2)),
    fun c => Cert.Reference6Ideal.Read.val_main_v2 (F := Ideal) (m ((c : Thread nD τ).loc main_arg0)) (m ((c : Thread nD τ).loc main_arg3)),
    fun c => Cert.Reference6Ideal.Read.val_main_v3 (F := Ideal) (m ((c : Thread nD τ).loc main_arg1)) (m ((c : Thread nD τ).loc main_arg3)), ?_, ?_⟩
  · exact (θ_run defs _ _).mono (fun r h c => ⟨(h.1 c).1.trans (groupP_eq m c _ _ rfl rfl), (h.1 c).2.1.trans (groupS_eq m c _ _ rfl rfl),
        (h.1 c).2.2.1.trans (expertP_eq m c _ _ rfl rfl), (h.1 c).2.2.2.trans (expertS_eq m c _ _ rfl rfl), h.2 c⟩)
      (θ_run_and (run_results m ρ) (unchanged m ρ))
  · refine (θ_run Cert.Reference6Ideal.defs _ _).mono (fun r h c => ⟨(h c).1.trans ?_, (h c).2.1.trans ?_, (h c).2.2.1.trans ?_, (h c).2.2.2.1.trans ?_, (h c).2.2.2.2⟩) (Cert.Reference6Ideal.Value.run m' ρ')
    · obtain ⟨a0, a1, a2, a3⟩ := hagree c
      rw [Cert.Reference6Ideal.Read.val_main_v0_eq, a0, a2]
    · obtain ⟨a0, a1, a2, a3⟩ := hagree c
      rw [Cert.Reference6Ideal.Read.val_main_v1_eq, a1, a2]
    · obtain ⟨a0, a1, a2, a3⟩ := hagree c
      rw [Cert.Reference6Ideal.Read.val_main_v2_eq, a0, a3]
    · obtain ⟨a0, a1, a2, a3⟩ := hagree c
      rw [Cert.Reference6Ideal.Read.val_main_v3_eq, a1, a3]

end Cert.RouterLogits

end
-- ==== Proof.lean ====
/-
  The certificate's proof: the frames, the named constant and the values of the six programs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5Ideal.Value
public import proofs.«01_k».proof.Proof.Gen.Pre_finite_sample
public import proofs.«01_k».proof.Proof.Gen.KernelIdeal.Value
public import proofs.«01_k».proof.Proof.Gen.Pre_finite
public import proofs.«01_k».proof.Proof.SwaClaim
public import proofs.«01_k».proof.Proof.FirstFront
public import proofs.«01_k».proof.Proof.OutProj
public import proofs.«01_k».proof.Proof.SecondFront
public import proofs.«01_k».proof.Proof.SampleClaim
public import proofs.«01_k».proof.Proof.RouterLogits
public import Idealize.ShloMosaic.Adequacy
public import Idealize.ShloMosaic.Init

@[expose] public section

noncomputable section

namespace Cert.Proof

open Idealize.ShloMosaic Idealize.SL.Sem

theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

theorem frame_reference2 : Cert.quiescent_Reference2Ideal := by
  intro m ρ _
  exact (θ_run Cert.Reference2Ideal.defs _ _).mono
    (fun r h => ⟨fun c => (h c).2.2.2.2.2.2, sem_eq_zero_of_no_sems (by decide) r.2⟩) (Cert.Reference2Ideal.Value.run m ρ)

theorem frame_reference3 : Cert.quiescent_Reference3Ideal := by
  intro m ρ _
  exact (θ_run Cert.Reference3Ideal.defs _ _).mono
    (fun r h => ⟨fun c => (h c).2.2.2.2.2.2.2.2.2.2.2.2, sem_eq_zero_of_no_sems (by decide) r.2⟩) (Cert.Reference3Ideal.Value.run m ρ)

theorem frame_reference4 : Cert.quiescent_Reference4Ideal := by
  intro m ρ _
  exact (θ_run Cert.Reference4Ideal.defs _ _).mono
    (fun r h => ⟨fun c => (h c).2.2, sem_eq_zero_of_no_sems (by decide) r.2⟩) (Cert.Reference4Ideal.Value.run m ρ)

theorem frame_reference5 : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run m ρ)

theorem frame_reference6 : Cert.quiescent_Reference6Ideal := by
  intro m ρ _
  exact (θ_run Cert.Reference6Ideal.defs _ _).mono
    (fun r h => ⟨fun c => (h c).2.2.2.2, sem_eq_zero_of_no_sems (by decide) r.2⟩) (Cert.Reference6Ideal.Value.run m ρ)

theorem swa_value [hPre_finite : Cert.Pre_finite.Facts] : Cert.algebraic_KernelIdeal_ReferenceIdeal_pre_finite := by
  intro m ρ m' ρ' hpre hagree
  refine ⟨fun c => Cert.ReferenceIdeal.Value.res_main_v52 m' c, ?_, ?_⟩
  · refine (θ_run Cert.KernelIdeal.defs _ _).mono (fun r h c => ⟨(h c).1.trans ?_, (h c).2⟩) (Cert.KernelIdeal.Value.run_blocks m ρ)
    obtain ⟨a0, a1, a2, -, -, -, a6⟩ := hagree c
    obtain ⟨fQ, fK, fZ⟩ := Cert.SwaAlgebra.finite_of _ _ _ _ _ _ _ (hpre c)
    exact (Cert.SwaClaim.array_eq m c _ _ _ _ a0.symm a1.symm a2.symm a6.symm (by rw [a0]; exact fQ) (by rw [a1]; exact fK) (by rw [a6]; exact fZ)).trans
      (Cert.ReferenceIdeal.Read.val_main_v52_eq m' c).symm
  · exact Cert.ReferenceIdeal.Value.run m' ρ'

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts,
    Cert.SwaClaim.pre_facts, Cert.SampleClaim.pre_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    fun m ρ _ => Cert.Kernel5Ideal.Gen.frame m ρ,
    frame_reference5,
    fun m ρ _ => frame_reference5 m ρ trivial,
    fun m ρ _ => Cert.Kernel6.Gen.frame m ρ,
    fun m ρ _ => Cert.Kernel6Ideal.Gen.frame m ρ,
    frame_reference6,
    IdealRules.named_const.statement Cert.KernelIdeal.κ "mask" .f32 0xF149F2CA#32 ⊥ rfl,
    swa_value (hPre_finite := Cert.SwaClaim.pre_facts),
    trivial, Cert.FirstFront.value,
    trivial, Cert.SecondFront.value,
    trivial, Cert.OutProj.value,
    trivial, Cert.SampleClaim.value (hPre_finite_sample := Cert.SampleClaim.pre_facts),
    trivial, Cert.RouterLogits.value⟩

end Cert.Proof

end
